-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_SsmIn (m : (ℓ : Loc Cert.SsmIn.nD Cert.SsmIn.τ Cert.SsmIn.sig) → Buf (Elt Bits) ℓ) : Prop :=
  True

def Pre_SsmInIdeal (m : (ℓ : Loc Cert.SsmInIdeal.nD Cert.SsmInIdeal.τ Cert.SsmInIdeal.sig) → Buf (Elt Ideal) ℓ) : Prop :=
  True

def Pre_SsmInRefIdeal (m : (ℓ : Loc Cert.SsmInRefIdeal.nD Cert.SsmInRefIdeal.τ Cert.SsmInRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_OutNext (m : (ℓ : Loc Cert.OutNext.nD Cert.OutNext.τ Cert.OutNext.sig) → Buf (Elt Bits) ℓ) : Prop :=
  True

def Pre_OutNextIdeal (m : (ℓ : Loc Cert.OutNextIdeal.nD Cert.OutNextIdeal.τ Cert.OutNextIdeal.sig) → Buf (Elt Ideal) ℓ) : Prop :=
  True

def Pre_OutNextRefIdeal (m : (ℓ : Loc Cert.OutNextRefIdeal.nD Cert.OutNextRefIdeal.τ Cert.OutNextRefIdeal.sig) → Buf (Elt Ideal) ℓ) : Prop :=
  True

def Pre_SsmNext (m : (ℓ : Loc Cert.SsmNext.nD Cert.SsmNext.τ Cert.SsmNext.sig) → Buf (Elt Bits) ℓ) : Prop :=
  True

def Pre_SsmNextIdeal (m : (ℓ : Loc Cert.SsmNextIdeal.nD Cert.SsmNextIdeal.τ Cert.SsmNextIdeal.sig) → Buf (Elt Ideal) ℓ) : Prop :=
  True

def Pre_SsmNextRefIdeal (m : (ℓ : Loc Cert.SsmNextRefIdeal.nD Cert.SsmNextRefIdeal.τ Cert.SsmNextRefIdeal.sig) → Buf (Elt Ideal) ℓ) : Prop :=
  True

def Pre_CastIn (m : (ℓ : Loc Cert.CastIn.nD Cert.CastIn.τ Cert.CastIn.sig) → Buf (Elt Bits) ℓ) : Prop :=
  True

def Pre_CastInIdeal (m : (ℓ : Loc Cert.CastInIdeal.nD Cert.CastInIdeal.τ Cert.CastInIdeal.sig) → Buf (Elt Ideal) ℓ) : Prop :=
  True

def Pre_CastInRefIdeal (m : (ℓ : Loc Cert.CastInRefIdeal.nD Cert.CastInRefIdeal.τ Cert.CastInRefIdeal.sig) → Buf (Elt Ideal) ℓ) : Prop :=
  True

def Pre_CastGlu (m : (ℓ : Loc Cert.CastGlu.nD Cert.CastGlu.τ Cert.CastGlu.sig) → Buf (Elt Bits) ℓ) : Prop :=
  True

def Pre_CastGluIdeal (m : (ℓ : Loc Cert.CastGluIdeal.nD Cert.CastGluIdeal.τ Cert.CastGluIdeal.sig) → Buf (Elt Ideal) ℓ) : Prop :=
  True

def Pre_CastGluRefIdeal (m : (ℓ : Loc Cert.CastGluRefIdeal.nD Cert.CastGluRefIdeal.τ Cert.CastGluRefIdeal.sig) → Buf (Elt Ideal) ℓ) : Prop :=
  True

def Pre_CastEmb (m : (ℓ : Loc Cert.CastEmb.nD Cert.CastEmb.τ Cert.CastEmb.sig) → Buf (Elt Bits) ℓ) : Prop :=
  True

def Pre_CastEmbIdeal (m : (ℓ : Loc Cert.CastEmbIdeal.nD Cert.CastEmbIdeal.τ Cert.CastEmbIdeal.sig) → Buf (Elt Ideal) ℓ) : Prop :=
  True

def Pre_CastEmbRefIdeal (m : (ℓ : Loc Cert.CastEmbRefIdeal.nD Cert.CastEmbRefIdeal.τ Cert.CastEmbRefIdeal.sig) → Buf (Elt Ideal) ℓ) : Prop :=
  True

def Pre_CastPle (m : (ℓ : Loc Cert.CastPle.nD Cert.CastPle.τ Cert.CastPle.sig) → Buf (Elt Bits) ℓ) : Prop :=
  True

def Pre_CastPleIdeal (m : (ℓ : Loc Cert.CastPleIdeal.nD Cert.CastPleIdeal.τ Cert.CastPleIdeal.sig) → Buf (Elt Ideal) ℓ) : Prop :=
  True

def Pre_CastPleRefIdeal (m : (ℓ : Loc Cert.CastPleRefIdeal.nD Cert.CastPleRefIdeal.τ Cert.CastPleRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3)
      ∧ r.2.mem ((c.tc : Thread Cert.FfnOut.nD Cert.FfnOut.τ).loc Cert.FfnOut.main_arg4) = m ((c.tc : Thread Cert.FfnOut.nD Cert.FfnOut.τ).loc Cert.FfnOut.main_arg4)
      ∧ r.2.mem ((c.tc : Thread Cert.FfnOut.nD Cert.FfnOut.τ).loc Cert.FfnOut.main_arg5) = m ((c.tc : Thread Cert.FfnOut.nD Cert.FfnOut.τ).loc Cert.FfnOut.main_arg5)
      ∧ r.2.mem ((c.tc : Thread Cert.FfnOut.nD Cert.FfnOut.τ).loc Cert.FfnOut.main_arg6) = m ((c.tc : Thread Cert.FfnOut.nD Cert.FfnOut.τ).loc Cert.FfnOut.main_arg6))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
      ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4)
      ∧ r.2.mem ((c.tc : Thread Cert.FfnOutIdeal.nD Cert.FfnOutIdeal.τ).loc Cert.FfnOutIdeal.main_arg5) = m ((c.tc : Thread Cert.FfnOutIdeal.nD Cert.FfnOutIdeal.τ).loc Cert.FfnOutIdeal.main_arg5)
      ∧ r.2.mem ((c.tc : Thread Cert.FfnOutIdeal.nD Cert.FfnOutIdeal.τ).loc Cert.FfnOutIdeal.main_arg6) = m ((c.tc : Thread Cert.FfnOutIdeal.nD Cert.FfnOutIdeal.τ).loc Cert.FfnOutIdeal.main_arg6))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3)
      ∧ r.2.mem ((c.tc : Thread Cert.FfnOutRefIdeal.nD Cert.FfnOutRefIdeal.τ).loc Cert.FfnOutRefIdeal.main_arg4) = m ((c.tc : Thread Cert.FfnOutRefIdeal.nD Cert.FfnOutRefIdeal.τ).loc Cert.FfnOutRefIdeal.main_arg4)
      ∧ r.2.mem ((c.tc : Thread Cert.FfnOutRefIdeal.nD Cert.FfnOutRefIdeal.τ).loc Cert.FfnOutRefIdeal.main_arg5) = m ((c.tc : Thread Cert.FfnOutRefIdeal.nD Cert.FfnOutRefIdeal.τ).loc Cert.FfnOutRefIdeal.main_arg5)
      ∧ r.2.mem ((c.tc : Thread Cert.FfnOutRefIdeal.nD Cert.FfnOutRefIdeal.τ).loc Cert.FfnOutRefIdeal.main_arg6) = m ((c.tc : Thread Cert.FfnOutRefIdeal.nD Cert.FfnOutRefIdeal.τ).loc Cert.FfnOutRefIdeal.main_arg6))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6))
      ∧ r.2.sem = fun _ => 0)

def quiescent_SsmIn [hSsmIn : Cert.SsmIn.Facts] : Prop :=
  ∀ (m : (ℓ : Loc Cert.SsmIn.nD Cert.SsmIn.τ Cert.SsmIn.sig) → Buf (Elt Bits) ℓ) (g : Dev Cert.SsmIn.nD → PrngReg), Pre_SsmIn m →
    θ_run (Cert.SsmIn.defs (F := Bits)) (onTc (τ := Cert.SsmIn.τ) (Cert.SsmIn.main (F := Bits))) ⟨m, fun _ => 0, g⟩ (fun r => (∀ c : Dev Cert.SsmIn.nD,
      r.2.mem ((c.tc : Thread Cert.SsmIn.nD Cert.SsmIn.τ).loc Cert.SsmIn.main_arg0) = m ((c.tc : Thread Cert.SsmIn.nD Cert.SsmIn.τ).loc Cert.SsmIn.main_arg0)
      ∧ r.2.mem ((c.tc : Thread Cert.SsmIn.nD Cert.SsmIn.τ).loc Cert.SsmIn.main_arg1) = m ((c.tc : Thread Cert.SsmIn.nD Cert.SsmIn.τ).loc Cert.SsmIn.main_arg1))
      ∧ r.2.sem = fun _ => 0)

def quiescent_SsmInIdeal [hSsmInIdeal : Cert.SsmInIdeal.Facts] : Prop :=
  ∀ (m : (ℓ : Loc Cert.SsmInIdeal.nD Cert.SsmInIdeal.τ Cert.SsmInIdeal.sig) → Buf (Elt Ideal) ℓ) (g : Dev Cert.SsmInIdeal.nD → PrngReg), Pre_SsmInIdeal m →
    θ_run (Cert.SsmInIdeal.defs (F := Ideal)) (onTc (τ := Cert.SsmInIdeal.τ) (Cert.SsmInIdeal.main (F := Ideal))) ⟨m, fun _ => 0, g⟩ (fun r => (∀ c : Dev Cert.SsmInIdeal.nD,
      r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
      ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1))
      ∧ r.2.sem = fun _ => 0)

def quiescent_SsmInRefIdeal [hSsmInRefIdeal : Cert.SsmInRefIdeal.Facts] : Prop :=
  ∀ (m : (ℓ : Loc Cert.SsmInRefIdeal.nD Cert.SsmInRefIdeal.τ Cert.SsmInRefIdeal.sig) → Buf (Elt Ideal) ℓ) (g : Dev Cert.SsmInRefIdeal.nD → PrngReg), Pre_SsmInRefIdeal m →
    θ_run (Cert.SsmInRefIdeal.defs (F := Ideal)) (onTc (τ := Cert.SsmInRefIdeal.τ) (Cert.SsmInRefIdeal.main (F := Ideal))) ⟨m, fun _ => 0, g⟩ (fun r => (∀ c : Dev Cert.SsmInRefIdeal.nD,
      r.2.mem ((c.tc : Thread Cert.SsmInRefIdeal.nD Cert.SsmInRefIdeal.τ).loc Cert.SsmInRefIdeal.main_arg0) = m ((c.tc : Thread Cert.SsmInRefIdeal.nD Cert.SsmInRefIdeal.τ).loc Cert.SsmInRefIdeal.main_arg0)
      ∧ r.2.mem ((c.tc : Thread Cert.SsmInRefIdeal.nD Cert.SsmInRefIdeal.τ).loc Cert.SsmInRefIdeal.main_arg1) = m ((c.tc : Thread Cert.SsmInRefIdeal.nD Cert.SsmInRefIdeal.τ).loc Cert.SsmInRefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2))
      ∧ r.2.sem = fun _ => 0)

def quiescent_OutNext [hOutNext : Cert.OutNext.Facts] : Prop :=
  ∀ (m : (ℓ : Loc Cert.OutNext.nD Cert.OutNext.τ Cert.OutNext.sig) → Buf (Elt Bits) ℓ) (g : Dev Cert.OutNext.nD → PrngReg), Pre_OutNext m →
    θ_run (Cert.OutNext.defs (F := Bits)) (onTc (τ := Cert.OutNext.τ) (Cert.OutNext.main (F := Bits))) ⟨m, fun _ => 0, g⟩ (fun r => (∀ c : Dev Cert.OutNext.nD,
      r.2.mem ((c.tc : Thread Cert.OutNext.nD Cert.OutNext.τ).loc Cert.OutNext.main_arg0) = m ((c.tc : Thread Cert.OutNext.nD Cert.OutNext.τ).loc Cert.OutNext.main_arg0)
      ∧ r.2.mem ((c.tc : Thread Cert.OutNext.nD Cert.OutNext.τ).loc Cert.OutNext.main_arg1) = m ((c.tc : Thread Cert.OutNext.nD Cert.OutNext.τ).loc Cert.OutNext.main_arg1)
      ∧ r.2.mem ((c.tc : Thread Cert.OutNext.nD Cert.OutNext.τ).loc Cert.OutNext.main_arg2) = m ((c.tc : Thread Cert.OutNext.nD Cert.OutNext.τ).loc Cert.OutNext.main_arg2)
      ∧ r.2.mem ((c.tc : Thread Cert.OutNext.nD Cert.OutNext.τ).loc Cert.OutNext.main_arg3) = m ((c.tc : Thread Cert.OutNext.nD Cert.OutNext.τ).loc Cert.OutNext.main_arg3)
      ∧ r.2.mem ((c.tc : Thread Cert.OutNext.nD Cert.OutNext.τ).loc Cert.OutNext.main_arg4) = m ((c.tc : Thread Cert.OutNext.nD Cert.OutNext.τ).loc Cert.OutNext.main_arg4)
      ∧ r.2.mem ((c.tc : Thread Cert.OutNext.nD Cert.OutNext.τ).loc Cert.OutNext.main_arg5) = m ((c.tc : Thread Cert.OutNext.nD Cert.OutNext.τ).loc Cert.OutNext.main_arg5)
      ∧ r.2.mem ((c.tc : Thread Cert.OutNext.nD Cert.OutNext.τ).loc Cert.OutNext.main_arg6) = m ((c.tc : Thread Cert.OutNext.nD Cert.OutNext.τ).loc Cert.OutNext.main_arg6)
      ∧ r.2.mem ((c.tc : Thread Cert.OutNext.nD Cert.OutNext.τ).loc Cert.OutNext.main_arg7) = m ((c.tc : Thread Cert.OutNext.nD Cert.OutNext.τ).loc Cert.OutNext.main_arg7)
      ∧ r.2.mem ((c.tc : Thread Cert.OutNext.nD Cert.OutNext.τ).loc Cert.OutNext.main_arg8) = m ((c.tc : Thread Cert.OutNext.nD Cert.OutNext.τ).loc Cert.OutNext.main_arg8))
      ∧ r.2.sem = fun _ => 0)

def quiescent_OutNextIdeal [hOutNextIdeal : Cert.OutNextIdeal.Facts] : Prop :=
  ∀ (m : (ℓ : Loc Cert.OutNextIdeal.nD Cert.OutNextIdeal.τ Cert.OutNextIdeal.sig) → Buf (Elt Ideal) ℓ) (g : Dev Cert.OutNextIdeal.nD → PrngReg), Pre_OutNextIdeal m →
    θ_run (Cert.OutNextIdeal.defs (F := Ideal)) (onTc (τ := Cert.OutNextIdeal.τ) (Cert.OutNextIdeal.main (F := Ideal))) ⟨m, fun _ => 0, g⟩ (fun r => (∀ c : Dev Cert.OutNextIdeal.nD,
      r.2.mem ((c.tc : Thread Cert.OutNextIdeal.nD Cert.OutNextIdeal.τ).loc Cert.OutNextIdeal.main_arg0) = m ((c.tc : Thread Cert.OutNextIdeal.nD Cert.OutNextIdeal.τ).loc Cert.OutNextIdeal.main_arg0)
      ∧ r.2.mem ((c.tc : Thread Cert.OutNextIdeal.nD Cert.OutNextIdeal.τ).loc Cert.OutNextIdeal.main_arg1) = m ((c.tc : Thread Cert.OutNextIdeal.nD Cert.OutNextIdeal.τ).loc Cert.OutNextIdeal.main_arg1)
      ∧ r.2.mem ((c.tc : Thread Cert.OutNextIdeal.nD Cert.OutNextIdeal.τ).loc Cert.OutNextIdeal.main_arg2) = m ((c.tc : Thread Cert.OutNextIdeal.nD Cert.OutNextIdeal.τ).loc Cert.OutNextIdeal.main_arg2)
      ∧ r.2.mem ((c.tc : Thread Cert.OutNextIdeal.nD Cert.OutNextIdeal.τ).loc Cert.OutNextIdeal.main_arg3) = m ((c.tc : Thread Cert.OutNextIdeal.nD Cert.OutNextIdeal.τ).loc Cert.OutNextIdeal.main_arg3)
      ∧ r.2.mem ((c.tc : Thread Cert.OutNextIdeal.nD Cert.OutNextIdeal.τ).loc Cert.OutNextIdeal.main_arg4) = m ((c.tc : Thread Cert.OutNextIdeal.nD Cert.OutNextIdeal.τ).loc Cert.OutNextIdeal.main_arg4)
      ∧ r.2.mem ((c.tc : Thread Cert.OutNextIdeal.nD Cert.OutNextIdeal.τ).loc Cert.OutNextIdeal.main_arg5) = m ((c.tc : Thread Cert.OutNextIdeal.nD Cert.OutNextIdeal.τ).loc Cert.OutNextIdeal.main_arg5)
      ∧ r.2.mem ((c.tc : Thread Cert.OutNextIdeal.nD Cert.OutNextIdeal.τ).loc Cert.OutNextIdeal.main_arg6) = m ((c.tc : Thread Cert.OutNextIdeal.nD Cert.OutNextIdeal.τ).loc Cert.OutNextIdeal.main_arg6)
      ∧ r.2.mem ((c.tc : Thread Cert.OutNextIdeal.nD Cert.OutNextIdeal.τ).loc Cert.OutNextIdeal.main_arg7) = m ((c.tc : Thread Cert.OutNextIdeal.nD Cert.OutNextIdeal.τ).loc Cert.OutNextIdeal.main_arg7)
      ∧ r.2.mem ((c.tc : Thread Cert.OutNextIdeal.nD Cert.OutNextIdeal.τ).loc Cert.OutNextIdeal.main_arg8) = m ((c.tc : Thread Cert.OutNextIdeal.nD Cert.OutNextIdeal.τ).loc Cert.OutNextIdeal.main_arg8))
      ∧ r.2.sem = fun _ => 0)

def quiescent_OutNextRefIdeal [hOutNextRefIdeal : Cert.OutNextRefIdeal.Facts] : Prop :=
  ∀ (m : (ℓ : Loc Cert.OutNextRefIdeal.nD Cert.OutNextRefIdeal.τ Cert.OutNextRefIdeal.sig) → Buf (Elt Ideal) ℓ) (g : Dev Cert.OutNextRefIdeal.nD → PrngReg), Pre_OutNextRefIdeal m →
    θ_run (Cert.OutNextRefIdeal.defs (F := Ideal)) (onTc (τ := Cert.OutNextRefIdeal.τ) (Cert.OutNextRefIdeal.main (F := Ideal))) ⟨m, fun _ => 0, g⟩ (fun r => (∀ c : Dev Cert.OutNextRefIdeal.nD,
      r.2.mem ((c.tc : Thread Cert.OutNextRefIdeal.nD Cert.OutNextRefIdeal.τ).loc Cert.OutNextRefIdeal.main_arg0) = m ((c.tc : Thread Cert.OutNextRefIdeal.nD Cert.OutNextRefIdeal.τ).loc Cert.OutNextRefIdeal.main_arg0)
      ∧ r.2.mem ((c.tc : Thread Cert.OutNextRefIdeal.nD Cert.OutNextRefIdeal.τ).loc Cert.OutNextRefIdeal.main_arg1) = m ((c.tc : Thread Cert.OutNextRefIdeal.nD Cert.OutNextRefIdeal.τ).loc Cert.OutNextRefIdeal.main_arg1)
      ∧ r.2.mem ((c.tc : Thread Cert.OutNextRefIdeal.nD Cert.OutNextRefIdeal.τ).loc Cert.OutNextRefIdeal.main_arg2) = m ((c.tc : Thread Cert.OutNextRefIdeal.nD Cert.OutNextRefIdeal.τ).loc Cert.OutNextRefIdeal.main_arg2)
      ∧ r.2.mem ((c.tc : Thread Cert.OutNextRefIdeal.nD Cert.OutNextRefIdeal.τ).loc Cert.OutNextRefIdeal.main_arg3) = m ((c.tc : Thread Cert.OutNextRefIdeal.nD Cert.OutNextRefIdeal.τ).loc Cert.OutNextRefIdeal.main_arg3)
      ∧ r.2.mem ((c.tc : Thread Cert.OutNextRefIdeal.nD Cert.OutNextRefIdeal.τ).loc Cert.OutNextRefIdeal.main_arg4) = m ((c.tc : Thread Cert.OutNextRefIdeal.nD Cert.OutNextRefIdeal.τ).loc Cert.OutNextRefIdeal.main_arg4)
      ∧ r.2.mem ((c.tc : Thread Cert.OutNextRefIdeal.nD Cert.OutNextRefIdeal.τ).loc Cert.OutNextRefIdeal.main_arg5) = m ((c.tc : Thread Cert.OutNextRefIdeal.nD Cert.OutNextRefIdeal.τ).loc Cert.OutNextRefIdeal.main_arg5)
      ∧ r.2.mem ((c.tc : Thread Cert.OutNextRefIdeal.nD Cert.OutNextRefIdeal.τ).loc Cert.OutNextRefIdeal.main_arg6) = m ((c.tc : Thread Cert.OutNextRefIdeal.nD Cert.OutNextRefIdeal.τ).loc Cert.OutNextRefIdeal.main_arg6)
      ∧ r.2.mem ((c.tc : Thread Cert.OutNextRefIdeal.nD Cert.OutNextRefIdeal.τ).loc Cert.OutNextRefIdeal.main_arg7) = m ((c.tc : Thread Cert.OutNextRefIdeal.nD Cert.OutNextRefIdeal.τ).loc Cert.OutNextRefIdeal.main_arg7)
      ∧ r.2.mem ((c.tc : Thread Cert.OutNextRefIdeal.nD Cert.OutNextRefIdeal.τ).loc Cert.OutNextRefIdeal.main_arg8) = m ((c.tc : Thread Cert.OutNextRefIdeal.nD Cert.OutNextRefIdeal.τ).loc Cert.OutNextRefIdeal.main_arg8))
      ∧ r.2.sem = fun _ => 0)

def quiescent_SsmNext [hSsmNext : Cert.SsmNext.Facts] : Prop :=
  ∀ (m : (ℓ : Loc Cert.SsmNext.nD Cert.SsmNext.τ Cert.SsmNext.sig) → Buf (Elt Bits) ℓ) (g : Dev Cert.SsmNext.nD → PrngReg), Pre_SsmNext m →
    θ_run (Cert.SsmNext.defs (F := Bits)) (onTc (τ := Cert.SsmNext.τ) (Cert.SsmNext.main (F := Bits))) ⟨m, fun _ => 0, g⟩ (fun r => (∀ c : Dev Cert.SsmNext.nD,
      r.2.mem ((c.tc : Thread Cert.SsmNext.nD Cert.SsmNext.τ).loc Cert.SsmNext.main_arg0) = m ((c.tc : Thread Cert.SsmNext.nD Cert.SsmNext.τ).loc Cert.SsmNext.main_arg0)
      ∧ r.2.mem ((c.tc : Thread Cert.SsmNext.nD Cert.SsmNext.τ).loc Cert.SsmNext.main_arg1) = m ((c.tc : Thread Cert.SsmNext.nD Cert.SsmNext.τ).loc Cert.SsmNext.main_arg1)
      ∧ r.2.mem ((c.tc : Thread Cert.SsmNext.nD Cert.SsmNext.τ).loc Cert.SsmNext.main_arg2) = m ((c.tc : Thread Cert.SsmNext.nD Cert.SsmNext.τ).loc Cert.SsmNext.main_arg2)
      ∧ r.2.mem ((c.tc : Thread Cert.SsmNext.nD Cert.SsmNext.τ).loc Cert.SsmNext.main_arg3) = m ((c.tc : Thread Cert.SsmNext.nD Cert.SsmNext.τ).loc Cert.SsmNext.main_arg3))
      ∧ r.2.sem = fun _ => 0)

def quiescent_SsmNextIdeal [hSsmNextIdeal : Cert.SsmNextIdeal.Facts] : Prop :=
  ∀ (m : (ℓ : Loc Cert.SsmNextIdeal.nD Cert.SsmNextIdeal.τ Cert.SsmNextIdeal.sig) → Buf (Elt Ideal) ℓ) (g : Dev Cert.SsmNextIdeal.nD → PrngReg), Pre_SsmNextIdeal m →
    θ_run (Cert.SsmNextIdeal.defs (F := Ideal)) (onTc (τ := Cert.SsmNextIdeal.τ) (Cert.SsmNextIdeal.main (F := Ideal))) ⟨m, fun _ => 0, g⟩ (fun r => (∀ c : Dev Cert.SsmNextIdeal.nD,
      r.2.mem ((c.tc : Thread Cert.SsmNextIdeal.nD Cert.SsmNextIdeal.τ).loc Cert.SsmNextIdeal.main_arg0) = m ((c.tc : Thread Cert.SsmNextIdeal.nD Cert.SsmNextIdeal.τ).loc Cert.SsmNextIdeal.main_arg0)
      ∧ r.2.mem ((c.tc : Thread Cert.SsmNextIdeal.nD Cert.SsmNextIdeal.τ).loc Cert.SsmNextIdeal.main_arg1) = m ((c.tc : Thread Cert.SsmNextIdeal.nD Cert.SsmNextIdeal.τ).loc Cert.SsmNextIdeal.main_arg1)
      ∧ r.2.mem ((c.tc : Thread Cert.SsmNextIdeal.nD Cert.SsmNextIdeal.τ).loc Cert.SsmNextIdeal.main_arg2) = m ((c.tc : Thread Cert.SsmNextIdeal.nD Cert.SsmNextIdeal.τ).loc Cert.SsmNextIdeal.main_arg2)
      ∧ r.2.mem ((c.tc : Thread Cert.SsmNextIdeal.nD Cert.SsmNextIdeal.τ).loc Cert.SsmNextIdeal.main_arg3) = m ((c.tc : Thread Cert.SsmNextIdeal.nD Cert.SsmNextIdeal.τ).loc Cert.SsmNextIdeal.main_arg3))
      ∧ r.2.sem = fun _ => 0)

def quiescent_SsmNextRefIdeal [hSsmNextRefIdeal : Cert.SsmNextRefIdeal.Facts] : Prop :=
  ∀ (m : (ℓ : Loc Cert.SsmNextRefIdeal.nD Cert.SsmNextRefIdeal.τ Cert.SsmNextRefIdeal.sig) → Buf (Elt Ideal) ℓ) (g : Dev Cert.SsmNextRefIdeal.nD → PrngReg), Pre_SsmNextRefIdeal m →
    θ_run (Cert.SsmNextRefIdeal.defs (F := Ideal)) (onTc (τ := Cert.SsmNextRefIdeal.τ) (Cert.SsmNextRefIdeal.main (F := Ideal))) ⟨m, fun _ => 0, g⟩ (fun r => (∀ c : Dev Cert.SsmNextRefIdeal.nD,
      r.2.mem ((c.tc : Thread Cert.SsmNextRefIdeal.nD Cert.SsmNextRefIdeal.τ).loc Cert.SsmNextRefIdeal.main_arg0) = m ((c.tc : Thread Cert.SsmNextRefIdeal.nD Cert.SsmNextRefIdeal.τ).loc Cert.SsmNextRefIdeal.main_arg0)
      ∧ r.2.mem ((c.tc : Thread Cert.SsmNextRefIdeal.nD Cert.SsmNextRefIdeal.τ).loc Cert.SsmNextRefIdeal.main_arg1) = m ((c.tc : Thread Cert.SsmNextRefIdeal.nD Cert.SsmNextRefIdeal.τ).loc Cert.SsmNextRefIdeal.main_arg1)
      ∧ r.2.mem ((c.tc : Thread Cert.SsmNextRefIdeal.nD Cert.SsmNextRefIdeal.τ).loc Cert.SsmNextRefIdeal.main_arg2) = m ((c.tc : Thread Cert.SsmNextRefIdeal.nD Cert.SsmNextRefIdeal.τ).loc Cert.SsmNextRefIdeal.main_arg2)
      ∧ r.2.mem ((c.tc : Thread Cert.SsmNextRefIdeal.nD Cert.SsmNextRefIdeal.τ).loc Cert.SsmNextRefIdeal.main_arg3) = m ((c.tc : Thread Cert.SsmNextRefIdeal.nD Cert.SsmNextRefIdeal.τ).loc Cert.SsmNextRefIdeal.main_arg3))
      ∧ r.2.sem = fun _ => 0)

def quiescent_CastIn [hCastIn : Cert.CastIn.Facts] : Prop :=
  ∀ (m : (ℓ : Loc Cert.CastIn.nD Cert.CastIn.τ Cert.CastIn.sig) → Buf (Elt Bits) ℓ) (g : Dev Cert.CastIn.nD → PrngReg), Pre_CastIn m →
    θ_run (Cert.CastIn.defs (F := Bits)) (onTc (τ := Cert.CastIn.τ) (Cert.CastIn.main (F := Bits))) ⟨m, fun _ => 0, g⟩ (fun r => (∀ c : Dev Cert.CastIn.nD,
      r.2.mem ((c.tc : Thread Cert.CastIn.nD Cert.CastIn.τ).loc Cert.CastIn.main_arg0) = m ((c.tc : Thread Cert.CastIn.nD Cert.CastIn.τ).loc Cert.CastIn.main_arg0))
      ∧ r.2.sem = fun _ => 0)

def quiescent_CastInIdeal [hCastInIdeal : Cert.CastInIdeal.Facts] : Prop :=
  ∀ (m : (ℓ : Loc Cert.CastInIdeal.nD Cert.CastInIdeal.τ Cert.CastInIdeal.sig) → Buf (Elt Ideal) ℓ) (g : Dev Cert.CastInIdeal.nD → PrngReg), Pre_CastInIdeal m →
    θ_run (Cert.CastInIdeal.defs (F := Ideal)) (onTc (τ := Cert.CastInIdeal.τ) (Cert.CastInIdeal.main (F := Ideal))) ⟨m, fun _ => 0, g⟩ (fun r => (∀ c : Dev Cert.CastInIdeal.nD,
      r.2.mem ((c.tc : Thread Cert.CastInIdeal.nD Cert.CastInIdeal.τ).loc Cert.CastInIdeal.main_arg0) = m ((c.tc : Thread Cert.CastInIdeal.nD Cert.CastInIdeal.τ).loc Cert.CastInIdeal.main_arg0))
      ∧ r.2.sem = fun _ => 0)

def quiescent_CastInRefIdeal [hCastInRefIdeal : Cert.CastInRefIdeal.Facts] : Prop :=
  ∀ (m : (ℓ : Loc Cert.CastInRefIdeal.nD Cert.CastInRefIdeal.τ Cert.CastInRefIdeal.sig) → Buf (Elt Ideal) ℓ) (g : Dev Cert.CastInRefIdeal.nD → PrngReg), Pre_CastInRefIdeal m →
    θ_run (Cert.CastInRefIdeal.defs (F := Ideal)) (onTc (τ := Cert.CastInRefIdeal.τ) (Cert.CastInRefIdeal.main (F := Ideal))) ⟨m, fun _ => 0, g⟩ (fun r => (∀ c : Dev Cert.CastInRefIdeal.nD,
      r.2.mem ((c.tc : Thread Cert.CastInRefIdeal.nD Cert.CastInRefIdeal.τ).loc Cert.CastInRefIdeal.main_arg0) = m ((c.tc : Thread Cert.CastInRefIdeal.nD Cert.CastInRefIdeal.τ).loc Cert.CastInRefIdeal.main_arg0))
      ∧ r.2.sem = fun _ => 0)

def quiescent_CastGlu [hCastGlu : Cert.CastGlu.Facts] : Prop :=
  ∀ (m : (ℓ : Loc Cert.CastGlu.nD Cert.CastGlu.τ Cert.CastGlu.sig) → Buf (Elt Bits) ℓ) (g : Dev Cert.CastGlu.nD → PrngReg), Pre_CastGlu m →
    θ_run (Cert.CastGlu.defs (F := Bits)) (onTc (τ := Cert.CastGlu.τ) (Cert.CastGlu.main (F := Bits))) ⟨m, fun _ => 0, g⟩ (fun r => (∀ c : Dev Cert.CastGlu.nD,
      r.2.mem ((c.tc : Thread Cert.CastGlu.nD Cert.CastGlu.τ).loc Cert.CastGlu.main_arg0) = m ((c.tc : Thread Cert.CastGlu.nD Cert.CastGlu.τ).loc Cert.CastGlu.main_arg0))
      ∧ r.2.sem = fun _ => 0)

def quiescent_CastGluIdeal [hCastGluIdeal : Cert.CastGluIdeal.Facts] : Prop :=
  ∀ (m : (ℓ : Loc Cert.CastGluIdeal.nD Cert.CastGluIdeal.τ Cert.CastGluIdeal.sig) → Buf (Elt Ideal) ℓ) (g : Dev Cert.CastGluIdeal.nD → PrngReg), Pre_CastGluIdeal m →
    θ_run (Cert.CastGluIdeal.defs (F := Ideal)) (onTc (τ := Cert.CastGluIdeal.τ) (Cert.CastGluIdeal.main (F := Ideal))) ⟨m, fun _ => 0, g⟩ (fun r => (∀ c : Dev Cert.CastGluIdeal.nD,
      r.2.mem ((c.tc : Thread Cert.CastGluIdeal.nD Cert.CastGluIdeal.τ).loc Cert.CastGluIdeal.main_arg0) = m ((c.tc : Thread Cert.CastGluIdeal.nD Cert.CastGluIdeal.τ).loc Cert.CastGluIdeal.main_arg0))
      ∧ r.2.sem = fun _ => 0)

def quiescent_CastGluRefIdeal [hCastGluRefIdeal : Cert.CastGluRefIdeal.Facts] : Prop :=
  ∀ (m : (ℓ : Loc Cert.CastGluRefIdeal.nD Cert.CastGluRefIdeal.τ Cert.CastGluRefIdeal.sig) → Buf (Elt Ideal) ℓ) (g : Dev Cert.CastGluRefIdeal.nD → PrngReg), Pre_CastGluRefIdeal m →
    θ_run (Cert.CastGluRefIdeal.defs (F := Ideal)) (onTc (τ := Cert.CastGluRefIdeal.τ) (Cert.CastGluRefIdeal.main (F := Ideal))) ⟨m, fun _ => 0, g⟩ (fun r => (∀ c : Dev Cert.CastGluRefIdeal.nD,
      r.2.mem ((c.tc : Thread Cert.CastGluRefIdeal.nD Cert.CastGluRefIdeal.τ).loc Cert.CastGluRefIdeal.main_arg0) = m ((c.tc : Thread Cert.CastGluRefIdeal.nD Cert.CastGluRefIdeal.τ).loc Cert.CastGluRefIdeal.main_arg0))
      ∧ r.2.sem = fun _ => 0)

def quiescent_CastEmb [hCastEmb : Cert.CastEmb.Facts] : Prop :=
  ∀ (m : (ℓ : Loc Cert.CastEmb.nD Cert.CastEmb.τ Cert.CastEmb.sig) → Buf (Elt Bits) ℓ) (g : Dev Cert.CastEmb.nD → PrngReg), Pre_CastEmb m →
    θ_run (Cert.CastEmb.defs (F := Bits)) (onTc (τ := Cert.CastEmb.τ) (Cert.CastEmb.main (F := Bits))) ⟨m, fun _ => 0, g⟩ (fun r => (∀ c : Dev Cert.CastEmb.nD,
      r.2.mem ((c.tc : Thread Cert.CastEmb.nD Cert.CastEmb.τ).loc Cert.CastEmb.main_arg0) = m ((c.tc : Thread Cert.CastEmb.nD Cert.CastEmb.τ).loc Cert.CastEmb.main_arg0))
      ∧ r.2.sem = fun _ => 0)

def quiescent_CastEmbIdeal [hCastEmbIdeal : Cert.CastEmbIdeal.Facts] : Prop :=
  ∀ (m : (ℓ : Loc Cert.CastEmbIdeal.nD Cert.CastEmbIdeal.τ Cert.CastEmbIdeal.sig) → Buf (Elt Ideal) ℓ) (g : Dev Cert.CastEmbIdeal.nD → PrngReg), Pre_CastEmbIdeal m →
    θ_run (Cert.CastEmbIdeal.defs (F := Ideal)) (onTc (τ := Cert.CastEmbIdeal.τ) (Cert.CastEmbIdeal.main (F := Ideal))) ⟨m, fun _ => 0, g⟩ (fun r => (∀ c : Dev Cert.CastEmbIdeal.nD,
      r.2.mem ((c.tc : Thread Cert.CastEmbIdeal.nD Cert.CastEmbIdeal.τ).loc Cert.CastEmbIdeal.main_arg0) = m ((c.tc : Thread Cert.CastEmbIdeal.nD Cert.CastEmbIdeal.τ).loc Cert.CastEmbIdeal.main_arg0))
      ∧ r.2.sem = fun _ => 0)

def quiescent_CastEmbRefIdeal [hCastEmbRefIdeal : Cert.CastEmbRefIdeal.Facts] : Prop :=
  ∀ (m : (ℓ : Loc Cert.CastEmbRefIdeal.nD Cert.CastEmbRefIdeal.τ Cert.CastEmbRefIdeal.sig) → Buf (Elt Ideal) ℓ) (g : Dev Cert.CastEmbRefIdeal.nD → PrngReg), Pre_CastEmbRefIdeal m →
    θ_run (Cert.CastEmbRefIdeal.defs (F := Ideal)) (onTc (τ := Cert.CastEmbRefIdeal.τ) (Cert.CastEmbRefIdeal.main (F := Ideal))) ⟨m, fun _ => 0, g⟩ (fun r => (∀ c : Dev Cert.CastEmbRefIdeal.nD,
      r.2.mem ((c.tc : Thread Cert.CastEmbRefIdeal.nD Cert.CastEmbRefIdeal.τ).loc Cert.CastEmbRefIdeal.main_arg0) = m ((c.tc : Thread Cert.CastEmbRefIdeal.nD Cert.CastEmbRefIdeal.τ).loc Cert.CastEmbRefIdeal.main_arg0))
      ∧ r.2.sem = fun _ => 0)

def quiescent_CastPle [hCastPle : Cert.CastPle.Facts] : Prop :=
  ∀ (m : (ℓ : Loc Cert.CastPle.nD Cert.CastPle.τ Cert.CastPle.sig) → Buf (Elt Bits) ℓ) (g : Dev Cert.CastPle.nD → PrngReg), Pre_CastPle m →
    θ_run (Cert.CastPle.defs (F := Bits)) (onTc (τ := Cert.CastPle.τ) (Cert.CastPle.main (F := Bits))) ⟨m, fun _ => 0, g⟩ (fun r => (∀ c : Dev Cert.CastPle.nD,
      r.2.mem ((c.tc : Thread Cert.CastPle.nD Cert.CastPle.τ).loc Cert.CastPle.main_arg0) = m ((c.tc : Thread Cert.CastPle.nD Cert.CastPle.τ).loc Cert.CastPle.main_arg0))
      ∧ r.2.sem = fun _ => 0)

def quiescent_CastPleIdeal [hCastPleIdeal : Cert.CastPleIdeal.Facts] : Prop :=
  ∀ (m : (ℓ : Loc Cert.CastPleIdeal.nD Cert.CastPleIdeal.τ Cert.CastPleIdeal.sig) → Buf (Elt Ideal) ℓ) (g : Dev Cert.CastPleIdeal.nD → PrngReg), Pre_CastPleIdeal m →
    θ_run (Cert.CastPleIdeal.defs (F := Ideal)) (onTc (τ := Cert.CastPleIdeal.τ) (Cert.CastPleIdeal.main (F := Ideal))) ⟨m, fun _ => 0, g⟩ (fun r => (∀ c : Dev Cert.CastPleIdeal.nD,
      r.2.mem ((c.tc : Thread Cert.CastPleIdeal.nD Cert.CastPleIdeal.τ).loc Cert.CastPleIdeal.main_arg0) = m ((c.tc : Thread Cert.CastPleIdeal.nD Cert.CastPleIdeal.τ).loc Cert.CastPleIdeal.main_arg0))
      ∧ r.2.sem = fun _ => 0)

def quiescent_CastPleRefIdeal [hCastPleRefIdeal : Cert.CastPleRefIdeal.Facts] : Prop :=
  ∀ (m : (ℓ : Loc Cert.CastPleRefIdeal.nD Cert.CastPleRefIdeal.τ Cert.CastPleRefIdeal.sig) → Buf (Elt Ideal) ℓ) (g : Dev Cert.CastPleRefIdeal.nD → PrngReg), Pre_CastPleRefIdeal m →
    θ_run (Cert.CastPleRefIdeal.defs (F := Ideal)) (onTc (τ := Cert.CastPleRefIdeal.τ) (Cert.CastPleRefIdeal.main (F := Ideal))) ⟨m, fun _ => 0, g⟩ (fun r => (∀ c : Dev Cert.CastPleRefIdeal.nD,
      r.2.mem ((c.tc : Thread Cert.CastPleRefIdeal.nD Cert.CastPleRefIdeal.τ).loc Cert.CastPleRefIdeal.main_arg0) = m ((c.tc : Thread Cert.CastPleRefIdeal.nD Cert.CastPleRefIdeal.τ).loc Cert.CastPleRefIdeal.main_arg0))
      ∧ r.2.sem = fun _ => 0)

def preserves_Kernel_KernelIdeal : Prop :=
  IdealRules.named_const.Statement Cert.KernelIdeal.κ "ck" .f32 0x3D122279#32 ((80338380498831 / 2251799813685248 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v2_0)) (v1 : (c : Dev Cert.InProjIdeal.nD) → Buf (Elt Ideal) ((c.tc : Thread Cert.InProjIdeal.nD Cert.InProjIdeal.τ).loc Cert.InProjIdeal.main_v2_1)) (v2 : (c : Dev Cert.InProjIdeal.nD) → Buf (Elt Ideal) ((c.tc : Thread Cert.InProjIdeal.nD Cert.InProjIdeal.τ).loc Cert.InProjIdeal.main_v2_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2_0) = v0 c
          ∧ r.2.mem ((c.tc : Thread Cert.InProjIdeal.nD Cert.InProjIdeal.τ).loc Cert.InProjIdeal.main_v2_1) = v1 c
          ∧ r.2.mem ((c.tc : Thread Cert.InProjIdeal.nD Cert.InProjIdeal.τ).loc Cert.InProjIdeal.main_v2_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v1) = v0 c
          ∧ r.2.mem ((c.tc : Thread Cert.InProjRefIdeal.nD Cert.InProjRefIdeal.τ).loc Cert.InProjRefIdeal.main_v4) = v1 c
          ∧ r.2.mem ((c.tc : Thread Cert.InProjRefIdeal.nD Cert.InProjRefIdeal.τ).loc Cert.InProjRefIdeal.main_v7) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v5) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)
      ∧ m' ((c.tc : Thread Cert.FfnOutRefIdeal.nD Cert.FfnOutRefIdeal.τ).loc Cert.FfnOutRefIdeal.main_arg4) = m ((c.tc : Thread Cert.FfnOutIdeal.nD Cert.FfnOutIdeal.τ).loc Cert.FfnOutIdeal.main_arg4)
      ∧ m' ((c.tc : Thread Cert.FfnOutRefIdeal.nD Cert.FfnOutRefIdeal.τ).loc Cert.FfnOutRefIdeal.main_arg5) = m ((c.tc : Thread Cert.FfnOutIdeal.nD Cert.FfnOutIdeal.τ).loc Cert.FfnOutIdeal.main_arg5)
      ∧ m' ((c.tc : Thread Cert.FfnOutRefIdeal.nD Cert.FfnOutRefIdeal.τ).loc Cert.FfnOutRefIdeal.main_arg6) = m ((c.tc : Thread Cert.FfnOutIdeal.nD Cert.FfnOutIdeal.τ).loc Cert.FfnOutIdeal.main_arg6)) →
    ∃ (v0 : (c : Dev Cert.FfnOutIdeal.nD) → Buf (Elt Ideal) ((c.tc : Thread Cert.FfnOutIdeal.nD Cert.FfnOutIdeal.τ).loc Cert.FfnOutIdeal.main_v5)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v5) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
          ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4)
          ∧ r.2.mem ((c.tc : Thread Cert.FfnOutIdeal.nD Cert.FfnOutIdeal.τ).loc Cert.FfnOutIdeal.main_arg5) = m ((c.tc : Thread Cert.FfnOutIdeal.nD Cert.FfnOutIdeal.τ).loc Cert.FfnOutIdeal.main_arg5)
          ∧ r.2.mem ((c.tc : Thread Cert.FfnOutIdeal.nD Cert.FfnOutIdeal.τ).loc Cert.FfnOutIdeal.main_arg6) = m ((c.tc : Thread Cert.FfnOutIdeal.nD Cert.FfnOutIdeal.τ).loc Cert.FfnOutIdeal.main_arg6))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v14) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3)
          ∧ r.2.mem ((c.tc : Thread Cert.FfnOutRefIdeal.nD Cert.FfnOutRefIdeal.τ).loc Cert.FfnOutRefIdeal.main_arg4) = m' ((c.tc : Thread Cert.FfnOutRefIdeal.nD Cert.FfnOutRefIdeal.τ).loc Cert.FfnOutRefIdeal.main_arg4)
          ∧ r.2.mem ((c.tc : Thread Cert.FfnOutRefIdeal.nD Cert.FfnOutRefIdeal.τ).loc Cert.FfnOutRefIdeal.main_arg5) = m' ((c.tc : Thread Cert.FfnOutRefIdeal.nD Cert.FfnOutRefIdeal.τ).loc Cert.FfnOutRefIdeal.main_arg5)
          ∧ r.2.mem ((c.tc : Thread Cert.FfnOutRefIdeal.nD Cert.FfnOutRefIdeal.τ).loc Cert.FfnOutRefIdeal.main_arg6) = m' ((c.tc : Thread Cert.FfnOutRefIdeal.nD Cert.FfnOutRefIdeal.τ).loc Cert.FfnOutRefIdeal.main_arg6))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)
      ∧ m' ((c.tc : Thread Cert.FfnInRefIdeal.nD Cert.FfnInRefIdeal.τ).loc Cert.FfnInRefIdeal.main_arg5) = m ((c.tc : Thread Cert.FfnInIdeal.nD Cert.FfnInIdeal.τ).loc Cert.FfnInIdeal.main_arg5)) →
    ∃ (v0 : (c : Dev Cert.FfnInIdeal.nD) → Buf (Elt Ideal) ((c.tc : Thread Cert.FfnInIdeal.nD Cert.FfnInIdeal.τ).loc Cert.FfnInIdeal.main_v3_0)) (v1 : (c : Dev Cert.FfnInIdeal.nD) → Buf (Elt Ideal) ((c.tc : Thread Cert.FfnInIdeal.nD Cert.FfnInIdeal.τ).loc Cert.FfnInIdeal.main_v3_1)) (v2 : (c : Dev Cert.FfnInIdeal.nD) → Buf (Elt Ideal) ((c.tc : Thread Cert.FfnInIdeal.nD Cert.FfnInIdeal.τ).loc Cert.FfnInIdeal.main_v3_2)) (v3 : (c : Dev Cert.FfnInIdeal.nD) → Buf (Elt Ideal) ((c.tc : Thread Cert.FfnInIdeal.nD Cert.FfnInIdeal.τ).loc Cert.FfnInIdeal.main_v3_3)) (v4 : (c : Dev Cert.FfnInIdeal.nD) → Buf (Elt Ideal) ((c.tc : Thread Cert.FfnInIdeal.nD Cert.FfnInIdeal.τ).loc Cert.FfnInIdeal.main_v3_4)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v3_0) = v0 c
          ∧ r.2.mem ((c.tc : Thread Cert.FfnInIdeal.nD Cert.FfnInIdeal.τ).loc Cert.FfnInIdeal.main_v3_1) = v1 c
          ∧ r.2.mem ((c.tc : Thread Cert.FfnInIdeal.nD Cert.FfnInIdeal.τ).loc Cert.FfnInIdeal.main_v3_2) = v2 c
          ∧ r.2.mem ((c.tc : Thread Cert.FfnInIdeal.nD Cert.FfnInIdeal.τ).loc Cert.FfnInIdeal.main_v3_3) = v3 c
          ∧ r.2.mem ((c.tc : Thread Cert.FfnInIdeal.nD Cert.FfnInIdeal.τ).loc Cert.FfnInIdeal.main_v3_4) = v4 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v29) = v0 c
          ∧ r.2.mem ((c.tc : Thread Cert.FfnInRefIdeal.nD Cert.FfnInRefIdeal.τ).loc Cert.FfnInRefIdeal.main_v30) = v1 c
          ∧ r.2.mem ((c.tc : Thread Cert.FfnInRefIdeal.nD Cert.FfnInRefIdeal.τ).loc Cert.FfnInRefIdeal.main_v31) = v2 c
          ∧ r.2.mem ((c.tc : Thread Cert.FfnInRefIdeal.nD Cert.FfnInRefIdeal.τ).loc Cert.FfnInRefIdeal.main_v34) = v3 c
          ∧ r.2.mem ((c.tc : Thread Cert.FfnInRefIdeal.nD Cert.FfnInRefIdeal.τ).loc Cert.FfnInRefIdeal.main_v37) = v4 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4)
          ∧ r.2.mem ((c.tc : Thread Cert.FfnInRefIdeal.nD Cert.FfnInRefIdeal.τ).loc Cert.FfnInRefIdeal.main_arg5) = m' ((c.tc : Thread Cert.FfnInRefIdeal.nD Cert.FfnInRefIdeal.τ).loc Cert.FfnInRefIdeal.main_arg5))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)
      ∧ m' ((c.tc : Thread Cert.PleRefIdeal.nD Cert.PleRefIdeal.τ).loc Cert.PleRefIdeal.main_arg6) = m ((c.tc : Thread Cert.PleIdeal.nD Cert.PleIdeal.τ).loc Cert.PleIdeal.main_arg6)) →
    ∃ (v0 : (c : Dev Cert.PleIdeal.nD) → Buf (Elt Ideal) ((c.tc : Thread Cert.PleIdeal.nD Cert.PleIdeal.τ).loc Cert.PleIdeal.main_v7_0)) (v1 : (c : Dev Cert.PleIdeal.nD) → Buf (Elt Ideal) ((c.tc : Thread Cert.PleIdeal.nD Cert.PleIdeal.τ).loc Cert.PleIdeal.main_v7_3)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v7_0) = v0 c
          ∧ r.2.mem ((c.tc : Thread Cert.PleIdeal.nD Cert.PleIdeal.τ).loc Cert.PleIdeal.main_v7_3) = v1 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v35) = v0 c
          ∧ r.2.mem ((c.tc : Thread Cert.PleRefIdeal.nD Cert.PleRefIdeal.τ).loc Cert.PleRefIdeal.main_v38) = v1 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5)
          ∧ r.2.mem ((c.tc : Thread Cert.PleRefIdeal.nD Cert.PleRefIdeal.τ).loc Cert.PleRefIdeal.main_arg6) = m' ((c.tc : Thread Cert.PleRefIdeal.nD Cert.PleRefIdeal.τ).loc Cert.PleRefIdeal.main_arg6))

def preserves_SsmIn_SsmInIdeal : Prop :=
  True

def algebraic_SsmInIdeal_SsmInRefIdeal [hSsmInIdeal : Cert.SsmInIdeal.Facts] [hSsmInRefIdeal : Cert.SsmInRefIdeal.Facts] : Prop :=
  ∀ (m : (ℓ : Loc Cert.SsmInIdeal.nD Cert.SsmInIdeal.τ Cert.SsmInIdeal.sig) → Buf (Elt Ideal) ℓ) (g : Dev Cert.SsmInIdeal.nD → PrngReg)
    (m' : (ℓ : Loc Cert.SsmInRefIdeal.nD Cert.SsmInRefIdeal.τ Cert.SsmInRefIdeal.sig) → Buf (Elt Ideal) ℓ) (g' : Dev Cert.SsmInRefIdeal.nD → PrngReg), Pre_SsmInIdeal m →
    (∀ c : Dev Cert.SsmInIdeal.nD,
      m' ((c.tc : Thread Cert.SsmInRefIdeal.nD Cert.SsmInRefIdeal.τ).loc Cert.SsmInRefIdeal.main_arg0) = m ((c.tc : Thread Cert.SsmInIdeal.nD Cert.SsmInIdeal.τ).loc Cert.SsmInIdeal.main_arg0)
      ∧ m' ((c.tc : Thread Cert.SsmInRefIdeal.nD Cert.SsmInRefIdeal.τ).loc Cert.SsmInRefIdeal.main_arg1) = m ((c.tc : Thread Cert.SsmInIdeal.nD Cert.SsmInIdeal.τ).loc Cert.SsmInIdeal.main_arg1)) →
    ∃ (v0 : (c : Dev Cert.SsmInIdeal.nD) → Buf (Elt Ideal) ((c.tc : Thread Cert.SsmInIdeal.nD Cert.SsmInIdeal.τ).loc Cert.SsmInIdeal.main_v1_0)) (v1 : (c : Dev Cert.SsmInIdeal.nD) → Buf (Elt Ideal) ((c.tc : Thread Cert.SsmInIdeal.nD Cert.SsmInIdeal.τ).loc Cert.SsmInIdeal.main_v1_1)),
      θ_run (Cert.SsmInIdeal.defs (F := Ideal)) (onTc (τ := Cert.SsmInIdeal.τ) (Cert.SsmInIdeal.main (F := Ideal))) ⟨m, fun _ => 0, g⟩ (fun r => ∀ c : Dev Cert.SsmInIdeal.nD,
          r.2.mem ((c.tc : Thread Cert.SsmInIdeal.nD Cert.SsmInIdeal.τ).loc Cert.SsmInIdeal.main_v1_0) = v0 c
          ∧ r.2.mem ((c.tc : Thread Cert.SsmInIdeal.nD Cert.SsmInIdeal.τ).loc Cert.SsmInIdeal.main_v1_1) = v1 c
          ∧ r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
          ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1))
      ∧ θ_run (Cert.SsmInRefIdeal.defs (F := Ideal)) (onTc (τ := Cert.SsmInRefIdeal.τ) (Cert.SsmInRefIdeal.main (F := Ideal))) ⟨m', fun _ => 0, g'⟩ (fun r => ∀ c : Dev Cert.SsmInRefIdeal.nD,
          r.2.mem ((c.tc : Thread Cert.SsmInRefIdeal.nD Cert.SsmInRefIdeal.τ).loc Cert.SsmInRefIdeal.main_v3) = v0 c
          ∧ r.2.mem ((c.tc : Thread Cert.SsmInRefIdeal.nD Cert.SsmInRefIdeal.τ).loc Cert.SsmInRefIdeal.main_v4) = v1 c
          ∧ r.2.mem ((c.tc : Thread Cert.SsmInRefIdeal.nD Cert.SsmInRefIdeal.τ).loc Cert.SsmInRefIdeal.main_arg0) = m' ((c.tc : Thread Cert.SsmInRefIdeal.nD Cert.SsmInRefIdeal.τ).loc Cert.SsmInRefIdeal.main_arg0)
          ∧ r.2.mem ((c.tc : Thread Cert.SsmInRefIdeal.nD Cert.SsmInRefIdeal.τ).loc Cert.SsmInRefIdeal.main_arg1) = m' ((c.tc : Thread Cert.SsmInRefIdeal.nD Cert.SsmInRefIdeal.τ).loc Cert.SsmInRefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v2)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v2) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v23) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)) →
    ∃ (v0 : (c : Dev Cert.FinalIdeal.nD) → Buf (Elt Ideal) ((c.tc : Thread Cert.FinalIdeal.nD Cert.FinalIdeal.τ).loc Cert.FinalIdeal.main_v2)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v2) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v23) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2))

def preserves_OutNext_OutNextIdeal : Prop :=
  True

def algebraic_OutNextIdeal_OutNextRefIdeal [hOutNextIdeal : Cert.OutNextIdeal.Facts] [hOutNextRefIdeal : Cert.OutNextRefIdeal.Facts] : Prop :=
  ∀ (m : (ℓ : Loc Cert.OutNextIdeal.nD Cert.OutNextIdeal.τ Cert.OutNextIdeal.sig) → Buf (Elt Ideal) ℓ) (g : Dev Cert.OutNextIdeal.nD → PrngReg)
    (m' : (ℓ : Loc Cert.OutNextRefIdeal.nD Cert.OutNextRefIdeal.τ Cert.OutNextRefIdeal.sig) → Buf (Elt Ideal) ℓ) (g' : Dev Cert.OutNextRefIdeal.nD → PrngReg), Pre_OutNextIdeal m →
    (∀ c : Dev Cert.OutNextIdeal.nD,
      m' ((c.tc : Thread Cert.OutNextRefIdeal.nD Cert.OutNextRefIdeal.τ).loc Cert.OutNextRefIdeal.main_arg0) = m ((c.tc : Thread Cert.OutNextIdeal.nD Cert.OutNextIdeal.τ).loc Cert.OutNextIdeal.main_arg0)
      ∧ m' ((c.tc : Thread Cert.OutNextRefIdeal.nD Cert.OutNextRefIdeal.τ).loc Cert.OutNextRefIdeal.main_arg1) = m ((c.tc : Thread Cert.OutNextIdeal.nD Cert.OutNextIdeal.τ).loc Cert.OutNextIdeal.main_arg1)
      ∧ m' ((c.tc : Thread Cert.OutNextRefIdeal.nD Cert.OutNextRefIdeal.τ).loc Cert.OutNextRefIdeal.main_arg2) = m ((c.tc : Thread Cert.OutNextIdeal.nD Cert.OutNextIdeal.τ).loc Cert.OutNextIdeal.main_arg2)
      ∧ m' ((c.tc : Thread Cert.OutNextRefIdeal.nD Cert.OutNextRefIdeal.τ).loc Cert.OutNextRefIdeal.main_arg3) = m ((c.tc : Thread Cert.OutNextIdeal.nD Cert.OutNextIdeal.τ).loc Cert.OutNextIdeal.main_arg3)
      ∧ m' ((c.tc : Thread Cert.OutNextRefIdeal.nD Cert.OutNextRefIdeal.τ).loc Cert.OutNextRefIdeal.main_arg4) = m ((c.tc : Thread Cert.OutNextIdeal.nD Cert.OutNextIdeal.τ).loc Cert.OutNextIdeal.main_arg4)
      ∧ m' ((c.tc : Thread Cert.OutNextRefIdeal.nD Cert.OutNextRefIdeal.τ).loc Cert.OutNextRefIdeal.main_arg5) = m ((c.tc : Thread Cert.OutNextIdeal.nD Cert.OutNextIdeal.τ).loc Cert.OutNextIdeal.main_arg5)
      ∧ m' ((c.tc : Thread Cert.OutNextRefIdeal.nD Cert.OutNextRefIdeal.τ).loc Cert.OutNextRefIdeal.main_arg6) = m ((c.tc : Thread Cert.OutNextIdeal.nD Cert.OutNextIdeal.τ).loc Cert.OutNextIdeal.main_arg6)
      ∧ m' ((c.tc : Thread Cert.OutNextRefIdeal.nD Cert.OutNextRefIdeal.τ).loc Cert.OutNextRefIdeal.main_arg7) = m ((c.tc : Thread Cert.OutNextIdeal.nD Cert.OutNextIdeal.τ).loc Cert.OutNextIdeal.main_arg7)
      ∧ m' ((c.tc : Thread Cert.OutNextRefIdeal.nD Cert.OutNextRefIdeal.τ).loc Cert.OutNextRefIdeal.main_arg8) = m ((c.tc : Thread Cert.OutNextIdeal.nD Cert.OutNextIdeal.τ).loc Cert.OutNextIdeal.main_arg8)) →
    ∃ (v0 : (c : Dev Cert.OutNextIdeal.nD) → Buf (Elt Ideal) ((c.tc : Thread Cert.OutNextIdeal.nD Cert.OutNextIdeal.τ).loc Cert.OutNextIdeal.main_v5)),
      θ_run (Cert.OutNextIdeal.defs (F := Ideal)) (onTc (τ := Cert.OutNextIdeal.τ) (Cert.OutNextIdeal.main (F := Ideal))) ⟨m, fun _ => 0, g⟩ (fun r => ∀ c : Dev Cert.OutNextIdeal.nD,
          r.2.mem ((c.tc : Thread Cert.OutNextIdeal.nD Cert.OutNextIdeal.τ).loc Cert.OutNextIdeal.main_v5) = v0 c
          ∧ r.2.mem ((c.tc : Thread Cert.OutNextIdeal.nD Cert.OutNextIdeal.τ).loc Cert.OutNextIdeal.main_arg0) = m ((c.tc : Thread Cert.OutNextIdeal.nD Cert.OutNextIdeal.τ).loc Cert.OutNextIdeal.main_arg0)
          ∧ r.2.mem ((c.tc : Thread Cert.OutNextIdeal.nD Cert.OutNextIdeal.τ).loc Cert.OutNextIdeal.main_arg1) = m ((c.tc : Thread Cert.OutNextIdeal.nD Cert.OutNextIdeal.τ).loc Cert.OutNextIdeal.main_arg1)
          ∧ r.2.mem ((c.tc : Thread Cert.OutNextIdeal.nD Cert.OutNextIdeal.τ).loc Cert.OutNextIdeal.main_arg2) = m ((c.tc : Thread Cert.OutNextIdeal.nD Cert.OutNextIdeal.τ).loc Cert.OutNextIdeal.main_arg2)
          ∧ r.2.mem ((c.tc : Thread Cert.OutNextIdeal.nD Cert.OutNextIdeal.τ).loc Cert.OutNextIdeal.main_arg3) = m ((c.tc : Thread Cert.OutNextIdeal.nD Cert.OutNextIdeal.τ).loc Cert.OutNextIdeal.main_arg3)
          ∧ r.2.mem ((c.tc : Thread Cert.OutNextIdeal.nD Cert.OutNextIdeal.τ).loc Cert.OutNextIdeal.main_arg4) = m ((c.tc : Thread Cert.OutNextIdeal.nD Cert.OutNextIdeal.τ).loc Cert.OutNextIdeal.main_arg4)
          ∧ r.2.mem ((c.tc : Thread Cert.OutNextIdeal.nD Cert.OutNextIdeal.τ).loc Cert.OutNextIdeal.main_arg5) = m ((c.tc : Thread Cert.OutNextIdeal.nD Cert.OutNextIdeal.τ).loc Cert.OutNextIdeal.main_arg5)
          ∧ r.2.mem ((c.tc : Thread Cert.OutNextIdeal.nD Cert.OutNextIdeal.τ).loc Cert.OutNextIdeal.main_arg6) = m ((c.tc : Thread Cert.OutNextIdeal.nD Cert.OutNextIdeal.τ).loc Cert.OutNextIdeal.main_arg6)
          ∧ r.2.mem ((c.tc : Thread Cert.OutNextIdeal.nD Cert.OutNextIdeal.τ).loc Cert.OutNextIdeal.main_arg7) = m ((c.tc : Thread Cert.OutNextIdeal.nD Cert.OutNextIdeal.τ).loc Cert.OutNextIdeal.main_arg7)
          ∧ r.2.mem ((c.tc : Thread Cert.OutNextIdeal.nD Cert.OutNextIdeal.τ).loc Cert.OutNextIdeal.main_arg8) = m ((c.tc : Thread Cert.OutNextIdeal.nD Cert.OutNextIdeal.τ).loc Cert.OutNextIdeal.main_arg8))
      ∧ θ_run (Cert.OutNextRefIdeal.defs (F := Ideal)) (onTc (τ := Cert.OutNextRefIdeal.τ) (Cert.OutNextRefIdeal.main (F := Ideal))) ⟨m', fun _ => 0, g'⟩ (fun r => ∀ c : Dev Cert.OutNextRefIdeal.nD,
          r.2.mem ((c.tc : Thread Cert.OutNextRefIdeal.nD Cert.OutNextRefIdeal.τ).loc Cert.OutNextRefIdeal.main_v15) = v0 c
          ∧ r.2.mem ((c.tc : Thread Cert.OutNextRefIdeal.nD Cert.OutNextRefIdeal.τ).loc Cert.OutNextRefIdeal.main_arg0) = m' ((c.tc : Thread Cert.OutNextRefIdeal.nD Cert.OutNextRefIdeal.τ).loc Cert.OutNextRefIdeal.main_arg0)
          ∧ r.2.mem ((c.tc : Thread Cert.OutNextRefIdeal.nD Cert.OutNextRefIdeal.τ).loc Cert.OutNextRefIdeal.main_arg1) = m' ((c.tc : Thread Cert.OutNextRefIdeal.nD Cert.OutNextRefIdeal.τ).loc Cert.OutNextRefIdeal.main_arg1)
          ∧ r.2.mem ((c.tc : Thread Cert.OutNextRefIdeal.nD Cert.OutNextRefIdeal.τ).loc Cert.OutNextRefIdeal.main_arg2) = m' ((c.tc : Thread Cert.OutNextRefIdeal.nD Cert.OutNextRefIdeal.τ).loc Cert.OutNextRefIdeal.main_arg2)
          ∧ r.2.mem ((c.tc : Thread Cert.OutNextRefIdeal.nD Cert.OutNextRefIdeal.τ).loc Cert.OutNextRefIdeal.main_arg3) = m' ((c.tc : Thread Cert.OutNextRefIdeal.nD Cert.OutNextRefIdeal.τ).loc Cert.OutNextRefIdeal.main_arg3)
          ∧ r.2.mem ((c.tc : Thread Cert.OutNextRefIdeal.nD Cert.OutNextRefIdeal.τ).loc Cert.OutNextRefIdeal.main_arg4) = m' ((c.tc : Thread Cert.OutNextRefIdeal.nD Cert.OutNextRefIdeal.τ).loc Cert.OutNextRefIdeal.main_arg4)
          ∧ r.2.mem ((c.tc : Thread Cert.OutNextRefIdeal.nD Cert.OutNextRefIdeal.τ).loc Cert.OutNextRefIdeal.main_arg5) = m' ((c.tc : Thread Cert.OutNextRefIdeal.nD Cert.OutNextRefIdeal.τ).loc Cert.OutNextRefIdeal.main_arg5)
          ∧ r.2.mem ((c.tc : Thread Cert.OutNextRefIdeal.nD Cert.OutNextRefIdeal.τ).loc Cert.OutNextRefIdeal.main_arg6) = m' ((c.tc : Thread Cert.OutNextRefIdeal.nD Cert.OutNextRefIdeal.τ).loc Cert.OutNextRefIdeal.main_arg6)
          ∧ r.2.mem ((c.tc : Thread Cert.OutNextRefIdeal.nD Cert.OutNextRefIdeal.τ).loc Cert.OutNextRefIdeal.main_arg7) = m' ((c.tc : Thread Cert.OutNextRefIdeal.nD Cert.OutNextRefIdeal.τ).loc Cert.OutNextRefIdeal.main_arg7)
          ∧ r.2.mem ((c.tc : Thread Cert.OutNextRefIdeal.nD Cert.OutNextRefIdeal.τ).loc Cert.OutNextRefIdeal.main_arg8) = m' ((c.tc : Thread Cert.OutNextRefIdeal.nD Cert.OutNextRefIdeal.τ).loc Cert.OutNextRefIdeal.main_arg8))

def preserves_SsmNext_SsmNextIdeal : Prop :=
  True

def algebraic_SsmNextIdeal_SsmNextRefIdeal [hSsmNextIdeal : Cert.SsmNextIdeal.Facts] [hSsmNextRefIdeal : Cert.SsmNextRefIdeal.Facts] : Prop :=
  ∀ (m : (ℓ : Loc Cert.SsmNextIdeal.nD Cert.SsmNextIdeal.τ Cert.SsmNextIdeal.sig) → Buf (Elt Ideal) ℓ) (g : Dev Cert.SsmNextIdeal.nD → PrngReg)
    (m' : (ℓ : Loc Cert.SsmNextRefIdeal.nD Cert.SsmNextRefIdeal.τ Cert.SsmNextRefIdeal.sig) → Buf (Elt Ideal) ℓ) (g' : Dev Cert.SsmNextRefIdeal.nD → PrngReg), Pre_SsmNextIdeal m →
    (∀ c : Dev Cert.SsmNextIdeal.nD,
      m' ((c.tc : Thread Cert.SsmNextRefIdeal.nD Cert.SsmNextRefIdeal.τ).loc Cert.SsmNextRefIdeal.main_arg0) = m ((c.tc : Thread Cert.SsmNextIdeal.nD Cert.SsmNextIdeal.τ).loc Cert.SsmNextIdeal.main_arg0)
      ∧ m' ((c.tc : Thread Cert.SsmNextRefIdeal.nD Cert.SsmNextRefIdeal.τ).loc Cert.SsmNextRefIdeal.main_arg1) = m ((c.tc : Thread Cert.SsmNextIdeal.nD Cert.SsmNextIdeal.τ).loc Cert.SsmNextIdeal.main_arg1)
      ∧ m' ((c.tc : Thread Cert.SsmNextRefIdeal.nD Cert.SsmNextRefIdeal.τ).loc Cert.SsmNextRefIdeal.main_arg2) = m ((c.tc : Thread Cert.SsmNextIdeal.nD Cert.SsmNextIdeal.τ).loc Cert.SsmNextIdeal.main_arg2)
      ∧ m' ((c.tc : Thread Cert.SsmNextRefIdeal.nD Cert.SsmNextRefIdeal.τ).loc Cert.SsmNextRefIdeal.main_arg3) = m ((c.tc : Thread Cert.SsmNextIdeal.nD Cert.SsmNextIdeal.τ).loc Cert.SsmNextIdeal.main_arg3)) →
    ∃ (v0 : (c : Dev Cert.SsmNextIdeal.nD) → Buf (Elt Ideal) ((c.tc : Thread Cert.SsmNextIdeal.nD Cert.SsmNextIdeal.τ).loc Cert.SsmNextIdeal.main_v3_0)) (v1 : (c : Dev Cert.SsmNextIdeal.nD) → Buf (Elt Ideal) ((c.tc : Thread Cert.SsmNextIdeal.nD Cert.SsmNextIdeal.τ).loc Cert.SsmNextIdeal.main_v3_1)) (v2 : (c : Dev Cert.SsmNextIdeal.nD) → Buf (Elt Ideal) ((c.tc : Thread Cert.SsmNextIdeal.nD Cert.SsmNextIdeal.τ).loc Cert.SsmNextIdeal.main_v3_2)) (v3 : (c : Dev Cert.SsmNextIdeal.nD) → Buf (Elt Ideal) ((c.tc : Thread Cert.SsmNextIdeal.nD Cert.SsmNextIdeal.τ).loc Cert.SsmNextIdeal.main_v3_3)),
      θ_run (Cert.SsmNextIdeal.defs (F := Ideal)) (onTc (τ := Cert.SsmNextIdeal.τ) (Cert.SsmNextIdeal.main (F := Ideal))) ⟨m, fun _ => 0, g⟩ (fun r => ∀ c : Dev Cert.SsmNextIdeal.nD,
          r.2.mem ((c.tc : Thread Cert.SsmNextIdeal.nD Cert.SsmNextIdeal.τ).loc Cert.SsmNextIdeal.main_v3_0) = v0 c
          ∧ r.2.mem ((c.tc : Thread Cert.SsmNextIdeal.nD Cert.SsmNextIdeal.τ).loc Cert.SsmNextIdeal.main_v3_1) = v1 c
          ∧ r.2.mem ((c.tc : Thread Cert.SsmNextIdeal.nD Cert.SsmNextIdeal.τ).loc Cert.SsmNextIdeal.main_v3_2) = v2 c
          ∧ r.2.mem ((c.tc : Thread Cert.SsmNextIdeal.nD Cert.SsmNextIdeal.τ).loc Cert.SsmNextIdeal.main_v3_3) = v3 c
          ∧ r.2.mem ((c.tc : Thread Cert.SsmNextIdeal.nD Cert.SsmNextIdeal.τ).loc Cert.SsmNextIdeal.main_arg0) = m ((c.tc : Thread Cert.SsmNextIdeal.nD Cert.SsmNextIdeal.τ).loc Cert.SsmNextIdeal.main_arg0)
          ∧ r.2.mem ((c.tc : Thread Cert.SsmNextIdeal.nD Cert.SsmNextIdeal.τ).loc Cert.SsmNextIdeal.main_arg1) = m ((c.tc : Thread Cert.SsmNextIdeal.nD Cert.SsmNextIdeal.τ).loc Cert.SsmNextIdeal.main_arg1)
          ∧ r.2.mem ((c.tc : Thread Cert.SsmNextIdeal.nD Cert.SsmNextIdeal.τ).loc Cert.SsmNextIdeal.main_arg2) = m ((c.tc : Thread Cert.SsmNextIdeal.nD Cert.SsmNextIdeal.τ).loc Cert.SsmNextIdeal.main_arg2)
          ∧ r.2.mem ((c.tc : Thread Cert.SsmNextIdeal.nD Cert.SsmNextIdeal.τ).loc Cert.SsmNextIdeal.main_arg3) = m ((c.tc : Thread Cert.SsmNextIdeal.nD Cert.SsmNextIdeal.τ).loc Cert.SsmNextIdeal.main_arg3))
      ∧ θ_run (Cert.SsmNextRefIdeal.defs (F := Ideal)) (onTc (τ := Cert.SsmNextRefIdeal.τ) (Cert.SsmNextRefIdeal.main (F := Ideal))) ⟨m', fun _ => 0, g'⟩ (fun r => ∀ c : Dev Cert.SsmNextRefIdeal.nD,
          r.2.mem ((c.tc : Thread Cert.SsmNextRefIdeal.nD Cert.SsmNextRefIdeal.τ).loc Cert.SsmNextRefIdeal.main_v27) = v0 c
          ∧ r.2.mem ((c.tc : Thread Cert.SsmNextRefIdeal.nD Cert.SsmNextRefIdeal.τ).loc Cert.SsmNextRefIdeal.main_v28) = v1 c
          ∧ r.2.mem ((c.tc : Thread Cert.SsmNextRefIdeal.nD Cert.SsmNextRefIdeal.τ).loc Cert.SsmNextRefIdeal.main_v29) = v2 c
          ∧ r.2.mem ((c.tc : Thread Cert.SsmNextRefIdeal.nD Cert.SsmNextRefIdeal.τ).loc Cert.SsmNextRefIdeal.main_v30) = v3 c
          ∧ r.2.mem ((c.tc : Thread Cert.SsmNextRefIdeal.nD Cert.SsmNextRefIdeal.τ).loc Cert.SsmNextRefIdeal.main_arg0) = m' ((c.tc : Thread Cert.SsmNextRefIdeal.nD Cert.SsmNextRefIdeal.τ).loc Cert.SsmNextRefIdeal.main_arg0)
          ∧ r.2.mem ((c.tc : Thread Cert.SsmNextRefIdeal.nD Cert.SsmNextRefIdeal.τ).loc Cert.SsmNextRefIdeal.main_arg1) = m' ((c.tc : Thread Cert.SsmNextRefIdeal.nD Cert.SsmNextRefIdeal.τ).loc Cert.SsmNextRefIdeal.main_arg1)
          ∧ r.2.mem ((c.tc : Thread Cert.SsmNextRefIdeal.nD Cert.SsmNextRefIdeal.τ).loc Cert.SsmNextRefIdeal.main_arg2) = m' ((c.tc : Thread Cert.SsmNextRefIdeal.nD Cert.SsmNextRefIdeal.τ).loc Cert.SsmNextRefIdeal.main_arg2)
          ∧ r.2.mem ((c.tc : Thread Cert.SsmNextRefIdeal.nD Cert.SsmNextRefIdeal.τ).loc Cert.SsmNextRefIdeal.main_arg3) = m' ((c.tc : Thread Cert.SsmNextRefIdeal.nD Cert.SsmNextRefIdeal.τ).loc Cert.SsmNextRefIdeal.main_arg3))

def preserves_CastIn_CastInIdeal : Prop :=
  True

def algebraic_CastInIdeal_CastInRefIdeal [hCastInIdeal : Cert.CastInIdeal.Facts] [hCastInRefIdeal : Cert.CastInRefIdeal.Facts] : Prop :=
  ∀ (m : (ℓ : Loc Cert.CastInIdeal.nD Cert.CastInIdeal.τ Cert.CastInIdeal.sig) → Buf (Elt Ideal) ℓ) (g : Dev Cert.CastInIdeal.nD → PrngReg)
    (m' : (ℓ : Loc Cert.CastInRefIdeal.nD Cert.CastInRefIdeal.τ Cert.CastInRefIdeal.sig) → Buf (Elt Ideal) ℓ) (g' : Dev Cert.CastInRefIdeal.nD → PrngReg), Pre_CastInIdeal m →
    (∀ c : Dev Cert.CastInIdeal.nD,
      m' ((c.tc : Thread Cert.CastInRefIdeal.nD Cert.CastInRefIdeal.τ).loc Cert.CastInRefIdeal.main_arg0) = m ((c.tc : Thread Cert.CastInIdeal.nD Cert.CastInIdeal.τ).loc Cert.CastInIdeal.main_arg0)) →
    ∃ (v0 : (c : Dev Cert.CastInIdeal.nD) → Buf (Elt Ideal) ((c.tc : Thread Cert.CastInIdeal.nD Cert.CastInIdeal.τ).loc Cert.CastInIdeal.main_v0)),
      θ_run (Cert.CastInIdeal.defs (F := Ideal)) (onTc (τ := Cert.CastInIdeal.τ) (Cert.CastInIdeal.main (F := Ideal))) ⟨m, fun _ => 0, g⟩ (fun r => ∀ c : Dev Cert.CastInIdeal.nD,
          r.2.mem ((c.tc : Thread Cert.CastInIdeal.nD Cert.CastInIdeal.τ).loc Cert.CastInIdeal.main_v0) = v0 c
          ∧ r.2.mem ((c.tc : Thread Cert.CastInIdeal.nD Cert.CastInIdeal.τ).loc Cert.CastInIdeal.main_arg0) = m ((c.tc : Thread Cert.CastInIdeal.nD Cert.CastInIdeal.τ).loc Cert.CastInIdeal.main_arg0))
      ∧ θ_run (Cert.CastInRefIdeal.defs (F := Ideal)) (onTc (τ := Cert.CastInRefIdeal.τ) (Cert.CastInRefIdeal.main (F := Ideal))) ⟨m', fun _ => 0, g'⟩ (fun r => ∀ c : Dev Cert.CastInRefIdeal.nD,
          r.2.mem ((c.tc : Thread Cert.CastInRefIdeal.nD Cert.CastInRefIdeal.τ).loc Cert.CastInRefIdeal.main_v2) = v0 c
          ∧ r.2.mem ((c.tc : Thread Cert.CastInRefIdeal.nD Cert.CastInRefIdeal.τ).loc Cert.CastInRefIdeal.main_arg0) = m' ((c.tc : Thread Cert.CastInRefIdeal.nD Cert.CastInRefIdeal.τ).loc Cert.CastInRefIdeal.main_arg0))

def preserves_CastGlu_CastGluIdeal : Prop :=
  True

def algebraic_CastGluIdeal_CastGluRefIdeal [hCastGluIdeal : Cert.CastGluIdeal.Facts] [hCastGluRefIdeal : Cert.CastGluRefIdeal.Facts] : Prop :=
  ∀ (m : (ℓ : Loc Cert.CastGluIdeal.nD Cert.CastGluIdeal.τ Cert.CastGluIdeal.sig) → Buf (Elt Ideal) ℓ) (g : Dev Cert.CastGluIdeal.nD → PrngReg)
    (m' : (ℓ : Loc Cert.CastGluRefIdeal.nD Cert.CastGluRefIdeal.τ Cert.CastGluRefIdeal.sig) → Buf (Elt Ideal) ℓ) (g' : Dev Cert.CastGluRefIdeal.nD → PrngReg), Pre_CastGluIdeal m →
    (∀ c : Dev Cert.CastGluIdeal.nD,
      m' ((c.tc : Thread Cert.CastGluRefIdeal.nD Cert.CastGluRefIdeal.τ).loc Cert.CastGluRefIdeal.main_arg0) = m ((c.tc : Thread Cert.CastGluIdeal.nD Cert.CastGluIdeal.τ).loc Cert.CastGluIdeal.main_arg0)) →
    ∃ (v0 : (c : Dev Cert.CastGluIdeal.nD) → Buf (Elt Ideal) ((c.tc : Thread Cert.CastGluIdeal.nD Cert.CastGluIdeal.τ).loc Cert.CastGluIdeal.main_v0)),
      θ_run (Cert.CastGluIdeal.defs (F := Ideal)) (onTc (τ := Cert.CastGluIdeal.τ) (Cert.CastGluIdeal.main (F := Ideal))) ⟨m, fun _ => 0, g⟩ (fun r => ∀ c : Dev Cert.CastGluIdeal.nD,
          r.2.mem ((c.tc : Thread Cert.CastGluIdeal.nD Cert.CastGluIdeal.τ).loc Cert.CastGluIdeal.main_v0) = v0 c
          ∧ r.2.mem ((c.tc : Thread Cert.CastGluIdeal.nD Cert.CastGluIdeal.τ).loc Cert.CastGluIdeal.main_arg0) = m ((c.tc : Thread Cert.CastGluIdeal.nD Cert.CastGluIdeal.τ).loc Cert.CastGluIdeal.main_arg0))
      ∧ θ_run (Cert.CastGluRefIdeal.defs (F := Ideal)) (onTc (τ := Cert.CastGluRefIdeal.τ) (Cert.CastGluRefIdeal.main (F := Ideal))) ⟨m', fun _ => 0, g'⟩ (fun r => ∀ c : Dev Cert.CastGluRefIdeal.nD,
          r.2.mem ((c.tc : Thread Cert.CastGluRefIdeal.nD Cert.CastGluRefIdeal.τ).loc Cert.CastGluRefIdeal.main_v2) = v0 c
          ∧ r.2.mem ((c.tc : Thread Cert.CastGluRefIdeal.nD Cert.CastGluRefIdeal.τ).loc Cert.CastGluRefIdeal.main_arg0) = m' ((c.tc : Thread Cert.CastGluRefIdeal.nD Cert.CastGluRefIdeal.τ).loc Cert.CastGluRefIdeal.main_arg0))

def preserves_CastEmb_CastEmbIdeal : Prop :=
  True

def algebraic_CastEmbIdeal_CastEmbRefIdeal [hCastEmbIdeal : Cert.CastEmbIdeal.Facts] [hCastEmbRefIdeal : Cert.CastEmbRefIdeal.Facts] : Prop :=
  ∀ (m : (ℓ : Loc Cert.CastEmbIdeal.nD Cert.CastEmbIdeal.τ Cert.CastEmbIdeal.sig) → Buf (Elt Ideal) ℓ) (g : Dev Cert.CastEmbIdeal.nD → PrngReg)
    (m' : (ℓ : Loc Cert.CastEmbRefIdeal.nD Cert.CastEmbRefIdeal.τ Cert.CastEmbRefIdeal.sig) → Buf (Elt Ideal) ℓ) (g' : Dev Cert.CastEmbRefIdeal.nD → PrngReg), Pre_CastEmbIdeal m →
    (∀ c : Dev Cert.CastEmbIdeal.nD,
      m' ((c.tc : Thread Cert.CastEmbRefIdeal.nD Cert.CastEmbRefIdeal.τ).loc Cert.CastEmbRefIdeal.main_arg0) = m ((c.tc : Thread Cert.CastEmbIdeal.nD Cert.CastEmbIdeal.τ).loc Cert.CastEmbIdeal.main_arg0)) →
    ∃ (v0 : (c : Dev Cert.CastEmbIdeal.nD) → Buf (Elt Ideal) ((c.tc : Thread Cert.CastEmbIdeal.nD Cert.CastEmbIdeal.τ).loc Cert.CastEmbIdeal.main_v1)),
      θ_run (Cert.CastEmbIdeal.defs (F := Ideal)) (onTc (τ := Cert.CastEmbIdeal.τ) (Cert.CastEmbIdeal.main (F := Ideal))) ⟨m, fun _ => 0, g⟩ (fun r => ∀ c : Dev Cert.CastEmbIdeal.nD,
          r.2.mem ((c.tc : Thread Cert.CastEmbIdeal.nD Cert.CastEmbIdeal.τ).loc Cert.CastEmbIdeal.main_v1) = v0 c
          ∧ r.2.mem ((c.tc : Thread Cert.CastEmbIdeal.nD Cert.CastEmbIdeal.τ).loc Cert.CastEmbIdeal.main_arg0) = m ((c.tc : Thread Cert.CastEmbIdeal.nD Cert.CastEmbIdeal.τ).loc Cert.CastEmbIdeal.main_arg0))
      ∧ θ_run (Cert.CastEmbRefIdeal.defs (F := Ideal)) (onTc (τ := Cert.CastEmbRefIdeal.τ) (Cert.CastEmbRefIdeal.main (F := Ideal))) ⟨m', fun _ => 0, g'⟩ (fun r => ∀ c : Dev Cert.CastEmbRefIdeal.nD,
          r.2.mem ((c.tc : Thread Cert.CastEmbRefIdeal.nD Cert.CastEmbRefIdeal.τ).loc Cert.CastEmbRefIdeal.main_v3) = v0 c
          ∧ r.2.mem ((c.tc : Thread Cert.CastEmbRefIdeal.nD Cert.CastEmbRefIdeal.τ).loc Cert.CastEmbRefIdeal.main_arg0) = m' ((c.tc : Thread Cert.CastEmbRefIdeal.nD Cert.CastEmbRefIdeal.τ).loc Cert.CastEmbRefIdeal.main_arg0))

def preserves_CastPle_CastPleIdeal : Prop :=
  True

def algebraic_CastPleIdeal_CastPleRefIdeal [hCastPleIdeal : Cert.CastPleIdeal.Facts] [hCastPleRefIdeal : Cert.CastPleRefIdeal.Facts] : Prop :=
  ∀ (m : (ℓ : Loc Cert.CastPleIdeal.nD Cert.CastPleIdeal.τ Cert.CastPleIdeal.sig) → Buf (Elt Ideal) ℓ) (g : Dev Cert.CastPleIdeal.nD → PrngReg)
    (m' : (ℓ : Loc Cert.CastPleRefIdeal.nD Cert.CastPleRefIdeal.τ Cert.CastPleRefIdeal.sig) → Buf (Elt Ideal) ℓ) (g' : Dev Cert.CastPleRefIdeal.nD → PrngReg), Pre_CastPleIdeal m →
    (∀ c : Dev Cert.CastPleIdeal.nD,
      m' ((c.tc : Thread Cert.CastPleRefIdeal.nD Cert.CastPleRefIdeal.τ).loc Cert.CastPleRefIdeal.main_arg0) = m ((c.tc : Thread Cert.CastPleIdeal.nD Cert.CastPleIdeal.τ).loc Cert.CastPleIdeal.main_arg0)) →
    ∃ (v0 : (c : Dev Cert.CastPleIdeal.nD) → Buf (Elt Ideal) ((c.tc : Thread Cert.CastPleIdeal.nD Cert.CastPleIdeal.τ).loc Cert.CastPleIdeal.main_v0)),
      θ_run (Cert.CastPleIdeal.defs (F := Ideal)) (onTc (τ := Cert.CastPleIdeal.τ) (Cert.CastPleIdeal.main (F := Ideal))) ⟨m, fun _ => 0, g⟩ (fun r => ∀ c : Dev Cert.CastPleIdeal.nD,
          r.2.mem ((c.tc : Thread Cert.CastPleIdeal.nD Cert.CastPleIdeal.τ).loc Cert.CastPleIdeal.main_v0) = v0 c
          ∧ r.2.mem ((c.tc : Thread Cert.CastPleIdeal.nD Cert.CastPleIdeal.τ).loc Cert.CastPleIdeal.main_arg0) = m ((c.tc : Thread Cert.CastPleIdeal.nD Cert.CastPleIdeal.τ).loc Cert.CastPleIdeal.main_arg0))
      ∧ θ_run (Cert.CastPleRefIdeal.defs (F := Ideal)) (onTc (τ := Cert.CastPleRefIdeal.τ) (Cert.CastPleRefIdeal.main (F := Ideal))) ⟨m', fun _ => 0, g'⟩ (fun r => ∀ c : Dev Cert.CastPleRefIdeal.nD,
          r.2.mem ((c.tc : Thread Cert.CastPleRefIdeal.nD Cert.CastPleRefIdeal.τ).loc Cert.CastPleRefIdeal.main_v2) = v0 c
          ∧ r.2.mem ((c.tc : Thread Cert.CastPleRefIdeal.nD Cert.CastPleRefIdeal.τ).loc Cert.CastPleRefIdeal.main_arg0) = m' ((c.tc : Thread Cert.CastPleRefIdeal.nD Cert.CastPleRefIdeal.τ).loc Cert.CastPleRefIdeal.main_arg0))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hFfnOut : Cert.FfnOut.Facts) (hFfnOutIdeal : Cert.FfnOutIdeal.Facts) (hFfnOutRefIdeal : Cert.FfnOutRefIdeal.Facts) (hFfnIn : Cert.FfnIn.Facts) (hFfnInIdeal : Cert.FfnInIdeal.Facts) (hFfnInRefIdeal : Cert.FfnInRefIdeal.Facts) (hPle : Cert.Ple.Facts) (hPleIdeal : Cert.PleIdeal.Facts) (hPleRefIdeal : Cert.PleRefIdeal.Facts) (hSsmIn : Cert.SsmIn.Facts) (hSsmInIdeal : Cert.SsmInIdeal.Facts) (hSsmInRefIdeal : Cert.SsmInRefIdeal.Facts) (hGlu : Cert.Glu.Facts) (hGluIdeal : Cert.GluIdeal.Facts) (hGluRefIdeal : Cert.GluRefIdeal.Facts) (hFinal : Cert.Final.Facts) (hFinalIdeal : Cert.FinalIdeal.Facts) (hFinalRefIdeal : Cert.FinalRefIdeal.Facts) (hOutNext : Cert.OutNext.Facts) (hOutNextIdeal : Cert.OutNextIdeal.Facts) (hOutNextRefIdeal : Cert.OutNextRefIdeal.Facts) (hSsmNext : Cert.SsmNext.Facts) (hSsmNextIdeal : Cert.SsmNextIdeal.Facts) (hSsmNextRefIdeal : Cert.SsmNextRefIdeal.Facts) (hCastIn : Cert.CastIn.Facts) (hCastInIdeal : Cert.CastInIdeal.Facts) (hCastInRefIdeal : Cert.CastInRefIdeal.Facts) (hCastGlu : Cert.CastGlu.Facts) (hCastGluIdeal : Cert.CastGluIdeal.Facts) (hCastGluRefIdeal : Cert.CastGluRefIdeal.Facts) (hCastEmb : Cert.CastEmb.Facts) (hCastEmbIdeal : Cert.CastEmbIdeal.Facts) (hCastEmbRefIdeal : Cert.CastEmbRefIdeal.Facts) (hCastPle : Cert.CastPle.Facts) (hCastPleIdeal : Cert.CastPleIdeal.Facts) (hCastPleRefIdeal : Cert.CastPleRefIdeal.Facts),
    quiescent_Kernel (hKernel := hKernel)
    ∧ quiescent_KernelIdeal (hKernelIdeal := hKernelIdeal)
    ∧ quiescent_ReferenceIdeal (hReferenceIdeal := hReferenceIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_Ple (hPle := hPle)
    ∧ quiescent_PleIdeal (hPleIdeal := hPleIdeal)
    ∧ quiescent_PleRefIdeal (hPleRefIdeal := hPleRefIdeal)
    ∧ quiescent_SsmIn (hSsmIn := hSsmIn)
    ∧ quiescent_SsmInIdeal (hSsmInIdeal := hSsmInIdeal)
    ∧ quiescent_SsmInRefIdeal (hSsmInRefIdeal := hSsmInRefIdeal)
    ∧ quiescent_Glu (hGlu := hGlu)
    ∧ quiescent_GluIdeal (hGluIdeal := hGluIdeal)
    ∧ quiescent_GluRefIdeal (hGluRefIdeal := hGluRefIdeal)
    ∧ quiescent_Final (hFinal := hFinal)
    ∧ quiescent_FinalIdeal (hFinalIdeal := hFinalIdeal)
    ∧ quiescent_FinalRefIdeal (hFinalRefIdeal := hFinalRefIdeal)
    ∧ quiescent_OutNext (hOutNext := hOutNext)
    ∧ quiescent_OutNextIdeal (hOutNextIdeal := hOutNextIdeal)
    ∧ quiescent_OutNextRefIdeal (hOutNextRefIdeal := hOutNextRefIdeal)
    ∧ quiescent_SsmNext (hSsmNext := hSsmNext)
    ∧ quiescent_SsmNextIdeal (hSsmNextIdeal := hSsmNextIdeal)
    ∧ quiescent_SsmNextRefIdeal (hSsmNextRefIdeal := hSsmNextRefIdeal)
    ∧ quiescent_CastIn (hCastIn := hCastIn)
    ∧ quiescent_CastInIdeal (hCastInIdeal := hCastInIdeal)
    ∧ quiescent_CastInRefIdeal (hCastInRefIdeal := hCastInRefIdeal)
    ∧ quiescent_CastGlu (hCastGlu := hCastGlu)
    ∧ quiescent_CastGluIdeal (hCastGluIdeal := hCastGluIdeal)
    ∧ quiescent_CastGluRefIdeal (hCastGluRefIdeal := hCastGluRefIdeal)
    ∧ quiescent_CastEmb (hCastEmb := hCastEmb)
    ∧ quiescent_CastEmbIdeal (hCastEmbIdeal := hCastEmbIdeal)
    ∧ quiescent_CastEmbRefIdeal (hCastEmbRefIdeal := hCastEmbRefIdeal)
    ∧ quiescent_CastPle (hCastPle := hCastPle)
    ∧ quiescent_CastPleIdeal (hCastPleIdeal := hCastPleIdeal)
    ∧ quiescent_CastPleRefIdeal (hCastPleRefIdeal := hCastPleRefIdeal)
    ∧ preserves_Kernel_KernelIdeal
    ∧ algebraic_KernelIdeal_ReferenceIdeal (hKernelIdeal := hKernelIdeal) (hReferenceIdeal := hReferenceIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_FfnOut_FfnOutIdeal
    ∧ algebraic_FfnOutIdeal_FfnOutRefIdeal (hFfnOutIdeal := hFfnOutIdeal) (hFfnOutRefIdeal := hFfnOutRefIdeal)
    ∧ preserves_FfnIn_FfnInIdeal
    ∧ algebraic_FfnInIdeal_FfnInRefIdeal (hFfnInIdeal := hFfnInIdeal) (hFfnInRefIdeal := hFfnInRefIdeal)
    ∧ preserves_Ple_PleIdeal
    ∧ algebraic_PleIdeal_PleRefIdeal (hPleIdeal := hPleIdeal) (hPleRefIdeal := hPleRefIdeal)
    ∧ preserves_SsmIn_SsmInIdeal
    ∧ algebraic_SsmInIdeal_SsmInRefIdeal (hSsmInIdeal := hSsmInIdeal) (hSsmInRefIdeal := hSsmInRefIdeal)
    ∧ preserves_Glu_GluIdeal
    ∧ algebraic_GluIdeal_GluRefIdeal (hGluIdeal := hGluIdeal) (hGluRefIdeal := hGluRefIdeal)
    ∧ preserves_Final_FinalIdeal
    ∧ algebraic_FinalIdeal_FinalRefIdeal (hFinalIdeal := hFinalIdeal) (hFinalRefIdeal := hFinalRefIdeal)
    ∧ preserves_OutNext_OutNextIdeal
    ∧ algebraic_OutNextIdeal_OutNextRefIdeal (hOutNextIdeal := hOutNextIdeal) (hOutNextRefIdeal := hOutNextRefIdeal)
    ∧ preserves_SsmNext_SsmNextIdeal
    ∧ algebraic_SsmNextIdeal_SsmNextRefIdeal (hSsmNextIdeal := hSsmNextIdeal) (hSsmNextRefIdeal := hSsmNextRefIdeal)
    ∧ preserves_CastIn_CastInIdeal
    ∧ algebraic_CastInIdeal_CastInRefIdeal (hCastInIdeal := hCastInIdeal) (hCastInRefIdeal := hCastInRefIdeal)
    ∧ preserves_CastGlu_CastGluIdeal
    ∧ algebraic_CastGluIdeal_CastGluRefIdeal (hCastGluIdeal := hCastGluIdeal) (hCastGluRefIdeal := hCastGluRefIdeal)
    ∧ preserves_CastEmb_CastEmbIdeal
    ∧ algebraic_CastEmbIdeal_CastEmbRefIdeal (hCastEmbIdeal := hCastEmbIdeal) (hCastEmbRefIdeal := hCastEmbRefIdeal)
    ∧ preserves_CastPle_CastPleIdeal
    ∧ algebraic_CastPleIdeal_CastPleRefIdeal (hCastPleIdeal := hCastPleIdeal) (hCastPleRefIdeal := hCastPleRefIdeal)
-- ==== Kernel.lean ====
abbrev S4x4096x10240 : Shape := ⟨3, ![4, 4096, 10240]⟩
abbrev S1024 : Shape := ⟨1, ![1024]⟩
abbrev S8x128x128 : Shape := ⟨3, ![8, 128, 128]⟩
abbrev S8x128 : Shape := ⟨2, ![8, 128]⟩
abbrev S_ : Shape := ⟨0, ![]⟩
abbrev S128x128 : Shape := ⟨2, ![128, 128]⟩
abbrev S1x128x128 : Shape := ⟨3, ![1, 128, 128]⟩
abbrev S128x8 : Shape := ⟨2, ![128, 8]⟩
abbrev S128x8x128 : Shape := ⟨3, ![128, 8, 128]⟩
abbrev S128x1024 : Shape := ⟨2, ![128, 1024]⟩
abbrev S1x1024 : Shape := ⟨2, ![1, 1024]⟩
abbrev S4x4096x1024 : Shape := ⟨3, ![4, 4096, 1024]⟩
abbrev S1x1024x1024 : Shape := ⟨3, ![1, 1024, 1024]⟩
abbrev S1024x1024 : Shape := ⟨2, ![1024, 1024]⟩
abbrev S1024x1 : Shape := ⟨2, ![1024, 1]⟩

abbrev nBuf : Space → Nat
  | .hbm => 30
  | .vmem => 13
  | .smem => 0
  | _ => 0

abbrev bufTy : (tb : Table) → Fin (tcTables nBuf tb) → BufTy
  | .hbm, ⟨0, _⟩ => ⟨S4x4096x10240, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S1024, .f32⟩
  | .hbm, ⟨6, _⟩ => ⟨S_, .i1⟩
  | .hbm, ⟨7, _⟩ => ⟨S128x128, .i1⟩
  | .hbm, ⟨8, _⟩ => ⟨S128x128, .i32⟩
  | .hbm, ⟨9, _⟩ => ⟨S_, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S_, .i1⟩
  | .hbm, ⟨15, _⟩ => ⟨S128x128, .i1⟩
  | .hbm, ⟨16, _⟩ => ⟨S128x128, .i1⟩
  | .hbm, ⟨17, _⟩ => ⟨S1x128x128, .i1⟩
  | .hbm, ⟨18, _⟩ => ⟨S_, .f32⟩
  | .hbm, ⟨19, _⟩ => ⟨S8x128x128, .f32⟩
  | .hbm, ⟨20, _⟩ => ⟨S8x128x128, .i1⟩
  | .hbm, ⟨21, _⟩ => ⟨S8x128x128, .f32⟩
  | .hbm, ⟨22, _⟩ => ⟨S8x128x128, .bf16⟩
  | .hbm, ⟨23, _⟩ => ⟨S128x8, .f32⟩
  | .hbm, ⟨24, _⟩ => ⟨S128x8x128, .f32⟩
  | .hbm, ⟨25, _⟩ => ⟨S128x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S4x4096x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024, .f32⟩
  | .local _ .vmem, ⟨5, _⟩ => ⟨S1x1024, .f32⟩
  | .local _ .vmem, ⟨6, _⟩ => ⟨S8x128x128, .bf16⟩
  | .local _ .vmem, ⟨7, _⟩ => ⟨S128x1024, .f32⟩
  | .local _ .vmem, ⟨8, _⟩ => ⟨S1x1024, .f32⟩
  | .local _ .vmem, ⟨9, _⟩ => ⟨S1x1024x1024, .bf16⟩
  | .local _ .vmem, ⟨10, _⟩ => ⟨S1x1024x1024, .bf16⟩
  | .local _ .vmem, ⟨11, _⟩ => ⟨S1024x1024, .bf16⟩
  | .local _ .vmem, ⟨12, _⟩ => ⟨S1024x1024, .f32⟩
  | _, _ => ⟨S4x4096x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_0 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_call1_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "ck" => some ((80338380498831 / 2251799813685248 : ℝ) : EReal)
  | _ => none
-- ==== ReferenceIdeal.lean ====
abbrev S4x4096x10240 : Shape := ⟨3, ![4, 4096, 10240]⟩
abbrev S1024 : Shape := ⟨1, ![1024]⟩
abbrev S8x128x128 : Shape := ⟨3, ![8, 128, 128]⟩
abbrev S8x128 : Shape := ⟨2, ![8, 128]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x32x128x8x128 : Shape := ⟨5, ![4, 32, 128, 8, 128]⟩
abbrev S128x128 : Shape := ⟨2, ![128, 128]⟩
abbrev S1x128x128 : Shape := ⟨3, ![1, 128, 128]⟩
abbrev S8x4x32x128x128 : Shape := ⟨5, ![8, 4, 32, 128, 128]⟩
abbrev S128x8 : Shape := ⟨2, ![128, 8]⟩
abbrev S1x1x128x8x1 : Shape := ⟨5, ![1, 1, 128, 8, 1]⟩

abbrev nBuf : Space → Nat
  | .hbm => 113
  | .vmem => 0
  | .smem => 0
  | _ => 0

abbrev bufTy : (tb : Table) → Fin (tcTables nBuf tb) → BufTy
  | .hbm, ⟨0, _⟩ => ⟨S4x4096x10240, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S1024, .f32⟩
  | .hbm, ⟨6, _⟩ => ⟨S4x4096x1024, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S_, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S_, .f32⟩
  | .hbm, ⟨15, _⟩ => ⟨S4x4096x1024, .f32⟩
  | .hbm, ⟨16, _⟩ => ⟨S4x4096x1024, .f32⟩
  | .hbm, ⟨17, _⟩ => ⟨S4x4096x1024, .f32⟩
  | .hbm, ⟨18, _⟩ => ⟨S_, .f32⟩
  | .hbm, ⟨19, _⟩ => ⟨S4x4096x1024, .f32⟩
  | .hbm, ⟨20, _⟩ => ⟨S4x4096x1024, .f32⟩
  | .hbm, ⟨21, _⟩ => ⟨S_, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S_, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S_, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S_, .f32⟩
  | .hbm, ⟨36, _⟩ => ⟨S4x4096x1024, .f32⟩
  | .hbm, ⟨37, _⟩ => ⟨S4x4096x1024, .f32⟩
  | .hbm, ⟨38, _⟩ => ⟨S_, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S_, .f32⟩
  | .hbm, ⟨43, _⟩ => ⟨S4x4096, .f32⟩
  | .hbm, ⟨44, _⟩ => ⟨S4x4096x1, .f32⟩
  | .hbm, ⟨45, _⟩ => ⟨S_, .f32⟩
  | .hbm, ⟨46, _⟩ => ⟨S4x4096x1, .f32⟩
  | .hbm, ⟨47, _⟩ => ⟨S4x4096x1, .f32⟩
  | .hbm, ⟨48, _⟩ => ⟨S4x4096x1024, .f32⟩
  | .hbm, ⟨49, _⟩ => ⟨S4x4096x1024, .f32⟩
  | .hbm, ⟨50, _⟩ => ⟨S4x4096x1024, .f32⟩
  | .hbm, ⟨51, _⟩ => ⟨S_, .f32⟩
  | .hbm, ⟨52, _⟩ => ⟨S4x4096, .f32⟩
  | .hbm, ⟨53, _⟩ => ⟨S4x4096x1, .f32⟩
  | .hbm, ⟨54, _⟩ => ⟨S_, .f32⟩
  | .hbm, ⟨55, _⟩ => ⟨S4x4096x1, .f32⟩
  | .hbm, ⟨56, _⟩ => ⟨S4x4096x1, .f32⟩
  | .hbm, ⟨57, _⟩ => ⟨S4x4096x1024, .f32⟩
  | .hbm, ⟨58, _⟩ => ⟨S4x4096x1024, .f32⟩
  | .hbm, ⟨59, _⟩ => ⟨S_, .f32⟩
  | .hbm, ⟨60, _⟩ => ⟨S4x4096x1, .f32⟩
  | .hbm, ⟨61, _⟩ => ⟨S4x4096x1, .f32⟩
  | .hbm, ⟨62, _⟩ => ⟨S4x4096x1, .f32⟩
  | .hbm, ⟨63, _⟩ => ⟨S4x4096x1024, .f32⟩
  | .hbm, ⟨64, _⟩ => ⟨S4x4096x1024, .f32⟩
  | .hbm, ⟨65, _⟩ => ⟨S1x1x1024, .f32⟩
  | .hbm, ⟨66, _⟩ => ⟨S4x4096x1024, .f32⟩
  | .hbm, ⟨67, _⟩ => ⟨S4x4096x1024, .f32⟩
  | .hbm, ⟨68, _⟩ => ⟨S1x1x1024, .f32⟩
  | .hbm, ⟨69, _⟩ => ⟨S4x4096x1024, .f32⟩
  | .hbm, ⟨70, _⟩ => ⟨S4x4096x1024, .f32⟩
  | .hbm, ⟨71, _⟩ => ⟨S4x32x128x8x128, .f32⟩
  | .hbm, ⟨72, _⟩ => ⟨S_, .i1⟩
  | .hbm, ⟨73, _⟩ => ⟨S128x128, .i1⟩
  | .hbm, ⟨74, _⟩ => ⟨S128x128, .i32⟩
  | .hbm, ⟨75, _⟩ => ⟨S_, .i32⟩
  | .hbm, ⟨76, _⟩ => ⟨S128x128, .i32⟩
  | .hbm, ⟨77, _⟩ => ⟨S128x128, .i32⟩
  | .hbm, ⟨78, _⟩ => ⟨S128x128, .i32⟩
  | .hbm, ⟨79, _⟩ => ⟨S128x128, .i1⟩
  | .hbm, ⟨80, _⟩ => ⟨S_, .i1⟩
  | .hbm, ⟨81, _⟩ => ⟨S128x128, .i1⟩
  | .hbm, ⟨82, _⟩ => ⟨S128x128, .i1⟩
  | .hbm, ⟨83, _⟩ => ⟨S1x128x128, .i1⟩
  | .hbm, ⟨84, _⟩ => ⟨S_, .f32⟩
  | .hbm, ⟨85, _⟩ => ⟨S8x128x128, .f32⟩
  | .hbm, ⟨86, _⟩ => ⟨S8x128x128, .i1⟩
  | .hbm, ⟨87, _⟩ => ⟨S8x128x128, .f32⟩
  | .hbm, ⟨88, _⟩ => ⟨S8x4x32x128x128, .f32⟩
  | .hbm, ⟨89, _⟩ => ⟨S4x32x128x8x128, .f32⟩
  | .hbm, ⟨90, _⟩ => ⟨S128x8, .f32⟩
  | .hbm, ⟨91, _⟩ => ⟨S1x1x128x8x1, .f32⟩
  | .hbm, ⟨92, _⟩ => ⟨S4x32x128x8x128, .f32⟩
  | .hbm, ⟨93, _⟩ => ⟨S4x32x128x8x128, .f32⟩
  | .hbm, ⟨94, _⟩ => ⟨S4x4096x1024, .f32⟩
  | .hbm, ⟨95, _⟩ => ⟨S4x4096x1024, .f32⟩
  | .hbm, ⟨96, _⟩ => ⟨S4x4096x1024, .f32⟩
  | .hbm, ⟨97, _⟩ => ⟨S_, .f32⟩
  | .hbm, ⟨98, _⟩ => ⟨S4x4096, .f32⟩
  | .hbm, ⟨99, _⟩ => ⟨S4x4096x1, .f32⟩
  | .hbm, ⟨100, _⟩ => ⟨S_, .f32⟩
  | .hbm, ⟨101, _⟩ => ⟨S4x4096x1, .f32⟩
  | .hbm, ⟨102, _⟩ => ⟨S4x4096x1, .f32⟩
  | .hbm, ⟨103, _⟩ => ⟨S_, .f32⟩
  | .hbm, ⟨104, _⟩ => ⟨S4x4096x1, .f32⟩
  | .hbm, ⟨105, _⟩ => ⟨S4x4096x1, .f32⟩
  | .hbm, ⟨106, _⟩ => ⟨S4x4096x1, .f32⟩
  | .hbm, ⟨107, _⟩ => ⟨S4x4096x1024, .f32⟩
  | .hbm, ⟨108, _⟩ => ⟨S4x4096x1024, .f32⟩
  | .hbm, ⟨109, _⟩ => ⟨S1x1x1024, .f32⟩
  | .hbm, ⟨110, _⟩ => ⟨S4x4096x1024, .f32⟩
  | .hbm, ⟨111, _⟩ => ⟨S4x4096x1024, .f32⟩
  | .hbm, ⟨112, _⟩ => ⟨S4x4096x1024, .bf16⟩
  | _, _ => ⟨S4x4096x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c : Ref sig .tc := ⟨.hbm, 72, rfl⟩
abbrev main_v53 : Ref sig .tc := ⟨.hbm, 73, rfl⟩
abbrev main_call0_v0 : Ref sig .tc := ⟨.hbm, 74, rfl⟩
abbrev main_call0_c : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_c_0 : Ref sig .tc := ⟨.hbm, 80, rfl⟩
abbrev main_call0_v5 : Ref sig .tc := ⟨.hbm, 81, rfl⟩
abbrev main_v54 : Ref sig .tc := ⟨.hbm, 82, rfl⟩
abbrev main_v55 : Ref sig .tc := ⟨.hbm, 83, rfl⟩
abbrev main_cst_12 : Ref sig .tc := ⟨.hbm, 84, rfl⟩
abbrev main_v56 : Ref sig .tc := ⟨.hbm, 85, rfl⟩
abbrev main_call1_v0 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_13 : Ref sig .tc := ⟨.hbm, 97, rfl⟩
abbrev main_v67 : Ref sig .tc := ⟨.hbm, 98, rfl⟩
abbrev main_v68 : Ref sig .tc := ⟨.hbm, 99, rfl⟩
abbrev main_cst_14 : Ref sig .tc := ⟨.hbm, 100, rfl⟩
abbrev main_v69 : Ref sig .tc := ⟨.hbm, 101, rfl⟩
abbrev main_v70 : Ref sig .tc := ⟨.hbm, 102, rfl⟩
abbrev main_cst_15 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩

abbrev nD : Nat := 1
abbrev τ : Topo := Topo.v7x

variable {F : FTy → Type} [FloatOps F]
-- ==== InProj.lean ====
abbrev S16384x4096 : Shape := ⟨2, ![16384, 4096]⟩
abbrev S4096x11264 : Shape := ⟨2, ![4096, 11264]⟩
abbrev S2x4096x22016 : Shape := ⟨3, ![2, 4096, 22016]⟩
abbrev S2x4096x4096 : Shape := ⟨3, ![2, 4096, 4096]⟩
abbrev S16384x10240 : Shape := ⟨2, ![16384, 10240]⟩
abbrev S4096x22016 : Shape := ⟨2, ![4096, 22016]⟩
abbrev S4096x4096 : Shape := ⟨2, ![4096, 4096]⟩
abbrev S1024x4096 : Shape := ⟨2, ![1024, 4096]⟩
abbrev S4096x1024 : Shape := ⟨2, ![4096, 1024]⟩
abbrev S1x32x22016 : Shape := ⟨3, ![1, 32, 22016]⟩
abbrev S1x32x4096 : Shape := ⟨3, ![1, 32, 4096]⟩
abbrev S1024x1024 : Shape := ⟨2, ![1024, 1024]⟩
abbrev S32x22016 : Shape := ⟨2, ![32, 22016]⟩
abbrev S32x4096 : Shape := ⟨2, ![32, 4096]⟩
abbrev S256x4096 : Shape := ⟨2, ![256, 4096]⟩
abbrev S256x1024 : Shape := ⟨2, ![256, 1024]⟩

abbrev nBuf : Space → Nat
  | .hbm => 9
  | .vmem => 14
  | .smem => 0
  | _ => 0

abbrev bufTy : (tb : Table) → Fin (tcTables nBuf tb) → BufTy
  | .hbm, ⟨0, _⟩ => ⟨S16384x4096, .f32⟩
  | .hbm, ⟨1, _⟩ => ⟨S4096x11264, .f32⟩
  | .hbm, ⟨2, _⟩ => ⟨S2x4096x22016, .f32⟩
  | .hbm, ⟨3, _⟩ => ⟨S2x4096x4096, .f32⟩
  | .hbm, ⟨4, _⟩ => ⟨S16384x4096, .bf16⟩
  | .hbm, ⟨5, _⟩ => ⟨S4096x11264, .bf16⟩
  | .hbm, ⟨6, _⟩ => ⟨S16384x10240, .f32⟩
  | .hbm, ⟨7, _⟩ => ⟨S4096x22016, .bf16⟩
  | .hbm, ⟨8, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x32x22016, .f32⟩
  | .local _ .vmem, ⟨5, _⟩ => ⟨S1x32x22016, .f32⟩
  | .local _ .vmem, ⟨6, _⟩ => ⟨S1x32x4096, .f32⟩
  | .local _ .vmem, ⟨7, _⟩ => ⟨S1x32x4096, .f32⟩
  | .local _ .vmem, ⟨8, _⟩ => ⟨S1024x1024, .f32⟩
  | .local _ .vmem, ⟨9, _⟩ => ⟨S1024x1024, .f32⟩
  | .local _ .vmem, ⟨10, _⟩ => ⟨S32x22016, .bf16⟩
  | .local _ .vmem, ⟨11, _⟩ => ⟨S32x22016, .bf16⟩
  | .local _ .vmem, ⟨12, _⟩ => ⟨S32x4096, .bf16⟩
  | .local _ .vmem, ⟨13, _⟩ => ⟨S32x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x32x22016 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x22016 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== InProjRefIdeal.lean ====
abbrev S16384x4096 : Shape := ⟨2, ![16384, 4096]⟩
abbrev S4096x11264 : Shape := ⟨2, ![4096, 11264]⟩
abbrev S2x4096x22016 : Shape := ⟨3, ![2, 4096, 22016]⟩
abbrev S2x4096x4096 : Shape := ⟨3, ![2, 4096, 4096]⟩
abbrev S16384x11264 : Shape := ⟨2, ![16384, 11264]⟩
abbrev S16384x10240 : Shape := ⟨2, ![16384, 10240]⟩
abbrev S1x4096x22016 : Shape := ⟨3, ![1, 4096, 22016]⟩
abbrev S4096x22016 : Shape := ⟨2, ![4096, 22016]⟩
abbrev S1x4096x4096 : Shape := ⟨3, ![1, 4096, 4096]⟩
abbrev S4096x4096 : Shape := ⟨2, ![4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x11264, .f32⟩
  | .hbm, ⟨2, _⟩ => ⟨S2x4096x22016, .f32⟩
  | .hbm, ⟨3, _⟩ => ⟨S2x4096x4096, .f32⟩
  | .hbm, ⟨4, _⟩ => ⟨S16384x11264, .f32⟩
  | .hbm, ⟨5, _⟩ => ⟨S16384x10240, .f32⟩
  | .hbm, ⟨6, _⟩ => ⟨S1x4096x22016, .f32⟩
  | .hbm, ⟨7, _⟩ => ⟨S4096x22016, .f32⟩
  | .hbm, ⟨8, _⟩ => ⟨S4096x22016, .bf16⟩
  | .hbm, ⟨9, _⟩ => ⟨S1x4096x4096, .f32⟩
  | .hbm, ⟨10, _⟩ => ⟨S4096x4096, .f32⟩
  | .hbm, ⟨11, _⟩ => ⟨S4096x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== OutProj.lean ====
abbrev S16384x4096 : Shape := ⟨2, ![16384, 4096]⟩
abbrev S16384x1024 : Shape := ⟨2, ![16384, 1024]⟩
abbrev S16384x2048 : Shape := ⟨2, ![16384, 2048]⟩
abbrev S4096x4096 : Shape := ⟨2, ![4096, 4096]⟩
abbrev S1024x1024 : Shape := ⟨2, ![1024, 1024]⟩
abbrev S1024x2048 : Shape := ⟨2, ![1024, 2048]⟩
abbrev S4096x1024 : Shape := ⟨2, ![4096, 1024]⟩
abbrev S256x1024 : Shape := ⟨2, ![256, 1024]⟩
abbrev S256x2048 : Shape := ⟨2, ![256, 2048]⟩
abbrev S256x4096 : Shape := ⟨2, ![256, 4096]⟩

abbrev nBuf : Space → Nat
  | .hbm => 7
  | .vmem => 12
  | .smem => 0
  | _ => 0

abbrev bufTy : (tb : Table) → Fin (tcTables nBuf tb) → BufTy
  | .hbm, ⟨0, _⟩ => ⟨S16384x4096, .f32⟩
  | .hbm, ⟨1, _⟩ => ⟨S16384x1024, .bf16⟩
  | .hbm, ⟨2, _⟩ => ⟨S16384x1024, .bf16⟩
  | .hbm, ⟨3, _⟩ => ⟨S16384x2048, .bf16⟩
  | .hbm, ⟨4, _⟩ => ⟨S4096x4096, .f32⟩
  | .hbm, ⟨5, _⟩ => ⟨S4096x4096, .bf16⟩
  | .hbm, ⟨6, _⟩ => ⟨S16384x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x2048, .bf16⟩
  | .local _ .vmem, ⟨5, _⟩ => ⟨S1024x2048, .bf16⟩
  | .local _ .vmem, ⟨6, _⟩ => ⟨S4096x1024, .bf16⟩
  | .local _ .vmem, ⟨7, _⟩ => ⟨S4096x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutProjRefIdeal.lean ====
abbrev S16384x4096 : Shape := ⟨2, ![16384, 4096]⟩
abbrev S16384x1024 : Shape := ⟨2, ![16384, 1024]⟩
abbrev S16384x2048 : Shape := ⟨2, ![16384, 2048]⟩
abbrev S4096x4096 : Shape := ⟨2, ![4096, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x1024, .bf16⟩
  | .hbm, ⟨2, _⟩ => ⟨S16384x1024, .bf16⟩
  | .hbm, ⟨3, _⟩ => ⟨S16384x2048, .bf16⟩
  | .hbm, ⟨4, _⟩ => ⟨S4096x4096, .f32⟩
  | .hbm, ⟨5, _⟩ => ⟨S16384x4096, .bf16⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== FfnOut.lean ====
abbrev S16384x11008 : Shape := ⟨2, ![16384, 11008]⟩
abbrev S11008x4096 : Shape := ⟨2, ![11008, 4096]⟩
abbrev S16384x4096 : Shape := ⟨2, ![16384, 4096]⟩
abbrev S16384x1 : Shape := ⟨2, ![16384, 1]⟩
abbrev S4096 : Shape := ⟨1, ![4096]⟩
abbrev S16384x128 : Shape := ⟨2, ![16384, 128]⟩
abbrev S1x4096 : Shape := ⟨2, ![1, 4096]⟩
abbrev S512x11008 : Shape := ⟨2, ![512, 11008]⟩
abbrev S11008x1024 : Shape := ⟨2, ![11008, 1024]⟩
abbrev S512x1024 : Shape := ⟨2, ![512, 1024]⟩
abbrev S512x128 : Shape := ⟨2, ![512, 128]⟩
abbrev S1x1024 : Shape := ⟨2, ![1, 1024]⟩
abbrev S256x11008 : Shape := ⟨2, ![256, 11008]⟩
abbrev S256x1024 : Shape := ⟨2, ![256, 1024]⟩
abbrev S256x128 : Shape := ⟨2, ![256, 128]⟩

abbrev nBuf : Space → Nat
  | .hbm => 13
  | .vmem => 15
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .f32⟩
  | .hbm, ⟨2, _⟩ => ⟨S16384x4096, .f32⟩
  | .hbm, ⟨3, _⟩ => ⟨S16384x1, .f32⟩
  | .hbm, ⟨4, _⟩ => ⟨S16384x1, .f32⟩
  | .hbm, ⟨5, _⟩ => ⟨S4096, .f32⟩
  | .hbm, ⟨6, _⟩ => ⟨S4096, .f32⟩
  | .hbm, ⟨7, _⟩ => ⟨S11008x4096, .bf16⟩
  | .hbm, ⟨8, _⟩ => ⟨S16384x128, .f32⟩
  | .hbm, ⟨9, _⟩ => ⟨S16384x128, .f32⟩
  | .hbm, ⟨10, _⟩ => ⟨S1x4096, .f32⟩
  | .hbm, ⟨11, _⟩ => ⟨S1x4096, .f32⟩
  | .hbm, ⟨12, _⟩ => ⟨S16384x4096, .f32⟩
  | .local _ .vmem, ⟨0, _⟩ => ⟨S512x11008, .bf16⟩
  | .local _ .vmem, ⟨1, _⟩ => ⟨S512x11008, .bf16⟩
  | .local _ .vmem, ⟨2, _⟩ => ⟨S11008x1024, .bf16⟩
  | .local _ .vmem, ⟨3, _⟩ => ⟨S512x1024, .f32⟩
  | .local _ .vmem, ⟨4, _⟩ => ⟨S512x1024, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S11008x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnOutRefIdeal.lean ====
abbrev S16384x11008 : Shape := ⟨2, ![16384, 11008]⟩
abbrev S11008x4096 : Shape := ⟨2, ![11008, 4096]⟩
abbrev S16384x4096 : Shape := ⟨2, ![16384, 4096]⟩
abbrev S16384x1 : Shape := ⟨2, ![16384, 1]⟩
abbrev S4096 : Shape := ⟨1, ![4096]⟩
abbrev S1x4096 : Shape := ⟨2, ![1, 4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .f32⟩
  | .hbm, ⟨2, _⟩ => ⟨S16384x4096, .f32⟩
  | .hbm, ⟨3, _⟩ => ⟨S16384x1, .f32⟩
  | .hbm, ⟨4, _⟩ => ⟨S16384x1, .f32⟩
  | .hbm, ⟨5, _⟩ => ⟨S4096, .f32⟩
  | .hbm, ⟨6, _⟩ => ⟨S4096, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S1x4096, .f32⟩
  | .hbm, ⟨12, _⟩ => ⟨S16384x4096, .f32⟩
  | .hbm, ⟨13, _⟩ => ⟨S16384x4096, .f32⟩
  | .hbm, ⟨14, _⟩ => ⟨S1x4096, .f32⟩
  | .hbm, ⟨15, _⟩ => ⟨S16384x4096, .f32⟩
  | .hbm, ⟨16, _⟩ => ⟨S16384x4096, .f32⟩
  | .hbm, ⟨17, _⟩ => ⟨S_, .f32⟩
  | .hbm, ⟨18, _⟩ => ⟨S16384x4096, .f32⟩
  | .hbm, ⟨19, _⟩ => ⟨S16384x4096, .f32⟩
  | .hbm, ⟨20, _⟩ => ⟨S16384x11008, .f32⟩
  | .hbm, ⟨21, _⟩ => ⟨S16384x4096, .f32⟩
  | .hbm, ⟨22, _⟩ => ⟨S16384x4096, .f32⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== FfnIn.lean ====
abbrev S16384x4096 : Shape := ⟨2, ![16384, 4096]⟩
abbrev S4096 : Shape := ⟨1, ![4096]⟩
abbrev S4096x22016 : Shape := ⟨2, ![4096, 22016]⟩
abbrev S2x11008x4096 : Shape := ⟨3, ![2, 11008, 4096]⟩
abbrev S2x4096x4096 : Shape := ⟨3, ![2, 4096, 4096]⟩
abbrev S1x4096 : Shape := ⟨2, ![1, 4096]⟩
abbrev S16384x11008 : Shape := ⟨2, ![16384, 11008]⟩
abbrev S16384x128 : Shape := ⟨2, ![16384, 128]⟩
abbrev S11008x4096 : Shape := ⟨2, ![11008, 4096]⟩
abbrev S4096x4096 : Shape := ⟨2, ![4096, 4096]⟩
abbrev S64x4096 : Shape := ⟨2, ![64, 4096]⟩
abbrev S4096x256 : Shape := ⟨2, ![4096, 256]⟩
abbrev S1x32x4096 : Shape := ⟨3, ![1, 32, 4096]⟩
abbrev S1x16x4096 : Shape := ⟨3, ![1, 16, 4096]⟩
abbrev S2048x256 : Shape := ⟨2, ![2048, 256]⟩
abbrev S64x128 : Shape := ⟨2, ![64, 128]⟩
abbrev S32x4096 : Shape := ⟨2, ![32, 4096]⟩
abbrev S16x4096 : Shape := ⟨2, ![16, 4096]⟩
abbrev S2048x4096 : Shape := ⟨2, ![2048, 4096]⟩
abbrev S2048x128 : Shape := ⟨2, ![2048, 128]⟩
abbrev S8x4096 : Shape := ⟨2, ![8, 4096]⟩
abbrev S8 : Shape := ⟨1, ![8]⟩
abbrev S8x1 : Shape := ⟨2, ![8, 1]⟩
abbrev S8x128 : Shape := ⟨2, ![8, 128]⟩
abbrev S256x4096 : Shape := ⟨2, ![256, 4096]⟩
abbrev S256x256 : Shape := ⟨2, ![256, 256]⟩

abbrev nBuf : Space → Nat
  | .hbm => 14
  | .vmem => 28
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S4096x22016, .f32⟩
  | .hbm, ⟨4, _⟩ => ⟨S2x11008x4096, .f32⟩
  | .hbm, ⟨5, _⟩ => ⟨S2x4096x4096, .f32⟩
  | .hbm, ⟨6, _⟩ => ⟨S4096x22016, .bf16⟩
  | .hbm, ⟨7, _⟩ => ⟨S1x4096, .f32⟩
  | .hbm, ⟨8, _⟩ => ⟨S1x4096, .f32⟩
  | .hbm, ⟨9, _⟩ => ⟨S16384x11008, .bf16⟩
  | .hbm, ⟨10, _⟩ => ⟨S16384x128, .f32⟩
  | .hbm, ⟨11, _⟩ => ⟨S16384x128, .f32⟩
  | .hbm, ⟨12, _⟩ => ⟨S11008x4096, .bf16⟩
  | .hbm, ⟨13, _⟩ => ⟨S4096x4096, .bf16⟩
  | .local _ .vmem, ⟨0, _⟩ => ⟨S64x4096, .f32⟩
  | .local _ .vmem, ⟨1, _⟩ => ⟨S64x4096, .f32⟩
  | .local _ .vmem, ⟨2, _⟩ => ⟨S1x4096, .f32⟩
  | .local _ .vmem, ⟨3, _⟩ => ⟨S1x4096, .f32⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S1x32x4096, .f32⟩
  | .local _ .vmem, ⟨9, _⟩ => ⟨S1x32x4096, .f32⟩
  | .local _ .vmem, ⟨10, _⟩ => ⟨S1x16x4096, .f32⟩
  | .local _ .vmem, ⟨11, _⟩ => ⟨S1x16x4096, .f32⟩
  | .local _ .vmem, ⟨12, _⟩ => ⟨S2048x256, .bf16⟩
  | .local _ .vmem, ⟨13, _⟩ => ⟨S2048x256, .bf16⟩
  | .local _ .vmem, ⟨14, _⟩ => ⟨S64x128, .f32⟩
  | .local _ .vmem, ⟨15, _⟩ => ⟨S64x128, .f32⟩
  | .local _ .vmem, ⟨16, _⟩ => ⟨S64x128, .f32⟩
  | .local _ .vmem, ⟨17, _⟩ => ⟨S64x128, .f32⟩
  | .local _ .vmem, ⟨18, _⟩ => ⟨S32x4096, .bf16⟩
  | .local _ .vmem, ⟨19, _⟩ => ⟨S32x4096, .bf16⟩
  | .local _ .vmem, ⟨20, _⟩ => ⟨S16x4096, .bf16⟩
  | .local _ .vmem, ⟨21, _⟩ => ⟨S16x4096, .bf16⟩
  | .local _ .vmem, ⟨22, _⟩ => ⟨S2048x4096, .bf16⟩
  | .local _ .vmem, ⟨23, _⟩ => ⟨S2048x4096, .bf16⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![9, 43], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg1 : BitVec 32 := BitVec.ofNat 32 (i 1).val
  let c31_i32 : BitVec 32 := 31#32
  let v23 : BitVec 32 := Scalar.minsi arg1 c31_i32
  let c64_i32 : BitVec 32 := 64#32
  let v24 : BitVec 32 := Scalar.muli v23 c64_i32
  v24
def k0_off1 (i : grid0.Coords) (c0_i32_30 : BitVec 32) (c0_i32_31 : BitVec 32) : Fin 2 → Nat :=
  let arg1 : BitVec 32 := BitVec.ofNat 32 (i 1).val
  let c31_i32 : BitVec 32 := 31#32
  let v23 : BitVec 32 := Scalar.minsi arg1 c31_i32
  let c64_i32 : BitVec 32 := 64#32
  let v24 : BitVec 32 := Scalar.muli v23 c64_i32
  let v25 : BitVec 32 := v24
  let v57 : BitVec 32 := Scalar.addi v25 c0_i32_30
  let v58 : BitVec 32 := Scalar.addi v57 c0_i32_31
  let v59 : Index := Scalar.indexCast v58
  let c0_32 : Index := 0#32
  ![v59.toNat, 0]
def k0_off2 (i : grid0.Coords) (c0_i32_47 : BitVec 32) : Fin 2 → Nat :=
  let arg1 : BitVec 32 := BitVec.ofNat 32 (i 1).val
  let c31_i32 : BitVec 32 := 31#32
  let v23 : BitVec 32 := Scalar.minsi arg1 c31_i32
  let c64_i32 : BitVec 32 := 64#32
  let v24 : BitVec 32 := Scalar.muli v23 c64_i32
  let v25 : BitVec 32 := v24
  let v106 : BitVec 32 := Scalar.addi v25 c0_i32_47
  let v107 : Index := Scalar.indexCast v106
  let c0_48 : Index := 0#32
  ![v107.toNat, 0]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c2_i32 : BitVec 32 := 2#32
  let v4 : BitVec 32 := Scalar.remsi arg0 c2_i32
  let c0_i32_2 : BitVec 32 := 0#32
  let v5 : BitVec 1 := Scalar.cmpi .eq v4 c0_i32_2
  let v6 : BitVec 1 := Scalar.andi v3 v5
  let v7 : BitVec 32 := Scalar.extui v6
  let c0_i32_3 : BitVec 32 := 0#32
  let v8 : BitVec 1 := Scalar.cmpi .ne v7 c0_i32_3
  v8

def k0_mult2 (i : grid0.Coords) : BitVec 32 :=
  let arg1 : BitVec 32 := BitVec.ofNat 32 (i 1).val
  let c31_i32 : BitVec 32 := 31#32
  let v23 : BitVec 32 := Scalar.minsi arg1 c31_i32
  let c64_i32 : BitVec 32 := 64#32
  let v24 : BitVec 32 := Scalar.muli v23 c64_i32
  v24
def k0_off3 (i : grid0.Coords) (c0_i32_30 : BitVec 32) (c0_i32_31 : BitVec 32) : Fin 2 → Nat :=
  let arg1 : BitVec 32 := BitVec.ofNat 32 (i 1).val
  let c31_i32 : BitVec 32 := 31#32
  let v23 : BitVec 32 := Scalar.minsi arg1 c31_i32
  let c64_i32 : BitVec 32 := 64#32
  let v24 : BitVec 32 := Scalar.muli v23 c64_i32
  let v25 : BitVec 32 := v24
  let v57 : BitVec 32 := Scalar.addi v25 c0_i32_30
  let v58 : BitVec 32 := Scalar.addi v57 c0_i32_31
  let v59 : Index := Scalar.indexCast v58
  let c0_32 : Index := 0#32
  ![v59.toNat, 0]
def k0_off4 (i : grid0.Coords) (c0_i32_47 : BitVec 32) : Fin 2 → Nat :=
  let arg1 : BitVec 32 := BitVec.ofNat 32 (i 1).val
  let c31_i32 : BitVec 32 := 31#32
  let v23 : BitVec 32 := Scalar.minsi arg1 c31_i32
  let c64_i32 : BitVec 32 := 64#32
  let v24 : BitVec 32 := Scalar.muli v23 c64_i32
  let v25 : BitVec 32 := v24
  let v106 : BitVec 32 := Scalar.addi v25 c0_i32_47
  let v107 : Index := Scalar.indexCast v106
  let c0_48 : Index := 0#32
  ![v107.toNat, 0]
def k0_cond3 (i : grid0.Coords) : BitVec 1 :=
  let arg0 : BitVec 32 := BitVec.ofNat 32 (i 0).val
  let c0_i32_4 : BitVec 32 := 0#32
  let v9 : BitVec 1 := Scalar.cmpi .sgt arg0 c0_i32_4
  let c2_i32_5 : BitVec 32 := 2#32
  let v10 : BitVec 32 := Scalar.remsi arg0 c2_i32_5
  let c1_i32 : BitVec 32 := 1#32
  let v11 : BitVec 1 := Scalar.cmpi .eq v10 c1_i32
  let v12 : BitVec 1 := Scalar.andi v9 v11
  let v13 : BitVec 32 := Scalar.extui v12
  let c0_i32_6 : BitVec 32 := 0#32
  let v14 : BitVec 1 := Scalar.cmpi .ne v13 c0_i32_6
  v14

def k0_mult3 (i : grid0.Coords) : BitVec 32 :=
  let arg1 : BitVec 32 := BitVec.ofNat 32 (i 1).val
  let c31_i32 : BitVec 32 := 31#32
  let v23 : BitVec 32 := Scalar.minsi arg1 c31_i32
  let c64_i32 : BitVec 32 := 64#32
  let v24 : BitVec 32 := Scalar.muli v23 c64_i32
  v24
def k0_off5 (i : grid0.Coords) (c0_i32_30 : BitVec 32) (c0_i32_31 : BitVec 32) : Fin 2 → Nat :=
  let arg1 : BitVec 32 := BitVec.ofNat 32 (i 1).val
  let c31_i32 : BitVec 32 := 31#32
  let v23 : BitVec 32 := Scalar.minsi arg1 c31_i32
  let c64_i32 : BitVec 32 := 64#32
  let v24 : BitVec 32 := Scalar.muli v23 c64_i32
  let v25 : BitVec 32 := v24
  let v57 : BitVec 32 := Scalar.addi v25 c0_i32_30
  let v58 : BitVec 32 := Scalar.addi v57 c0_i32_31
  let v59 : Index := Scalar.indexCast v58
  let c0_32 : Index := 0#32
  ![v59.toNat, 0]
def k0_off6 (i : grid0.Coords) (c0_i32_47 : BitVec 32) : Fin 2 → Nat :=
  let arg1 : BitVec 32 := BitVec.ofNat 32 (i 1).val
  let c31_i32 : BitVec 32 := 31#32
  let v23 : BitVec 32 := Scalar.minsi arg1 c31_i32
  let c64_i32 : BitVec 32 := 64#32
  let v24 : BitVec 32 := Scalar.muli v23 c64_i32
  let v25 : BitVec 32 := v24
  let v106 : BitVec 32 := Scalar.addi v25 c0_i32_47
  let v107 : Index := Scalar.indexCast v106
  let c0_48 : Index := 0#32
  ![v107.toNat, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c32_i32 : BitVec 32 := 32#32
  let v1 : BitVec 32 := Scalar.muli arg0 c32_i32
  let c31_i32 : BitVec 32 := 31#32
  let v2 : BitVec 32 := Scalar.minsi arg1 c31_i32
  let v3 : BitVec 32 := Scalar.addi v1 v2
  let c255_i32 : BitVec 32 := 255#32
  let v4 : BitVec 32 := Scalar.select v0 v3 c255_i32
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let v2 : BitVec 32 := Scalar.addi v1 c0_i32_1
  let c0_i32_2 : BitVec 32 := 0#32
  let c0_i32_3 : BitVec 32 := 0#32
  ![c0_i32_2.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c43_i32 : BitVec 32 := 43#32
  let v2 : BitVec 32 := Scalar.addi v1 c43_i32
  let c0_i32_1 : BitVec 32 := 0#32
  let c0_i32_2 : BitVec 32 := 0#32
  ![c0_i32_1.toNat, v2.toNat]

def cc0_transform_5 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c343_i32 : BitVec 32 := 343#32
  let v2 : BitVec 32 := Scalar.minsi v1 c343_i32
  let c0_i32 : BitVec 32 := 0#32
  let c0_i32_0 : BitVec 32 := 0#32
  let c0_i32_1 : BitVec 32 := 0#32
  ![c0_i32.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  ![c0_i32.toNat, v2.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  ![v1.toNat, v3.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c32_i32 : BitVec 32 := 32#32
  let v1 : BitVec 32 := Scalar.muli arg0 c32_i32
  let c31_i32 : BitVec 32 := 31#32
  let v2 : BitVec 32 := Scalar.minsi arg1 c31_i32
  let v3 : BitVec 32 := Scalar.addi v1 v2
  let c255_i32 : BitVec 32 := 255#32
  let v4 : BitVec 32 := Scalar.select v0 v3 c255_i32
  let c0_i32 : BitVec 32 := 0#32
  let c0_i32_0 : BitVec 32 := 0#32
  ![v4.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c32_i32 : BitVec 32 := 32#32
  let v1 : BitVec 32 := Scalar.muli arg0 c32_i32
  let c31_i32 : BitVec 32 := 31#32
  let v2 : BitVec 32 := Scalar.minsi arg1 c31_i32
  let v3 : BitVec 32 := Scalar.addi v1 v2
  let c255_i32 : BitVec 32 := 255#32
  let v4 : BitVec 32 := Scalar.select v0 v3 c255_i32
  let c0_i32 : BitVec 32 := 0#32
  let c0_i32_0 : BitVec 32 := 0#32
  ![v4.toNat, c0_i32.toNat]

def cc0_transform_10 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c343_i32 : BitVec 32 := 343#32
  let v2 : BitVec 32 := Scalar.minsi v1 c343_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== FfnInRefIdeal.lean ====
abbrev S16384x4096 : Shape := ⟨2, ![16384, 4096]⟩
abbrev S4096 : Shape := ⟨1, ![4096]⟩
abbrev S4096x22016 : Shape := ⟨2, ![4096, 22016]⟩
abbrev S2x11008x4096 : Shape := ⟨3, ![2, 11008, 4096]⟩
abbrev S2x4096x4096 : Shape := ⟨3, ![2, 4096, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x22016 : Shape := ⟨2, ![16384, 22016]⟩
abbrev S16384x11008 : Shape := ⟨2, ![16384, 11008]⟩
abbrev S16384x128 : Shape := ⟨2, ![16384, 128]⟩
abbrev S1x11008x4096 : Shape := ⟨3, ![1, 11008, 4096]⟩
abbrev S11008x4096 : Shape := ⟨2, ![11008, 4096]⟩
abbrev S1x4096x4096 : Shape := ⟨3, ![1, 4096, 4096]⟩
abbrev S4096x4096 : Shape := ⟨2, ![4096, 4096]⟩

abbrev nBuf : Space → Nat
  | .hbm => 57
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S4096x22016, .f32⟩
  | .hbm, ⟨4, _⟩ => ⟨S2x11008x4096, .f32⟩
  | .hbm, ⟨5, _⟩ => ⟨S2x4096x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S1x4096, .f32⟩
  | .hbm, ⟨30, _⟩ => ⟨S16384x4096, .f32⟩
  | .hbm, ⟨31, _⟩ => ⟨S16384x4096, .f32⟩
  | .hbm, ⟨32, _⟩ => ⟨S1x4096, .f32⟩
  | .hbm, ⟨33, _⟩ => ⟨S16384x4096, .f32⟩
  | .hbm, ⟨34, _⟩ => ⟨S16384x4096, .f32⟩
  | .hbm, ⟨35, _⟩ => ⟨S16384x22016, .f32⟩
  | .hbm, ⟨36, _⟩ => ⟨S16384x11008, .f32⟩
  | .hbm, ⟨37, _⟩ => ⟨S16384x11008, .f32⟩
  | .hbm, ⟨38, _⟩ => ⟨S16384x11008, .f32⟩
  | .hbm, ⟨39, _⟩ => ⟨S16384x11008, .f32⟩
  | .hbm, ⟨40, _⟩ => ⟨S_, .f32⟩
  | .hbm, ⟨41, _⟩ => ⟨S16384x11008, .f32⟩
  | .hbm, ⟨42, _⟩ => ⟨S16384x11008, .f32⟩
  | .hbm, ⟨43, _⟩ => ⟨S_, .f32⟩
  | .hbm, ⟨44, _⟩ => ⟨S16384x11008, .f32⟩
  | .hbm, ⟨45, _⟩ => ⟨S16384x11008, .f32⟩
  | .hbm, ⟨46, _⟩ => ⟨S16384x11008, .f32⟩
  | .hbm, ⟨47, _⟩ => ⟨S16384x11008, .f32⟩
  | .hbm, ⟨48, _⟩ => ⟨S16384x11008, .bf16⟩
  | .hbm, ⟨49, _⟩ => ⟨S16384x128, .f32⟩
  | .hbm, ⟨50, _⟩ => ⟨S16384x128, .f32⟩
  | .hbm, ⟨51, _⟩ => ⟨S1x11008x4096, .f32⟩
  | .hbm, ⟨52, _⟩ => ⟨S11008x4096, .f32⟩
  | .hbm, ⟨53, _⟩ => ⟨S11008x4096, .bf16⟩
  | .hbm, ⟨54, _⟩ => ⟨S1x4096x4096, .f32⟩
  | .hbm, ⟨55, _⟩ => ⟨S4096x4096, .f32⟩
  | .hbm, ⟨56, _⟩ => ⟨S4096x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩

abbrev nD : Nat := 1
abbrev τ : Topo := Topo.v7x

variable {F : FTy → Type} [FloatOps F]
-- ==== Ple.lean ====
abbrev S16384x4096 : Shape := ⟨2, ![16384, 4096]⟩
abbrev S4096 : Shape := ⟨1, ![4096]⟩
abbrev S16384x256 : Shape := ⟨2, ![16384, 256]⟩
abbrev S256x4096 : Shape := ⟨2, ![256, 4096]⟩
abbrev S4096x4096 : Shape := ⟨2, ![4096, 4096]⟩
abbrev S2x4096x11264 : Shape := ⟨3, ![2, 4096, 11264]⟩
abbrev S1x4096 : Shape := ⟨2, ![1, 4096]⟩
abbrev S16384x128 : Shape := ⟨2, ![16384, 128]⟩
abbrev S4096x11264 : Shape := ⟨2, ![4096, 11264]⟩
abbrev S128x4096 : Shape := ⟨2, ![128, 4096]⟩
abbrev S1024x256 : Shape := ⟨2, ![1024, 256]⟩
abbrev S4096x512 : Shape := ⟨2, ![4096, 512]⟩
abbrev S256x512 : Shape := ⟨2, ![256, 512]⟩
abbrev S1024x512 : Shape := ⟨2, ![1024, 512]⟩
abbrev S1x512 : Shape := ⟨2, ![1, 512]⟩
abbrev S1x32x11264 : Shape := ⟨3, ![1, 32, 11264]⟩
abbrev S128x128 : Shape := ⟨2, ![128, 128]⟩
abbrev S32x11264 : Shape := ⟨2, ![32, 11264]⟩
abbrev S1024x4096 : Shape := ⟨2, ![1024, 4096]⟩
abbrev S1024x128 : Shape := ⟨2, ![1024, 128]⟩
abbrev S8x4096 : Shape := ⟨2, ![8, 4096]⟩
abbrev S8 : Shape := ⟨1, ![8]⟩
abbrev S8x1 : Shape := ⟨2, ![8, 1]⟩
abbrev S8x128 : Shape := ⟨2, ![8, 128]⟩
abbrev S16x4096 : Shape := ⟨2, ![16, 4096]⟩
abbrev S256x256 : Shape := ⟨2, ![256, 256]⟩
abbrev S256x128 : Shape := ⟨2, ![256, 128]⟩

abbrev nBuf : Space → Nat
  | .hbm => 18
  | .vmem => 32
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S16384x256, .f32⟩
  | .hbm, ⟨4, _⟩ => ⟨S256x4096, .f32⟩
  | .hbm, ⟨5, _⟩ => ⟨S4096x4096, .f32⟩
  | .hbm, ⟨6, _⟩ => ⟨S2x4096x11264, .f32⟩
  | .hbm, ⟨7, _⟩ => ⟨S4096x4096, .bf16⟩
  | .hbm, ⟨8, _⟩ => ⟨S16384x256, .bf16⟩
  | .hbm, ⟨9, _⟩ => ⟨S256x4096, .bf16⟩
  | .hbm, ⟨10, _⟩ => ⟨S1x4096, .f32⟩
  | .hbm, ⟨11, _⟩ => ⟨S1x4096, .f32⟩
  | .hbm, ⟨12, _⟩ => ⟨S1x4096, .f32⟩
  | .hbm, ⟨13, _⟩ => ⟨S1x4096, .f32⟩
  | .hbm, ⟨14, _⟩ => ⟨S16384x4096, .f32⟩
  | .hbm, ⟨15, _⟩ => ⟨S16384x128, .f32⟩
  | .hbm, ⟨16, _⟩ => ⟨S16384x128, .f32⟩
  | .hbm, ⟨17, _⟩ => ⟨S4096x11264, .bf16⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S1x4096, .f32⟩
  | .local _ .vmem, ⟨4, _⟩ => ⟨S1024x256, .bf16⟩
  | .local _ .vmem, ⟨5, _⟩ => ⟨S1024x256, .bf16⟩
  | .local _ .vmem, ⟨6, _⟩ => ⟨S4096x512, .bf16⟩
  | .local _ .vmem, ⟨7, _⟩ => ⟨S4096x512, .bf16⟩
  | .local _ .vmem, ⟨8, _⟩ => ⟨S256x512, .bf16⟩
  | .local _ .vmem, ⟨9, _⟩ => ⟨S256x512, .bf16⟩
  | .local _ .vmem, ⟨10, _⟩ => ⟨S1024x512, .f32⟩
  | .local _ .vmem, ⟨11, _⟩ => ⟨S1024x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x32x11264, .f32⟩
  | .local _ .vmem, ⟨17, _⟩ => ⟨S1x32x11264, .f32⟩
  | .local _ .vmem, ⟨18, _⟩ => ⟨S1024x512, .f32⟩
  | .local _ .vmem, ⟨19, _⟩ => ⟨S1024x512, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S32x11264, .bf16⟩
  | .local _ .vmem, ⟨25, _⟩ => ⟨S32x11264, .bf16⟩
  | .local _ .vmem, ⟨26, _⟩ => ⟨S1024x4096, .bf16⟩
  | .local _ .vmem, ⟨27, _⟩ => ⟨S1024x4096, .bf16⟩
  | .local _ .vmem, ⟨28, _⟩ => ⟨S1024x128, .f32⟩
  | .local _ .vmem, ⟨29, _⟩ => ⟨S1024x128, .f32⟩
  | .local _ .vmem, ⟨30, _⟩ => ⟨S1024x128, .f32⟩
  | .local _ .vmem, ⟨31, _⟩ => ⟨S1024x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![17, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg1 : BitVec 32 := BitVec.ofNat 32 (i 1).val
  let c7_i32 : BitVec 32 := 7#32
  let v19 : BitVec 32 := Scalar.minsi arg1 c7_i32
  let c128_i32 : BitVec 32 := 128#32
  let v20 : BitVec 32 := Scalar.muli v19 c128_i32
  v20
def k0_off1 (i : grid0.Coords) (c0_i32_25 : BitVec 32) (c0_i32_26 : BitVec 32) : Fin 2 → Nat :=
  let arg1 : BitVec 32 := BitVec.ofNat 32 (i 1).val
  let c7_i32 : BitVec 32 := 7#32
  let v19 : BitVec 32 := Scalar.minsi arg1 c7_i32
  let c128_i32 : BitVec 32 := 128#32
  let v20 : BitVec 32 := Scalar.muli v19 c128_i32
  let v21 : BitVec 32 := v20
  let v53 : BitVec 32 := Scalar.addi v21 c0_i32_25
  let v54 : BitVec 32 := Scalar.addi v53 c0_i32_26
  let v55 : Index := Scalar.indexCast v54
  let c0_27 : Index := 0#32
  ![v55.toNat, 0]
def k0_off2 (i : grid0.Coords) (c0_i32_42 : BitVec 32) : Fin 2 → Nat :=
  let arg1 : BitVec 32 := BitVec.ofNat 32 (i 1).val
  let c7_i32 : BitVec 32 := 7#32
  let v19 : BitVec 32 := Scalar.minsi arg1 c7_i32
  let c128_i32 : BitVec 32 := 128#32
  let v20 : BitVec 32 := Scalar.muli v19 c128_i32
  let v21 : BitVec 32 := v20
  let v102 : BitVec 32 := Scalar.addi v21 c0_i32_42
  let v103 : Index := Scalar.indexCast v102
  let c0_43 : Index := 0#32
  ![v103.toNat, 0]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c2_i32 : BitVec 32 := 2#32
  let v4 : BitVec 32 := Scalar.remsi arg0 c2_i32
  let c0_i32_2 : BitVec 32 := 0#32
  let v5 : BitVec 1 := Scalar.cmpi .eq v4 c0_i32_2
  let v6 : BitVec 1 := Scalar.andi v3 v5
  let v7 : BitVec 32 := Scalar.extui v6
  let c0_i32_3 : BitVec 32 := 0#32
  let v8 : BitVec 1 := Scalar.cmpi .ne v7 c0_i32_3
  v8

def k0_mult2 (i : grid0.Coords) : BitVec 32 :=
  let arg1 : BitVec 32 := BitVec.ofNat 32 (i 1).val
  let c7_i32 : BitVec 32 := 7#32
  let v19 : BitVec 32 := Scalar.minsi arg1 c7_i32
  let c128_i32 : BitVec 32 := 128#32
  let v20 : BitVec 32 := Scalar.muli v19 c128_i32
  v20
def k0_off3 (i : grid0.Coords) (c0_i32_25 : BitVec 32) (c0_i32_26 : BitVec 32) : Fin 2 → Nat :=
  let arg1 : BitVec 32 := BitVec.ofNat 32 (i 1).val
  let c7_i32 : BitVec 32 := 7#32
  let v19 : BitVec 32 := Scalar.minsi arg1 c7_i32
  let c128_i32 : BitVec 32 := 128#32
  let v20 : BitVec 32 := Scalar.muli v19 c128_i32
  let v21 : BitVec 32 := v20
  let v53 : BitVec 32 := Scalar.addi v21 c0_i32_25
  let v54 : BitVec 32 := Scalar.addi v53 c0_i32_26
  let v55 : Index := Scalar.indexCast v54
  let c0_27 : Index := 0#32
  ![v55.toNat, 0]
def k0_off4 (i : grid0.Coords) (c0_i32_42 : BitVec 32) : Fin 2 → Nat :=
  let arg1 : BitVec 32 := BitVec.ofNat 32 (i 1).val
  let c7_i32 : BitVec 32 := 7#32
  let v19 : BitVec 32 := Scalar.minsi arg1 c7_i32
  let c128_i32 : BitVec 32 := 128#32
  let v20 : BitVec 32 := Scalar.muli v19 c128_i32
  let v21 : BitVec 32 := v20
  let v102 : BitVec 32 := Scalar.addi v21 c0_i32_42
  let v103 : Index := Scalar.indexCast v102
  let c0_43 : Index := 0#32
  ![v103.toNat, 0]
def k0_cond3 (i : grid0.Coords) : BitVec 1 :=
  let arg0 : BitVec 32 := BitVec.ofNat 32 (i 0).val
  let c0_i32_4 : BitVec 32 := 0#32
  let v9 : BitVec 1 := Scalar.cmpi .sgt arg0 c0_i32_4
  let c2_i32_5 : BitVec 32 := 2#32
  let v10 : BitVec 32 := Scalar.remsi arg0 c2_i32_5
  let c1_i32 : BitVec 32 := 1#32
  let v11 : BitVec 1 := Scalar.cmpi .eq v10 c1_i32
  let v12 : BitVec 1 := Scalar.andi v9 v11
  let v13 : BitVec 32 := Scalar.extui v12
  let c0_i32_6 : BitVec 32 := 0#32
  let v14 : BitVec 1 := Scalar.cmpi .ne v13 c0_i32_6
  v14

def k0_mult3 (i : grid0.Coords) : BitVec 32 :=
  let arg1 : BitVec 32 := BitVec.ofNat 32 (i 1).val
  let c7_i32 : BitVec 32 := 7#32
  let v19 : BitVec 32 := Scalar.minsi arg1 c7_i32
  let c128_i32 : BitVec 32 := 128#32
  let v20 : BitVec 32 := Scalar.muli v19 c128_i32
  v20
def k0_off5 (i : grid0.Coords) (c0_i32_25 : BitVec 32) (c0_i32_26 : BitVec 32) : Fin 2 → Nat :=
  let arg1 : BitVec 32 := BitVec.ofNat 32 (i 1).val
  let c7_i32 : BitVec 32 := 7#32
  let v19 : BitVec 32 := Scalar.minsi arg1 c7_i32
  let c128_i32 : BitVec 32 := 128#32
  let v20 : BitVec 32 := Scalar.muli v19 c128_i32
  let v21 : BitVec 32 := v20
  let v53 : BitVec 32 := Scalar.addi v21 c0_i32_25
  let v54 : BitVec 32 := Scalar.addi v53 c0_i32_26
  let v55 : Index := Scalar.indexCast v54
  let c0_27 : Index := 0#32
  ![v55.toNat, 0]
def k0_off6 (i : grid0.Coords) (c0_i32_42 : BitVec 32) : Fin 2 → Nat :=
  let arg1 : BitVec 32 := BitVec.ofNat 32 (i 1).val
  let c7_i32 : BitVec 32 := 7#32
  let v19 : BitVec 32 := Scalar.minsi arg1 c7_i32
  let c128_i32 : BitVec 32 := 128#32
  let v20 : BitVec 32 := Scalar.muli v19 c128_i32
  let v21 : BitVec 32 := v20
  let v102 : BitVec 32 := Scalar.addi v21 c0_i32_42
  let v103 : Index := Scalar.indexCast v102
  let c0_43 : Index := 0#32
  ![v103.toNat, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c8_i32 : BitVec 32 := 8#32
  let v1 : BitVec 32 := Scalar.muli arg0 c8_i32
  let c7_i32 : BitVec 32 := 7#32
  let v2 : BitVec 32 := Scalar.minsi arg1 c7_i32
  let v3 : BitVec 32 := Scalar.addi v1 v2
  let c127_i32 : BitVec 32 := 127#32
  let v4 : BitVec 32 := Scalar.select v0 v3 c127_i32
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let v2 : BitVec 32 := Scalar.addi v1 c0_i32_1
  let c0_i32_2 : BitVec 32 := 0#32
  let c0_i32_3 : BitVec 32 := 0#32
  ![c0_i32_2.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let v2 : BitVec 32 := Scalar.addi v1 c0_i32_1
  let c0_i32_2 : BitVec 32 := 0#32
  let c0_i32_3 : BitVec 32 := 0#32
  ![c0_i32_2.toNat, v2.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  ![v1.toNat, v3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c1_i32 : BitVec 32 := 1#32
  let c0_i32 : BitVec 32 := 0#32
  let c0_i32_0 : BitVec 32 := 0#32
  ![c1_i32.toNat, v2.toNat, c0_i32.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  ![v1.toNat, v3.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c8_i32 : BitVec 32 := 8#32
  let v1 : BitVec 32 := Scalar.muli arg0 c8_i32
  let c7_i32 : BitVec 32 := 7#32
  let v2 : BitVec 32 := Scalar.minsi arg1 c7_i32
  let v3 : BitVec 32 := Scalar.addi v1 v2
  let c127_i32 : BitVec 32 := 127#32
  let v4 : BitVec 32 := Scalar.select v0 v3 c127_i32
  let c0_i32 : BitVec 32 := 0#32
  let c0_i32_0 : BitVec 32 := 0#32
  ![v4.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c8_i32 : BitVec 32 := 8#32
  let v1 : BitVec 32 := Scalar.muli arg0 c8_i32
  let c7_i32 : BitVec 32 := 7#32
  let v2 : BitVec 32 := Scalar.minsi arg1 c7_i32
  let v3 : BitVec 32 := Scalar.addi v1 v2
  let c127_i32 : BitVec 32 := 127#32
  let v4 : BitVec 32 := Scalar.select v0 v3 c127_i32
  let c0_i32 : BitVec 32 := 0#32
  let c0_i32_0 : BitVec 32 := 0#32
  ![v4.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x11264 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x11264 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== PleRefIdeal.lean ====
abbrev S16384x4096 : Shape := ⟨2, ![16384, 4096]⟩
abbrev S4096 : Shape := ⟨1, ![4096]⟩
abbrev S16384x256 : Shape := ⟨2, ![16384, 256]⟩
abbrev S256x4096 : Shape := ⟨2, ![256, 4096]⟩
abbrev S4096x4096 : Shape := ⟨2, ![4096, 4096]⟩
abbrev S2x4096x11264 : Shape := ⟨3, ![2, 4096, 11264]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S1x4096x11264 : Shape := ⟨3, ![1, 4096, 11264]⟩
abbrev S4096x11264 : Shape := ⟨2, ![4096, 11264]⟩

abbrev nBuf : Space → Nat
  | .hbm => 54
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S16384x256, .f32⟩
  | .hbm, ⟨4, _⟩ => ⟨S256x4096, .f32⟩
  | .hbm, ⟨5, _⟩ => ⟨S4096x4096, .f32⟩
  | .hbm, ⟨6, _⟩ => ⟨S2x4096x11264, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x4096, .f32⟩
  | .hbm, ⟨23, _⟩ => ⟨S16384x4096, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x4096, .f32⟩
  | .hbm, ⟨29, _⟩ => ⟨S16384x4096, .f32⟩
  | .hbm, ⟨30, _⟩ => ⟨S1x4096, .f32⟩
  | .hbm, ⟨31, _⟩ => ⟨S16384x4096, .f32⟩
  | .hbm, ⟨32, _⟩ => ⟨S16384x4096, .f32⟩
  | .hbm, ⟨33, _⟩ => ⟨S1x4096, .f32⟩
  | .hbm, ⟨34, _⟩ => ⟨S16384x4096, .f32⟩
  | .hbm, ⟨35, _⟩ => ⟨S16384x4096, .f32⟩
  | .hbm, ⟨36, _⟩ => ⟨S16384x4096, .f32⟩
  | .hbm, ⟨37, _⟩ => ⟨S16384x4096, .f32⟩
  | .hbm, ⟨38, _⟩ => ⟨S16384x4096, .f32⟩
  | .hbm, ⟨39, _⟩ => ⟨S16384x4096, .f32⟩
  | .hbm, ⟨40, _⟩ => ⟨S_, .f32⟩
  | .hbm, ⟨41, _⟩ => ⟨S16384x4096, .f32⟩
  | .hbm, ⟨42, _⟩ => ⟨S16384x4096, .f32⟩
  | .hbm, ⟨43, _⟩ => ⟨S_, .f32⟩
  | .hbm, ⟨44, _⟩ => ⟨S16384x4096, .f32⟩
  | .hbm, ⟨45, _⟩ => ⟨S16384x4096, .f32⟩
  | .hbm, ⟨46, _⟩ => ⟨S16384x4096, .f32⟩
  | .hbm, ⟨47, _⟩ => ⟨S_, .f32⟩
  | .hbm, ⟨48, _⟩ => ⟨S16384x4096, .f32⟩
  | .hbm, ⟨49, _⟩ => ⟨S16384x4096, .f32⟩
  | .hbm, ⟨50, _⟩ => ⟨S16384x4096, .f32⟩
  | .hbm, ⟨51, _⟩ => ⟨S1x4096x11264, .f32⟩
  | .hbm, ⟨52, _⟩ => ⟨S4096x11264, .f32⟩
  | .hbm, ⟨53, _⟩ => ⟨S4096x11264, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== SsmIn.lean ====
abbrev S16384x4096 : Shape := ⟨2, ![16384, 4096]⟩
abbrev S4096x11264 : Shape := ⟨2, ![4096, 11264]⟩
abbrev S8x16384x128 : Shape := ⟨3, ![8, 16384, 128]⟩
abbrev S512x4096 : Shape := ⟨2, ![512, 4096]⟩
abbrev S4096x1024 : Shape := ⟨2, ![4096, 1024]⟩
abbrev S8x512x128 : Shape := ⟨3, ![8, 512, 128]⟩
abbrev S256x4096 : Shape := ⟨2, ![256, 4096]⟩
abbrev S256x1024 : Shape := ⟨2, ![256, 1024]⟩
abbrev S256x128 : Shape := ⟨2, ![256, 128]⟩
abbrev S1x256x128 : Shape := ⟨3, ![1, 256, 128]⟩

abbrev nBuf : Space → Nat
  | .hbm => 5
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S4096x11264, .f32⟩
  | .hbm, ⟨2, _⟩ => ⟨S4096x11264, .bf16⟩
  | .hbm, ⟨3, _⟩ => ⟨S8x16384x128, .f32⟩
  | .hbm, ⟨4, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S4096x1024, .bf16⟩
  | .local _ .vmem, ⟨3, _⟩ => ⟨S8x512x128, .f32⟩
  | .local _ .vmem, ⟨4, _⟩ => ⟨S8x512x128, .f32⟩
  | .local _ .vmem, ⟨5, _⟩ => ⟨S512x4096, .bf16⟩
  | .local _ .vmem, ⟨6, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SsmInRefIdeal.lean ====
abbrev S16384x4096 : Shape := ⟨2, ![16384, 4096]⟩
abbrev S4096x11264 : Shape := ⟨2, ![4096, 11264]⟩
abbrev S16384x11264 : Shape := ⟨2, ![16384, 11264]⟩
abbrev S16384x1024 : Shape := ⟨2, ![16384, 1024]⟩
abbrev S16384x8x128 : Shape := ⟨3, ![16384, 8, 128]⟩
abbrev S8x16384x128 : Shape := ⟨3, ![8, 16384, 128]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x11264, .f32⟩
  | .hbm, ⟨2, _⟩ => ⟨S16384x11264, .f32⟩
  | .hbm, ⟨3, _⟩ => ⟨S16384x1024, .f32⟩
  | .hbm, ⟨4, _⟩ => ⟨S16384x8x128, .f32⟩
  | .hbm, ⟨5, _⟩ => ⟨S8x16384x128, .f32⟩
  | .hbm, ⟨6, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Glu.lean ====
abbrev S8x16384x128 : Shape := ⟨3, ![8, 16384, 128]⟩
abbrev S1024x1024 : Shape := ⟨2, ![1024, 1024]⟩
abbrev S1024 : Shape := ⟨1, ![1024]⟩
abbrev S1x1024 : Shape := ⟨2, ![1, 1024]⟩
abbrev S16384x1024 : Shape := ⟨2, ![16384, 1024]⟩
abbrev S8x512x128 : Shape := ⟨3, ![8, 512, 128]⟩
abbrev S512x1024 : Shape := ⟨2, ![512, 1024]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S8x16384x128, .f32⟩
  | .hbm, ⟨1, _⟩ => ⟨S1024x1024, .f32⟩
  | .hbm, ⟨2, _⟩ => ⟨S1024, .f32⟩
  | .hbm, ⟨3, _⟩ => ⟨S1024x1024, .bf16⟩
  | .hbm, ⟨4, _⟩ => ⟨S1x1024, .f32⟩
  | .hbm, ⟨5, _⟩ => ⟨S16384x1024, .bf16⟩
  | .local _ .vmem, ⟨0, _⟩ => ⟨S8x512x128, .f32⟩
  | .local _ .vmem, ⟨1, _⟩ => ⟨S8x512x128, .f32⟩
  | .local _ .vmem, ⟨2, _⟩ => ⟨S1024x1024, .bf16⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | _, _ => ⟨S8x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GluRefIdeal.lean ====
abbrev S8x16384x128 : Shape := ⟨3, ![8, 16384, 128]⟩
abbrev S1024x1024 : Shape := ⟨2, ![1024, 1024]⟩
abbrev S1024 : Shape := ⟨1, ![1024]⟩
abbrev S16384x8x128 : Shape := ⟨3, ![16384, 8, 128]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S8x16384x128, .f32⟩
  | .hbm, ⟨1, _⟩ => ⟨S1024x1024, .f32⟩
  | .hbm, ⟨2, _⟩ => ⟨S1024, .f32⟩
  | .hbm, ⟨3, _⟩ => ⟨S16384x8x128, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x1024, .bf16⟩
  | _, _ => ⟨S8x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Final.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩
abbrev S8x4096 : Shape := ⟨2, ![8, 4096]⟩
abbrev S8 : Shape := ⟨1, ![8]⟩
abbrev S8x1 : Shape := ⟨2, ![8, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S512x4096, .f32⟩
  | .local _ .vmem, ⟨5, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FinalRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x4096, .f32⟩
  | .hbm, ⟨25, _⟩ => ⟨S16384x4096, .f32⟩
  | .hbm, ⟨26, _⟩ => ⟨S1x4096, .f32⟩
  | .hbm, ⟨27, _⟩ => ⟨S16384x4096, .f32⟩
  | .hbm, ⟨28, _⟩ => ⟨S16384x4096, .f32⟩
  | .hbm, ⟨29, _⟩ => ⟨S1x4096, .f32⟩
  | .hbm, ⟨30, _⟩ => ⟨S16384x4096, .f32⟩
  | .hbm, ⟨31, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== OutNext.lean ====
abbrev S16384x1024 : Shape := ⟨2, ![16384, 1024]⟩
abbrev S16384x2048 : Shape := ⟨2, ![16384, 2048]⟩
abbrev S4096x4096 : Shape := ⟨2, ![4096, 4096]⟩
abbrev S16384x4096 : Shape := ⟨2, ![16384, 4096]⟩
abbrev S16384x1 : Shape := ⟨2, ![16384, 1]⟩
abbrev S4096 : Shape := ⟨1, ![4096]⟩
abbrev S16384x128 : Shape := ⟨2, ![16384, 128]⟩
abbrev S1x4096 : Shape := ⟨2, ![1, 4096]⟩
abbrev S1024x1024 : Shape := ⟨2, ![1024, 1024]⟩
abbrev S1024x2048 : Shape := ⟨2, ![1024, 2048]⟩
abbrev S4096x1024 : Shape := ⟨2, ![4096, 1024]⟩
abbrev S1024x128 : Shape := ⟨2, ![1024, 128]⟩
abbrev S1x1024 : Shape := ⟨2, ![1, 1024]⟩
abbrev S256x1024 : Shape := ⟨2, ![256, 1024]⟩
abbrev S256x2048 : Shape := ⟨2, ![256, 2048]⟩
abbrev S256x4096 : Shape := ⟨2, ![256, 4096]⟩
abbrev S256x128 : Shape := ⟨2, ![256, 128]⟩

abbrev nBuf : Space → Nat
  | .hbm => 15
  | .vmem => 20
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .bf16⟩
  | .hbm, ⟨3, _⟩ => ⟨S4096x4096, .f32⟩
  | .hbm, ⟨4, _⟩ => ⟨S16384x4096, .f32⟩
  | .hbm, ⟨5, _⟩ => ⟨S16384x1, .f32⟩
  | .hbm, ⟨6, _⟩ => ⟨S16384x1, .f32⟩
  | .hbm, ⟨7, _⟩ => ⟨S4096, .f32⟩
  | .hbm, ⟨8, _⟩ => ⟨S4096, .f32⟩
  | .hbm, ⟨9, _⟩ => ⟨S4096x4096, .bf16⟩
  | .hbm, ⟨10, _⟩ => ⟨S16384x128, .f32⟩
  | .hbm, ⟨11, _⟩ => ⟨S16384x128, .f32⟩
  | .hbm, ⟨12, _⟩ => ⟨S1x4096, .f32⟩
  | .hbm, ⟨13, _⟩ => ⟨S1x4096, .f32⟩
  | .hbm, ⟨14, _⟩ => ⟨S16384x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x2048, .bf16⟩
  | .local _ .vmem, ⟨5, _⟩ => ⟨S1024x2048, .bf16⟩
  | .local _ .vmem, ⟨6, _⟩ => ⟨S4096x1024, .bf16⟩
  | .local _ .vmem, ⟨7, _⟩ => ⟨S4096x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== OutNextRefIdeal.lean ====
abbrev S16384x1024 : Shape := ⟨2, ![16384, 1024]⟩
abbrev S16384x2048 : Shape := ⟨2, ![16384, 2048]⟩
abbrev S4096x4096 : Shape := ⟨2, ![4096, 4096]⟩
abbrev S16384x4096 : Shape := ⟨2, ![16384, 4096]⟩
abbrev S16384x1 : Shape := ⟨2, ![16384, 1]⟩
abbrev S4096 : Shape := ⟨1, ![4096]⟩
abbrev S1x4096 : Shape := ⟨2, ![1, 4096]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .bf16⟩
  | .hbm, ⟨3, _⟩ => ⟨S4096x4096, .f32⟩
  | .hbm, ⟨4, _⟩ => ⟨S16384x4096, .f32⟩
  | .hbm, ⟨5, _⟩ => ⟨S16384x1, .f32⟩
  | .hbm, ⟨6, _⟩ => ⟨S16384x1, .f32⟩
  | .hbm, ⟨7, _⟩ => ⟨S4096, .f32⟩
  | .hbm, ⟨8, _⟩ => ⟨S4096, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S1x4096, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x4096, .bf16⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== SsmNext.lean ====
abbrev S16384x4096 : Shape := ⟨2, ![16384, 4096]⟩
abbrev S4096 : Shape := ⟨1, ![4096]⟩
abbrev S4096x11264 : Shape := ⟨2, ![4096, 11264]⟩
abbrev S1x4096 : Shape := ⟨2, ![1, 4096]⟩
abbrev S8x16384x128 : Shape := ⟨3, ![8, 16384, 128]⟩
abbrev S16384x128 : Shape := ⟨2, ![16384, 128]⟩
abbrev S256x4096 : Shape := ⟨2, ![256, 4096]⟩
abbrev S4096x256 : Shape := ⟨2, ![4096, 256]⟩
abbrev S2x1024x128 : Shape := ⟨3, ![2, 1024, 128]⟩
abbrev S256x128 : Shape := ⟨2, ![256, 128]⟩
abbrev S1024x4096 : Shape := ⟨2, ![1024, 4096]⟩
abbrev S1024x128 : Shape := ⟨2, ![1024, 128]⟩
abbrev S8x4096 : Shape := ⟨2, ![8, 4096]⟩
abbrev S8 : Shape := ⟨1, ![8]⟩
abbrev S8x1 : Shape := ⟨2, ![8, 1]⟩
abbrev S8x128 : Shape := ⟨2, ![8, 128]⟩
abbrev S16x4096 : Shape := ⟨2, ![16, 4096]⟩
abbrev S256x256 : Shape := ⟨2, ![256, 256]⟩
abbrev S1x256x128 : Shape := ⟨3, ![1, 256, 128]⟩

abbrev nBuf : Space → Nat
  | .hbm => 11
  | .vmem => 20
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S4096x11264, .f32⟩
  | .hbm, ⟨4, _⟩ => ⟨S4096x11264, .bf16⟩
  | .hbm, ⟨5, _⟩ => ⟨S1x4096, .f32⟩
  | .hbm, ⟨6, _⟩ => ⟨S1x4096, .f32⟩
  | .hbm, ⟨7, _⟩ => ⟨S8x16384x128, .f32⟩
  | .hbm, ⟨8, _⟩ => ⟨S16384x128, .f32⟩
  | .hbm, ⟨9, _⟩ => ⟨S16384x128, .f32⟩
  | .hbm, ⟨10, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S4096x256, .bf16⟩
  | .local _ .vmem, ⟨5, _⟩ => ⟨S4096x256, .bf16⟩
  | .local _ .vmem, ⟨6, _⟩ => ⟨S2x1024x128, .f32⟩
  | .local _ .vmem, ⟨7, _⟩ => ⟨S2x1024x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x4096, .bf16⟩
  | .local _ .vmem, ⟨13, _⟩ => ⟨S256x4096, .bf16⟩
  | .local _ .vmem, ⟨14, _⟩ => ⟨S1024x4096, .bf16⟩
  | .local _ .vmem, ⟨15, _⟩ => ⟨S1024x4096, .bf16⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![17, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg1 : BitVec 32 := BitVec.ofNat 32 (i 1).val
  let c3_i32 : BitVec 32 := 3#32
  let v15 : BitVec 32 := Scalar.minsi arg1 c3_i32
  let c256_i32 : BitVec 32 := 256#32
  let v16 : BitVec 32 := Scalar.muli v15 c256_i32
  v16
def k0_off1 (i : grid0.Coords) (c0_i32_20 : BitVec 32) (c0_i32_21 : BitVec 32) : Fin 2 → Nat :=
  let arg1 : BitVec 32 := BitVec.ofNat 32 (i 1).val
  let c3_i32 : BitVec 32 := 3#32
  let v15 : BitVec 32 := Scalar.minsi arg1 c3_i32
  let c256_i32 : BitVec 32 := 256#32
  let v16 : BitVec 32 := Scalar.muli v15 c256_i32
  let v17 : BitVec 32 := v16
  let v49 : BitVec 32 := Scalar.addi v17 c0_i32_20
  let v50 : BitVec 32 := Scalar.addi v49 c0_i32_21
  let v51 : Index := Scalar.indexCast v50
  let c0_22 : Index := 0#32
  ![v51.toNat, 0]
def k0_off2 (i : grid0.Coords) (c0_i32_37 : BitVec 32) : Fin 2 → Nat :=
  let arg1 : BitVec 32 := BitVec.ofNat 32 (i 1).val
  let c3_i32 : BitVec 32 := 3#32
  let v15 : BitVec 32 := Scalar.minsi arg1 c3_i32
  let c256_i32 : BitVec 32 := 256#32
  let v16 : BitVec 32 := Scalar.muli v15 c256_i32
  let v17 : BitVec 32 := v16
  let v98 : BitVec 32 := Scalar.addi v17 c0_i32_37
  let v99 : Index := Scalar.indexCast v98
  let c0_38 : Index := 0#32
  ![v99.toNat, 0]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c2_i32 : BitVec 32 := 2#32
  let v4 : BitVec 32 := Scalar.remsi arg0 c2_i32
  let c0_i32_2 : BitVec 32 := 0#32
  let v5 : BitVec 1 := Scalar.cmpi .eq v4 c0_i32_2
  let v6 : BitVec 1 := Scalar.andi v3 v5
  let v7 : BitVec 32 := Scalar.extui v6
  let c0_i32_3 : BitVec 32 := 0#32
  let v8 : BitVec 1 := Scalar.cmpi .ne v7 c0_i32_3
  v8

def k0_mult2 (i : grid0.Coords) : BitVec 32 :=
  let arg1 : BitVec 32 := BitVec.ofNat 32 (i 1).val
  let c3_i32 : BitVec 32 := 3#32
  let v15 : BitVec 32 := Scalar.minsi arg1 c3_i32
  let c256_i32 : BitVec 32 := 256#32
  let v16 : BitVec 32 := Scalar.muli v15 c256_i32
  v16
def k0_off3 (i : grid0.Coords) (c0_i32_20 : BitVec 32) (c0_i32_21 : BitVec 32) : Fin 2 → Nat :=
  let arg1 : BitVec 32 := BitVec.ofNat 32 (i 1).val
  let c3_i32 : BitVec 32 := 3#32
  let v15 : BitVec 32 := Scalar.minsi arg1 c3_i32
  let c256_i32 : BitVec 32 := 256#32
  let v16 : BitVec 32 := Scalar.muli v15 c256_i32
  let v17 : BitVec 32 := v16
  let v49 : BitVec 32 := Scalar.addi v17 c0_i32_20
  let v50 : BitVec 32 := Scalar.addi v49 c0_i32_21
  let v51 : Index := Scalar.indexCast v50
  let c0_22 : Index := 0#32
  ![v51.toNat, 0]
def k0_off4 (i : grid0.Coords) (c0_i32_37 : BitVec 32) : Fin 2 → Nat :=
  let arg1 : BitVec 32 := BitVec.ofNat 32 (i 1).val
  let c3_i32 : BitVec 32 := 3#32
  let v15 : BitVec 32 := Scalar.minsi arg1 c3_i32
  let c256_i32 : BitVec 32 := 256#32
  let v16 : BitVec 32 := Scalar.muli v15 c256_i32
  let v17 : BitVec 32 := v16
  let v98 : BitVec 32 := Scalar.addi v17 c0_i32_37
  let v99 : Index := Scalar.indexCast v98
  let c0_38 : Index := 0#32
  ![v99.toNat, 0]
def k0_cond3 (i : grid0.Coords) : BitVec 1 :=
  let arg0 : BitVec 32 := BitVec.ofNat 32 (i 0).val
  let c0_i32_4 : BitVec 32 := 0#32
  let v9 : BitVec 1 := Scalar.cmpi .sgt arg0 c0_i32_4
  let c2_i32_5 : BitVec 32 := 2#32
  let v10 : BitVec 32 := Scalar.remsi arg0 c2_i32_5
  let c1_i32 : BitVec 32 := 1#32
  let v11 : BitVec 1 := Scalar.cmpi .eq v10 c1_i32
  let v12 : BitVec 1 := Scalar.andi v9 v11
  let v13 : BitVec 32 := Scalar.extui v12
  let c0_i32_6 : BitVec 32 := 0#32
  let v14 : BitVec 1 := Scalar.cmpi .ne v13 c0_i32_6
  v14

def k0_mult3 (i : grid0.Coords) : BitVec 32 :=
  let arg1 : BitVec 32 := BitVec.ofNat 32 (i 1).val
  let c3_i32 : BitVec 32 := 3#32
  let v15 : BitVec 32 := Scalar.minsi arg1 c3_i32
  let c256_i32 : BitVec 32 := 256#32
  let v16 : BitVec 32 := Scalar.muli v15 c256_i32
  v16
def k0_off5 (i : grid0.Coords) (c0_i32_20 : BitVec 32) (c0_i32_21 : BitVec 32) : Fin 2 → Nat :=
  let arg1 : BitVec 32 := BitVec.ofNat 32 (i 1).val
  let c3_i32 : BitVec 32 := 3#32
  let v15 : BitVec 32 := Scalar.minsi arg1 c3_i32
  let c256_i32 : BitVec 32 := 256#32
  let v16 : BitVec 32 := Scalar.muli v15 c256_i32
  let v17 : BitVec 32 := v16
  let v49 : BitVec 32 := Scalar.addi v17 c0_i32_20
  let v50 : BitVec 32 := Scalar.addi v49 c0_i32_21
  let v51 : Index := Scalar.indexCast v50
  let c0_22 : Index := 0#32
  ![v51.toNat, 0]
def k0_off6 (i : grid0.Coords) (c0_i32_37 : BitVec 32) : Fin 2 → Nat :=
  let arg1 : BitVec 32 := BitVec.ofNat 32 (i 1).val
  let c3_i32 : BitVec 32 := 3#32
  let v15 : BitVec 32 := Scalar.minsi arg1 c3_i32
  let c256_i32 : BitVec 32 := 256#32
  let v16 : BitVec 32 := Scalar.muli v15 c256_i32
  let v17 : BitVec 32 := v16
  let v98 : BitVec 32 := Scalar.addi v17 c0_i32_37
  let v99 : Index := Scalar.indexCast v98
  let c0_38 : Index := 0#32
  ![v99.toNat, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c4_i32 : BitVec 32 := 4#32
  let v1 : BitVec 32 := Scalar.muli arg0 c4_i32
  let c3_i32 : BitVec 32 := 3#32
  let v2 : BitVec 32 := Scalar.minsi arg1 c3_i32
  let v3 : BitVec 32 := Scalar.addi v1 v2
  let c63_i32 : BitVec 32 := 63#32
  let v4 : BitVec 32 := Scalar.select v0 v3 c63_i32
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let v2 : BitVec 32 := Scalar.addi v1 c0_i32_1
  let c0_i32_2 : BitVec 32 := 0#32
  let c0_i32_3 : BitVec 32 := 0#32
  ![c0_i32_2.toNat, v2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  let c0_i32_3 : BitVec 32 := 0#32
  ![v1.toNat, v3.toNat, c0_i32_2.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c4_i32 : BitVec 32 := 4#32
  let v1 : BitVec 32 := Scalar.muli arg0 c4_i32
  let c3_i32 : BitVec 32 := 3#32
  let v2 : BitVec 32 := Scalar.minsi arg1 c3_i32
  let v3 : BitVec 32 := Scalar.addi v1 v2
  let c63_i32 : BitVec 32 := 63#32
  let v4 : BitVec 32 := Scalar.select v0 v3 c63_i32
  let c0_i32 : BitVec 32 := 0#32
  let c0_i32_0 : BitVec 32 := 0#32
  ![v4.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c4_i32 : BitVec 32 := 4#32
  let v1 : BitVec 32 := Scalar.muli arg0 c4_i32
  let c3_i32 : BitVec 32 := 3#32
  let v2 : BitVec 32 := Scalar.minsi arg1 c3_i32
  let v3 : BitVec 32 := Scalar.addi v1 v2
  let c63_i32 : BitVec 32 := 63#32
  let v4 : BitVec 32 := Scalar.select v0 v3 c63_i32
  let c0_i32 : BitVec 32 := 0#32
  let c0_i32_0 : BitVec 32 := 0#32
  ![v4.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c4_i32 : BitVec 32 := 4#32
  let v1 : BitVec 32 := Scalar.muli arg0 c4_i32
  let c3_i32 : BitVec 32 := 3#32
  let v2 : BitVec 32 := Scalar.minsi arg1 c3_i32
  let v3 : BitVec 32 := Scalar.addi v1 v2
  let c63_i32 : BitVec 32 := 63#32
  let v4 : BitVec 32 := Scalar.select v0 v3 c63_i32
  let c0_i32 : BitVec 32 := 0#32
  let c0_i32_0 : BitVec 32 := 0#32
  ![v4.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SsmNextRefIdeal.lean ====
abbrev S16384x4096 : Shape := ⟨2, ![16384, 4096]⟩
abbrev S4096 : Shape := ⟨1, ![4096]⟩
abbrev S4096x11264 : Shape := ⟨2, ![4096, 11264]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x11264 : Shape := ⟨2, ![16384, 11264]⟩
abbrev S16384x1024 : Shape := ⟨2, ![16384, 1024]⟩
abbrev S16384x8x128 : Shape := ⟨3, ![16384, 8, 128]⟩
abbrev S8x16384x128 : Shape := ⟨3, ![8, 16384, 128]⟩
abbrev S16384x128 : Shape := ⟨2, ![16384, 128]⟩

abbrev nBuf : Space → Nat
  | .hbm => 40
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S4096x11264, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x4096, .f32⟩
  | .hbm, ⟨27, _⟩ => ⟨S1x4096, .f32⟩
  | .hbm, ⟨28, _⟩ => ⟨S16384x4096, .f32⟩
  | .hbm, ⟨29, _⟩ => ⟨S16384x4096, .f32⟩
  | .hbm, ⟨30, _⟩ => ⟨S1x4096, .f32⟩
  | .hbm, ⟨31, _⟩ => ⟨S16384x4096, .f32⟩
  | .hbm, ⟨32, _⟩ => ⟨S16384x4096, .f32⟩
  | .hbm, ⟨33, _⟩ => ⟨S16384x11264, .f32⟩
  | .hbm, ⟨34, _⟩ => ⟨S16384x1024, .f32⟩
  | .hbm, ⟨35, _⟩ => ⟨S16384x8x128, .f32⟩
  | .hbm, ⟨36, _⟩ => ⟨S8x16384x128, .f32⟩
  | .hbm, ⟨37, _⟩ => ⟨S16384x128, .f32⟩
  | .hbm, ⟨38, _⟩ => ⟨S16384x128, .f32⟩
  | .hbm, ⟨39, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== CastIn.lean ====
abbrev S2x4096x11264 : Shape := ⟨3, ![2, 4096, 11264]⟩
abbrev S4096x11264 : Shape := ⟨2, ![4096, 11264]⟩
abbrev S1x128x11264 : Shape := ⟨3, ![1, 128, 11264]⟩
abbrev S128x11264 : Shape := ⟨2, ![128, 11264]⟩

abbrev nBuf : Space → Nat
  | .hbm => 2
  | .vmem => 4
  | .smem => 0
  | _ => 0

abbrev bufTy : (tb : Table) → Fin (tcTables nBuf tb) → BufTy
  | .hbm, ⟨0, _⟩ => ⟨S2x4096x11264, .f32⟩
  | .hbm, ⟨1, _⟩ => ⟨S4096x11264, .bf16⟩
  | .local _ .vmem, ⟨0, _⟩ => ⟨S1x128x11264, .f32⟩
  | .local _ .vmem, ⟨1, _⟩ => ⟨S1x128x11264, .f32⟩
  | .local _ .vmem, ⟨2, _⟩ => ⟨S128x11264, .bf16⟩
  | .local _ .vmem, ⟨3, _⟩ => ⟨S128x11264, .bf16⟩
  | _, _ => ⟨S2x4096x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x11264 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x11264 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CastInRefIdeal.lean ====
abbrev S2x4096x11264 : Shape := ⟨3, ![2, 4096, 11264]⟩
abbrev S1x4096x11264 : Shape := ⟨3, ![1, 4096, 11264]⟩
abbrev S4096x11264 : Shape := ⟨2, ![4096, 11264]⟩

abbrev nBuf : Space → Nat
  | .hbm => 4
  | .vmem => 0
  | .smem => 0
  | _ => 0

abbrev bufTy : (tb : Table) → Fin (tcTables nBuf tb) → BufTy
  | .hbm, ⟨0, _⟩ => ⟨S2x4096x11264, .f32⟩
  | .hbm, ⟨1, _⟩ => ⟨S1x4096x11264, .f32⟩
  | .hbm, ⟨2, _⟩ => ⟨S4096x11264, .f32⟩
  | .hbm, ⟨3, _⟩ => ⟨S4096x11264, .bf16⟩
  | _, _ => ⟨S2x4096x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== CastGlu.lean ====
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 2
  | .vmem => 2
  | .smem => 0
  | _ => 0

abbrev bufTy : (tb : Table) → Fin (tcTables nBuf tb) → BufTy
  | .hbm, ⟨0, _⟩ => ⟨S2x1024x1024, .f32⟩
  | .hbm, ⟨1, _⟩ => ⟨S1024x1024, .bf16⟩
  | .local _ .vmem, ⟨0, _⟩ => ⟨S1x1024x1024, .f32⟩
  | .local _ .vmem, ⟨1, _⟩ => ⟨S1024x1024, .bf16⟩
  | _, _ => ⟨S2x1024x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== CastGluRefIdeal.lean ====
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S1x1024x1024, .f32⟩
  | .hbm, ⟨2, _⟩ => ⟨S1024x1024, .f32⟩
  | .hbm, ⟨3, _⟩ => ⟨S1024x1024, .bf16⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== CastEmb.lean ====
abbrev S2x4x4096x256 : Shape := ⟨4, ![2, 4, 4096, 256]⟩
abbrev S2x16384x256 : Shape := ⟨3, ![2, 16384, 256]⟩
abbrev S16384x256 : Shape := ⟨2, ![16384, 256]⟩
abbrev S1x8192x256 : Shape := ⟨3, ![1, 8192, 256]⟩
abbrev S8192x256 : Shape := ⟨2, ![8192, 256]⟩

abbrev nBuf : Space → Nat
  | .hbm => 3
  | .vmem => 4
  | .smem => 0
  | _ => 0

abbrev bufTy : (tb : Table) → Fin (tcTables nBuf tb) → BufTy
  | .hbm, ⟨0, _⟩ => ⟨S2x4x4096x256, .f32⟩
  | .hbm, ⟨1, _⟩ => ⟨S2x16384x256, .f32⟩
  | .hbm, ⟨2, _⟩ => ⟨S16384x256, .bf16⟩
  | .local _ .vmem, ⟨0, _⟩ => ⟨S1x8192x256, .f32⟩
  | .local _ .vmem, ⟨1, _⟩ => ⟨S1x8192x256, .f32⟩
  | .local _ .vmem, ⟨2, _⟩ => ⟨S8192x256, .bf16⟩
  | .local _ .vmem, ⟨3, _⟩ => ⟨S8192x256, .bf16⟩
  | _, _ => ⟨S2x4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CastEmbRefIdeal.lean ====
abbrev S2x4x4096x256 : Shape := ⟨4, ![2, 4, 4096, 256]⟩
abbrev S1x4x4096x256 : Shape := ⟨4, ![1, 4, 4096, 256]⟩
abbrev S4x4096x256 : Shape := ⟨3, ![4, 4096, 256]⟩
abbrev S16384x256 : Shape := ⟨2, ![16384, 256]⟩

abbrev nBuf : Space → Nat
  | .hbm => 5
  | .vmem => 0
  | .smem => 0
  | _ => 0

abbrev bufTy : (tb : Table) → Fin (tcTables nBuf tb) → BufTy
  | .hbm, ⟨0, _⟩ => ⟨S2x4x4096x256, .f32⟩
  | .hbm, ⟨1, _⟩ => ⟨S1x4x4096x256, .f32⟩
  | .hbm, ⟨2, _⟩ => ⟨S4x4096x256, .f32⟩
  | .hbm, ⟨3, _⟩ => ⟨S16384x256, .f32⟩
  | .hbm, ⟨4, _⟩ => ⟨S16384x256, .bf16⟩
  | _, _ => ⟨S2x4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]
-- ==== CastPle.lean ====
abbrev S2x256x4096 : Shape := ⟨3, ![2, 256, 4096]⟩
abbrev S256x4096 : Shape := ⟨2, ![256, 4096]⟩
abbrev S1x256x4096 : Shape := ⟨3, ![1, 256, 4096]⟩

abbrev nBuf : Space → Nat
  | .hbm => 2
  | .vmem => 2
  | .smem => 0
  | _ => 0

abbrev bufTy : (tb : Table) → Fin (tcTables nBuf tb) → BufTy
  | .hbm, ⟨0, _⟩ => ⟨S2x256x4096, .f32⟩
  | .hbm, ⟨1, _⟩ => ⟨S256x4096, .bf16⟩
  | .local _ .vmem, ⟨0, _⟩ => ⟨S1x256x4096, .f32⟩
  | .local _ .vmem, ⟨1, _⟩ => ⟨S256x4096, .bf16⟩
  | _, _ => ⟨S2x256x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== CastPleRefIdeal.lean ====
abbrev S2x256x4096 : Shape := ⟨3, ![2, 256, 4096]⟩
abbrev S1x256x4096 : Shape := ⟨3, ![1, 256, 4096]⟩
abbrev S256x4096 : Shape := ⟨2, ![256, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2x256x4096, .f32⟩
  | .hbm, ⟨1, _⟩ => ⟨S1x256x4096, .f32⟩
  | .hbm, ⟨2, _⟩ => ⟨S256x4096, .f32⟩
  | .hbm, ⟨3, _⟩ => ⟨S256x4096, .bf16⟩
  | _, _ => ⟨S2x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.ProjSpec.lean ====
/- The dense projections of the layer, entry by entry. -/
module

public import Idealize.ShloMosaic.Lib.Pipeline.ValueKit
public import Idealize.ShloMosaic.Init

@[expose] public section

noncomputable section

open Idealize.ShloMosaic

namespace Cert.Proj

/-- The residual's scale. -/
def alpha : EReal := Ideal.ofBits FTy.f32 0x3FB504F3#32

/-- A row of length `n` through a column of a weight. -/
def dense {n : ℕ} (x w : Fin n → EReal) : EReal := ∑ k : Fin n, x k * w k

/-- The three mixers' rows side by side. -/
def side (a b : Fin 1024 → EReal) (c : Fin 2048 → EReal) (k : Fin 4096) : EReal :=
  if h : k.val < 1024 then a ⟨k.val, h⟩
  else if h : k.val - 1024 < 1024 then b ⟨k.val - 1024, h⟩ else c ⟨k.val - 1024 - 1024, by omega⟩

/-- An entry of the LayerNorm from the row's mean and reciprocal deviation. -/
def affine (x mu r w b : EReal) : EReal := (x - mu) * r * w + b

end Cert.Proj

end
-- ==== Proof.FfnInRun.lean ====
module

public import proofs.«01_k».proof.Proof.Gen.FfnInIdeal.Frame
public import proofs.«01_k».proof.Proof.Gen.FfnInIdeal.Skeleton
public import Idealize.ShloMosaic.Lib.Ring
public import Idealize.ShloMosaic.Lib.Tactic
public import Idealize.ShloMosaic.Lib.WordCmp
public import Idealize.ShloMosaic.Lib.Pipeline.FrameBody

/-! The body of the channel mixer's first product, run once for each of the three kinds of grid
    point: the first row of the grid, which only fills the first row buffer; the even rows after it,
    which fill the first buffer and multiply the second; and the odd rows, which do the opposite. -/

@[expose] public section

set_option maxRecDepth 16384
set_option maxHeartbeats 4000000

noncomputable section

namespace Cert.FfnInIdeal.Run

open Cert.FfnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The propositions of the run's logic. -/
abbrev RunM (F : FTy → Type) [FloatOps F] := MT nD τ sig Unit (Elt F) ℕ (UR sig nD τ) ℕ

/-- A point of the first row of the grid: what it leaves in the first row buffer over what it found, and in the side outputs. -/
noncomputable def runA (c : Dev nD) (i : grid0.Coords) (h1 : k0_cond1 i = 1#1) (h2 : ¬ k0_cond2 i = 1#1) (h3 : ¬ k0_cond3 i = 1#1) (arg2 : Memref sig .tc .vmem S64x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S1x32x4096 .f32) (harg7 : arg7.IsWhole) (arg8 : Memref sig .tc .vmem S1x16x4096 .f32) (harg8 : arg8.IsWhole) (arg9 : Memref sig .tc .vmem S2048x256 .bf16) (harg9 : arg9.IsWhole) (arg10 : Memref sig .tc .vmem S64x128 .f32) (harg10 : arg10.IsWhole) (arg11 : Memref sig .tc .vmem S64x128 .f32) (harg11 : arg11.IsWhole) (arg12 : Memref sig .tc .vmem S32x4096 .bf16) (harg12 : arg12.IsWhole) (arg13 : Memref sig .tc .vmem S16x4096 .bf16) (harg13 : arg13.IsWhole) (arg14 : Memref sig .tc .vmem S2048x4096 .bf16) (harg14 : arg14.IsWhole) (arg15 : Memref sig .tc .vmem S2048x4096 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole)
    (x2 : Vec F S64x4096 .f32) (x3 : Vec F S1x4096 .f32) (x4 : Vec F S1x4096 .f32) (x7 : Vec F S1x32x4096 .f32) (x8 : Vec F S1x16x4096 .f32) (x14 : Vec F S2048x4096 .bf16) :
    Σ' (L14 : List (View.Piece (Elt F) S2048x4096 .bf16)), Σ' (L10 : List (View.Piece (Elt F) S64x128 .f32)), Σ' (L11 : List (View.Piece (Elt F) S64x128 .f32)), Σ' (L12 : List (View.Piece (Elt F) S32x4096 .bf16)), Σ' (L13 : List (View.Piece (Elt F) S16x4096 .bf16)), Σ' (L16 : List (View.Piece (Elt F) S2048x128 .f32)), { L18 : List (View.Piece (Elt F) S2048x128 .f32) //
      ∀ (E : Set ℕ) (K : PUnit → sProp (RunM F)),
        iprop(owns (c : Thread nD τ) arg2 fullShare x2 ∗ owns (c : Thread nD τ) arg3 fullShare x3 ∗ owns (c : Thread nD τ) arg4 fullShare x4 ∗ owns (c : Thread nD τ) arg7 fullShare x7 ∗ owns (c : Thread nD τ) arg8 fullShare x8 ∗ owns (c : Thread nD τ) arg14 fullShare x14 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg16 fullShare d) ∗ (∃ d, owns (c : Thread nD τ) arg18 fullShare d)
            ∗ (iprop(owns (c : Thread nD τ) arg2 fullShare x2 ∗ owns (c : Thread nD τ) arg3 fullShare x3 ∗ owns (c : Thread nD τ) arg4 fullShare x4 ∗ owns (c : Thread nD τ) arg7 fullShare x7 ∗ owns (c : Thread nD τ) arg8 fullShare x8 ∗ (arg14.view.loc (c : Thread nD τ) ↦[arg14.view.set]{fullShare} arg14.view.writes (Elt F) (harg14.unread x14) L14) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg16.view.loc (c : Thread nD τ) ↦[arg16.view.set]{fullShare} arg16.view.writes (Elt F) f L16) ∗ (∃ f, arg18.view.loc (c : Thread nD τ) ↦[arg18.view.set]{fullShare} arg18.view.writes (Elt F) f L18)) -∗ K ⟨⟩))
          ⊢ wp frame (wpE (defs₀ (F := F)) Variants.none c none) E (cc0_ffn_in i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, fun E K => ?run⟩
  case run =>
    simp only [cc0_ffn_in_eq_skeleton]; unfold cc0_ffn_in_skel
    simp only [k0_part1_eq_skeleton, k0_part2_eq_skeleton, k0_part3_eq_skeleton, k0_part4_eq_skeleton, k0_part5_eq_skeleton, k0_part6_eq_skeleton, k0_part7_eq_skeleton, k0_part8_eq_skeleton, h1, h2, h3, ↓reduceDIte]
    unfold owns
    iintro ⟨⟨%f2, %hf2, H2⟩, ⟨%f3, %hf3, H3⟩, ⟨%f4, %hf4, H4⟩, ⟨%f7, %hf7, H7⟩, ⟨%f8, %hf8, H8⟩, ⟨%f14, %hf14, H14⟩, ⟨%d10, %f10, -, H10⟩, ⟨%d11, %f11, -, H11⟩, ⟨%d12, %f12, -, H12⟩, ⟨%d13, %f13, -, H13⟩, ⟨%d16, %f16, -, H16⟩, ⟨%d18, %f18, -, H18⟩, Hk⟩
    obtain rfl := harg2.eq_unread hf2; obtain rfl := harg3.eq_unread hf3; obtain rfl := harg4.eq_unread hf4; obtain rfl := harg7.eq_unread hf7; obtain rfl := harg8.eq_unread hf8; obtain rfl := harg14.eq_unread hf14
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H7]
    · iexists _; isplitr; · ipureintro; exact harg7.read_unread _
      iexact H7
    isplitl [H8]
    · iexists _; isplitr; · ipureintro; exact harg8.read_unread _
      iexact H8
    isplitl [H14]; · iexact H14
    isplitl [H10]; · iexists _; iexact H10
    isplitl [H11]; · iexists _; iexact H11
    isplitl [H12]; · iexists _; iexact H12
    isplitl [H13]; · iexists _; iexact H13
    isplitl [H16]; · iexists _; iexact H16
    iexists _; iexact H18

/-- A point of a later even row: the first row buffer written, the second multiplied. -/
noncomputable def runB (c : Dev nD) (i : grid0.Coords) (h1 : ¬ k0_cond1 i = 1#1) (h2 : k0_cond2 i = 1#1) (h3 : ¬ k0_cond3 i = 1#1) (arg2 : Memref sig .tc .vmem S64x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S1x32x4096 .f32) (harg7 : arg7.IsWhole) (arg8 : Memref sig .tc .vmem S1x16x4096 .f32) (harg8 : arg8.IsWhole) (arg9 : Memref sig .tc .vmem S2048x256 .bf16) (harg9 : arg9.IsWhole) (arg10 : Memref sig .tc .vmem S64x128 .f32) (harg10 : arg10.IsWhole) (arg11 : Memref sig .tc .vmem S64x128 .f32) (harg11 : arg11.IsWhole) (arg12 : Memref sig .tc .vmem S32x4096 .bf16) (harg12 : arg12.IsWhole) (arg13 : Memref sig .tc .vmem S16x4096 .bf16) (harg13 : arg13.IsWhole) (arg14 : Memref sig .tc .vmem S2048x4096 .bf16) (harg14 : arg14.IsWhole) (arg15 : Memref sig .tc .vmem S2048x4096 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole)
    (x2 : Vec F S64x4096 .f32) (x3 : Vec F S1x4096 .f32) (x4 : Vec F S1x4096 .f32) (x5 : Vec F S4096x256 .bf16) (x6 : Vec F S4096x256 .bf16) (x7 : Vec F S1x32x4096 .f32) (x8 : Vec F S1x16x4096 .f32) (x15 : Vec F S2048x4096 .bf16) (x14 : Vec F S2048x4096 .bf16) :
    Σ' (L14 : List (View.Piece (Elt F) S2048x4096 .bf16)), Σ' (L9 : List (View.Piece (Elt F) S2048x256 .bf16)), Σ' (L10 : List (View.Piece (Elt F) S64x128 .f32)), Σ' (L11 : List (View.Piece (Elt F) S64x128 .f32)), Σ' (L12 : List (View.Piece (Elt F) S32x4096 .bf16)), Σ' (L13 : List (View.Piece (Elt F) S16x4096 .bf16)), Σ' (L16 : List (View.Piece (Elt F) S2048x128 .f32)), { L18 : List (View.Piece (Elt F) S2048x128 .f32) //
      ∀ (E : Set ℕ) (K : PUnit → sProp (RunM F)),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg15 fullShare x15 ∗ owns (c : Thread nD τ) arg14 fullShare x14 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg16 fullShare d) ∗ (∃ d, owns (c : Thread nD τ) arg18 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg15 fullShare x15 ∗ (arg14.view.loc (c : Thread nD τ) ↦[arg14.view.set]{fullShare} arg14.view.writes (Elt F) (harg14.unread x14) L14) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg16.view.loc (c : Thread nD τ) ↦[arg16.view.set]{fullShare} arg16.view.writes (Elt F) f L16) ∗ (∃ f, arg18.view.loc (c : Thread nD τ) ↦[arg18.view.set]{fullShare} arg18.view.writes (Elt F) f L18)) -∗ K ⟨⟩))
          ⊢ wp frame (wpE (defs₀ (F := F)) Variants.none c none) E (cc0_ffn_in i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, ?_, fun E K => ?run⟩
  case run =>
    simp only [cc0_ffn_in_eq_skeleton]; unfold cc0_ffn_in_skel
    simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, h1, h2, h3, ↓reduceDIte]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f15, %hf15, H15⟩, ⟨%f14, %hf14, H14⟩, ⟨%d9, %f9, -, H9⟩, ⟨%d10, %f10, -, H10⟩, ⟨%d11, %f11, -, H11⟩, ⟨%d12, %f12, -, H12⟩, ⟨%d13, %f13, -, H13⟩, ⟨%d16, %f16, -, H16⟩, ⟨%d18, %f18, -, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg15.eq_unread hf15; obtain rfl := harg14.eq_unread hf14
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H15]
    · iexists _; isplitr; · ipureintro; exact harg15.read_unread _
      iexact H15
    isplitl [H14]; · iexact H14
    isplitl [H9]; · iexists _; iexact H9
    isplitl [H10]; · iexists _; iexact H10
    isplitl [H11]; · iexists _; iexact H11
    isplitl [H12]; · iexists _; iexact H12
    isplitl [H13]; · iexists _; iexact H13
    isplitl [H16]; · iexists _; iexact H16
    iexists _; iexact H18

/-- A point of an odd row: the second row buffer written, the first multiplied. -/
noncomputable def runC (c : Dev nD) (i : grid0.Coords) (h1 : ¬ k0_cond1 i = 1#1) (h2 : ¬ k0_cond2 i = 1#1) (h3 : k0_cond3 i = 1#1) (arg2 : Memref sig .tc .vmem S64x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S1x32x4096 .f32) (harg7 : arg7.IsWhole) (arg8 : Memref sig .tc .vmem S1x16x4096 .f32) (harg8 : arg8.IsWhole) (arg9 : Memref sig .tc .vmem S2048x256 .bf16) (harg9 : arg9.IsWhole) (arg10 : Memref sig .tc .vmem S64x128 .f32) (harg10 : arg10.IsWhole) (arg11 : Memref sig .tc .vmem S64x128 .f32) (harg11 : arg11.IsWhole) (arg12 : Memref sig .tc .vmem S32x4096 .bf16) (harg12 : arg12.IsWhole) (arg13 : Memref sig .tc .vmem S16x4096 .bf16) (harg13 : arg13.IsWhole) (arg14 : Memref sig .tc .vmem S2048x4096 .bf16) (harg14 : arg14.IsWhole) (arg15 : Memref sig .tc .vmem S2048x4096 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole)
    (x2 : Vec F S64x4096 .f32) (x3 : Vec F S1x4096 .f32) (x4 : Vec F S1x4096 .f32) (x5 : Vec F S4096x256 .bf16) (x6 : Vec F S4096x256 .bf16) (x7 : Vec F S1x32x4096 .f32) (x8 : Vec F S1x16x4096 .f32) (x14 : Vec F S2048x4096 .bf16) (x15 : Vec F S2048x4096 .bf16) :
    Σ' (L15 : List (View.Piece (Elt F) S2048x4096 .bf16)), Σ' (L9 : List (View.Piece (Elt F) S2048x256 .bf16)), Σ' (L10 : List (View.Piece (Elt F) S64x128 .f32)), Σ' (L11 : List (View.Piece (Elt F) S64x128 .f32)), Σ' (L12 : List (View.Piece (Elt F) S32x4096 .bf16)), Σ' (L13 : List (View.Piece (Elt F) S16x4096 .bf16)), Σ' (L17 : List (View.Piece (Elt F) S2048x128 .f32)), { L19 : List (View.Piece (Elt F) S2048x128 .f32) //
      ∀ (E : Set ℕ) (K : PUnit → sProp (RunM F)),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg14 fullShare x14 ∗ owns (c : Thread nD τ) arg15 fullShare x15 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg17 fullShare d) ∗ (∃ d, owns (c : Thread nD τ) arg19 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg14 fullShare x14 ∗ (arg15.view.loc (c : Thread nD τ) ↦[arg15.view.set]{fullShare} arg15.view.writes (Elt F) (harg15.unread x15) L15) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg17.view.loc (c : Thread nD τ) ↦[arg17.view.set]{fullShare} arg17.view.writes (Elt F) f L17) ∗ (∃ f, arg19.view.loc (c : Thread nD τ) ↦[arg19.view.set]{fullShare} arg19.view.writes (Elt F) f L19)) -∗ K ⟨⟩))
          ⊢ wp frame (wpE (defs₀ (F := F)) Variants.none c none) E (cc0_ffn_in i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, ?_, fun E K => ?run⟩
  case run =>
    simp only [cc0_ffn_in_eq_skeleton]; unfold cc0_ffn_in_skel
    simp only [k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, h1, h2, h3, ↓reduceDIte]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f14, %hf14, H14⟩, ⟨%f15, %hf15, H15⟩, ⟨%d9, %f9, -, H9⟩, ⟨%d10, %f10, -, H10⟩, ⟨%d11, %f11, -, H11⟩, ⟨%d12, %f12, -, H12⟩, ⟨%d13, %f13, -, H13⟩, ⟨%d17, %f17, -, H17⟩, ⟨%d19, %f19, -, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg14.eq_unread hf14; obtain rfl := harg15.eq_unread hf15
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H14]
    · iexists _; isplitr; · ipureintro; exact harg14.read_unread _
      iexact H14
    isplitl [H15]; · iexact H15
    isplitl [H9]; · iexists _; iexact H9
    isplitl [H10]; · iexists _; iexact H10
    isplitl [H11]; · iexists _; iexact H11
    isplitl [H12]; · iexists _; iexact H12
    isplitl [H13]; · iexists _; iexact H13
    isplitl [H17]; · iexists _; iexact H17
    iexists _; iexact H19

end Cert.FfnInIdeal.Run

end
-- ==== Proof.FfnInSpec.lean ====
module

public import proofs.«01_k».proof.Proof.FfnInRun
public import Idealize.ShloMosaic.Lib.Pipeline.ValueKit
public import Idealize.ShloMosaic.Lib.WritesUnit

/-! What one grid point of the channel mixer's first product computes, as functions of the blocks it reads:
    the normalized slab it adds to a row buffer, the row statistics, the two casts, and the output tile. -/

@[expose] public section

set_option maxRecDepth 16384
set_option maxHeartbeats 4000000

noncomputable section

namespace Cert.FfnInIdeal.Run

open Cert.FfnInIdeal.Gen
open Idealize.ShloMosaic Idealize.ShloMosaic.TcCoe Idealize.ShloMosaic.Tactic
open Idealize.SL Idealize.SL.RA Idealize.SL.BI Idealize.SL.Sem

variable {F : FTy → Type} [FloatOps F]

/-- A load through a whole buffer holding `X` reads `X`. -/
theorem ldU {sp : Space} {s : Shape} {e : EltTy} {a : Memref sig .tc sp s e} (h : a.IsWhole) (X : Vec F s e) (r : Rect s) :
    View.readAt (Elt F) a.view r.toLoadRect (h.unread X) = View.ld X r := by
  rw [View.readAt_eq_ld, h.read_unread]

/-- Eight rows of a slab, from row `o`. -/
def rows (x : Vec F S64x4096 .f32) (o : ℕ) : Vec F S8x4096 .f32 :=
  fun z => x (ix2 (⟨(o + (z 0).val) % 64, Nat.mod_lt _ (by omega)⟩ : Fin 64) (z 1))

theorem ld_rows (x : Vec F S64x4096 .f32) (o : ℕ) (h : ∀ a, (![o, 0] : Fin 2 → Nat) a + (![8, 4096] : Fin 2 → Nat) a ≤ S64x4096.size a) :
    View.ld x (Rect.unit (s := S64x4096) ![o, 0] ![8, 4096] h) = rows x o := by
  funext z
  unfold rows
  have h0 : o + 8 ≤ 64 := h 0
  have hz : (z 0).val < 8 := (z 0).isLt
  show x _ = x _
  congr 1
  funext a
  apply Fin.ext
  fin_cases a
  · show o + 1 * (z 0).val = (o + (z 0).val) % 64
    rw [Nat.mod_eq_of_lt (by omega)]; omega
  · show 0 + 1 * (z 1).val = (z 1).val
    omega

/-- Two hundred and fifty-six rows of a row buffer, from row `o`. -/
def rowsA (x : Vec F S2048x4096 .bf16) (o : ℕ) : Vec F S256x4096 .bf16 :=
  fun z => x (ix2 (⟨(o + (z 0).val) % 2048, Nat.mod_lt _ (by omega)⟩ : Fin 2048) (z 1))

theorem ld_rowsA (x : Vec F S2048x4096 .bf16) (o : ℕ) (h : ∀ a, (![o, 0] : Fin 2 → Nat) a + (![256, 4096] : Fin 2 → Nat) a ≤ S2048x4096.size a) :
    View.ld x (Rect.unit (s := S2048x4096) ![o, 0] ![256, 4096] h) = rowsA x o := by
  funext z
  unfold rowsA
  have h0 : o + 256 ≤ 2048 := h 0
  have hz : (z 0).val < 256 := (z 0).isLt
  show x _ = x _
  congr 1
  funext a
  apply Fin.ext
  fin_cases a
  · show o + 1 * (z 0).val = (o + (z 0).val) % 2048
    rw [Nat.mod_eq_of_lt (by omega)]; omega
  · show 0 + 1 * (z 1).val = (z 1).val
    omega

/-- Sixteen normalized rows of a slab, from row `o`. -/
def piece (x : Vec F S64x4096 .f32) (w b : Vec F S1x4096 .f32) (o : ℕ) : FVec F S16x4096 .bf16 :=
  k0_pay31 (k0_pay25 (k0_pay10 (View.ld w (Rect.unit (s := S1x4096) ![0, 0] S1x4096.size inb_S1x4096_S1x4096_0_0))) (k0_pay11 (View.ld b (Rect.unit (s := S1x4096) ![0, 0] S1x4096.size inb_S1x4096_S1x4096_0_0))) (rows x o))
    (k0_pay25 (k0_pay10 (View.ld w (Rect.unit (s := S1x4096) ![0, 0] S1x4096.size inb_S1x4096_S1x4096_0_0))) (k0_pay11 (View.ld b (Rect.unit (s := S1x4096) ![0, 0] S1x4096.size inb_S1x4096_S1x4096_0_0))) (rows x (o + 8)))

/-- A slab's normalized rows. -/
def slab (x : Vec F S64x4096 .f32) (w b : Vec F S1x4096 .f32) : Vec F S64x4096 .bf16 :=
  fun y => piece x w b ((y 0).val / 16 * 16) (ix2 (⟨(y 0).val % 16, Nat.mod_lt _ (by omega)⟩ : Fin 16) (y 1))

/-- The means and the reciprocal deviations of eight rows, in every lane. -/
def meanP (x : Vec F S64x4096 .f32) (o : ℕ) : FVec F S8x128 .f32 := k0_pay26 (rows x o)
def rstdP (x : Vec F S64x4096 .f32) (o : ℕ) : FVec F S8x128 .f32 := k0_pay28 (k0_pay27 (rows x o))

/-- A slab's means and reciprocal deviations. -/
def meanT (x : Vec F S64x4096 .f32) : Vec F S64x128 .f32 :=
  fun y => meanP x ((y 0).val / 8 * 8) (ix2 (⟨(y 0).val % 8, Nat.mod_lt _ (by omega)⟩ : Fin 8) (y 1))
def rstdT (x : Vec F S64x4096 .f32) : Vec F S64x128 .f32 :=
  fun y => rstdP x ((y 0).val / 8 * 8) (ix2 (⟨(y 0).val % 8, Nat.mod_lt _ (by omega)⟩ : Fin 8) (y 1))

/-- Two hundred and fifty-six rows of the output tile. -/
def prodP (a : Vec F S2048x4096 .bf16) (u v : Vec F S4096x256 .bf16) (o : ℕ) : FVec F S256x256 .bf16 :=
  k0_pay178 (rowsA a o) (View.ld u (Rect.unit (s := S4096x256) ![0, 0] S4096x256.size inb_S4096x256_S4096x256_0_0)) (View.ld v (Rect.unit (s := S4096x256) ![0, 0] S4096x256.size inb_S4096x256_S4096x256_0_0))

/-- The output tile. -/
def prodT (a : Vec F S2048x4096 .bf16) (u v : Vec F S4096x256 .bf16) : Vec F S2048x256 .bf16 :=
  fun y => prodP a u v ((y 0).val / 256 * 256) (ix2 (⟨(y 0).val % 256, Nat.mod_lt _ (by omega)⟩ : Fin 256) (y 1))

/-- The two weights' casts. -/
def castO (x : Vec F S1x32x4096 .f32) : Vec F S32x4096 .bf16 := k0_pay8 (View.ld x (Rect.unit (s := S1x32x4096) ![0, 0, 0] S1x32x4096.size inb_S1x32x4096_S1x32x4096_0_0_0))
def castG (x : Vec F S1x16x4096 .f32) : Vec F S16x4096 .bf16 := k0_pay9 (View.ld x (Rect.unit (s := S1x16x4096) ![0, 0, 0] S1x16x4096.size inb_S1x16x4096_S1x16x4096_0_0_0))

/-! The pieces the body stores, last first. -/

def meanL (x : Vec F S64x4096 .f32) : List (View.Piece (Elt F) S64x128 .f32) :=
  [⟨Rect.unit (s := S64x128) ![56, 0] S8x128.size inb_S64x128_S8x128_56_0, meanP x 56⟩, ⟨Rect.unit (s := S64x128) ![48, 0] S8x128.size inb_S64x128_S8x128_48_0, meanP x 48⟩, ⟨Rect.unit (s := S64x128) ![40, 0] S8x128.size inb_S64x128_S8x128_40_0, meanP x 40⟩, ⟨Rect.unit (s := S64x128) ![32, 0] S8x128.size inb_S64x128_S8x128_32_0, meanP x 32⟩, ⟨Rect.unit (s := S64x128) ![24, 0] S8x128.size inb_S64x128_S8x128_24_0, meanP x 24⟩, ⟨Rect.unit (s := S64x128) ![16, 0] S8x128.size inb_S64x128_S8x128_16_0, meanP x 16⟩, ⟨Rect.unit (s := S64x128) ![8, 0] S8x128.size inb_S64x128_S8x128_8_0, meanP x 8⟩, ⟨Rect.unit (s := S64x128) ![0, 0] S8x128.size inb_S64x128_S8x128_0_0, meanP x 0⟩]
def rstdL (x : Vec F S64x4096 .f32) : List (View.Piece (Elt F) S64x128 .f32) :=
  [⟨Rect.unit (s := S64x128) ![56, 0] S8x128.size inb_S64x128_S8x128_56_0, rstdP x 56⟩, ⟨Rect.unit (s := S64x128) ![48, 0] S8x128.size inb_S64x128_S8x128_48_0, rstdP x 48⟩, ⟨Rect.unit (s := S64x128) ![40, 0] S8x128.size inb_S64x128_S8x128_40_0, rstdP x 40⟩, ⟨Rect.unit (s := S64x128) ![32, 0] S8x128.size inb_S64x128_S8x128_32_0, rstdP x 32⟩, ⟨Rect.unit (s := S64x128) ![24, 0] S8x128.size inb_S64x128_S8x128_24_0, rstdP x 24⟩, ⟨Rect.unit (s := S64x128) ![16, 0] S8x128.size inb_S64x128_S8x128_16_0, rstdP x 16⟩, ⟨Rect.unit (s := S64x128) ![8, 0] S8x128.size inb_S64x128_S8x128_8_0, rstdP x 8⟩, ⟨Rect.unit (s := S64x128) ![0, 0] S8x128.size inb_S64x128_S8x128_0_0, rstdP x 0⟩]
def prodL (a : Vec F S2048x4096 .bf16) (u v : Vec F S4096x256 .bf16) : List (View.Piece (Elt F) S2048x256 .bf16) :=
  [⟨Rect.unit (s := S2048x256) ![1792, 0] S256x256.size inb_S2048x256_S256x256_1792_0, prodP a u v 1792⟩, ⟨Rect.unit (s := S2048x256) ![1536, 0] S256x256.size inb_S2048x256_S256x256_1536_0, prodP a u v 1536⟩, ⟨Rect.unit (s := S2048x256) ![1280, 0] S256x256.size inb_S2048x256_S256x256_1280_0, prodP a u v 1280⟩, ⟨Rect.unit (s := S2048x256) ![1024, 0] S256x256.size inb_S2048x256_S256x256_1024_0, prodP a u v 1024⟩, ⟨Rect.unit (s := S2048x256) ![768, 0] S256x256.size inb_S2048x256_S256x256_768_0, prodP a u v 768⟩, ⟨Rect.unit (s := S2048x256) ![512, 0] S256x256.size inb_S2048x256_S256x256_512_0, prodP a u v 512⟩, ⟨Rect.unit (s := S2048x256) ![256, 0] S256x256.size inb_S2048x256_S256x256_256_0, prodP a u v 256⟩, ⟨Rect.unit (s := S2048x256) ![0, 0] S256x256.size inb_S2048x256_S256x256_0_0, prodP a u v 0⟩]
def castOL (x : Vec F S1x32x4096 .f32) : List (View.Piece (Elt F) S32x4096 .bf16) :=
  [⟨Rect.unit (s := S32x4096) ![0, 0] S32x4096.size inb_S32x4096_S32x4096_0_0, castO x⟩]
def castGL (x : Vec F S1x16x4096 .f32) : List (View.Piece (Elt F) S16x4096 .bf16) :=
  [⟨Rect.unit (s := S16x4096) ![0, 0] S16x4096.size inb_S16x4096_S16x4096_0_0, castG x⟩]
/-- The slab's four groups of sixteen rows at four places of a row buffer. -/
def slabL (x : Vec F S64x4096 .f32) (w b : Vec F S1x4096 .f32) (o0 o1 o2 o3 : Fin 2 → ℕ)
    (i0 : ∀ a, o0 a + S16x4096.size a ≤ S2048x4096.size a) (i1 : ∀ a, o1 a + S16x4096.size a ≤ S2048x4096.size a)
    (i2 : ∀ a, o2 a + S16x4096.size a ≤ S2048x4096.size a) (i3 : ∀ a, o3 a + S16x4096.size a ≤ S2048x4096.size a) :
    List (View.Piece (Elt F) S2048x4096 .bf16) :=
  [⟨Rect.unit (s := S2048x4096) o3 S16x4096.size i3, piece x w b 48⟩, ⟨Rect.unit (s := S2048x4096) o2 S16x4096.size i2, piece x w b 32⟩,
   ⟨Rect.unit (s := S2048x4096) o1 S16x4096.size i1, piece x w b 16⟩, ⟨Rect.unit (s := S2048x4096) o0 S16x4096.size i0, piece x w b 0⟩]

theorem slab_A (c : Dev nD) (i : grid0.Coords) (h1 : k0_cond1 i = 1#1) (h2 : ¬ k0_cond2 i = 1#1) (h3 : ¬ k0_cond3 i = 1#1) (arg2 : Memref sig .tc .vmem S64x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S1x32x4096 .f32) (harg7 : arg7.IsWhole) (arg8 : Memref sig .tc .vmem S1x16x4096 .f32) (harg8 : arg8.IsWhole) (arg9 : Memref sig .tc .vmem S2048x256 .bf16) (harg9 : arg9.IsWhole) (arg10 : Memref sig .tc .vmem S64x128 .f32) (harg10 : arg10.IsWhole) (arg11 : Memref sig .tc .vmem S64x128 .f32) (harg11 : arg11.IsWhole) (arg12 : Memref sig .tc .vmem S32x4096 .bf16) (harg12 : arg12.IsWhole) (arg13 : Memref sig .tc .vmem S16x4096 .bf16) (harg13 : arg13.IsWhole) (arg14 : Memref sig .tc .vmem S2048x4096 .bf16) (harg14 : arg14.IsWhole) (arg15 : Memref sig .tc .vmem S2048x4096 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole)
    (x2 : Vec F S64x4096 .f32) (x3 : Vec F S1x4096 .f32) (x4 : Vec F S1x4096 .f32) (x7 : Vec F S1x32x4096 .f32) (x8 : Vec F S1x16x4096 .f32) (x14 : Vec F S2048x4096 .bf16) :
    (runA (F := F) c i h1 h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x7 x8 x14).1 = slabL x2 x3 x4 (k0_off2 i 0#32) (k0_off2 i 16#32) (k0_off2 i 32#32) (k0_off2 i 48#32) (k0_off2_inb i h1 0) (k0_off2_inb i h1 1) (k0_off2_inb i h1 2) (k0_off2_inb i h1 3) := by
  unfold runA
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28, runA.sl.r_29, runA.sl.r_30, runA.sl.r_31, runA.sl.r_32, runA.sl.r_33, runA.sl.r_34, ldU, ld_rows, ld_rowsA]
  rfl

theorem mean_A (c : Dev nD) (i : grid0.Coords) (h1 : k0_cond1 i = 1#1) (h2 : ¬ k0_cond2 i = 1#1) (h3 : ¬ k0_cond3 i = 1#1) (arg2 : Memref sig .tc .vmem S64x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S1x32x4096 .f32) (harg7 : arg7.IsWhole) (arg8 : Memref sig .tc .vmem S1x16x4096 .f32) (harg8 : arg8.IsWhole) (arg9 : Memref sig .tc .vmem S2048x256 .bf16) (harg9 : arg9.IsWhole) (arg10 : Memref sig .tc .vmem S64x128 .f32) (harg10 : arg10.IsWhole) (arg11 : Memref sig .tc .vmem S64x128 .f32) (harg11 : arg11.IsWhole) (arg12 : Memref sig .tc .vmem S32x4096 .bf16) (harg12 : arg12.IsWhole) (arg13 : Memref sig .tc .vmem S16x4096 .bf16) (harg13 : arg13.IsWhole) (arg14 : Memref sig .tc .vmem S2048x4096 .bf16) (harg14 : arg14.IsWhole) (arg15 : Memref sig .tc .vmem S2048x4096 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole)
    (x2 : Vec F S64x4096 .f32) (x3 : Vec F S1x4096 .f32) (x4 : Vec F S1x4096 .f32) (x7 : Vec F S1x32x4096 .f32) (x8 : Vec F S1x16x4096 .f32) (x14 : Vec F S2048x4096 .bf16) :
    (runA (F := F) c i h1 h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x7 x8 x14).2.1 = meanL x2 := by
  unfold runA
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28, runA.sl.r_29, runA.sl.r_30, runA.sl.r_31, runA.sl.r_32, runA.sl.r_33, runA.sl.r_34, ldU, ld_rows, ld_rowsA]
  rfl

theorem rstd_A (c : Dev nD) (i : grid0.Coords) (h1 : k0_cond1 i = 1#1) (h2 : ¬ k0_cond2 i = 1#1) (h3 : ¬ k0_cond3 i = 1#1) (arg2 : Memref sig .tc .vmem S64x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S1x32x4096 .f32) (harg7 : arg7.IsWhole) (arg8 : Memref sig .tc .vmem S1x16x4096 .f32) (harg8 : arg8.IsWhole) (arg9 : Memref sig .tc .vmem S2048x256 .bf16) (harg9 : arg9.IsWhole) (arg10 : Memref sig .tc .vmem S64x128 .f32) (harg10 : arg10.IsWhole) (arg11 : Memref sig .tc .vmem S64x128 .f32) (harg11 : arg11.IsWhole) (arg12 : Memref sig .tc .vmem S32x4096 .bf16) (harg12 : arg12.IsWhole) (arg13 : Memref sig .tc .vmem S16x4096 .bf16) (harg13 : arg13.IsWhole) (arg14 : Memref sig .tc .vmem S2048x4096 .bf16) (harg14 : arg14.IsWhole) (arg15 : Memref sig .tc .vmem S2048x4096 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole)
    (x2 : Vec F S64x4096 .f32) (x3 : Vec F S1x4096 .f32) (x4 : Vec F S1x4096 .f32) (x7 : Vec F S1x32x4096 .f32) (x8 : Vec F S1x16x4096 .f32) (x14 : Vec F S2048x4096 .bf16) :
    (runA (F := F) c i h1 h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x7 x8 x14).2.2.1 = rstdL x2 := by
  unfold runA
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28, runA.sl.r_29, runA.sl.r_30, runA.sl.r_31, runA.sl.r_32, runA.sl.r_33, runA.sl.r_34, ldU, ld_rows, ld_rowsA]
  rfl

theorem castO_A (c : Dev nD) (i : grid0.Coords) (h1 : k0_cond1 i = 1#1) (h2 : ¬ k0_cond2 i = 1#1) (h3 : ¬ k0_cond3 i = 1#1) (arg2 : Memref sig .tc .vmem S64x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S1x32x4096 .f32) (harg7 : arg7.IsWhole) (arg8 : Memref sig .tc .vmem S1x16x4096 .f32) (harg8 : arg8.IsWhole) (arg9 : Memref sig .tc .vmem S2048x256 .bf16) (harg9 : arg9.IsWhole) (arg10 : Memref sig .tc .vmem S64x128 .f32) (harg10 : arg10.IsWhole) (arg11 : Memref sig .tc .vmem S64x128 .f32) (harg11 : arg11.IsWhole) (arg12 : Memref sig .tc .vmem S32x4096 .bf16) (harg12 : arg12.IsWhole) (arg13 : Memref sig .tc .vmem S16x4096 .bf16) (harg13 : arg13.IsWhole) (arg14 : Memref sig .tc .vmem S2048x4096 .bf16) (harg14 : arg14.IsWhole) (arg15 : Memref sig .tc .vmem S2048x4096 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole)
    (x2 : Vec F S64x4096 .f32) (x3 : Vec F S1x4096 .f32) (x4 : Vec F S1x4096 .f32) (x7 : Vec F S1x32x4096 .f32) (x8 : Vec F S1x16x4096 .f32) (x14 : Vec F S2048x4096 .bf16) :
    (runA (F := F) c i h1 h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x7 x8 x14).2.2.2.1 = castOL x7 := by
  unfold runA
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28, runA.sl.r_29, runA.sl.r_30, runA.sl.r_31, runA.sl.r_32, runA.sl.r_33, runA.sl.r_34, ldU, ld_rows, ld_rowsA]
  rfl

theorem castG_A (c : Dev nD) (i : grid0.Coords) (h1 : k0_cond1 i = 1#1) (h2 : ¬ k0_cond2 i = 1#1) (h3 : ¬ k0_cond3 i = 1#1) (arg2 : Memref sig .tc .vmem S64x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S1x32x4096 .f32) (harg7 : arg7.IsWhole) (arg8 : Memref sig .tc .vmem S1x16x4096 .f32) (harg8 : arg8.IsWhole) (arg9 : Memref sig .tc .vmem S2048x256 .bf16) (harg9 : arg9.IsWhole) (arg10 : Memref sig .tc .vmem S64x128 .f32) (harg10 : arg10.IsWhole) (arg11 : Memref sig .tc .vmem S64x128 .f32) (harg11 : arg11.IsWhole) (arg12 : Memref sig .tc .vmem S32x4096 .bf16) (harg12 : arg12.IsWhole) (arg13 : Memref sig .tc .vmem S16x4096 .bf16) (harg13 : arg13.IsWhole) (arg14 : Memref sig .tc .vmem S2048x4096 .bf16) (harg14 : arg14.IsWhole) (arg15 : Memref sig .tc .vmem S2048x4096 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole)
    (x2 : Vec F S64x4096 .f32) (x3 : Vec F S1x4096 .f32) (x4 : Vec F S1x4096 .f32) (x7 : Vec F S1x32x4096 .f32) (x8 : Vec F S1x16x4096 .f32) (x14 : Vec F S2048x4096 .bf16) :
    (runA (F := F) c i h1 h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x7 x8 x14).2.2.2.2.1 = castGL x8 := by
  unfold runA
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28, runA.sl.r_29, runA.sl.r_30, runA.sl.r_31, runA.sl.r_32, runA.sl.r_33, runA.sl.r_34, ldU, ld_rows, ld_rowsA]
  rfl

theorem slab_B (c : Dev nD) (i : grid0.Coords) (h1 : ¬ k0_cond1 i = 1#1) (h2 : k0_cond2 i = 1#1) (h3 : ¬ k0_cond3 i = 1#1) (arg2 : Memref sig .tc .vmem S64x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S1x32x4096 .f32) (harg7 : arg7.IsWhole) (arg8 : Memref sig .tc .vmem S1x16x4096 .f32) (harg8 : arg8.IsWhole) (arg9 : Memref sig .tc .vmem S2048x256 .bf16) (harg9 : arg9.IsWhole) (arg10 : Memref sig .tc .vmem S64x128 .f32) (harg10 : arg10.IsWhole) (arg11 : Memref sig .tc .vmem S64x128 .f32) (harg11 : arg11.IsWhole) (arg12 : Memref sig .tc .vmem S32x4096 .bf16) (harg12 : arg12.IsWhole) (arg13 : Memref sig .tc .vmem S16x4096 .bf16) (harg13 : arg13.IsWhole) (arg14 : Memref sig .tc .vmem S2048x4096 .bf16) (harg14 : arg14.IsWhole) (arg15 : Memref sig .tc .vmem S2048x4096 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole)
    (x2 : Vec F S64x4096 .f32) (x3 : Vec F S1x4096 .f32) (x4 : Vec F S1x4096 .f32) (x5 : Vec F S4096x256 .bf16) (x6 : Vec F S4096x256 .bf16) (x7 : Vec F S1x32x4096 .f32) (x8 : Vec F S1x16x4096 .f32) (x15 : Vec F S2048x4096 .bf16) (x14 : Vec F S2048x4096 .bf16) :
    (runB (F := F) c i h1 h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 x8 x15 x14).1 = slabL x2 x3 x4 (k0_off4 i 0#32) (k0_off4 i 16#32) (k0_off4 i 32#32) (k0_off4 i 48#32) (k0_off4_inb i h2 0) (k0_off4_inb i h2 1) (k0_off4_inb i h2 2) (k0_off4_inb i h2 3) := by
  unfold runB
  simp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.r_29, runB.sl.r_30, runB.sl.r_31, runB.sl.r_32, runB.sl.r_33, runB.sl.r_34, runB.sl.r_35, runB.sl.r_36, runB.sl.r_37, runB.sl.r_38, runB.sl.r_39, runB.sl.r_40, runB.sl.r_41, runB.sl.r_42, runB.sl.r_43, runB.sl.r_44, runB.sl.r_45, runB.sl.r_46, runB.sl.cst_230, ldU, ld_rows, ld_rowsA]
  rfl

theorem prod_B (c : Dev nD) (i : grid0.Coords) (h1 : ¬ k0_cond1 i = 1#1) (h2 : k0_cond2 i = 1#1) (h3 : ¬ k0_cond3 i = 1#1) (arg2 : Memref sig .tc .vmem S64x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S1x32x4096 .f32) (harg7 : arg7.IsWhole) (arg8 : Memref sig .tc .vmem S1x16x4096 .f32) (harg8 : arg8.IsWhole) (arg9 : Memref sig .tc .vmem S2048x256 .bf16) (harg9 : arg9.IsWhole) (arg10 : Memref sig .tc .vmem S64x128 .f32) (harg10 : arg10.IsWhole) (arg11 : Memref sig .tc .vmem S64x128 .f32) (harg11 : arg11.IsWhole) (arg12 : Memref sig .tc .vmem S32x4096 .bf16) (harg12 : arg12.IsWhole) (arg13 : Memref sig .tc .vmem S16x4096 .bf16) (harg13 : arg13.IsWhole) (arg14 : Memref sig .tc .vmem S2048x4096 .bf16) (harg14 : arg14.IsWhole) (arg15 : Memref sig .tc .vmem S2048x4096 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole)
    (x2 : Vec F S64x4096 .f32) (x3 : Vec F S1x4096 .f32) (x4 : Vec F S1x4096 .f32) (x5 : Vec F S4096x256 .bf16) (x6 : Vec F S4096x256 .bf16) (x7 : Vec F S1x32x4096 .f32) (x8 : Vec F S1x16x4096 .f32) (x15 : Vec F S2048x4096 .bf16) (x14 : Vec F S2048x4096 .bf16) :
    (runB (F := F) c i h1 h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 x8 x15 x14).2.1 = prodL x15 x5 x6 := by
  unfold runB
  simp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.r_29, runB.sl.r_30, runB.sl.r_31, runB.sl.r_32, runB.sl.r_33, runB.sl.r_34, runB.sl.r_35, runB.sl.r_36, runB.sl.r_37, runB.sl.r_38, runB.sl.r_39, runB.sl.r_40, runB.sl.r_41, runB.sl.r_42, runB.sl.r_43, runB.sl.r_44, runB.sl.r_45, runB.sl.r_46, runB.sl.cst_230, ldU, ld_rows, ld_rowsA]
  rfl

theorem mean_B (c : Dev nD) (i : grid0.Coords) (h1 : ¬ k0_cond1 i = 1#1) (h2 : k0_cond2 i = 1#1) (h3 : ¬ k0_cond3 i = 1#1) (arg2 : Memref sig .tc .vmem S64x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S1x32x4096 .f32) (harg7 : arg7.IsWhole) (arg8 : Memref sig .tc .vmem S1x16x4096 .f32) (harg8 : arg8.IsWhole) (arg9 : Memref sig .tc .vmem S2048x256 .bf16) (harg9 : arg9.IsWhole) (arg10 : Memref sig .tc .vmem S64x128 .f32) (harg10 : arg10.IsWhole) (arg11 : Memref sig .tc .vmem S64x128 .f32) (harg11 : arg11.IsWhole) (arg12 : Memref sig .tc .vmem S32x4096 .bf16) (harg12 : arg12.IsWhole) (arg13 : Memref sig .tc .vmem S16x4096 .bf16) (harg13 : arg13.IsWhole) (arg14 : Memref sig .tc .vmem S2048x4096 .bf16) (harg14 : arg14.IsWhole) (arg15 : Memref sig .tc .vmem S2048x4096 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole)
    (x2 : Vec F S64x4096 .f32) (x3 : Vec F S1x4096 .f32) (x4 : Vec F S1x4096 .f32) (x5 : Vec F S4096x256 .bf16) (x6 : Vec F S4096x256 .bf16) (x7 : Vec F S1x32x4096 .f32) (x8 : Vec F S1x16x4096 .f32) (x15 : Vec F S2048x4096 .bf16) (x14 : Vec F S2048x4096 .bf16) :
    (runB (F := F) c i h1 h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 x8 x15 x14).2.2.1 = meanL x2 := by
  unfold runB
  simp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.r_29, runB.sl.r_30, runB.sl.r_31, runB.sl.r_32, runB.sl.r_33, runB.sl.r_34, runB.sl.r_35, runB.sl.r_36, runB.sl.r_37, runB.sl.r_38, runB.sl.r_39, runB.sl.r_40, runB.sl.r_41, runB.sl.r_42, runB.sl.r_43, runB.sl.r_44, runB.sl.r_45, runB.sl.r_46, runB.sl.cst_230, ldU, ld_rows, ld_rowsA]
  rfl

theorem rstd_B (c : Dev nD) (i : grid0.Coords) (h1 : ¬ k0_cond1 i = 1#1) (h2 : k0_cond2 i = 1#1) (h3 : ¬ k0_cond3 i = 1#1) (arg2 : Memref sig .tc .vmem S64x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S1x32x4096 .f32) (harg7 : arg7.IsWhole) (arg8 : Memref sig .tc .vmem S1x16x4096 .f32) (harg8 : arg8.IsWhole) (arg9 : Memref sig .tc .vmem S2048x256 .bf16) (harg9 : arg9.IsWhole) (arg10 : Memref sig .tc .vmem S64x128 .f32) (harg10 : arg10.IsWhole) (arg11 : Memref sig .tc .vmem S64x128 .f32) (harg11 : arg11.IsWhole) (arg12 : Memref sig .tc .vmem S32x4096 .bf16) (harg12 : arg12.IsWhole) (arg13 : Memref sig .tc .vmem S16x4096 .bf16) (harg13 : arg13.IsWhole) (arg14 : Memref sig .tc .vmem S2048x4096 .bf16) (harg14 : arg14.IsWhole) (arg15 : Memref sig .tc .vmem S2048x4096 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole)
    (x2 : Vec F S64x4096 .f32) (x3 : Vec F S1x4096 .f32) (x4 : Vec F S1x4096 .f32) (x5 : Vec F S4096x256 .bf16) (x6 : Vec F S4096x256 .bf16) (x7 : Vec F S1x32x4096 .f32) (x8 : Vec F S1x16x4096 .f32) (x15 : Vec F S2048x4096 .bf16) (x14 : Vec F S2048x4096 .bf16) :
    (runB (F := F) c i h1 h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 x8 x15 x14).2.2.2.1 = rstdL x2 := by
  unfold runB
  simp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.r_29, runB.sl.r_30, runB.sl.r_31, runB.sl.r_32, runB.sl.r_33, runB.sl.r_34, runB.sl.r_35, runB.sl.r_36, runB.sl.r_37, runB.sl.r_38, runB.sl.r_39, runB.sl.r_40, runB.sl.r_41, runB.sl.r_42, runB.sl.r_43, runB.sl.r_44, runB.sl.r_45, runB.sl.r_46, runB.sl.cst_230, ldU, ld_rows, ld_rowsA]
  rfl

theorem castO_B (c : Dev nD) (i : grid0.Coords) (h1 : ¬ k0_cond1 i = 1#1) (h2 : k0_cond2 i = 1#1) (h3 : ¬ k0_cond3 i = 1#1) (arg2 : Memref sig .tc .vmem S64x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S1x32x4096 .f32) (harg7 : arg7.IsWhole) (arg8 : Memref sig .tc .vmem S1x16x4096 .f32) (harg8 : arg8.IsWhole) (arg9 : Memref sig .tc .vmem S2048x256 .bf16) (harg9 : arg9.IsWhole) (arg10 : Memref sig .tc .vmem S64x128 .f32) (harg10 : arg10.IsWhole) (arg11 : Memref sig .tc .vmem S64x128 .f32) (harg11 : arg11.IsWhole) (arg12 : Memref sig .tc .vmem S32x4096 .bf16) (harg12 : arg12.IsWhole) (arg13 : Memref sig .tc .vmem S16x4096 .bf16) (harg13 : arg13.IsWhole) (arg14 : Memref sig .tc .vmem S2048x4096 .bf16) (harg14 : arg14.IsWhole) (arg15 : Memref sig .tc .vmem S2048x4096 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole)
    (x2 : Vec F S64x4096 .f32) (x3 : Vec F S1x4096 .f32) (x4 : Vec F S1x4096 .f32) (x5 : Vec F S4096x256 .bf16) (x6 : Vec F S4096x256 .bf16) (x7 : Vec F S1x32x4096 .f32) (x8 : Vec F S1x16x4096 .f32) (x15 : Vec F S2048x4096 .bf16) (x14 : Vec F S2048x4096 .bf16) :
    (runB (F := F) c i h1 h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 x8 x15 x14).2.2.2.2.1 = castOL x7 := by
  unfold runB
  simp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.r_29, runB.sl.r_30, runB.sl.r_31, runB.sl.r_32, runB.sl.r_33, runB.sl.r_34, runB.sl.r_35, runB.sl.r_36, runB.sl.r_37, runB.sl.r_38, runB.sl.r_39, runB.sl.r_40, runB.sl.r_41, runB.sl.r_42, runB.sl.r_43, runB.sl.r_44, runB.sl.r_45, runB.sl.r_46, runB.sl.cst_230, ldU, ld_rows, ld_rowsA]
  rfl

theorem castG_B (c : Dev nD) (i : grid0.Coords) (h1 : ¬ k0_cond1 i = 1#1) (h2 : k0_cond2 i = 1#1) (h3 : ¬ k0_cond3 i = 1#1) (arg2 : Memref sig .tc .vmem S64x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S1x32x4096 .f32) (harg7 : arg7.IsWhole) (arg8 : Memref sig .tc .vmem S1x16x4096 .f32) (harg8 : arg8.IsWhole) (arg9 : Memref sig .tc .vmem S2048x256 .bf16) (harg9 : arg9.IsWhole) (arg10 : Memref sig .tc .vmem S64x128 .f32) (harg10 : arg10.IsWhole) (arg11 : Memref sig .tc .vmem S64x128 .f32) (harg11 : arg11.IsWhole) (arg12 : Memref sig .tc .vmem S32x4096 .bf16) (harg12 : arg12.IsWhole) (arg13 : Memref sig .tc .vmem S16x4096 .bf16) (harg13 : arg13.IsWhole) (arg14 : Memref sig .tc .vmem S2048x4096 .bf16) (harg14 : arg14.IsWhole) (arg15 : Memref sig .tc .vmem S2048x4096 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole)
    (x2 : Vec F S64x4096 .f32) (x3 : Vec F S1x4096 .f32) (x4 : Vec F S1x4096 .f32) (x5 : Vec F S4096x256 .bf16) (x6 : Vec F S4096x256 .bf16) (x7 : Vec F S1x32x4096 .f32) (x8 : Vec F S1x16x4096 .f32) (x15 : Vec F S2048x4096 .bf16) (x14 : Vec F S2048x4096 .bf16) :
    (runB (F := F) c i h1 h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 x8 x15 x14).2.2.2.2.2.1 = castGL x8 := by
  unfold runB
  simp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.r_29, runB.sl.r_30, runB.sl.r_31, runB.sl.r_32, runB.sl.r_33, runB.sl.r_34, runB.sl.r_35, runB.sl.r_36, runB.sl.r_37, runB.sl.r_38, runB.sl.r_39, runB.sl.r_40, runB.sl.r_41, runB.sl.r_42, runB.sl.r_43, runB.sl.r_44, runB.sl.r_45, runB.sl.r_46, runB.sl.cst_230, ldU, ld_rows, ld_rowsA]
  rfl

theorem slab_C (c : Dev nD) (i : grid0.Coords) (h1 : ¬ k0_cond1 i = 1#1) (h2 : ¬ k0_cond2 i = 1#1) (h3 : k0_cond3 i = 1#1) (arg2 : Memref sig .tc .vmem S64x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S1x32x4096 .f32) (harg7 : arg7.IsWhole) (arg8 : Memref sig .tc .vmem S1x16x4096 .f32) (harg8 : arg8.IsWhole) (arg9 : Memref sig .tc .vmem S2048x256 .bf16) (harg9 : arg9.IsWhole) (arg10 : Memref sig .tc .vmem S64x128 .f32) (harg10 : arg10.IsWhole) (arg11 : Memref sig .tc .vmem S64x128 .f32) (harg11 : arg11.IsWhole) (arg12 : Memref sig .tc .vmem S32x4096 .bf16) (harg12 : arg12.IsWhole) (arg13 : Memref sig .tc .vmem S16x4096 .bf16) (harg13 : arg13.IsWhole) (arg14 : Memref sig .tc .vmem S2048x4096 .bf16) (harg14 : arg14.IsWhole) (arg15 : Memref sig .tc .vmem S2048x4096 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole)
    (x2 : Vec F S64x4096 .f32) (x3 : Vec F S1x4096 .f32) (x4 : Vec F S1x4096 .f32) (x5 : Vec F S4096x256 .bf16) (x6 : Vec F S4096x256 .bf16) (x7 : Vec F S1x32x4096 .f32) (x8 : Vec F S1x16x4096 .f32) (x14 : Vec F S2048x4096 .bf16) (x15 : Vec F S2048x4096 .bf16) :
    (runC (F := F) c i h1 h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 x8 x14 x15).1 = slabL x2 x3 x4 (k0_off6 i 0#32) (k0_off6 i 16#32) (k0_off6 i 32#32) (k0_off6 i 48#32) (k0_off6_inb i h3 0) (k0_off6_inb i h3 1) (k0_off6_inb i h3 2) (k0_off6_inb i h3 3) := by
  unfold runC
  simp only [runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, runC.sl.r_16, runC.sl.r_17, runC.sl.r_18, runC.sl.r_19, runC.sl.r_20, runC.sl.r_21, runC.sl.r_22, runC.sl.r_23, runC.sl.r_24, runC.sl.r_25, runC.sl.r_26, runC.sl.r_27, runC.sl.r_28, runC.sl.r_29, runC.sl.r_30, runC.sl.r_31, runC.sl.r_32, runC.sl.r_33, runC.sl.r_34, runC.sl.r_35, runC.sl.r_36, runC.sl.r_37, runC.sl.r_38, runC.sl.r_39, runC.sl.r_40, runC.sl.r_41, runC.sl.r_42, runC.sl.r_43, runC.sl.r_44, runC.sl.r_45, runC.sl.r_46, runC.sl.cst_230, ldU, ld_rows, ld_rowsA]
  rfl

theorem prod_C (c : Dev nD) (i : grid0.Coords) (h1 : ¬ k0_cond1 i = 1#1) (h2 : ¬ k0_cond2 i = 1#1) (h3 : k0_cond3 i = 1#1) (arg2 : Memref sig .tc .vmem S64x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S1x32x4096 .f32) (harg7 : arg7.IsWhole) (arg8 : Memref sig .tc .vmem S1x16x4096 .f32) (harg8 : arg8.IsWhole) (arg9 : Memref sig .tc .vmem S2048x256 .bf16) (harg9 : arg9.IsWhole) (arg10 : Memref sig .tc .vmem S64x128 .f32) (harg10 : arg10.IsWhole) (arg11 : Memref sig .tc .vmem S64x128 .f32) (harg11 : arg11.IsWhole) (arg12 : Memref sig .tc .vmem S32x4096 .bf16) (harg12 : arg12.IsWhole) (arg13 : Memref sig .tc .vmem S16x4096 .bf16) (harg13 : arg13.IsWhole) (arg14 : Memref sig .tc .vmem S2048x4096 .bf16) (harg14 : arg14.IsWhole) (arg15 : Memref sig .tc .vmem S2048x4096 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole)
    (x2 : Vec F S64x4096 .f32) (x3 : Vec F S1x4096 .f32) (x4 : Vec F S1x4096 .f32) (x5 : Vec F S4096x256 .bf16) (x6 : Vec F S4096x256 .bf16) (x7 : Vec F S1x32x4096 .f32) (x8 : Vec F S1x16x4096 .f32) (x14 : Vec F S2048x4096 .bf16) (x15 : Vec F S2048x4096 .bf16) :
    (runC (F := F) c i h1 h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 x8 x14 x15).2.1 = prodL x14 x5 x6 := by
  unfold runC
  simp only [runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, runC.sl.r_16, runC.sl.r_17, runC.sl.r_18, runC.sl.r_19, runC.sl.r_20, runC.sl.r_21, runC.sl.r_22, runC.sl.r_23, runC.sl.r_24, runC.sl.r_25, runC.sl.r_26, runC.sl.r_27, runC.sl.r_28, runC.sl.r_29, runC.sl.r_30, runC.sl.r_31, runC.sl.r_32, runC.sl.r_33, runC.sl.r_34, runC.sl.r_35, runC.sl.r_36, runC.sl.r_37, runC.sl.r_38, runC.sl.r_39, runC.sl.r_40, runC.sl.r_41, runC.sl.r_42, runC.sl.r_43, runC.sl.r_44, runC.sl.r_45, runC.sl.r_46, runC.sl.cst_230, ldU, ld_rows, ld_rowsA]
  rfl

theorem mean_C (c : Dev nD) (i : grid0.Coords) (h1 : ¬ k0_cond1 i = 1#1) (h2 : ¬ k0_cond2 i = 1#1) (h3 : k0_cond3 i = 1#1) (arg2 : Memref sig .tc .vmem S64x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S1x32x4096 .f32) (harg7 : arg7.IsWhole) (arg8 : Memref sig .tc .vmem S1x16x4096 .f32) (harg8 : arg8.IsWhole) (arg9 : Memref sig .tc .vmem S2048x256 .bf16) (harg9 : arg9.IsWhole) (arg10 : Memref sig .tc .vmem S64x128 .f32) (harg10 : arg10.IsWhole) (arg11 : Memref sig .tc .vmem S64x128 .f32) (harg11 : arg11.IsWhole) (arg12 : Memref sig .tc .vmem S32x4096 .bf16) (harg12 : arg12.IsWhole) (arg13 : Memref sig .tc .vmem S16x4096 .bf16) (harg13 : arg13.IsWhole) (arg14 : Memref sig .tc .vmem S2048x4096 .bf16) (harg14 : arg14.IsWhole) (arg15 : Memref sig .tc .vmem S2048x4096 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole)
    (x2 : Vec F S64x4096 .f32) (x3 : Vec F S1x4096 .f32) (x4 : Vec F S1x4096 .f32) (x5 : Vec F S4096x256 .bf16) (x6 : Vec F S4096x256 .bf16) (x7 : Vec F S1x32x4096 .f32) (x8 : Vec F S1x16x4096 .f32) (x14 : Vec F S2048x4096 .bf16) (x15 : Vec F S2048x4096 .bf16) :
    (runC (F := F) c i h1 h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 x8 x14 x15).2.2.1 = meanL x2 := by
  unfold runC
  simp only [runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, runC.sl.r_16, runC.sl.r_17, runC.sl.r_18, runC.sl.r_19, runC.sl.r_20, runC.sl.r_21, runC.sl.r_22, runC.sl.r_23, runC.sl.r_24, runC.sl.r_25, runC.sl.r_26, runC.sl.r_27, runC.sl.r_28, runC.sl.r_29, runC.sl.r_30, runC.sl.r_31, runC.sl.r_32, runC.sl.r_33, runC.sl.r_34, runC.sl.r_35, runC.sl.r_36, runC.sl.r_37, runC.sl.r_38, runC.sl.r_39, runC.sl.r_40, runC.sl.r_41, runC.sl.r_42, runC.sl.r_43, runC.sl.r_44, runC.sl.r_45, runC.sl.r_46, runC.sl.cst_230, ldU, ld_rows, ld_rowsA]
  rfl

theorem rstd_C (c : Dev nD) (i : grid0.Coords) (h1 : ¬ k0_cond1 i = 1#1) (h2 : ¬ k0_cond2 i = 1#1) (h3 : k0_cond3 i = 1#1) (arg2 : Memref sig .tc .vmem S64x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S1x32x4096 .f32) (harg7 : arg7.IsWhole) (arg8 : Memref sig .tc .vmem S1x16x4096 .f32) (harg8 : arg8.IsWhole) (arg9 : Memref sig .tc .vmem S2048x256 .bf16) (harg9 : arg9.IsWhole) (arg10 : Memref sig .tc .vmem S64x128 .f32) (harg10 : arg10.IsWhole) (arg11 : Memref sig .tc .vmem S64x128 .f32) (harg11 : arg11.IsWhole) (arg12 : Memref sig .tc .vmem S32x4096 .bf16) (harg12 : arg12.IsWhole) (arg13 : Memref sig .tc .vmem S16x4096 .bf16) (harg13 : arg13.IsWhole) (arg14 : Memref sig .tc .vmem S2048x4096 .bf16) (harg14 : arg14.IsWhole) (arg15 : Memref sig .tc .vmem S2048x4096 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole)
    (x2 : Vec F S64x4096 .f32) (x3 : Vec F S1x4096 .f32) (x4 : Vec F S1x4096 .f32) (x5 : Vec F S4096x256 .bf16) (x6 : Vec F S4096x256 .bf16) (x7 : Vec F S1x32x4096 .f32) (x8 : Vec F S1x16x4096 .f32) (x14 : Vec F S2048x4096 .bf16) (x15 : Vec F S2048x4096 .bf16) :
    (runC (F := F) c i h1 h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 x8 x14 x15).2.2.2.1 = rstdL x2 := by
  unfold runC
  simp only [runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, runC.sl.r_16, runC.sl.r_17, runC.sl.r_18, runC.sl.r_19, runC.sl.r_20, runC.sl.r_21, runC.sl.r_22, runC.sl.r_23, runC.sl.r_24, runC.sl.r_25, runC.sl.r_26, runC.sl.r_27, runC.sl.r_28, runC.sl.r_29, runC.sl.r_30, runC.sl.r_31, runC.sl.r_32, runC.sl.r_33, runC.sl.r_34, runC.sl.r_35, runC.sl.r_36, runC.sl.r_37, runC.sl.r_38, runC.sl.r_39, runC.sl.r_40, runC.sl.r_41, runC.sl.r_42, runC.sl.r_43, runC.sl.r_44, runC.sl.r_45, runC.sl.r_46, runC.sl.cst_230, ldU, ld_rows, ld_rowsA]
  rfl

theorem castO_C (c : Dev nD) (i : grid0.Coords) (h1 : ¬ k0_cond1 i = 1#1) (h2 : ¬ k0_cond2 i = 1#1) (h3 : k0_cond3 i = 1#1) (arg2 : Memref sig .tc .vmem S64x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S1x32x4096 .f32) (harg7 : arg7.IsWhole) (arg8 : Memref sig .tc .vmem S1x16x4096 .f32) (harg8 : arg8.IsWhole) (arg9 : Memref sig .tc .vmem S2048x256 .bf16) (harg9 : arg9.IsWhole) (arg10 : Memref sig .tc .vmem S64x128 .f32) (harg10 : arg10.IsWhole) (arg11 : Memref sig .tc .vmem S64x128 .f32) (harg11 : arg11.IsWhole) (arg12 : Memref sig .tc .vmem S32x4096 .bf16) (harg12 : arg12.IsWhole) (arg13 : Memref sig .tc .vmem S16x4096 .bf16) (harg13 : arg13.IsWhole) (arg14 : Memref sig .tc .vmem S2048x4096 .bf16) (harg14 : arg14.IsWhole) (arg15 : Memref sig .tc .vmem S2048x4096 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole)
    (x2 : Vec F S64x4096 .f32) (x3 : Vec F S1x4096 .f32) (x4 : Vec F S1x4096 .f32) (x5 : Vec F S4096x256 .bf16) (x6 : Vec F S4096x256 .bf16) (x7 : Vec F S1x32x4096 .f32) (x8 : Vec F S1x16x4096 .f32) (x14 : Vec F S2048x4096 .bf16) (x15 : Vec F S2048x4096 .bf16) :
    (runC (F := F) c i h1 h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 x8 x14 x15).2.2.2.2.1 = castOL x7 := by
  unfold runC
  simp only [runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, runC.sl.r_16, runC.sl.r_17, runC.sl.r_18, runC.sl.r_19, runC.sl.r_20, runC.sl.r_21, runC.sl.r_22, runC.sl.r_23, runC.sl.r_24, runC.sl.r_25, runC.sl.r_26, runC.sl.r_27, runC.sl.r_28, runC.sl.r_29, runC.sl.r_30, runC.sl.r_31, runC.sl.r_32, runC.sl.r_33, runC.sl.r_34, runC.sl.r_35, runC.sl.r_36, runC.sl.r_37, runC.sl.r_38, runC.sl.r_39, runC.sl.r_40, runC.sl.r_41, runC.sl.r_42, runC.sl.r_43, runC.sl.r_44, runC.sl.r_45, runC.sl.r_46, runC.sl.cst_230, ldU, ld_rows, ld_rowsA]
  rfl

theorem castG_C (c : Dev nD) (i : grid0.Coords) (h1 : ¬ k0_cond1 i = 1#1) (h2 : ¬ k0_cond2 i = 1#1) (h3 : k0_cond3 i = 1#1) (arg2 : Memref sig .tc .vmem S64x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S1x32x4096 .f32) (harg7 : arg7.IsWhole) (arg8 : Memref sig .tc .vmem S1x16x4096 .f32) (harg8 : arg8.IsWhole) (arg9 : Memref sig .tc .vmem S2048x256 .bf16) (harg9 : arg9.IsWhole) (arg10 : Memref sig .tc .vmem S64x128 .f32) (harg10 : arg10.IsWhole) (arg11 : Memref sig .tc .vmem S64x128 .f32) (harg11 : arg11.IsWhole) (arg12 : Memref sig .tc .vmem S32x4096 .bf16) (harg12 : arg12.IsWhole) (arg13 : Memref sig .tc .vmem S16x4096 .bf16) (harg13 : arg13.IsWhole) (arg14 : Memref sig .tc .vmem S2048x4096 .bf16) (harg14 : arg14.IsWhole) (arg15 : Memref sig .tc .vmem S2048x4096 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole)
    (x2 : Vec F S64x4096 .f32) (x3 : Vec F S1x4096 .f32) (x4 : Vec F S1x4096 .f32) (x5 : Vec F S4096x256 .bf16) (x6 : Vec F S4096x256 .bf16) (x7 : Vec F S1x32x4096 .f32) (x8 : Vec F S1x16x4096 .f32) (x14 : Vec F S2048x4096 .bf16) (x15 : Vec F S2048x4096 .bf16) :
    (runC (F := F) c i h1 h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 x8 x14 x15).2.2.2.2.2.1 = castGL x8 := by
  unfold runC
  simp only [runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, runC.sl.r_16, runC.sl.r_17, runC.sl.r_18, runC.sl.r_19, runC.sl.r_20, runC.sl.r_21, runC.sl.r_22, runC.sl.r_23, runC.sl.r_24, runC.sl.r_25, runC.sl.r_26, runC.sl.r_27, runC.sl.r_28, runC.sl.r_29, runC.sl.r_30, runC.sl.r_31, runC.sl.r_32, runC.sl.r_33, runC.sl.r_34, runC.sl.r_35, runC.sl.r_36, runC.sl.r_37, runC.sl.r_38, runC.sl.r_39, runC.sl.r_40, runC.sl.r_41, runC.sl.r_42, runC.sl.r_43, runC.sl.r_44, runC.sl.r_45, runC.sl.r_46, runC.sl.cst_230, ldU, ld_rows, ld_rowsA]
  rfl

end Cert.FfnInIdeal.Run

end
-- ==== Proof.FfnInRead.lean ====
module

public import proofs.«01_k».proof.Proof.FfnInSpec

/-! Reading back what one grid point stores. -/

@[expose] public section

set_option maxRecDepth 16384
set_option maxHeartbeats 4000000

noncomputable section

namespace Cert.FfnInIdeal.Run

open Cert.FfnInIdeal.Gen
open Idealize.ShloMosaic Idealize.ShloMosaic.TcCoe Idealize.ShloMosaic.Tactic
open Idealize.SL Idealize.SL.RA Idealize.SL.BI Idealize.SL.Sem

variable {F : FTy → Type} [FloatOps F]

/-- A group of 8 rows is those rows of the whole. -/
theorem mean_at (x : Vec F S64x4096 .f32) (o : ℕ) (ho : o % 8 = 0) (z : S8x128.Idx) (y : S64x128.Idx)
    (h0 : (y 0).val = o + (z 0).val) (h1 : (y 1).val = (z 1).val) : meanP x o z = meanT x y := by
  unfold meanT
  have hz : (z 0).val < 8 := (z 0).isLt
  rw [show (y 0).val / 8 * 8 = o by omega]
  congr 1
  funext a
  apply Fin.ext
  fin_cases a
  · show (z 0).val = (y 0).val % 8
    omega
  · exact h1.symm

/-- The stored groups read back as the whole. -/
theorem mean_read {sp : Space} (v : View sig .tc sp S64x128 .f32) (f : v.ty.Contents (Elt F)) (x : Vec F S64x4096 .f32) :
    v.read (Elt F) (v.writes (Elt F) f (meanL x)) = meanT x := by
  rw [View.read_writes_eq_canon v f _ (View.cover_of_tiledL (meanL x) S8x128.size (by sl_kernel_rfl))]
  funext y
  unfold meanL
  canon_tiles z h using (View.cover_of_tiledL (meanL x) S8x128.size (by sl_kernel_rfl) y)
  all_goals exact mean_at x _ (by rfl) z y (by omega) (by omega)

/-- A group of 8 rows is those rows of the whole. -/
theorem rstd_at (x : Vec F S64x4096 .f32) (o : ℕ) (ho : o % 8 = 0) (z : S8x128.Idx) (y : S64x128.Idx)
    (h0 : (y 0).val = o + (z 0).val) (h1 : (y 1).val = (z 1).val) : rstdP x o z = rstdT x y := by
  unfold rstdT
  have hz : (z 0).val < 8 := (z 0).isLt
  rw [show (y 0).val / 8 * 8 = o by omega]
  congr 1
  funext a
  apply Fin.ext
  fin_cases a
  · show (z 0).val = (y 0).val % 8
    omega
  · exact h1.symm

/-- The stored groups read back as the whole. -/
theorem rstd_read {sp : Space} (v : View sig .tc sp S64x128 .f32) (f : v.ty.Contents (Elt F)) (x : Vec F S64x4096 .f32) :
    v.read (Elt F) (v.writes (Elt F) f (rstdL x)) = rstdT x := by
  rw [View.read_writes_eq_canon v f _ (View.cover_of_tiledL (rstdL x) S8x128.size (by sl_kernel_rfl))]
  funext y
  unfold rstdL
  canon_tiles z h using (View.cover_of_tiledL (rstdL x) S8x128.size (by sl_kernel_rfl) y)
  all_goals exact rstd_at x _ (by rfl) z y (by omega) (by omega)

/-- A group of 256 rows is those rows of the whole. -/
theorem prod_at (a : Vec F S2048x4096 .bf16) (u w : Vec F S4096x256 .bf16) (o : ℕ) (ho : o % 256 = 0) (z : S256x256.Idx) (y : S2048x256.Idx)
    (h0 : (y 0).val = o + (z 0).val) (h1 : (y 1).val = (z 1).val) : prodP a u w o z = prodT a u w y := by
  unfold prodT
  have hz : (z 0).val < 256 := (z 0).isLt
  rw [show (y 0).val / 256 * 256 = o by omega]
  congr 1
  funext a
  apply Fin.ext
  fin_cases a
  · show (z 0).val = (y 0).val % 256
    omega
  · exact h1.symm

/-- The stored groups read back as the whole. -/
theorem prod_read {sp : Space} (v : View sig .tc sp S2048x256 .bf16) (f : v.ty.Contents (Elt F)) (a : Vec F S2048x4096 .bf16) (u w : Vec F S4096x256 .bf16) :
    v.read (Elt F) (v.writes (Elt F) f (prodL a u w)) = prodT a u w := by
  rw [View.read_writes_eq_canon v f _ (View.cover_of_tiledL (prodL a u w) S256x256.size (by sl_kernel_rfl))]
  funext y
  unfold prodL
  canon_tiles z h using (View.cover_of_tiledL (prodL a u w) S256x256.size (by sl_kernel_rfl) y)
  all_goals exact prod_at a u w _ (by rfl) z y (by omega) (by omega)

/-- The stored cast reads back. -/
theorem castO_read {sp : Space} (v : View sig .tc sp S32x4096 .bf16) (f : v.ty.Contents (Elt F)) (x : Vec F S1x32x4096 .f32) :
    v.read (Elt F) (v.writes (Elt F) f (castOL x)) = castO x := by
  funext y
  exact View.read_writes_cons_rows_of_mem v f _ _ _ y y (o := 0) rfl (Nat.zero_add _).symm rfl

/-- The stored cast reads back. -/
theorem castG_read {sp : Space} (v : View sig .tc sp S16x4096 .bf16) (f : v.ty.Contents (Elt F)) (x : Vec F S1x16x4096 .f32) :
    v.read (Elt F) (v.writes (Elt F) f (castGL x)) = castG x := by
  funext y
  exact View.read_writes_cons_rows_of_mem v f _ _ _ y y (o := 0) rfl (Nat.zero_add _).symm rfl

/-- A slab stored in a row buffer from row `o`: those rows are the slab's, the others as they were. -/
theorem slab_read {sp : Space} (v : View sig .tc sp S2048x4096 .bf16) (f : v.ty.Contents (Elt F)) (x : Vec F S64x4096 .f32) (w b : Vec F S1x4096 .f32)
    (o : ℕ) (o0 o1 o2 o3 : Fin 2 → ℕ)
    (i0 : ∀ a, o0 a + S16x4096.size a ≤ S2048x4096.size a) (i1 : ∀ a, o1 a + S16x4096.size a ≤ S2048x4096.size a)
    (i2 : ∀ a, o2 a + S16x4096.size a ≤ S2048x4096.size a) (i3 : ∀ a, o3 a + S16x4096.size a ≤ S2048x4096.size a)
    (e0 : o0 = ![o, 0]) (e1 : o1 = ![o + 16, 0]) (e2 : o2 = ![o + 32, 0]) (e3 : o3 = ![o + 48, 0]) (y : S2048x4096.Idx) :
    v.read (Elt F) (v.writes (Elt F) f (slabL x w b o0 o1 o2 o3 i0 i1 i2 i3)) y
      = if h : o ≤ (y 0).val ∧ (y 0).val < o + 64 then slab x w b (ix2 (⟨(y 0).val - o, by omega⟩ : Fin 64) (y 1))
        else v.read (Elt F) f y := by
  unfold slabL
  have key : ∀ (d k : ℕ) (hd : k < 16) (_ : d % 16 = 0) (hdk : d + k < 64) (hy : (y 0).val = o + d + k),
      piece x w b d (ix2 (⟨k, hd⟩ : Fin 16) (y 1)) = slab x w b (ix2 (⟨(y 0).val - o, by omega⟩ : Fin 64) (y 1)) := by
    intro d k hd h16 hdk hy
    unfold slab
    show _ = piece x w b (((y 0).val - o) / 16 * 16) (ix2 (⟨((y 0).val - o) % 16, _⟩ : Fin 16) (y 1))
    rw [show ((y 0).val - o) / 16 * 16 = d by omega]
    congr 2
    apply Fin.ext
    show k = ((y 0).val - o) % 16
    omega
  have mem : ∀ (d : ℕ) (off : Fin 2 → ℕ) (inb : ∀ a, off a + S16x4096.size a ≤ S2048x4096.size a) (eo : off = ![o + d, 0]) (_ : d % 16 = 0) (_ : d + 16 ≤ 64)
      (L : List (View.Piece (Elt F) S2048x4096 .bf16)) (h1 : o + d ≤ (y 0).val) (h2 : (y 0).val < o + d + 16),
      v.read (Elt F) (v.writes (Elt F) f (⟨Rect.unit (s := S2048x4096) off S16x4096.size inb, piece x w b d⟩ :: L)) y
        = slab x w b (ix2 (⟨(y 0).val - o, by omega⟩ : Fin 64) (y 1)) := by
    intro d off inb eo hd hd2 L h1 h2
    refine (View.read_writes_cons_rows_of_mem v f inb (piece x w b d) L y (ix2 (⟨(y 0).val - (o + d), by omega⟩ : Fin 16) (y 1)) eo ?_ rfl).trans
      (key d _ _ hd (by omega) ?_)
    · show (y 0).val = o + d + ((y 0).val - (o + d)); omega
    · omega
  have out : ∀ (d : ℕ) (off : Fin 2 → ℕ) (inb : ∀ a, off a + S16x4096.size a ≤ S2048x4096.size a) (eo : off = ![o + d, 0])
      (L : List (View.Piece (Elt F) S2048x4096 .bf16)) (h : (y 0).val < o + d ∨ o + d + 16 ≤ (y 0).val),
      v.read (Elt F) (v.writes (Elt F) f (⟨Rect.unit (s := S2048x4096) off S16x4096.size inb, piece x w b d⟩ :: L)) y
        = v.read (Elt F) (v.writes (Elt F) f L) y :=
    fun d off inb eo L h => View.read_writes_cons_rows_of_not_mem v f inb (piece x w b d) L y eo rfl h
  by_cases h3 : o + 48 ≤ (y 0).val ∧ (y 0).val < o + 64
  · rw [dif_pos (by omega), mem 48 o3 i3 e3 rfl (by omega) _ (by omega) (by omega)]
  rw [out 48 o3 i3 e3 _ (by omega)]
  by_cases h2 : o + 32 ≤ (y 0).val ∧ (y 0).val < o + 48
  · rw [dif_pos (by omega), mem 32 o2 i2 e2 rfl (by omega) _ (by omega) (by omega)]
  rw [out 32 o2 i2 e2 _ (by omega)]
  by_cases h1 : o + 16 ≤ (y 0).val ∧ (y 0).val < o + 32
  · rw [dif_pos (by omega), mem 16 o1 i1 e1 rfl (by omega) _ (by omega) (by omega)]
  rw [out 16 o1 i1 e1 _ (by omega)]
  by_cases h0 : o ≤ (y 0).val ∧ (y 0).val < o + 16
  · rw [dif_pos (by omega), mem 0 o0 i0 e0 rfl (by omega) _ (by omega) (by omega)]
  rw [out 0 o0 i0 e0 _ (by omega), dif_neg (by omega)]
  rfl

end Cert.FfnInIdeal.Run

end
-- ==== Proof.FfnInFrame.lean ====
module

public import proofs.«01_k».proof.Proof.FfnInRead
public import proofs.«01_k».proof.Proof.Gen.FfnInIdeal.Frame
public import Idealize.ShloMosaic.Lib.Pipeline.ValueKit
public import Idealize.ShloMosaic.Lib.Pipeline.ReadBack

/-! The invariant of the loop over the grid, the body's obligation at every point, and the launch. -/

@[expose] public section

set_option maxRecDepth 16384
set_option maxHeartbeats 4000000

noncomputable section

namespace Cert.FfnInIdeal.Run

open Cert.FfnInIdeal Cert.FfnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The grid's points -/

/-- The branch taken at a point, its inner coordinate, and whether the output tile is written back there. -/
theorem at_A : ∀ t : Fin cfg0.N, t.val / 43 = 0 → k0_cond1 (grid0.coords t) = 1#1 ∧ ¬ k0_cond2 (grid0.coords t) = 1#1 ∧ ¬ k0_cond3 (grid0.coords t) = 1#1
    ∧ win0_7.flush t = false :=
  (by decide +kernel : ∀ t : Fin grid0.N, _)
theorem at_B : ∀ t : Fin cfg0.N, ¬ t.val / 43 = 0 → t.val / 43 % 2 = 0 → ¬ k0_cond1 (grid0.coords t) = 1#1 ∧ k0_cond2 (grid0.coords t) = 1#1 ∧ ¬ k0_cond3 (grid0.coords t) = 1#1 :=
  (by decide +kernel : ∀ t : Fin grid0.N, _)
theorem at_C : ∀ t : Fin cfg0.N, ¬ t.val / 43 = 0 → ¬ t.val / 43 % 2 = 0 → ¬ k0_cond1 (grid0.coords t) = 1#1 ∧ ¬ k0_cond2 (grid0.coords t) = 1#1 ∧ k0_cond3 (grid0.coords t) = 1#1 :=
  (by decide +kernel : ∀ t : Fin grid0.N, _)
theorem inner : ∀ t : Fin cfg0.N, (grid0.coords t 1).val = t.val % 43 :=
  (by decide +kernel : ∀ t : Fin grid0.N, _)

/-- The rows' and the affine map's block indices. -/
theorem idx_in : ∀ t : Fin cfg0.N, win0_0.index t = ![if t.val / 43 < 8 then t.val / 43 * 32 + min (t.val % 43) 31 else 255, 0]
    ∧ win0_1.index t = ![0, 0] ∧ win0_2.index t = ![0, 0] :=
  (by decide +kernel : ∀ t : Fin grid0.N, _)

/-- The point at inner coordinate `s` of outer coordinate `g`. -/
def pt (g s : ℕ) : Fin cfg0.N := ⟨(g * 43 + s) % 387, Nat.mod_lt _ (by omega)⟩

theorem pt_val (g s : ℕ) (hg : g < 9) (hs : s < 43) : (pt g s).val = g * 43 + s := Nat.mod_eq_of_lt (by omega)

section
variable (m : (ℓ : Loc nD τ sig) → Buf (Elt F) ℓ)

theorem iblk_0 (c : Dev nD) (t : Fin cfg0.N) (p : Fin 64) (k : Fin 4096) : iblk m c 0 t (ix2 p k)
    = m (c.tc.loc main_arg0) (ix2 (⟨(if t.val / 43 < 8 then t.val / 43 * 32 + min (t.val % 43) 31 else 255) * 64 + p.val, by split_ifs <;> omega⟩ : Fin 16384) k) := by
  blk_ext [iblk, V, idx_in t]
theorem iblk_1 (c : Dev nD) (t : Fin cfg0.N) (k : Fin 4096) : iblk m c 1 t (ix2 0 k) = V m c main_v1 (ix2 0 k) := by
  blk_ext [iblk, idx_in t]
theorem iblk_2 (c : Dev nD) (t : Fin cfg0.N) (k : Fin 4096) : iblk m c 2 t (ix2 0 k) = V m c main_v2 (ix2 0 k) := by
  blk_ext [iblk, idx_in t]

theorem iblk_0_pt (c : Dev nD) (t : Fin cfg0.N) (h : t.val / 43 < 8) : (iblk m c 0 t : Vec F S64x4096 .f32) = iblk m c 0 (pt (t.val / 43) (min (t.val % 43) 31)) := by
  funext y
  obtain ⟨p, k, rfl⟩ : ∃ (p : Fin 64) (k : Fin 4096), y = ix2 p k := ⟨y 0, y 1, by funext a; fin_cases a <;> rfl⟩
  have hv := pt_val (t.val / 43) (min (t.val % 43) 31) (by omega) (by omega)
  refine (iblk_0 m c t p k).trans (Eq.trans ?_ (iblk_0 m c _ p k).symm)
  have e1 : (pt (t.val / 43) (min (t.val % 43) 31)).val / 43 = t.val / 43 := by omega
  have e2 : min ((pt (t.val / 43) (min (t.val % 43) 31)).val % 43) 31 = min (t.val % 43) 31 := by omega
  simp only [e1, e2]
theorem iblk_1_pt (c : Dev nD) (t u : Fin cfg0.N) : (iblk m c 1 t : Vec F S1x4096 .f32) = iblk m c 1 u := by
  funext y
  obtain ⟨k, rfl⟩ : ∃ (k : Fin 4096), y = ix2 0 k := ⟨y 1, by funext a; fin_cases a; exact Fin.ext (Nat.lt_one_iff.1 (y 0).isLt); rfl⟩
  exact (iblk_1 m c t k).trans (iblk_1 m c u k).symm
theorem iblk_2_pt (c : Dev nD) (t u : Fin cfg0.N) : (iblk m c 2 t : Vec F S1x4096 .f32) = iblk m c 2 u := by
  funext y
  obtain ⟨k, rfl⟩ : ∃ (k : Fin 4096), y = ix2 0 k := ⟨y 1, by funext a; fin_cases a; exact Fin.ext (Nat.lt_one_iff.1 (y 0).isLt); rfl⟩
  exact (iblk_2 m c t k).trans (iblk_2 m c u k).symm

/-! ## What the row buffers hold -/

/-- A row buffer after one slab is stored at row `o`. -/
def grow (x : Vec F S64x4096 .f32) (w b : Vec F S1x4096 .f32) (o : ℕ) (s : Vec F S2048x4096 .bf16) : Vec F S2048x4096 .bf16 := fun y =>
  if h : o ≤ (y 0).val ∧ (y 0).val < o + 64 then slab x w b (ix2 (⟨(y 0).val - o, by omega⟩ : Fin 64) (y 1)) else s y

/-- The normalized rows of the `g`-th tile. -/
def filled (c : Dev nD) (g : ℕ) : Vec F S2048x4096 .bf16 := fun y =>
  slab (iblk m c 0 (pt g ((y 0).val / 64))) (iblk m c 1 (pt g ((y 0).val / 64))) (iblk m c 2 (pt g ((y 0).val / 64)))
    (ix2 (⟨(y 0).val % 64, Nat.mod_lt _ (by omega)⟩ : Fin 64) (y 1))

/-- Before point `n` the row buffer being filled has the slabs stored so far, and the other one the whole previous tile. -/
def Inv (c : Dev nD) (n : ℕ) (s0 s1 : Vec F S2048x4096 .bf16) : Prop := ∀ y : S2048x4096.Idx,
  (n / 43 < 8 → (y 0).val < min (n % 43) 32 * 64 → (if n / 43 % 2 = 0 then s0 else s1) y = filled m c (n / 43) y)
  ∧ (1 ≤ n / 43 → n / 43 < 9 → (if n / 43 % 2 = 0 then s1 else s0) y = filled m c (n / 43 - 1) y)

theorem inv_zero (c : Dev nD) (s0 s1 : Vec F S2048x4096 .bf16) : Inv m c 0 s0 s1 := fun y =>
  ⟨fun _ h => absurd h (by simp), fun h => absurd h (by simp)⟩

/-- Storing a point's slab extends what is stored by it. -/
theorem grow_filled (c : Dev nD) (t : Fin cfg0.N) (ht : t.val / 43 < 8) (s : Vec F S2048x4096 .bf16)
    (hs : ∀ y : S2048x4096.Idx, (y 0).val < min (t.val % 43) 32 * 64 → s y = filled m c (t.val / 43) y)
    (y : S2048x4096.Idx) (hy : (y 0).val < min (t.val % 43 + 1) 32 * 64) :
    grow (iblk m c 0 t) (iblk m c 1 t) (iblk m c 2 t) (64 * min (t.val % 43) 31) s y = filled m c (t.val / 43) y := by
  unfold grow
  split_ifs with h
  · unfold filled
    have e : (y 0).val / 64 = min (t.val % 43) 31 := by omega
    have e' : (y 0).val - 64 * min (t.val % 43) 31 = (y 0).val % 64 := by omega
    rw [iblk_0_pt m c t ht, iblk_1_pt m c t (pt (t.val / 43) (min (t.val % 43) 31)), iblk_2_pt m c t (pt (t.val / 43) (min (t.val % 43) 31)), e]
    simp only [e']
  · exact hs y (by omega)

theorem inv_even (c : Dev nD) (t : Fin cfg0.N) (hg : t.val / 43 % 2 = 0) (s0 s1 : Vec F S2048x4096 .bf16) (h : Inv m c t.val s0 s1) :
    Inv m c (t.val + 1) (grow (iblk m c 0 t) (iblk m c 1 t) (iblk m c 2 t) (64 * min (t.val % 43) 31) s0) s1 := by
  have hc : t.val / 43 < 8 → ∀ y : S2048x4096.Idx, (y 0).val < min (t.val % 43) 32 * 64 → s0 y = filled m c (t.val / 43) y := fun h8 y hy => by
    have := (h y).1 h8 hy
    rwa [if_pos hg] at this
  intro y
  have hy0 : (y 0).val < 2048 := (y 0).isLt
  by_cases hj : t.val % 43 < 42
  · rw [show (t.val + 1) / 43 = t.val / 43 by omega, show (t.val + 1) % 43 = t.val % 43 + 1 by omega, if_pos hg, if_pos hg]
    refine ⟨fun h8 hy => grow_filled m c t h8 s0 (hc h8) y hy, fun h1 h9 => ?_⟩
    have := (h y).2 h1 h9
    rwa [if_pos hg] at this
  · have hj' : t.val % 43 = 42 := by omega
    rw [show (t.val + 1) / 43 = t.val / 43 + 1 by omega, show (t.val + 1) % 43 = 0 by omega, if_neg (show ¬ (t.val / 43 + 1) % 2 = 0 by omega), if_neg (show ¬ (t.val / 43 + 1) % 2 = 0 by omega)]
    exact ⟨fun _ hy => absurd hy (by simp), fun _ h9 => grow_filled m c t (by omega) s0 (hc (by omega)) y (by omega)⟩

theorem inv_odd (c : Dev nD) (t : Fin cfg0.N) (hg : ¬ t.val / 43 % 2 = 0) (s0 s1 : Vec F S2048x4096 .bf16) (h : Inv m c t.val s0 s1) :
    Inv m c (t.val + 1) s0 (grow (iblk m c 0 t) (iblk m c 1 t) (iblk m c 2 t) (64 * min (t.val % 43) 31) s1) := by
  have hc : t.val / 43 < 8 → ∀ y : S2048x4096.Idx, (y 0).val < min (t.val % 43) 32 * 64 → s1 y = filled m c (t.val / 43) y := fun h8 y hy => by
    have := (h y).1 h8 hy
    rwa [if_neg hg] at this
  intro y
  have hy0 : (y 0).val < 2048 := (y 0).isLt
  by_cases hj : t.val % 43 < 42
  · rw [show (t.val + 1) / 43 = t.val / 43 by omega, show (t.val + 1) % 43 = t.val % 43 + 1 by omega, if_neg hg, if_neg hg]
    refine ⟨fun h8 hy => grow_filled m c t h8 s1 (hc h8) y hy, fun h1 h9 => ?_⟩
    have := (h y).2 h1 h9
    rwa [if_neg hg] at this
  · have hj' : t.val % 43 = 42 := by omega
    rw [show (t.val + 1) / 43 = t.val / 43 + 1 by omega, show (t.val + 1) % 43 = 0 by omega, if_pos (show (t.val / 43 + 1) % 2 = 0 by omega), if_pos (show (t.val / 43 + 1) % 2 = 0 by omega)]
    exact ⟨fun _ hy => absurd hy (by simp), fun _ h9 => grow_filled m c t (by omega) s1 (hc (by omega)) y (by omega)⟩

/-- The row buffer the products read holds the previous tile. -/
theorem inv_prev_even (c : Dev nD) (t : Fin cfg0.N) (h0 : ¬ t.val / 43 = 0) (hg : t.val / 43 % 2 = 0) (s0 s1 : Vec F S2048x4096 .bf16) (h : Inv m c t.val s0 s1) :
    s1 = filled m c (t.val / 43 - 1) := by
  funext y
  have ht : t.val < 387 := t.isLt
  have := (h y).2 (by omega) (by omega)
  rwa [if_pos hg] at this
theorem inv_prev_odd (c : Dev nD) (t : Fin cfg0.N) (h0 : ¬ t.val / 43 = 0) (hg : ¬ t.val / 43 % 2 = 0) (s0 s1 : Vec F S2048x4096 .bf16) (h : Inv m c t.val s0 s1) :
    s0 = filled m c (t.val / 43 - 1) := by
  funext y
  have ht : t.val < 387 := t.isLt
  have := (h y).2 (by omega) (by omega)
  rwa [if_neg hg] at this

/-- What a row buffer reads once a slab's pieces are written over it. -/
theorem grow_read {sp : Space} (a : Memref sig .tc sp S2048x4096 .bf16) (ha : a.IsWhole) (s : Vec F S2048x4096 .bf16) (x : Vec F S64x4096 .f32) (w b : Vec F S1x4096 .f32)
    (o : ℕ) (o0 o1 o2 o3 : Fin 2 → ℕ)
    (i0 : ∀ a, o0 a + S16x4096.size a ≤ S2048x4096.size a) (i1 : ∀ a, o1 a + S16x4096.size a ≤ S2048x4096.size a)
    (i2 : ∀ a, o2 a + S16x4096.size a ≤ S2048x4096.size a) (i3 : ∀ a, o3 a + S16x4096.size a ≤ S2048x4096.size a)
    (e0 : o0 = ![o, 0]) (e1 : o1 = ![o + 16, 0]) (e2 : o2 = ![o + 32, 0]) (e3 : o3 = ![o + 48, 0]) :
    a.view.read (Elt F) (a.view.writes (Elt F) (ha.unread s) (slabL x w b o0 o1 o2 o3 i0 i1 i2 i3)) = grow x w b o s := by
  funext y
  rw [slab_read a.view _ x w b o o0 o1 o2 o3 i0 i1 i2 i3 e0 e1 e2 e3 y]
  unfold grow
  rw [ha.read_unread]

/-! ## The loop's invariant and the proof data -/

abbrev sc0 : Memref sig .tc .vmem S2048x4096 .bf16 := Memref.whole cc0_scratch0
abbrev sc1 : Memref sig .tc .vmem S2048x4096 .bf16 := Memref.whole cc0_scratch1
abbrev sc2 : Memref sig .tc .vmem S2048x128 .f32 := Memref.whole cc0_scratch2
abbrev sc3 : Memref sig .tc .vmem S2048x128 .f32 := Memref.whole cc0_scratch3
abbrev sc4 : Memref sig .tc .vmem S2048x128 .f32 := Memref.whole cc0_scratch4
abbrev sc5 : Memref sig .tc .vmem S2048x128 .f32 := Memref.whole cc0_scratch5

/-- The buffers the body keeps between points: the row buffers as `Inv` says, the others at anything. -/
def Phi (c : Dev nD) (n : ℕ) : sProp (RunM F) :=
  iprop((∃ s0 s1, ⌜Inv m c n s0 s1⌝ ∗ owns (c : Thread nD τ) sc0 fullShare s0 ∗ owns (c : Thread nD τ) sc1 fullShare s1)
    ∗ (∃ d, owns (c : Thread nD τ) sc2 fullShare d) ∗ (∃ d, owns (c : Thread nD τ) sc3 fullShare d)
    ∗ (∃ d, owns (c : Thread nD τ) sc4 fullShare d) ∗ (∃ d, owns (c : Thread nD τ) sc5 fullShare d) ∗ (∃ r, prngReg c r))

/-- The buffers the launch hands over, as memrefs owned at some contents. -/
theorem phiA_eq (c : Dev nD) : (Pipeline.ΦA spec0 c : sProp (RunM F))
    = iprop(iprop((∃ d, owns (c : Thread nD τ) sc0 fullShare d) ∗ (∃ d, owns (c : Thread nD τ) sc1 fullShare d) ∗ (∃ d, owns (c : Thread nD τ) sc2 fullShare d)
      ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

theorem phi_in (c : Dev nD) : (Pipeline.ΦA spec0 c : sProp (RunM F)) ⊢ Phi m c 0 := by
  rw [phiA_eq]; unfold Phi
  iintro ⟨⟨⟨%s0, H0⟩, ⟨%s1, H1⟩, H2, H3, H4, H5⟩, Hg⟩
  isplitl [H0 H1]
  · iexists s0; iexists s1
    isplitr
    · ipureintro; exact inv_zero m c s0 s1
    isplitl [H0]; · iexact H0
    iexact H1
  isplitl [H2]; · iexact H2
  isplitl [H3]; · iexact H3
  isplitl [H4]; · iexact H4
  isplitl [H5]; · iexact H5
  iexact Hg

theorem phi_out (c : Dev nD) (n : ℕ) : Phi m c n ⊢ (Pipeline.ΦA spec0 c : sProp (RunM F)) := by
  rw [phiA_eq]; unfold Phi
  iintro ⟨⟨%s0, %s1, -, H0, H1⟩, H2, H3, H4, H5, Hg⟩
  isplitr [Hg]
  · isplitl [H0]; · iexists _; iexact H0
    isplitl [H1]; · iexists _; iexact H1
    isplitl [H2]; · iexact H2
    isplitl [H3]; · iexact H3
    isplitl [H4]; · iexact H4
    iexact H5
  iexact Hg

/-- The proof data: every input's block stays in place; the output tile is the previous rows' products, the row statistics and the casts the point's own. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => prodT (filled m c (t.val / 43 - 1)) (iblk m c 3 t) (iblk m c 4 t)
    | ⟨8, _⟩ => meanT (iblk m c 0 t)
    | ⟨9, _⟩ => rstdT (iblk m c 0 t)
    | ⟨10, _⟩ => castO (iblk m c 5 t)
    | ⟨11, _⟩ => castG (iblk m c 6 t)
  Φ t := Phi m c t.val
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = prodT (filled m c (t.val / 43 - 1)) (iblk m c 3 t) (iblk m c 4 t) := by dsimp only [dats]
theorem after_8 (c : Dev nD) (t : Fin cfg0.N) : (dats m 0 c).after 8 t = meanT (iblk m c 0 t) := by dsimp only [dats]
theorem after_9 (c : Dev nD) (t : Fin cfg0.N) : (dats m 0 c).after 9 t = rstdT (iblk m c 0 t) := by dsimp only [dats]
theorem after_10 (c : Dev nD) (t : Fin cfg0.N) : (dats m 0 c).after 10 t = castO (iblk m c 5 t) := by dsimp only [dats]
theorem after_11 (c : Dev nD) (t : Fin cfg0.N) : (dats m 0 c).after 11 t = castG (iblk m c 6 t) := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d

theorem phi_pre (c : Dev nD) (t : Fin cfg0.N) : (dats m 0 c).Φ t.castSucc = Phi m c t.val := by
  dsimp only [dats]; exact Dat.Φ_castSucc (fun n _ => Phi m c n) t
theorem phi_post (c : Dev nD) (t : Fin cfg0.N) : (dats m 0 c).Φ t.succ = Phi m c (t.val + 1) := by
  dsimp only [dats]; rfl

/-! ## The body at one point -/

/-- What the body is called with. -/
def pre (c : Dev nD) (t : Fin cfg0.N) : sProp (RunM F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What it returns, the output tile's buffer as `R` says. -/
def post (c : Dev nD) (t : Fin cfg0.N) (R : sProp (RunM F)) : sProp (RunM F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ R
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

theorem sound_A (c : Dev nD) (t : Fin cfg0.N) (h0 : t.val / 43 = 0) :
    pre m c t ⊢ wp frame (wpE (defs₀ (F := F)) Variants.none c none) Set.univ (bodyAt0 t) (fun _ => post m c t iprop(∃ d, owns (c : Thread nD τ) (st0_7 t) fullShare ((dats m 0 c).before 7 t d))) := by
  obtain ⟨h1, h2, h3, -⟩ := at_A t h0
  have hg : t.val / 43 % 2 = 0 := by omega
  unfold pre post bodyAt0
  simp only [before_0, before_1, before_2, before_3, before_4, before_5, before_6]
  rw [show (dats m 0 c).owesAt () t.succ = (dats m 0 c).owesAt () t.castSucc from rfl, phi_pre, phi_post,
    after_0, after_1, after_2, after_3, after_4, after_5, after_6, after_8, after_9, after_10, after_11]
  unfold Phi
  iintro ⟨⟨⟨%s0, %s1, %hi, HS0, HS1⟩, HS2, HS3, HS4, HS5, Hg⟩, Ho, ⟨%d0, H0⟩, ⟨%d1, H1⟩, ⟨%d2, H2⟩, ⟨%d3, H3⟩, ⟨%d4, H4⟩, ⟨%d5, H5⟩, ⟨%d6, H6⟩, H7, ⟨%d8, H8⟩, ⟨%d9, H9⟩, ⟨%d10, H10⟩, ⟨%d11, H11⟩⟩
  iapply ((runA (F := F) c (grid0.coords t) h1 h2 h3 _ _ _ _ _ _ _ _ _ _ _ _ _ _ _ _ _ _ _ _ _ _ _ _ _ _ _ _ _ _ _ _ _ _ _ _ (iblk m c 0 t) (iblk m c 1 t) (iblk m c 2 t) (iblk m c 5 t) (iblk m c 6 t) s0).2.2.2.2.2.2.2 Set.univ _)
  isplitl [H0]; · iexact H0
  isplitl [H1]; · iexact H1
  isplitl [H2]; · iexact H2
  isplitl [H5]; · iexact H5
  isplitl [H6]; · iexact H6
  isplitl [HS0]; · iexact HS0
  isplitl [H8]; · iexists _; iexact H8
  isplitl [H9]; · iexists _; iexact H9
  isplitl [H10]; · iexists _; iexact H10
  isplitl [H11]; · iexists _; iexact H11
  isplitl [HS2]; · iexact HS2
  isplitl [HS4]; · iexact HS4
  iintro ⟨H0, H1, H2, H5, H6, HS0, ⟨%e8, H8⟩, ⟨%e9, H9⟩, ⟨%e10, H10⟩, ⟨%e11, H11⟩, ⟨%fHS2, HS2⟩, ⟨%fHS4, HS4⟩⟩
  isplitl [HS0 HS1 HS2 HS3 HS4 HS5 Hg]
  · isplitl [HS0 HS1]
    · iexists (grow (iblk m c 0 t) (iblk m c 1 t) (iblk m c 2 t) (64 * min (t.val % 43) 31) s0); iexists s1
      isplitr
      · ipureintro; exact inv_even m c t hg s0 s1 hi
      isplitl [HS0]
      · unfold owns; iexists _; isplitr
        swap; · iexact HS0
        ipureintro; rw [slab_A]
        exact grow_read _ _ _ _ _ _ _ _ _ _ _ _ _ _ _ (by rw [← inner t]; exact k0_off2_eq _ 0) (by rw [← inner t]; exact k0_off2_eq _ 1) (by rw [← inner t]; exact k0_off2_eq _ 2) (by rw [← inner t]; exact k0_off2_eq _ 3)
      iexact HS1
    isplitl [HS2]
    · iexists _; unfold owns; iexists _; isplitr
      swap; · iexact HS2
      ipureintro; rfl
    isplitl [HS3]; · iexact HS3
    isplitl [HS4]
    · iexists _; unfold owns; iexists _; isplitr
      swap; · iexact HS4
      ipureintro; rfl
    isplitl [HS5]; · iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; rw [mean_A]; exact mean_read _ _ _
  isplitl [H9]
  · unfold owns; iexists _; isplitr
    swap; · iexact H9
    ipureintro; rw [rstd_A]; exact rstd_read _ _ _
  isplitl [H10]
  · unfold owns; iexists _; isplitr
    swap; · iexact H10
    ipureintro; rw [castO_A]; exact castO_read _ _ _
  unfold owns; iexists _; isplitr
  swap; · iexact H11
  ipureintro; rw [castG_A]; exact castG_read _ _ _

theorem sound_B (c : Dev nD) (t : Fin cfg0.N) (h0 : ¬ t.val / 43 = 0) (hg : t.val / 43 % 2 = 0) :
    pre m c t ⊢ wp frame (wpE (defs₀ (F := F)) Variants.none c none) Set.univ (bodyAt0 t) (fun _ => post m c t (owns (c : Thread nD τ) (st0_7 t) fullShare ((dats m 0 c).after 7 t))) := by
  obtain ⟨h1, h2, h3⟩ := at_B t h0 hg
  unfold pre post bodyAt0
  simp only [before_0, before_1, before_2, before_3, before_4, before_5, before_6]
  rw [show (dats m 0 c).owesAt () t.succ = (dats m 0 c).owesAt () t.castSucc from rfl, phi_pre, phi_post,
    after_0, after_1, after_2, after_3, after_4, after_5, after_6, after_7, after_8, after_9, after_10, after_11]
  unfold Phi
  iintro ⟨⟨⟨%s0, %s1, %hi, HS0, HS1⟩, HS2, HS3, HS4, HS5, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runB (F := F) c (grid0.coords t) h1 h2 h3 _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) s1 s0).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS1]; · iexact HS1
  isplitl [HS0]; · iexact HS0
  isplitl [H7]; · iexists _; iexact H7
  isplitl [H8]; · iexists _; iexact H8
  isplitl [H9]; · iexists _; iexact H9
  isplitl [H10]; · iexists _; iexact H10
  isplitl [H11]; · iexists _; iexact H11
  isplitl [HS2]; · iexact HS2
  isplitl [HS4]; · iexact HS4
  iintro ⟨H0, H1, H2, H3, H4, H5, H6, HS1, HS0, ⟨%e7, H7⟩, ⟨%e8, H8⟩, ⟨%e9, H9⟩, ⟨%e10, H10⟩, ⟨%e11, H11⟩, ⟨%fHS2, HS2⟩, ⟨%fHS4, HS4⟩⟩
  isplitl [HS0 HS1 HS2 HS3 HS4 HS5 Hg]
  · isplitl [HS0 HS1]
    · iexists (grow (iblk m c 0 t) (iblk m c 1 t) (iblk m c 2 t) (64 * min (t.val % 43) 31) s0); iexists s1
      isplitr
      · ipureintro; exact inv_even m c t hg s0 s1 hi
      isplitl [HS0]
      · unfold owns; iexists _; isplitr
        swap; · iexact HS0
        ipureintro; rw [slab_B]
        exact grow_read _ _ _ _ _ _ _ _ _ _ _ _ _ _ _ (by rw [← inner t]; exact k0_off4_eq _ 0) (by rw [← inner t]; exact k0_off4_eq _ 1) (by rw [← inner t]; exact k0_off4_eq _ 2) (by rw [← inner t]; exact k0_off4_eq _ 3)
      iexact HS1
    isplitl [HS2]
    · iexists _; unfold owns; iexists _; isplitr
      swap; · iexact HS2
      ipureintro; rfl
    isplitl [HS3]; · iexact HS3
    isplitl [HS4]
    · iexists _; unfold owns; iexists _; isplitr
      swap; · iexact HS4
      ipureintro; rfl
    isplitl [HS5]; · iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; rw [prod_B, inv_prev_even m c t h0 hg s0 s1 hi]; exact prod_read _ _ _ _ _
  isplitl [H8]
  · unfold owns; iexists _; isplitr
    swap; · iexact H8
    ipureintro; rw [mean_B]; exact mean_read _ _ _
  isplitl [H9]
  · unfold owns; iexists _; isplitr
    swap; · iexact H9
    ipureintro; rw [rstd_B]; exact rstd_read _ _ _
  isplitl [H10]
  · unfold owns; iexists _; isplitr
    swap; · iexact H10
    ipureintro; rw [castO_B]; exact castO_read _ _ _
  unfold owns; iexists _; isplitr
  swap; · iexact H11
  ipureintro; rw [castG_B]; exact castG_read _ _ _

theorem sound_C (c : Dev nD) (t : Fin cfg0.N) (h0 : ¬ t.val / 43 = 0) (hg : ¬ t.val / 43 % 2 = 0) :
    pre m c t ⊢ wp frame (wpE (defs₀ (F := F)) Variants.none c none) Set.univ (bodyAt0 t) (fun _ => post m c t (owns (c : Thread nD τ) (st0_7 t) fullShare ((dats m 0 c).after 7 t))) := by
  obtain ⟨h1, h2, h3⟩ := at_C t h0 hg
  unfold pre post bodyAt0
  simp only [before_0, before_1, before_2, before_3, before_4, before_5, before_6]
  rw [show (dats m 0 c).owesAt () t.succ = (dats m 0 c).owesAt () t.castSucc from rfl, phi_pre, phi_post,
    after_0, after_1, after_2, after_3, after_4, after_5, after_6, after_7, after_8, after_9, after_10, after_11]
  unfold Phi
  iintro ⟨⟨⟨%s0, %s1, %hi, HS0, HS1⟩, HS2, HS3, HS4, HS5, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runC (F := F) c (grid0.coords t) h1 h2 h3 _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) s0 s1).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [H7]; · iexists _; iexact H7
  isplitl [H8]; · iexists _; iexact H8
  isplitl [H9]; · iexists _; iexact H9
  isplitl [H10]; · iexists _; iexact H10
  isplitl [H11]; · iexists _; iexact H11
  isplitl [HS3]; · iexact HS3
  isplitl [HS5]; · iexact HS5
  iintro ⟨H0, H1, H2, H3, H4, H5, H6, HS0, HS1, ⟨%e7, H7⟩, ⟨%e8, H8⟩, ⟨%e9, H9⟩, ⟨%e10, H10⟩, ⟨%e11, H11⟩, ⟨%fHS3, HS3⟩, ⟨%fHS5, HS5⟩⟩
  isplitl [HS0 HS1 HS2 HS3 HS4 HS5 Hg]
  · isplitl [HS0 HS1]
    · iexists s0; iexists (grow (iblk m c 0 t) (iblk m c 1 t) (iblk m c 2 t) (64 * min (t.val % 43) 31) s1)
      isplitr
      · ipureintro; exact inv_odd m c t hg s0 s1 hi
      isplitl [HS0]; · iexact HS0
      unfold owns; iexists _; isplitr
      swap; · iexact HS1
      ipureintro; rw [slab_C]
      exact grow_read _ _ _ _ _ _ _ _ _ _ _ _ _ _ _ (by rw [← inner t]; exact k0_off6_eq _ 0) (by rw [← inner t]; exact k0_off6_eq _ 1) (by rw [← inner t]; exact k0_off6_eq _ 2) (by rw [← inner t]; exact k0_off6_eq _ 3)
    isplitl [HS2]; · iexact HS2
    isplitl [HS3]
    · iexists _; unfold owns; iexists _; isplitr
      swap; · iexact HS3
      ipureintro; rfl
    isplitl [HS4]; · iexact HS4
    isplitl [HS5]
    · iexists _; unfold owns; iexists _; isplitr
      swap; · iexact HS5
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; rw [prod_C, inv_prev_odd m c t h0 hg s0 s1 hi]; exact prod_read _ _ _ _ _
  isplitl [H8]
  · unfold owns; iexists _; isplitr
    swap; · iexact H8
    ipureintro; rw [mean_C]; exact mean_read _ _ _
  isplitl [H9]
  · unfold owns; iexists _; isplitr
    swap; · iexact H9
    ipureintro; rw [rstd_C]; exact rstd_read _ _ _
  isplitl [H10]
  · unfold owns; iexists _; isplitr
    swap; · iexact H10
    ipureintro; rw [castO_C]; exact castO_read _ _ _
  unfold owns; iexists _; isplitr
  swap; · iexact H11
  ipureintro; rw [castG_C]; exact castG_read _ _ _

theorem row (t : Fin cfg0.N) : defs₀ (F := F) .tc cfg0.body (cfg0.bodyArgs t (cfg0.slots t)) = bodyAt0 t := by
  unfold defs₀; rw [Defs.onTc_tc]

/-- The body does at every point what the proof data say. -/
theorem body (c : Dev nD) : BodyObligation (dats (F := F) m 0 c) (defs₀ (F := F)) Variants.none () Set.univ := fun t => by
  rw [bigSep_W0, bigSep_W0, row]
  have live : ∀ i : grid0.Coords, (k0_cond1 i = 1#1 ∨ k0_cond2 i = 1#1 ∨ k0_cond3 i = 1#1) →
      (!(k0_cond1 i == 1#1) && !(k0_cond2 i == 1#1) && !(k0_cond3 i == 1#1)) = false := by
    rintro i (h | h | h) <;> simp [h]
  by_cases h0 : t.val / 43 = 0
  · obtain ⟨h1, h2, h3, hf⟩ := at_A t h0
    have i7 : cfg0.idle 7 (cfg0.grid.coords t) = true := by
      show (!(k0_cond2 (grid0.coords t) == 1#1) && !(k0_cond3 (grid0.coords t) == 1#1)) = true
      simp [h2, h3]
    have i8 : cfg0.idle 8 (cfg0.grid.coords t) = false := live _ (.inl h1)
    have f7 : (cfg0.win 7).flush t = false := hf
    rw [i7, i8, f7]
    exact triple_restated (sound_A m c t h0) rfl .rfl fun _ => .rfl
  · by_cases hg : t.val / 43 % 2 = 0
    · obtain ⟨h1, h2, h3⟩ := at_B t h0 hg
      have i7 : cfg0.idle 7 (cfg0.grid.coords t) = false := by
        show (!(k0_cond2 (grid0.coords t) == 1#1) && !(k0_cond3 (grid0.coords t) == 1#1)) = false
        simp [h2]
      have i8 : cfg0.idle 8 (cfg0.grid.coords t) = false := live _ (.inr (.inl h2))
      rw [i7, i8]
      exact triple_restated (sound_B m c t h0 hg) rfl .rfl fun _ => .rfl
    · obtain ⟨h1, h2, h3⟩ := at_C t h0 hg
      have i7 : cfg0.idle 7 (cfg0.grid.coords t) = false := by
        show (!(k0_cond2 (grid0.coords t) == 1#1) && !(k0_cond3 (grid0.coords t) == 1#1)) = false
        simp [h3]
      have i8 : cfg0.idle 8 (cfg0.grid.coords t) = false := live _ (.inr (.inr h3))
      rw [i7, i8]
      exact triple_restated (sound_C m c t h0 hg) rfl .rfl fun _ => .rfl

/-! ## The run -/

variable (ρ : Dev nD → PrngReg)

set_option backward.isDefEq.respectTransparency.types false in
/-- The whole program ends with every array at what the proof data leave of it and every counter at zero. -/
theorem run : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body m c).loose) (hq := fun _ _ _ => rfl) (howed := fun _ _ => rfl) (V := V m) (hmain := hmain m Variants.none)
    (hA := A_eq m) (hin := phi_in m) (hout := fun c => phi_out m c _)

theorem run_post : θ_run defs (onTc (τ := τ) (main (F := F))) (s₀ m ρ) (Pipeline.FramePost cfgs (dats m) 0 (V m)) :=
  (θ_run defs _ _).mono (fun _ h => h.1) (run m ρ)

/-- The arguments end unchanged and the counters at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_post m ρ)) ((θ_run defs _ _).mono (fun _ h => h.2) (run m ρ))

end

end Cert.FfnInIdeal.Run

end
-- ==== Proof.FfnInValue.lean ====
/- The channel mixer's input: the kernel's five arrays are the reference's. -/
module

public import proofs.«01_k».proof.Proof.ProjSpec
public import proofs.«01_k».proof.Proof.FfnInFrame
public import proofs.«01_k».proof.Proof.Gen.FfnInRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Ffn

open Cert.Proj

/-- The mean of 4096 lanes: their sum divided by the float 4096. -/
def mean (f : Fin 4096 → EReal) : EReal := Ideal.div (∑ k, f k) (Ideal.ofBits .f32 0x45800000#32)

/-- The reciprocal of a row's deviation. -/
def rstd (f : Fin 4096 → EReal) : EReal := Ideal.rsqrt (mean (fun k => (f k - mean f) * (f k - mean f)) + Ideal.ofBits .f32 0x3727C5AC#32)

/-- LayerNorm of one row with scale and shift. -/
def norm (f w b : Fin 4096 → EReal) (k : Fin 4096) : EReal := (f k - mean f) * rstd f * w k + b k

/-- The gated product: the gate times its logistic, times the other branch. -/
def gated (g u : EReal) : EReal := g * Ideal.div 1 (1 + Ideal.exp (-g)) * u

/-- One entry of the channel mixer's hidden rows. -/
def hid (f w b u v : Fin 4096 → EReal) : EReal := gated (dense (norm f w b) u) (dense (norm f w b) v)

end Cert.Ffn

namespace Cert.FfnInRefIdeal.Value

open Cert.FfnInRefIdeal Cert.FfnInRefIdeal.Gen
open Cert.Proj Cert.Ffn
set_option maxHeartbeats 2000000

/-- The reference's means, in every lane. -/
def refMean (a0 : FVec Ideal S16384x4096 .f32) : FVec Ideal S16384x128 .f32 :=
  broadcastInDim S16384x128 ![0, 1] bcast_S16384x1_S16384x128_0_1 (Host.divf (broadcastInDim S16384x1 ![0] bcast_S16384_S16384x1_0 (Host.reduceAdd a0 (constant S_ .f32 0x00000000#32) reducesTo_S16384x4096_S16384_d1 h_S_)) (broadcastInDim S16384x1 ![] bcast_S_S16384x1 (constant S_ .f32 0x45800000#32)))

/-- The reference's reciprocal deviations, in every lane. -/
def refRstd (a0 : FVec Ideal S16384x4096 .f32) : FVec Ideal S16384x128 .f32 :=
  broadcastInDim S16384x128 ![0, 1] bcast_S16384x1_S16384x128_0_1 (Host.rsqrt (addf (Host.divf (broadcastInDim S16384x1 ![0] bcast_S16384_S16384x1_0 (Host.reduceAdd (mulf (subf a0 (broadcastInDim S16384x4096 ![0, 1] bcast_S16384x1_S16384x4096_0_1 (Host.divf (broadcastInDim S16384x1 ![0] bcast_S16384_S16384x1_0 (Host.reduceAdd a0 (constant S_ .f32 0x00000000#32) reducesTo_S16384x4096_S16384_d1 h_S_)) (broadcastInDim S16384x1 ![] bcast_S_S16384x1 (constant S_ .f32 0x45800000#32))))) (subf a0 (broadcastInDim S16384x4096 ![0, 1] bcast_S16384x1_S16384x4096_0_1 (Host.divf (broadcastInDim S16384x1 ![0] bcast_S16384_S16384x1_0 (Host.reduceAdd a0 (constant S_ .f32 0x00000000#32) reducesTo_S16384x4096_S16384_d1 h_S_)) (broadcastInDim S16384x1 ![] bcast_S_S16384x1 (constant S_ .f32 0x45800000#32)))))) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x3727C5AC#32))))

/-- The reference's casts of the two weights the later calls read. -/
def refOut (a4 : FVec Ideal S2x11008x4096 .f32) : FVec Ideal S11008x4096 .bf16 :=
  truncf .bf16 (shapeCast _ (extractStridedSlice S1x11008x4096 ![0, 0, 0] a4 slices_S2x11008x4096_S1x11008x4096_0_0_0) shapeCasts_S1x11008x4096_S11008x4096) bitsLt_bf16_f32
def refGate (a5 : FVec Ideal S2x4096x4096 .f32) : FVec Ideal S4096x4096 .bf16 :=
  truncf .bf16 (shapeCast _ (extractStridedSlice S1x4096x4096 ![0, 0, 0] a5 slices_S2x4096x4096_S1x4096x4096_0_0_0) shapeCasts_S1x4096x4096_S4096x4096) bitsLt_bf16_f32

theorem refMean_at (a0 : FVec Ideal S16384x4096 .f32) (p : Fin 16384) (k : Fin 128) : refMean a0 (ix2 p k) = mean (fun k => a0 (ix2 p k)) := by
  pointwise [refMean]; rfl
theorem refRstd_at (a0 : FVec Ideal S16384x4096 .f32) (p : Fin 16384) (k : Fin 128) : refRstd a0 (ix2 p k) = rstd (fun k => a0 (ix2 p k)) := by
  pointwise [refRstd]; rfl
theorem refOut_at (a4 : FVec Ideal S2x11008x4096 .f32) (p : Fin 11008) (q : Fin 4096) : refOut a4 (ix2 p q) = a4 (ix3 0 p q) := by
  pointwise [refOut]
theorem refGate_at (a5 : FVec Ideal S2x4096x4096 .f32) (p q : Fin 4096) : refGate a5 (ix2 p q) = a5 (ix3 0 p q) := by
  pointwise [refGate]

/-- The reference's hidden rows at a point. -/
theorem ref_at (m : (ℓ : Loc nD τ sig) → Buf (Elt Ideal) ℓ) (c : Dev nD) (p : Fin 16384) (q : Fin 11008) :
    res_main_v29 m c (ix2 p q) = hid (fun k => m (c.tc.loc main_arg0) (ix2 p k)) (fun k => m (c.tc.loc main_arg1) (ix1 k)) (fun k => m (c.tc.loc main_arg2) (ix1 k))
      (fun k => m (c.tc.loc main_arg3) (ix2 k (⟨q.val, by omega⟩ : Fin 22016))) (fun k => m (c.tc.loc main_arg3) (ix2 k (⟨11008 + q.val, by omega⟩ : Fin 22016))) := by
  pointwise [res_main_v29]
  rfl

end Cert.FfnInRefIdeal.Value

namespace Cert.FfnInIdeal.Run

open Cert.FfnInIdeal Cert.FfnInIdeal.Gen
open Cert.Proj Cert.Ffn
set_option maxHeartbeats 2000000

/-- Eight normalized rows. -/
theorem pay25_at (w b : Vec Ideal S1x4096 .f32) (v : Vec Ideal S8x4096 .f32) (i0 : ∀ a, (![0, 0] : Fin 2 → Nat) a + S1x4096.size a ≤ S1x4096.size a) (r : Fin 8) (k : Fin 4096) :
    k0_pay25 (k0_pay10 (View.ld w (Rect.unit ![0, 0] ![1, 4096] i0))) (k0_pay11 (View.ld b (Rect.unit ![0, 0] ![1, 4096] i0))) v (ix2 r k)
    = norm (fun k => v (ix2 r k)) (fun k => w (ix2 0 k)) (fun k => b (ix2 0 k)) k := by
  pointwise [k0_pay25, k0_pay24, k0_pay23, k0_pay22, k0_pay10, k0_pay11]
  rfl
theorem pay26_at (v : Vec Ideal S8x4096 .f32) (r : Fin 8) (k : Fin 128) : k0_pay26 v (ix2 r k) = mean (fun k => v (ix2 r k)) := by
  pointwise [k0_pay26, k0_pay22]
  rfl
theorem pay28_at (v : Vec Ideal S8x4096 .f32) (r : Fin 8) (k : Fin 128) : k0_pay28 (k0_pay27 v) (ix2 r k) = rstd (fun k => v (ix2 r k)) := by
  pointwise [k0_pay28, k0_pay27, k0_pay24, k0_pay23, k0_pay22]
  rfl
theorem pay31_at (a b : FVec Ideal S8x4096 .f32) (r : Fin 16) (k : Fin 4096) : k0_pay31 a b (ix2 r k)
    = if h : r.val < 8 then a (ix2 (⟨r.val, h⟩ : Fin 8) k) else b (ix2 (⟨r.val - 8, by omega⟩ : Fin 8) k) := by
  pointwise [k0_pay31]
  try rfl

/-- The logistic's denominator with the kernel's subtraction from zero. -/
theorem zero_sub' (g : EReal) : (0 : EReal) - g = -g := by rw [sub_eq_add_neg, zero_add]

/-- The eight rows from a row offset, at a point; and the 256 rows of a row buffer. -/
theorem rows_at (x : Vec Ideal S64x4096 .f32) (o : ℕ) (r : Fin 8) (p : Fin 64) (k : Fin 4096) (h : o + r.val = p.val) : rows x o (ix2 r k) = x (ix2 p k) := by
  have e : (⟨(o + r.val) % 64, Nat.mod_lt _ (by omega)⟩ : Fin 64) = p := Fin.ext (by dsimp only; omega)
  exact congrArg (fun q : Fin 64 => x (ix2 q k)) e
theorem rowsA_at (x : Vec Ideal S2048x4096 .bf16) (o : ℕ) (r : Fin 256) (p : Fin 2048) (k : Fin 4096) (h : o + r.val = p.val) : rowsA x o (ix2 r k) = x (ix2 p k) := by
  have e : (⟨(o + r.val) % 2048, Nat.mod_lt _ (by omega)⟩ : Fin 2048) = p := Fin.ext (by dsimp only; omega)
  exact congrArg (fun q : Fin 2048 => x (ix2 q k)) e

/-- A slab's normalized rows at a point. -/
theorem slab_at (x : Vec Ideal S64x4096 .f32) (w b : Vec Ideal S1x4096 .f32) (p : Fin 64) (k : Fin 4096) :
    slab x w b (ix2 p k) = norm (fun k => x (ix2 p k)) (fun k => w (ix2 0 k)) (fun k => b (ix2 0 k)) k := by
  change piece x w b (p.val / 16 * 16) (ix2 (⟨p.val % 16, by omega⟩ : Fin 16) k) = _
  unfold piece
  rw [pay31_at]
  split_ifs with h
  · refine (pay25_at w b _ _ _ k).trans ?_
    exact congrArg (fun f => norm f _ _ k) (funext fun j => rows_at x _ _ p j (by dsimp only; omega))
  · refine (pay25_at w b _ _ _ k).trans ?_
    exact congrArg (fun f => norm f _ _ k) (funext fun j => rows_at x _ _ p j (by dsimp only at h ⊢; omega))

/-- A slab's means and reciprocal deviations at a point. -/
theorem meanT_at (x : Vec Ideal S64x4096 .f32) (p : Fin 64) (q : Fin 128) : meanT x (ix2 p q) = mean (fun k => x (ix2 p k)) := by
  change k0_pay26 (rows x (p.val / 8 * 8)) (ix2 (⟨p.val % 8, by omega⟩ : Fin 8) q) = _
  exact (pay26_at _ _ q).trans (congrArg mean (funext fun j => rows_at x _ _ p j (by dsimp only; omega)))
theorem rstdT_at (x : Vec Ideal S64x4096 .f32) (p : Fin 64) (q : Fin 128) : rstdT x (ix2 p q) = rstd (fun k => x (ix2 p k)) := by
  change k0_pay28 (k0_pay27 (rows x (p.val / 8 * 8))) (ix2 (⟨p.val % 8, by omega⟩ : Fin 8) q) = _
  exact (pay28_at _ _ q).trans (congrArg rstd (funext fun j => rows_at x _ _ p j (by dsimp only; omega)))

/-- The gated products of 256 rows at a point. -/
theorem pay178_at (a : Vec Ideal S256x4096 .bf16) (u v : Vec Ideal S4096x256 .bf16) (i0 : ∀ a, (![0, 0] : Fin 2 → Nat) a + S4096x256.size a ≤ S4096x256.size a) (p q : Fin 256) :
    k0_pay178 a (View.ld u (Rect.unit ![0, 0] ![4096, 256] i0)) (View.ld v (Rect.unit ![0, 0] ![4096, 256] i0)) (ix2 p q)
    = gated (dense (fun k => a (ix2 p k)) (fun k => u (ix2 k q))) (dense (fun k => a (ix2 p k)) (fun k => v (ix2 k q))) := by
  pointwise [k0_pay178]
  try rw [zero_sub']
  rfl
theorem prodT_at (a : Vec Ideal S2048x4096 .bf16) (u v : Vec Ideal S4096x256 .bf16) (p : Fin 2048) (q : Fin 256) :
    prodT a u v (ix2 p q) = gated (dense (fun k => a (ix2 p k)) (fun k => u (ix2 k q))) (dense (fun k => a (ix2 p k)) (fun k => v (ix2 k q))) := by
  change prodP a u v (p.val / 256 * 256) (ix2 (⟨p.val % 256, by omega⟩ : Fin 256) q) = _
  unfold prodP
  exact (pay178_at _ u v _ _ q).trans (congrArg (fun f => gated (dense f _) (dense f _)) (funext fun j => rowsA_at a _ _ p j (by dsimp only; omega)))

/-- The two casts at a point. -/
theorem castO_at (x : Vec Ideal S1x32x4096 .f32) (p : Fin 32) (q : Fin 4096) : castO x (ix2 p q) = x (ix3 0 p q) := by
  unfold castO; pointwise [k0_pay8]
theorem castG_at (x : Vec Ideal S1x16x4096 .f32) (p : Fin 16) (q : Fin 4096) : castG x (ix2 p q) = x (ix3 0 p q) := by
  unfold castG; pointwise [k0_pay9]

/-- The remaining windows' block indices: the output tile one outer step behind, the casts' row blocks until the weights end. -/
theorem idx_out : ∀ t : Fin cfg0.N, win0_5.index t = ![0, min t.val 343, 0] ∧ win0_6.index t = ![0, min t.val 255, 0]
    ∧ win0_8.index t = ![if t.val / 43 < 8 then t.val / 43 * 32 + min (t.val % 43) 31 else 255, 0]
    ∧ win0_9.index t = ![if t.val / 43 < 8 then t.val / 43 * 32 + min (t.val % 43) 31 else 255, 0]
    ∧ win0_10.index t = ![min t.val 343, 0] ∧ win0_11.index t = ![min t.val 255, 0] :=
  (by decide +kernel : ∀ t : Fin grid0.N, _)
theorem idx_tile : ∀ t : Fin cfg0.N, ¬ t.val / 43 = 0 → win0_3.index t = ![0, t.val % 43] ∧ win0_4.index t = ![0, t.val % 43 + 43]
    ∧ win0_7.index t = ![t.val / 43 - 1, t.val % 43] :=
  (by decide +kernel : ∀ t : Fin grid0.N, _)

variable (m : (ℓ : Loc nD τ sig) → Buf (Elt Ideal) ℓ)

/-! What the host code leaves in each prepared operand, and each window's block of its array. -/

theorem entry_v0 (c : Dev nD) (p : Fin 4096) (k : Fin 22016) : V m c main_v0 (ix2 p k) = m (c.tc.loc main_arg3) (ix2 p k) := by
  dsimp only [V, hostOps0]; entry_read; pointwise
theorem entry_v1 (c : Dev nD) (k : Fin 4096) : V m c main_v1 (ix2 0 k) = m (c.tc.loc main_arg1) (ix1 k) := by
  dsimp only [V, hostOps0]; entry_read; pointwise
theorem entry_v2 (c : Dev nD) (k : Fin 4096) : V m c main_v2 (ix2 0 k) = m (c.tc.loc main_arg2) (ix1 k) := by
  dsimp only [V, hostOps0]; entry_read; pointwise
theorem iblk_3 (c : Dev nD) (t : Fin cfg0.N) (ht : ¬ t.val / 43 = 0) (k : Fin 4096) (q : Fin 256) : iblk m c 3 t (ix2 k q)
    = V m c main_v0 (ix2 k (⟨t.val % 43 * 256 + q.val, by omega⟩ : Fin 22016)) := by
  blk_ext [iblk, idx_tile t ht]
theorem iblk_4 (c : Dev nD) (t : Fin cfg0.N) (ht : ¬ t.val / 43 = 0) (k : Fin 4096) (q : Fin 256) : iblk m c 4 t (ix2 k q)
    = V m c main_v0 (ix2 k (⟨(t.val % 43 + 43) * 256 + q.val, by omega⟩ : Fin 22016)) := by
  blk_ext [iblk, idx_tile t ht]
theorem iblk_5 (c : Dev nD) (t : Fin cfg0.N) (p : Fin 32) (q : Fin 4096) : iblk m c 5 t (ix3 0 p q)
    = m (c.tc.loc main_arg4) (ix3 0 (⟨min t.val 343 * 32 + p.val, by omega⟩ : Fin 11008) q) := by
  blk_ext [iblk, V, idx_out t]
theorem iblk_6 (c : Dev nD) (t : Fin cfg0.N) (p : Fin 16) (q : Fin 4096) : iblk m c 6 t (ix3 0 p q)
    = m (c.tc.loc main_arg5) (ix3 0 (⟨min t.val 255 * 16 + p.val, by omega⟩ : Fin 4096) q) := by
  blk_ext [iblk, V, idx_out t]

/-- A filled row buffer at a point: the normalized row of its tile. -/
theorem filled_at (c : Dev nD) (g : ℕ) (hg : g < 8) (p : Fin 2048) (k : Fin 4096) : filled m c g (ix2 p k)
    = norm (fun k => m (c.tc.loc main_arg0) (ix2 (⟨g * 2048 + p.val, by omega⟩ : Fin 16384) k)) (fun k => m (c.tc.loc main_arg1) (ix1 k)) (fun k => m (c.tc.loc main_arg2) (ix1 k)) k := by
  have hv := pt_val g (p.val / 64) (by omega) (by omega)
  have e1 : (pt g (p.val / 64)).val / 43 = g := by omega
  have e2 : min ((pt g (p.val / 64)).val % 43) 31 = p.val / 64 := by omega
  change slab (iblk m c 0 (pt g (p.val / 64))) (iblk m c 1 (pt g (p.val / 64))) (iblk m c 2 (pt g (p.val / 64))) (ix2 (⟨p.val % 64, _⟩ : Fin 64) k) = _
  rw [slab_at]
  congr 1
  · funext k
    refine (iblk_0 m c _ _ k).trans ?_
    congr 2
    refine Fin.ext ?_
    dsimp only
    rw [e1, e2, if_pos hg]
    omega
  · funext k
    exact (iblk_1 m c _ k).trans (entry_v1 m c k)
  · funext k
    exact (iblk_2 m c _ k).trans (entry_v2 m c k)

/-- The kernel's hidden rows are the reference's. -/
theorem final_7 (m' : (ℓ : Loc nD τ Cert.FfnInRefIdeal.sig) → Buf (Elt Ideal) ℓ) (c : Dev nD)
    (e0 : m' (c.tc.loc Cert.FfnInRefIdeal.main_arg0) = m (c.tc.loc main_arg0)) (e1 : m' (c.tc.loc Cert.FfnInRefIdeal.main_arg1) = m (c.tc.loc main_arg1))
    (e2 : m' (c.tc.loc Cert.FfnInRefIdeal.main_arg2) = m (c.tc.loc main_arg2)) (e3 : m' (c.tc.loc Cert.FfnInRefIdeal.main_arg3) = m (c.tc.loc main_arg3)) :
    (dats m 0 c).arrAt 7 (cfgs 0).N = Cert.FfnInRefIdeal.Value.res_main_v29 m' c := by
  refine (dats m 0 c).arrAt_eq_of_covers 7 _ (by decide +kernel) fun t hf y => ?_
  have h0 : ¬ t.val / 43 = 0 := fun h => by
    have := (at_A t h).2.2.2
    exact absurd (hf.symm.trans this) (by decide)
  obtain ⟨i3, i4, i7⟩ := idx_tile t h0
  have ht : t.val < 387 := t.isLt
  blk_simp [i7]
  rw [after_7]
  obtain ⟨p, q, rfl⟩ : ∃ (p : Fin 2048) (q : Fin 256), y = ix2 p q := ⟨y 0, y 1, by funext a; fin_cases a <;> rfl⟩
  have he : (win0_7.blk t).view.emb (ix2 p q) = ix2 (⟨(t.val / 43 - 1) * 2048 + p.val, by omega⟩ : Fin 16384) (⟨t.val % 43 * 256 + q.val, by omega⟩ : Fin 11008) := by
    blk_ext [i7]
  rw [he]
  refine (prodT_at _ _ _ p q).trans ?_
  refine Eq.trans ?_ (Cert.FfnInRefIdeal.Value.ref_at m' c _ _).symm
  rw [e0, e1, e2, e3]
  unfold hid
  congr 1
  · congr 1
    · funext k
      exact filled_at m c (t.val / 43 - 1) (by omega) p k
    · funext k
      exact (iblk_3 m c t h0 k q).trans (entry_v0 m c k _)
  · congr 1
    · funext k
      exact filled_at m c (t.val / 43 - 1) (by omega) p k
    · funext k
      refine (iblk_4 m c t h0 k q).trans ((entry_v0 m c k _).trans ?_)
      congr 2
      refine Fin.ext ?_
      dsimp only
      omega

/-- The kernel's means are the reference's. -/
theorem final_8 (c : Dev nD) : (dats m 0 c).arrAt 8 (cfgs 0).N = Cert.FfnInRefIdeal.Value.refMean (m (c.tc.loc main_arg0)) := by
  refine (dats m 0 c).arrAt_eq_of_covers 8 _ (by decide +kernel) fun t hf y => ?_
  obtain ⟨i5, i6, i8, i9, i10, i11⟩ := idx_out t
  have ht : t.val < 387 := t.isLt
  blk_simp [i8]
  rw [after_8]
  obtain ⟨p, q, rfl⟩ : ∃ (p : Fin 64) (q : Fin 128), y = ix2 p q := ⟨y 0, y 1, by funext a; fin_cases a <;> rfl⟩
  have he : (win0_8.blk t).view.emb (ix2 p q) = ix2 (⟨(if t.val / 43 < 8 then t.val / 43 * 32 + min (t.val % 43) 31 else 255) * 64 + p.val, by split_ifs <;> omega⟩ : Fin 16384) q := by
    blk_ext [i8]
  rw [he]
  refine (meanT_at _ p q).trans ?_
  refine Eq.trans ?_ (Cert.FfnInRefIdeal.Value.refMean_at _ _ _).symm
  congr 1
  funext k
  exact iblk_0 m c t p k

/-- The kernel's reciprocal deviations are the reference's. -/
theorem final_9 (c : Dev nD) : (dats m 0 c).arrAt 9 (cfgs 0).N = Cert.FfnInRefIdeal.Value.refRstd (m (c.tc.loc main_arg0)) := by
  refine (dats m 0 c).arrAt_eq_of_covers 9 _ (by decide +kernel) fun t hf y => ?_
  obtain ⟨i5, i6, i8, i9, i10, i11⟩ := idx_out t
  have ht : t.val < 387 := t.isLt
  blk_simp [i9]
  rw [after_9]
  obtain ⟨p, q, rfl⟩ : ∃ (p : Fin 64) (q : Fin 128), y = ix2 p q := ⟨y 0, y 1, by funext a; fin_cases a <;> rfl⟩
  have he : (win0_9.blk t).view.emb (ix2 p q) = ix2 (⟨(if t.val / 43 < 8 then t.val / 43 * 32 + min (t.val % 43) 31 else 255) * 64 + p.val, by split_ifs <;> omega⟩ : Fin 16384) q := by
    blk_ext [i9]
  rw [he]
  refine (rstdT_at _ p q).trans ?_
  refine Eq.trans ?_ (Cert.FfnInRefIdeal.Value.refRstd_at _ _ _).symm
  congr 1
  funext k
  exact iblk_0 m c t p k

/-- The kernel's casts are the reference's. -/
theorem final_10 (c : Dev nD) : (dats m 0 c).arrAt 10 (cfgs 0).N = Cert.FfnInRefIdeal.Value.refOut (m (c.tc.loc main_arg4)) := by
  refine (dats m 0 c).arrAt_eq_of_covers 10 _ (by decide +kernel) fun t hf y => ?_
  obtain ⟨i5, i6, i8, i9, i10, i11⟩ := idx_out t
  blk_simp [i10]
  rw [after_10]
  obtain ⟨p, q, rfl⟩ : ∃ (p : Fin 32) (q : Fin 4096), y = ix2 p q := ⟨y 0, y 1, by funext a; fin_cases a <;> rfl⟩
  have he : (win0_10.blk t).view.emb (ix2 p q) = ix2 (⟨min t.val 343 * 32 + p.val, by omega⟩ : Fin 11008) q := by
    blk_ext [i10]
  rw [he]
  refine (castO_at _ p q).trans ?_
  refine Eq.trans ?_ (Cert.FfnInRefIdeal.Value.refOut_at _ _ _).symm
  exact iblk_5 m c t p q
theorem final_11 (c : Dev nD) : (dats m 0 c).arrAt 11 (cfgs 0).N = Cert.FfnInRefIdeal.Value.refGate (m (c.tc.loc main_arg5)) := by
  refine (dats m 0 c).arrAt_eq_of_covers 11 _ (by decide +kernel) fun t hf y => ?_
  obtain ⟨i5, i6, i8, i9, i10, i11⟩ := idx_out t
  blk_simp [i11]
  rw [after_11]
  obtain ⟨p, q, rfl⟩ : ∃ (p : Fin 16) (q : Fin 4096), y = ix2 p q := ⟨y 0, y 1, by funext a; fin_cases a <;> rfl⟩
  have he : (win0_11.blk t).view.emb (ix2 p q) = ix2 (⟨min t.val 255 * 16 + p.val, by omega⟩ : Fin 4096) q := by
    blk_ext [i11]
  rw [he]
  refine (castG_at _ p q).trans ?_
  refine Eq.trans ?_ (Cert.FfnInRefIdeal.Value.refGate_at _ _ _).symm
  exact iblk_6 m c t p q

/-- The run: each result is the reference's function of the arguments, the arguments unchanged, the counters at zero. -/
theorem run_values (ρ : Dev nD → PrngReg) (m' : (ℓ : Loc nD τ Cert.FfnInRefIdeal.sig) → Buf (Elt Ideal) ℓ)
    (hagree : ∀ c : Dev nD, m' (c.tc.loc Cert.FfnInRefIdeal.main_arg0) = m (c.tc.loc main_arg0) ∧ m' (c.tc.loc Cert.FfnInRefIdeal.main_arg1) = m (c.tc.loc main_arg1)
      ∧ m' (c.tc.loc Cert.FfnInRefIdeal.main_arg2) = m (c.tc.loc main_arg2) ∧ m' (c.tc.loc Cert.FfnInRefIdeal.main_arg3) = m (c.tc.loc main_arg3)) :
    θ_run defs (onTc (τ := τ) (main (F := Ideal))) ⟨m, fun _ => 0, ρ⟩ (fun r => ∀ c : Dev nD,
      r.2.mem ((c.tc : Thread nD τ).loc main_v3_0) = Cert.FfnInRefIdeal.Value.res_main_v29 m' c
      ∧ r.2.mem ((c.tc : Thread nD τ).loc main_v3_1) = Cert.FfnInRefIdeal.Value.refMean (m (c.tc.loc main_arg0))
      ∧ r.2.mem ((c.tc : Thread nD τ).loc main_v3_2) = Cert.FfnInRefIdeal.Value.refRstd (m (c.tc.loc main_arg0))
      ∧ r.2.mem ((c.tc : Thread nD τ).loc main_v3_3) = Cert.FfnInRefIdeal.Value.refOut (m (c.tc.loc main_arg4))
      ∧ r.2.mem ((c.tc : Thread nD τ).loc main_v3_4) = Cert.FfnInRefIdeal.Value.refGate (m (c.tc.loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    obtain ⟨hp, ha, -⟩ := h
    obtain ⟨e0, e1, e2, e3⟩ := hagree c
    exact ⟨((hp c).1 7).trans (final_7 m m' c e0 e1 e2 e3), ((hp c).1 8).trans (final_8 m c), ((hp c).1 9).trans (final_9 m c),
      ((hp c).1 10).trans (final_10 m c), ((hp c).1 11).trans (final_11 m c), ha c⟩)
    (θ_run_and (run_post m ρ) (frame_holds m ρ))

end Cert.FfnInIdeal.Run

end
-- ==== Proof.PleRun.lean ====
module

public import proofs.«01_k».proof.Proof.Gen.PleIdeal.Frame
public import proofs.«01_k».proof.Proof.Gen.PleIdeal.Skeleton
public import Idealize.ShloMosaic.Lib.Ring
public import Idealize.ShloMosaic.Lib.Tactic
public import Idealize.ShloMosaic.Lib.WordCmp
public import Idealize.ShloMosaic.Lib.Pipeline.FrameBody

/-! The body of the gated embedding, run once for each of the three kinds of grid
    point: the first row of the grid, which only fills the first three buffers; the even rows after it,
    which fill those and multiply the others; and the odd rows, which do the opposite. -/

@[expose] public section

set_option maxRecDepth 16384
set_option maxHeartbeats 8000000

noncomputable section

namespace Cert.PleIdeal.Run

open Cert.PleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The propositions of the run's logic. -/
abbrev RunM (F : FTy → Type) [FloatOps F] := MT nD τ sig Unit (Elt F) ℕ (UR sig nD τ) ℕ

/-- A point of the first row of the grid: what it leaves in the first three buffers and the outputs. -/
noncomputable def runA (c : Dev nD) (i : grid0.Coords) (h1 : k0_cond1 i = 1#1) (h2 : ¬ k0_cond2 i = 1#1) (h3 : ¬ k0_cond3 i = 1#1) (arg2 : Memref sig .tc .vmem S128x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1024x256 .bf16) (harg5 : arg5.IsWhole) (arg6 : Memref sig .tc .vmem S4096x512 .bf16) (harg6 : arg6.IsWhole) (arg7 : Memref sig .tc .vmem S256x512 .bf16) (harg7 : arg7.IsWhole) (arg8 : Memref sig .tc .vmem S1024x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x32x11264 .f32) (harg11 : arg11.IsWhole) (arg12 : Memref sig .tc .vmem S1024x512 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S32x11264 .bf16) (harg15 : arg15.IsWhole) (arg16 : Memref sig .tc .vmem S1024x4096 .bf16) (harg16 : arg16.IsWhole) (arg17 : Memref sig .tc .vmem S1024x4096 .bf16) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole)
    (x2 : Vec F S128x4096 .f32) (x3 : Vec F S1x4096 .f32) (x4 : Vec F S1x4096 .f32) (x11 : Vec F S1x32x11264 .f32) (x16 : Vec F S1024x4096 .bf16) (x18 : Vec F S1024x128 .f32) (x20 : Vec F S1024x128 .f32) :
    Σ' (L16 : List (View.Piece (Elt F) S1024x4096 .bf16)), Σ' (L18 : List (View.Piece (Elt F) S1024x128 .f32)), Σ' (L20 : List (View.Piece (Elt F) S1024x128 .f32)), Σ' (L13 : List (View.Piece (Elt F) S128x128 .f32)), Σ' (L14 : List (View.Piece (Elt F) S128x128 .f32)), { L15 : List (View.Piece (Elt F) S32x11264 .bf16) //
      ∀ (E : Set ℕ) (K : PUnit → sProp (RunM F)),
        iprop(owns (c : Thread nD τ) arg2 fullShare x2 ∗ owns (c : Thread nD τ) arg3 fullShare x3 ∗ owns (c : Thread nD τ) arg4 fullShare x4 ∗ owns (c : Thread nD τ) arg11 fullShare x11 ∗ owns (c : Thread nD τ) arg16 fullShare x16 ∗ owns (c : Thread nD τ) arg18 fullShare x18 ∗ owns (c : Thread nD τ) arg20 fullShare x20 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x2 ∗ owns (c : Thread nD τ) arg3 fullShare x3 ∗ owns (c : Thread nD τ) arg4 fullShare x4 ∗ owns (c : Thread nD τ) arg11 fullShare x11 ∗ (arg16.view.loc (c : Thread nD τ) ↦[arg16.view.set]{fullShare} arg16.view.writes (Elt F) (harg16.unread x16) L16) ∗ (arg18.view.loc (c : Thread nD τ) ↦[arg18.view.set]{fullShare} arg18.view.writes (Elt F) (harg18.unread x18) L18) ∗ (arg20.view.loc (c : Thread nD τ) ↦[arg20.view.set]{fullShare} arg20.view.writes (Elt F) (harg20.unread x20) L20) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15)) -∗ K ⟨⟩))
          ⊢ wp frame (wpE (defs₀ (F := F)) Variants.none c none) E (cc0_ple i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, fun E K => ?run⟩
  case run =>
    simp only [cc0_ple_eq_skeleton]; unfold cc0_ple_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, h1, h2, h3, ↓reduceDIte]
    unfold owns
    iintro ⟨⟨%f2, %hf2, H2⟩, ⟨%f3, %hf3, H3⟩, ⟨%f4, %hf4, H4⟩, ⟨%f11, %hf11, H11⟩, ⟨%f16, %hf16, H16⟩, ⟨%f18, %hf18, H18⟩, ⟨%f20, %hf20, H20⟩, ⟨%d13, %f13, -, H13⟩, ⟨%d14, %f14, -, H14⟩, ⟨%d15, %f15, -, H15⟩, Hk⟩
    obtain rfl := harg2.eq_unread hf2; obtain rfl := harg3.eq_unread hf3; obtain rfl := harg4.eq_unread hf4; obtain rfl := harg11.eq_unread hf11; obtain rfl := harg16.eq_unread hf16; obtain rfl := harg18.eq_unread hf18; obtain rfl := harg20.eq_unread hf20
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H11]
    · iexists _; isplitr; · ipureintro; exact harg11.read_unread _
      iexact H11
    isplitl [H16]; · iexact H16
    isplitl [H18]; · iexact H18
    isplitl [H20]; · iexact H20
    isplitl [H13]; · iexists _; iexact H13
    isplitl [H14]; · iexists _; iexact H14
    iexists _; iexact H15

/-- A point of a later even row: the first three buffers written, the others multiplied. -/
noncomputable def runB (c : Dev nD) (i : grid0.Coords) (h1 : ¬ k0_cond1 i = 1#1) (h2 : k0_cond2 i = 1#1) (h3 : ¬ k0_cond3 i = 1#1) (arg2 : Memref sig .tc .vmem S128x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1024x256 .bf16) (harg5 : arg5.IsWhole) (arg6 : Memref sig .tc .vmem S4096x512 .bf16) (harg6 : arg6.IsWhole) (arg7 : Memref sig .tc .vmem S256x512 .bf16) (harg7 : arg7.IsWhole) (arg8 : Memref sig .tc .vmem S1024x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x32x11264 .f32) (harg11 : arg11.IsWhole) (arg12 : Memref sig .tc .vmem S1024x512 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S32x11264 .bf16) (harg15 : arg15.IsWhole) (arg16 : Memref sig .tc .vmem S1024x4096 .bf16) (harg16 : arg16.IsWhole) (arg17 : Memref sig .tc .vmem S1024x4096 .bf16) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole)
    (x2 : Vec F S128x4096 .f32) (x3 : Vec F S1x4096 .f32) (x4 : Vec F S1x4096 .f32) (x5 : Vec F S1024x256 .bf16) (x6 : Vec F S4096x512 .bf16) (x7 : Vec F S256x512 .bf16) (x8 : Vec F S1024x512 .f32) (x9 : Vec F S1x512 .f32) (x10 : Vec F S1x512 .f32) (x11 : Vec F S1x32x11264 .f32) (x17 : Vec F S1024x4096 .bf16) (x19 : Vec F S1024x128 .f32) (x21 : Vec F S1024x128 .f32) (x16 : Vec F S1024x4096 .bf16) (x18 : Vec F S1024x128 .f32) (x20 : Vec F S1024x128 .f32) :
    Σ' (L16 : List (View.Piece (Elt F) S1024x4096 .bf16)), Σ' (L18 : List (View.Piece (Elt F) S1024x128 .f32)), Σ' (L20 : List (View.Piece (Elt F) S1024x128 .f32)), Σ' (L12 : List (View.Piece (Elt F) S1024x512 .f32)), Σ' (L13 : List (View.Piece (Elt F) S128x128 .f32)), Σ' (L14 : List (View.Piece (Elt F) S128x128 .f32)), { L15 : List (View.Piece (Elt F) S32x11264 .bf16) //
      ∀ (E : Set ℕ) (K : PUnit → sProp (RunM F)),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg17 fullShare x17 ∗ owns (c : Thread nD τ) arg19 fullShare x19 ∗ owns (c : Thread nD τ) arg21 fullShare x21 ∗ owns (c : Thread nD τ) arg16 fullShare x16 ∗ owns (c : Thread nD τ) arg18 fullShare x18 ∗ owns (c : Thread nD τ) arg20 fullShare x20 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg17 fullShare x17 ∗ owns (c : Thread nD τ) arg19 fullShare x19 ∗ owns (c : Thread nD τ) arg21 fullShare x21 ∗ (arg16.view.loc (c : Thread nD τ) ↦[arg16.view.set]{fullShare} arg16.view.writes (Elt F) (harg16.unread x16) L16) ∗ (arg18.view.loc (c : Thread nD τ) ↦[arg18.view.set]{fullShare} arg18.view.writes (Elt F) (harg18.unread x18) L18) ∗ (arg20.view.loc (c : Thread nD τ) ↦[arg20.view.set]{fullShare} arg20.view.writes (Elt F) (harg20.unread x20) L20) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15)) -∗ K ⟨⟩))
          ⊢ wp frame (wpE (defs₀ (F := F)) Variants.none c none) E (cc0_ple i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, fun E K => ?run⟩
  case run =>
    simp only [cc0_ple_eq_skeleton]; unfold cc0_ple_skel
    simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, h1, h2, h3, ↓reduceDIte]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f17, %hf17, H17⟩, ⟨%f19, %hf19, H19⟩, ⟨%f21, %hf21, H21⟩, ⟨%f16, %hf16, H16⟩, ⟨%f18, %hf18, H18⟩, ⟨%f20, %hf20, H20⟩, ⟨%d12, %f12, -, H12⟩, ⟨%d13, %f13, -, H13⟩, ⟨%d14, %f14, -, H14⟩, ⟨%d15, %f15, -, H15⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg17.eq_unread hf17; obtain rfl := harg19.eq_unread hf19; obtain rfl := harg21.eq_unread hf21; obtain rfl := harg16.eq_unread hf16; obtain rfl := harg18.eq_unread hf18; obtain rfl := harg20.eq_unread hf20
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H17]
    · iexists _; isplitr; · ipureintro; exact harg17.read_unread _
      iexact H17
    isplitl [H19]
    · iexists _; isplitr; · ipureintro; exact harg19.read_unread _
      iexact H19
    isplitl [H21]
    · iexists _; isplitr; · ipureintro; exact harg21.read_unread _
      iexact H21
    isplitl [H16]; · iexact H16
    isplitl [H18]; · iexact H18
    isplitl [H20]; · iexact H20
    isplitl [H12]; · iexists _; iexact H12
    isplitl [H13]; · iexists _; iexact H13
    isplitl [H14]; · iexists _; iexact H14
    iexists _; iexact H15

/-- A point of an odd row: the second three buffers written, the first ones multiplied. -/
noncomputable def runC (c : Dev nD) (i : grid0.Coords) (h1 : ¬ k0_cond1 i = 1#1) (h2 : ¬ k0_cond2 i = 1#1) (h3 : k0_cond3 i = 1#1) (arg2 : Memref sig .tc .vmem S128x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1024x256 .bf16) (harg5 : arg5.IsWhole) (arg6 : Memref sig .tc .vmem S4096x512 .bf16) (harg6 : arg6.IsWhole) (arg7 : Memref sig .tc .vmem S256x512 .bf16) (harg7 : arg7.IsWhole) (arg8 : Memref sig .tc .vmem S1024x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x32x11264 .f32) (harg11 : arg11.IsWhole) (arg12 : Memref sig .tc .vmem S1024x512 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S32x11264 .bf16) (harg15 : arg15.IsWhole) (arg16 : Memref sig .tc .vmem S1024x4096 .bf16) (harg16 : arg16.IsWhole) (arg17 : Memref sig .tc .vmem S1024x4096 .bf16) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole)
    (x2 : Vec F S128x4096 .f32) (x3 : Vec F S1x4096 .f32) (x4 : Vec F S1x4096 .f32) (x5 : Vec F S1024x256 .bf16) (x6 : Vec F S4096x512 .bf16) (x7 : Vec F S256x512 .bf16) (x8 : Vec F S1024x512 .f32) (x9 : Vec F S1x512 .f32) (x10 : Vec F S1x512 .f32) (x11 : Vec F S1x32x11264 .f32) (x16 : Vec F S1024x4096 .bf16) (x18 : Vec F S1024x128 .f32) (x20 : Vec F S1024x128 .f32) (x17 : Vec F S1024x4096 .bf16) (x19 : Vec F S1024x128 .f32) (x21 : Vec F S1024x128 .f32) :
    Σ' (L17 : List (View.Piece (Elt F) S1024x4096 .bf16)), Σ' (L19 : List (View.Piece (Elt F) S1024x128 .f32)), Σ' (L21 : List (View.Piece (Elt F) S1024x128 .f32)), Σ' (L12 : List (View.Piece (Elt F) S1024x512 .f32)), Σ' (L13 : List (View.Piece (Elt F) S128x128 .f32)), Σ' (L14 : List (View.Piece (Elt F) S128x128 .f32)), { L15 : List (View.Piece (Elt F) S32x11264 .bf16) //
      ∀ (E : Set ℕ) (K : PUnit → sProp (RunM F)),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg16 fullShare x16 ∗ owns (c : Thread nD τ) arg18 fullShare x18 ∗ owns (c : Thread nD τ) arg20 fullShare x20 ∗ owns (c : Thread nD τ) arg17 fullShare x17 ∗ owns (c : Thread nD τ) arg19 fullShare x19 ∗ owns (c : Thread nD τ) arg21 fullShare x21 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg16 fullShare x16 ∗ owns (c : Thread nD τ) arg18 fullShare x18 ∗ owns (c : Thread nD τ) arg20 fullShare x20 ∗ (arg17.view.loc (c : Thread nD τ) ↦[arg17.view.set]{fullShare} arg17.view.writes (Elt F) (harg17.unread x17) L17) ∗ (arg19.view.loc (c : Thread nD τ) ↦[arg19.view.set]{fullShare} arg19.view.writes (Elt F) (harg19.unread x19) L19) ∗ (arg21.view.loc (c : Thread nD τ) ↦[arg21.view.set]{fullShare} arg21.view.writes (Elt F) (harg21.unread x21) L21) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15)) -∗ K ⟨⟩))
          ⊢ wp frame (wpE (defs₀ (F := F)) Variants.none c none) E (cc0_ple i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, fun E K => ?run⟩
  case run =>
    simp only [cc0_ple_eq_skeleton]; unfold cc0_ple_skel
    simp only [k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, h1, h2, h3, ↓reduceDIte]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f16, %hf16, H16⟩, ⟨%f18, %hf18, H18⟩, ⟨%f20, %hf20, H20⟩, ⟨%f17, %hf17, H17⟩, ⟨%f19, %hf19, H19⟩, ⟨%f21, %hf21, H21⟩, ⟨%d12, %f12, -, H12⟩, ⟨%d13, %f13, -, H13⟩, ⟨%d14, %f14, -, H14⟩, ⟨%d15, %f15, -, H15⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg16.eq_unread hf16; obtain rfl := harg18.eq_unread hf18; obtain rfl := harg20.eq_unread hf20; obtain rfl := harg17.eq_unread hf17; obtain rfl := harg19.eq_unread hf19; obtain rfl := harg21.eq_unread hf21
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H16]
    · iexists _; isplitr; · ipureintro; exact harg16.read_unread _
      iexact H16
    isplitl [H18]
    · iexists _; isplitr; · ipureintro; exact harg18.read_unread _
      iexact H18
    isplitl [H20]
    · iexists _; isplitr; · ipureintro; exact harg20.read_unread _
      iexact H20
    isplitl [H17]; · iexact H17
    isplitl [H19]; · iexact H19
    isplitl [H21]; · iexact H21
    isplitl [H12]; · iexists _; iexact H12
    isplitl [H13]; · iexists _; iexact H13
    isplitl [H14]; · iexists _; iexact H14
    iexists _; iexact H15

end Cert.PleIdeal.Run

end
-- ==== Proof.PleSpec.lean ====
module

public import proofs.«01_k».proof.Proof.PleRun
public import Idealize.ShloMosaic.Lib.Pipeline.ValueKit
public import Idealize.ShloMosaic.Lib.WritesUnit

/-! What one grid point of the gated embedding computes, as functions of the blocks it reads:
    the normalized slab and the row statistics it adds to the row buffers, the cast, and the output tile. -/

@[expose] public section

set_option maxRecDepth 16384
set_option maxHeartbeats 8000000

noncomputable section

namespace Cert.PleIdeal.Run

open Cert.PleIdeal.Gen
open Idealize.ShloMosaic Idealize.ShloMosaic.TcCoe Idealize.ShloMosaic.Tactic
open Idealize.SL Idealize.SL.RA Idealize.SL.BI Idealize.SL.Sem

variable {F : FTy → Type} [FloatOps F]

/-- A load through a whole buffer holding `X` reads `X`. -/
theorem ldU {sp : Space} {s : Shape} {e : EltTy} {a : Memref sig .tc sp s e} (h : a.IsWhole) (X : Vec F s e) (r : Rect s) :
    View.readAt (Elt F) a.view r.toLoadRect (h.unread X) = View.ld X r := by
  rw [View.readAt_eq_ld, h.read_unread]

/-- Eight rows of a slab, from row `o`. -/
def rows (x : Vec F S128x4096 .f32) (o : ℕ) : Vec F S8x4096 .f32 :=
  fun z => x (ix2 (⟨(o + (z 0).val) % 128, Nat.mod_lt _ (by omega)⟩ : Fin 128) (z 1))

theorem ld_rows (x : Vec F S128x4096 .f32) (o : ℕ) (h : ∀ a, (![o, 0] : Fin 2 → Nat) a + (![8, 4096] : Fin 2 → Nat) a ≤ S128x4096.size a) :
    View.ld x (Rect.unit (s := S128x4096) ![o, 0] ![8, 4096] h) = rows x o := by
  funext z
  unfold rows
  have h0 : o + 8 ≤ 128 := h 0
  have hz : (z 0).val < 8 := (z 0).isLt
  show x _ = x _
  congr 1
  funext a
  apply Fin.ext
  fin_cases a
  · show o + 1 * (z 0).val = (o + (z 0).val) % 128
    rw [Nat.mod_eq_of_lt (by omega)]; omega
  · show 0 + 1 * (z 1).val = (z 1).val
    omega

/-- Two hundred and fifty-six rows of a row buffer, from row `o`. -/
def rowsA (x : Vec F S1024x4096 .bf16) (o : ℕ) : Vec F S256x4096 .bf16 :=
  fun z => x (ix2 (⟨(o + (z 0).val) % 1024, Nat.mod_lt _ (by omega)⟩ : Fin 1024) (z 1))

theorem ld_rowsA (x : Vec F S1024x4096 .bf16) (o : ℕ) (h : ∀ a, (![o, 0] : Fin 2 → Nat) a + (![256, 4096] : Fin 2 → Nat) a ≤ S1024x4096.size a) :
    View.ld x (Rect.unit (s := S1024x4096) ![o, 0] ![256, 4096] h) = rowsA x o := by
  funext z
  unfold rowsA
  have h0 : o + 256 ≤ 1024 := h 0
  have hz : (z 0).val < 256 := (z 0).isLt
  show x _ = x _
  congr 1
  funext a
  apply Fin.ext
  fin_cases a
  · show o + 1 * (z 0).val = (o + (z 0).val) % 1024
    rw [Nat.mod_eq_of_lt (by omega)]; omega
  · show 0 + 1 * (z 1).val = (z 1).val
    omega

/-- The same of the embedding block. -/
def rowsP (x : Vec F S1024x256 .bf16) (o : ℕ) : Vec F S256x256 .bf16 :=
  fun z => x (ix2 (⟨(o + (z 0).val) % 1024, Nat.mod_lt _ (by omega)⟩ : Fin 1024) (z 1))

theorem ld_rowsP (x : Vec F S1024x256 .bf16) (o : ℕ) (h : ∀ a, (![o, 0] : Fin 2 → Nat) a + (![256, 256] : Fin 2 → Nat) a ≤ S1024x256.size a) :
    View.ld x (Rect.unit (s := S1024x256) ![o, 0] ![256, 256] h) = rowsP x o := by
  funext z
  unfold rowsP
  have h0 : o + 256 ≤ 1024 := h 0
  have hz : (z 0).val < 256 := (z 0).isLt
  show x _ = x _
  congr 1
  funext a
  apply Fin.ext
  fin_cases a
  · show o + 1 * (z 0).val = (o + (z 0).val) % 1024
    rw [Nat.mod_eq_of_lt (by omega)]; omega
  · show 0 + 1 * (z 1).val = (z 1).val
    omega

/-- The same of the residual tile. -/
def rowsX (x : Vec F S1024x512 .f32) (o : ℕ) : Vec F S256x512 .f32 :=
  fun z => x (ix2 (⟨(o + (z 0).val) % 1024, Nat.mod_lt _ (by omega)⟩ : Fin 1024) (z 1))

theorem ld_rowsX (x : Vec F S1024x512 .f32) (o : ℕ) (h : ∀ a, (![o, 0] : Fin 2 → Nat) a + (![256, 512] : Fin 2 → Nat) a ≤ S1024x512.size a) :
    View.ld x (Rect.unit (s := S1024x512) ![o, 0] ![256, 512] h) = rowsX x o := by
  funext z
  unfold rowsX
  have h0 : o + 256 ≤ 1024 := h 0
  have hz : (z 0).val < 256 := (z 0).isLt
  show x _ = x _
  congr 1
  funext a
  apply Fin.ext
  fin_cases a
  · show o + 1 * (z 0).val = (o + (z 0).val) % 1024
    rw [Nat.mod_eq_of_lt (by omega)]; omega
  · show 0 + 1 * (z 1).val = (z 1).val
    omega

/-- The same of a buffer of row statistics. -/
def rowsS (x : Vec F S1024x128 .f32) (o : ℕ) : Vec F S256x128 .f32 :=
  fun z => x (ix2 (⟨(o + (z 0).val) % 1024, Nat.mod_lt _ (by omega)⟩ : Fin 1024) (z 1))

theorem ld_rowsS (x : Vec F S1024x128 .f32) (o : ℕ) (h : ∀ a, (![o, 0] : Fin 2 → Nat) a + (![256, 128] : Fin 2 → Nat) a ≤ S1024x128.size a) :
    View.ld x (Rect.unit (s := S1024x128) ![o, 0] ![256, 128] h) = rowsS x o := by
  funext z
  unfold rowsS
  have h0 : o + 256 ≤ 1024 := h 0
  have hz : (z 0).val < 256 := (z 0).isLt
  show x _ = x _
  congr 1
  funext a
  apply Fin.ext
  fin_cases a
  · show o + 1 * (z 0).val = (o + (z 0).val) % 1024
    rw [Nat.mod_eq_of_lt (by omega)]; omega
  · show 0 + 1 * (z 1).val = (z 1).val
    omega

/-- Sixteen normalized rows of a slab, from row `o`. -/
def piece (x : Vec F S128x4096 .f32) (w b : Vec F S1x4096 .f32) (o : ℕ) : FVec F S16x4096 .bf16 :=
  k0_pay27 (k0_pay22 (k0_pay9 (View.ld w (Rect.unit (s := S1x4096) ![0, 0] S1x4096.size inb_S1x4096_S1x4096_0_0))) (k0_pay10 (View.ld b (Rect.unit (s := S1x4096) ![0, 0] S1x4096.size inb_S1x4096_S1x4096_0_0))) (rows x o))
    (k0_pay22 (k0_pay9 (View.ld w (Rect.unit (s := S1x4096) ![0, 0] S1x4096.size inb_S1x4096_S1x4096_0_0))) (k0_pay10 (View.ld b (Rect.unit (s := S1x4096) ![0, 0] S1x4096.size inb_S1x4096_S1x4096_0_0))) (rows x (o + 8)))

/-- A slab's normalized rows. -/
def slab (x : Vec F S128x4096 .f32) (w b : Vec F S1x4096 .f32) : Vec F S128x4096 .bf16 :=
  fun y => piece x w b ((y 0).val / 16 * 16) (ix2 (⟨(y 0).val % 16, Nat.mod_lt _ (by omega)⟩ : Fin 16) (y 1))

/-- The means and the reciprocal deviations of eight rows, in every lane: as the outputs get them and as the row buffers do. -/
def meanP (x : Vec F S128x4096 .f32) (o : ℕ) : FVec F S8x128 .f32 := k0_pay15 (rows x o)
def rstdP (x : Vec F S128x4096 .f32) (o : ℕ) : FVec F S8x128 .f32 := k0_pay16 (rows x o)
def meanS (x : Vec F S128x4096 .f32) (o : ℕ) : FVec F S8x128 .f32 := k0_pay17 (meanP x o)
def rstdS (x : Vec F S128x4096 .f32) (o : ℕ) : FVec F S8x128 .f32 := k0_pay17 (rstdP x o)

/-- A slab's statistics from those of its groups of eight rows. -/
def statT (g : ℕ → FVec F S8x128 .f32) : Vec F S128x128 .f32 :=
  fun y => g ((y 0).val / 8 * 8) (ix2 (⟨(y 0).val % 8, Nat.mod_lt _ (by omega)⟩ : Fin 8) (y 1))

/-- Two hundred and fifty-six rows of the output tile. -/
def prodP (a : Vec F S1024x4096 .bf16) (mu rs : Vec F S1024x128 .f32) (p : Vec F S1024x256 .bf16) (u : Vec F S4096x512 .bf16) (v : Vec F S256x512 .bf16) (t : Vec F S1024x512 .f32) (w b : Vec F S1x512 .f32) (o : ℕ) : FVec F S256x512 .f32 :=
  k0_pay303 (k0_pay301 (rowsA a o) (View.ld u (Rect.unit (s := S4096x512) ![0, 0] S4096x512.size inb_S4096x512_S4096x512_0_0))) (k0_pay302 (rowsP p o) (View.ld v (Rect.unit (s := S256x512) ![0, 0] S256x512.size inb_S256x512_S256x512_0_0))) (rowsX t o) (View.ld w (Rect.unit (s := S1x512) ![0, 0] S1x512.size inb_S1x512_S1x512_0_0)) (View.ld b (Rect.unit (s := S1x512) ![0, 0] S1x512.size inb_S1x512_S1x512_0_0)) (rowsS mu o) (rowsS rs o)

/-- The output tile. -/
def prodT (a : Vec F S1024x4096 .bf16) (mu rs : Vec F S1024x128 .f32) (p : Vec F S1024x256 .bf16) (u : Vec F S4096x512 .bf16) (v : Vec F S256x512 .bf16) (t : Vec F S1024x512 .f32) (w b : Vec F S1x512 .f32) : Vec F S1024x512 .f32 :=
  fun y => prodP a mu rs p u v t w b ((y 0).val / 256 * 256) (ix2 (⟨(y 0).val % 256, Nat.mod_lt _ (by omega)⟩ : Fin 256) (y 1))

/-- The weight's cast. -/
def castW (x : Vec F S1x32x11264 .f32) : Vec F S32x11264 .bf16 := k0_pay8 (View.ld x (Rect.unit (s := S1x32x11264) ![0, 0, 0] S1x32x11264.size inb_S1x32x11264_S1x32x11264_0_0_0))

/-! The pieces the body stores, last first. -/

def statL (g : ℕ → FVec F S8x128 .f32) : List (View.Piece (Elt F) S128x128 .f32) :=
  [⟨Rect.unit (s := S128x128) ![120, 0] S8x128.size inb_S128x128_S8x128_120_0, g 120⟩, ⟨Rect.unit (s := S128x128) ![112, 0] S8x128.size inb_S128x128_S8x128_112_0, g 112⟩, ⟨Rect.unit (s := S128x128) ![104, 0] S8x128.size inb_S128x128_S8x128_104_0, g 104⟩, ⟨Rect.unit (s := S128x128) ![96, 0] S8x128.size inb_S128x128_S8x128_96_0, g 96⟩, ⟨Rect.unit (s := S128x128) ![88, 0] S8x128.size inb_S128x128_S8x128_88_0, g 88⟩, ⟨Rect.unit (s := S128x128) ![80, 0] S8x128.size inb_S128x128_S8x128_80_0, g 80⟩, ⟨Rect.unit (s := S128x128) ![72, 0] S8x128.size inb_S128x128_S8x128_72_0, g 72⟩, ⟨Rect.unit (s := S128x128) ![64, 0] S8x128.size inb_S128x128_S8x128_64_0, g 64⟩, ⟨Rect.unit (s := S128x128) ![56, 0] S8x128.size inb_S128x128_S8x128_56_0, g 56⟩, ⟨Rect.unit (s := S128x128) ![48, 0] S8x128.size inb_S128x128_S8x128_48_0, g 48⟩, ⟨Rect.unit (s := S128x128) ![40, 0] S8x128.size inb_S128x128_S8x128_40_0, g 40⟩, ⟨Rect.unit (s := S128x128) ![32, 0] S8x128.size inb_S128x128_S8x128_32_0, g 32⟩, ⟨Rect.unit (s := S128x128) ![24, 0] S8x128.size inb_S128x128_S8x128_24_0, g 24⟩, ⟨Rect.unit (s := S128x128) ![16, 0] S8x128.size inb_S128x128_S8x128_16_0, g 16⟩, ⟨Rect.unit (s := S128x128) ![8, 0] S8x128.size inb_S128x128_S8x128_8_0, g 8⟩, ⟨Rect.unit (s := S128x128) ![0, 0] S8x128.size inb_S128x128_S8x128_0_0, g 0⟩]
def prodL (a : Vec F S1024x4096 .bf16) (mu rs : Vec F S1024x128 .f32) (p : Vec F S1024x256 .bf16) (u : Vec F S4096x512 .bf16) (v : Vec F S256x512 .bf16) (t : Vec F S1024x512 .f32) (w b : Vec F S1x512 .f32) : List (View.Piece (Elt F) S1024x512 .f32) :=
  [⟨Rect.unit (s := S1024x512) ![768, 0] S256x512.size inb_S1024x512_S256x512_768_0, prodP a mu rs p u v t w b 768⟩, ⟨Rect.unit (s := S1024x512) ![512, 0] S256x512.size inb_S1024x512_S256x512_512_0, prodP a mu rs p u v t w b 512⟩, ⟨Rect.unit (s := S1024x512) ![256, 0] S256x512.size inb_S1024x512_S256x512_256_0, prodP a mu rs p u v t w b 256⟩, ⟨Rect.unit (s := S1024x512) ![0, 0] S256x512.size inb_S1024x512_S256x512_0_0, prodP a mu rs p u v t w b 0⟩]
def castL (x : Vec F S1x32x11264 .f32) : List (View.Piece (Elt F) S32x11264 .bf16) :=
  [⟨Rect.unit (s := S32x11264) ![0, 0] S32x11264.size inb_S32x11264_S32x11264_0_0, castW x⟩]
/-- The slab's eight groups of sixteen rows at eight places of a row buffer. -/
def slabL (x : Vec F S128x4096 .f32) (w b : Vec F S1x4096 .f32) (o : Fin 8 → Fin 2 → ℕ) (i : ∀ r a, o r a + S16x4096.size a ≤ S1024x4096.size a) :
    List (View.Piece (Elt F) S1024x4096 .bf16) :=
  [⟨Rect.unit (s := S1024x4096) (o 7) S16x4096.size (i 7), piece x w b 112⟩, ⟨Rect.unit (s := S1024x4096) (o 6) S16x4096.size (i 6), piece x w b 96⟩, ⟨Rect.unit (s := S1024x4096) (o 5) S16x4096.size (i 5), piece x w b 80⟩, ⟨Rect.unit (s := S1024x4096) (o 4) S16x4096.size (i 4), piece x w b 64⟩, ⟨Rect.unit (s := S1024x4096) (o 3) S16x4096.size (i 3), piece x w b 48⟩, ⟨Rect.unit (s := S1024x4096) (o 2) S16x4096.size (i 2), piece x w b 32⟩, ⟨Rect.unit (s := S1024x4096) (o 1) S16x4096.size (i 1), piece x w b 16⟩, ⟨Rect.unit (s := S1024x4096) (o 0) S16x4096.size (i 0), piece x w b 0⟩]
/-- The statistics' sixteen groups of eight rows at sixteen places of a row buffer. -/
def groupL (g : ℕ → FVec F S8x128 .f32) (o : Fin 8 → Fin 2 → Fin 2 → ℕ) (i : ∀ r q a, o r q a + S8x128.size a ≤ S1024x128.size a) :
    List (View.Piece (Elt F) S1024x128 .f32) :=
  [⟨Rect.unit (s := S1024x128) (o 7 1) S8x128.size (i 7 1), g 120⟩, ⟨Rect.unit (s := S1024x128) (o 7 0) S8x128.size (i 7 0), g 112⟩, ⟨Rect.unit (s := S1024x128) (o 6 1) S8x128.size (i 6 1), g 104⟩, ⟨Rect.unit (s := S1024x128) (o 6 0) S8x128.size (i 6 0), g 96⟩, ⟨Rect.unit (s := S1024x128) (o 5 1) S8x128.size (i 5 1), g 88⟩, ⟨Rect.unit (s := S1024x128) (o 5 0) S8x128.size (i 5 0), g 80⟩, ⟨Rect.unit (s := S1024x128) (o 4 1) S8x128.size (i 4 1), g 72⟩, ⟨Rect.unit (s := S1024x128) (o 4 0) S8x128.size (i 4 0), g 64⟩, ⟨Rect.unit (s := S1024x128) (o 3 1) S8x128.size (i 3 1), g 56⟩, ⟨Rect.unit (s := S1024x128) (o 3 0) S8x128.size (i 3 0), g 48⟩, ⟨Rect.unit (s := S1024x128) (o 2 1) S8x128.size (i 2 1), g 40⟩, ⟨Rect.unit (s := S1024x128) (o 2 0) S8x128.size (i 2 0), g 32⟩, ⟨Rect.unit (s := S1024x128) (o 1 1) S8x128.size (i 1 1), g 24⟩, ⟨Rect.unit (s := S1024x128) (o 1 0) S8x128.size (i 1 0), g 16⟩, ⟨Rect.unit (s := S1024x128) (o 0 1) S8x128.size (i 0 1), g 8⟩, ⟨Rect.unit (s := S1024x128) (o 0 0) S8x128.size (i 0 0), g 0⟩]

/-- What the run of a point of this kind leaves in each buffer it writes. -/
theorem spec_A (c : Dev nD) (i : grid0.Coords) (h1 : k0_cond1 i = 1#1) (h2 : ¬ k0_cond2 i = 1#1) (h3 : ¬ k0_cond3 i = 1#1) (arg2 : Memref sig .tc .vmem S128x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1024x256 .bf16) (harg5 : arg5.IsWhole) (arg6 : Memref sig .tc .vmem S4096x512 .bf16) (harg6 : arg6.IsWhole) (arg7 : Memref sig .tc .vmem S256x512 .bf16) (harg7 : arg7.IsWhole) (arg8 : Memref sig .tc .vmem S1024x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x32x11264 .f32) (harg11 : arg11.IsWhole) (arg12 : Memref sig .tc .vmem S1024x512 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S32x11264 .bf16) (harg15 : arg15.IsWhole) (arg16 : Memref sig .tc .vmem S1024x4096 .bf16) (harg16 : arg16.IsWhole) (arg17 : Memref sig .tc .vmem S1024x4096 .bf16) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole)
    (x2 : Vec F S128x4096 .f32) (x3 : Vec F S1x4096 .f32) (x4 : Vec F S1x4096 .f32) (x11 : Vec F S1x32x11264 .f32) (x16 : Vec F S1024x4096 .bf16) (x18 : Vec F S1024x128 .f32) (x20 : Vec F S1024x128 .f32) :
    ∀ R, R = (runA (F := F) c i h1 h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x11 x16 x18 x20) →
      R.1 = slabL x2 x3 x4 (fun r => k0_off2 i (BitVec.ofNat 32 (16 * r.val))) (fun r => k0_off2_inb i h1 r) ∧
      R.2.1 = groupL (meanS x2) (fun r q => k0_off1 i (BitVec.ofNat 32 (16 * r.val)) (BitVec.ofNat 32 (8 * q.val))) (fun r q => k0_off1_inb i h1 r q) ∧
      R.2.2.1 = groupL (rstdS x2) (fun r q => k0_off1 i (BitVec.ofNat 32 (16 * r.val)) (BitVec.ofNat 32 (8 * q.val))) (fun r q => k0_off1_inb i h1 r q) ∧
      R.2.2.2.1 = statL (meanP x2) ∧
      R.2.2.2.2.1 = statL (rstdP x2) ∧
      R.2.2.2.2.2.1 = castL x11 := by
  rintro _ rfl
  unfold runA
  open runA.sl in
  refine ⟨?_, ?_, ?_, ?_, ?_, ?_⟩ <;>
    (simp only [r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_6, r_7, r_8, r_9, v19, v20, ldU, ld_rows, ld_rowsA, ld_rowsP, ld_rowsX, ld_rowsS]; rfl)

/-- What the run of a point of this kind leaves in each buffer it writes. -/
theorem spec_B (c : Dev nD) (i : grid0.Coords) (h1 : ¬ k0_cond1 i = 1#1) (h2 : k0_cond2 i = 1#1) (h3 : ¬ k0_cond3 i = 1#1) (arg2 : Memref sig .tc .vmem S128x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1024x256 .bf16) (harg5 : arg5.IsWhole) (arg6 : Memref sig .tc .vmem S4096x512 .bf16) (harg6 : arg6.IsWhole) (arg7 : Memref sig .tc .vmem S256x512 .bf16) (harg7 : arg7.IsWhole) (arg8 : Memref sig .tc .vmem S1024x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x32x11264 .f32) (harg11 : arg11.IsWhole) (arg12 : Memref sig .tc .vmem S1024x512 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S32x11264 .bf16) (harg15 : arg15.IsWhole) (arg16 : Memref sig .tc .vmem S1024x4096 .bf16) (harg16 : arg16.IsWhole) (arg17 : Memref sig .tc .vmem S1024x4096 .bf16) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole)
    (x2 : Vec F S128x4096 .f32) (x3 : Vec F S1x4096 .f32) (x4 : Vec F S1x4096 .f32) (x5 : Vec F S1024x256 .bf16) (x6 : Vec F S4096x512 .bf16) (x7 : Vec F S256x512 .bf16) (x8 : Vec F S1024x512 .f32) (x9 : Vec F S1x512 .f32) (x10 : Vec F S1x512 .f32) (x11 : Vec F S1x32x11264 .f32) (x17 : Vec F S1024x4096 .bf16) (x19 : Vec F S1024x128 .f32) (x21 : Vec F S1024x128 .f32) (x16 : Vec F S1024x4096 .bf16) (x18 : Vec F S1024x128 .f32) (x20 : Vec F S1024x128 .f32) :
    ∀ R, R = (runB (F := F) c i h1 h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 x6 x7 x8 x9 x10 x11 x17 x19 x21 x16 x18 x20) →
      R.1 = slabL x2 x3 x4 (fun r => k0_off4 i (BitVec.ofNat 32 (16 * r.val))) (fun r => k0_off4_inb i h2 r) ∧
      R.2.1 = groupL (meanS x2) (fun r q => k0_off3 i (BitVec.ofNat 32 (16 * r.val)) (BitVec.ofNat 32 (8 * q.val))) (fun r q => k0_off3_inb i h2 r q) ∧
      R.2.2.1 = groupL (rstdS x2) (fun r q => k0_off3 i (BitVec.ofNat 32 (16 * r.val)) (BitVec.ofNat 32 (8 * q.val))) (fun r q => k0_off3_inb i h2 r q) ∧
      R.2.2.2.1 = prodL x17 x19 x21 x5 x6 x7 x8 x9 x10 ∧
      R.2.2.2.2.1 = statL (meanP x2) ∧
      R.2.2.2.2.2.1 = statL (rstdP x2) ∧
      R.2.2.2.2.2.2.1 = castL x11 := by
  rintro _ rfl
  unfold runB
  open runB.sl in
  refine ⟨?_, ?_, ?_, ?_, ?_, ?_, ?_⟩ <;>
    (simp only [cst_281, cst_344, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_61, r_62, r_63, r_64, r_65, r_66, r_67, r_68, r_7, r_8, r_9, v19, v20, ldU, ld_rows, ld_rowsA, ld_rowsP, ld_rowsX, ld_rowsS]; rfl)

/-- What the run of a point of this kind leaves in each buffer it writes. -/
theorem spec_C (c : Dev nD) (i : grid0.Coords) (h1 : ¬ k0_cond1 i = 1#1) (h2 : ¬ k0_cond2 i = 1#1) (h3 : k0_cond3 i = 1#1) (arg2 : Memref sig .tc .vmem S128x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1024x256 .bf16) (harg5 : arg5.IsWhole) (arg6 : Memref sig .tc .vmem S4096x512 .bf16) (harg6 : arg6.IsWhole) (arg7 : Memref sig .tc .vmem S256x512 .bf16) (harg7 : arg7.IsWhole) (arg8 : Memref sig .tc .vmem S1024x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x32x11264 .f32) (harg11 : arg11.IsWhole) (arg12 : Memref sig .tc .vmem S1024x512 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S32x11264 .bf16) (harg15 : arg15.IsWhole) (arg16 : Memref sig .tc .vmem S1024x4096 .bf16) (harg16 : arg16.IsWhole) (arg17 : Memref sig .tc .vmem S1024x4096 .bf16) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole)
    (x2 : Vec F S128x4096 .f32) (x3 : Vec F S1x4096 .f32) (x4 : Vec F S1x4096 .f32) (x5 : Vec F S1024x256 .bf16) (x6 : Vec F S4096x512 .bf16) (x7 : Vec F S256x512 .bf16) (x8 : Vec F S1024x512 .f32) (x9 : Vec F S1x512 .f32) (x10 : Vec F S1x512 .f32) (x11 : Vec F S1x32x11264 .f32) (x16 : Vec F S1024x4096 .bf16) (x18 : Vec F S1024x128 .f32) (x20 : Vec F S1024x128 .f32) (x17 : Vec F S1024x4096 .bf16) (x19 : Vec F S1024x128 .f32) (x21 : Vec F S1024x128 .f32) :
    ∀ R, R = (runC (F := F) c i h1 h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 x6 x7 x8 x9 x10 x11 x16 x18 x20 x17 x19 x21) →
      R.1 = slabL x2 x3 x4 (fun r => k0_off6 i (BitVec.ofNat 32 (16 * r.val))) (fun r => k0_off6_inb i h3 r) ∧
      R.2.1 = groupL (meanS x2) (fun r q => k0_off5 i (BitVec.ofNat 32 (16 * r.val)) (BitVec.ofNat 32 (8 * q.val))) (fun r q => k0_off5_inb i h3 r q) ∧
      R.2.2.1 = groupL (rstdS x2) (fun r q => k0_off5 i (BitVec.ofNat 32 (16 * r.val)) (BitVec.ofNat 32 (8 * q.val))) (fun r q => k0_off5_inb i h3 r q) ∧
      R.2.2.2.1 = prodL x16 x18 x20 x5 x6 x7 x8 x9 x10 ∧
      R.2.2.2.2.1 = statL (meanP x2) ∧
      R.2.2.2.2.2.1 = statL (rstdP x2) ∧
      R.2.2.2.2.2.2.1 = castL x11 := by
  rintro _ rfl
  unfold runC
  open runC.sl in
  refine ⟨?_, ?_, ?_, ?_, ?_, ?_, ?_⟩ <;>
    (simp only [cst_281, cst_344, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_61, r_62, r_63, r_64, r_65, r_66, r_67, r_68, r_7, r_8, r_9, v19, v20, ldU, ld_rows, ld_rowsA, ld_rowsP, ld_rowsX, ld_rowsS]; rfl)

end Cert.PleIdeal.Run

end
-- ==== Proof.PleRead.lean ====
module

public import proofs.«01_k».proof.Proof.PleSpec

/-! Reading back what one grid point stores. -/

@[expose] public section

set_option maxRecDepth 16384
set_option maxHeartbeats 4000000

noncomputable section

namespace Cert.PleIdeal.Run

open Cert.PleIdeal.Gen
open Idealize.ShloMosaic Idealize.ShloMosaic.TcCoe Idealize.ShloMosaic.Tactic
open Idealize.SL Idealize.SL.RA Idealize.SL.BI Idealize.SL.Sem

variable {F : FTy → Type} [FloatOps F]

/-- A group of 8 rows is those rows of the whole. -/
theorem stat_at (g : ℕ → FVec F S8x128 .f32) (o : ℕ) (ho : o % 8 = 0) (z : S8x128.Idx) (y : S128x128.Idx)
    (h0 : (y 0).val = o + (z 0).val) (h1 : (y 1).val = (z 1).val) : g o z = statT g y := by
  unfold statT
  have hz : (z 0).val < 8 := (z 0).isLt
  rw [show (y 0).val / 8 * 8 = o by omega]
  congr 1
  funext a
  apply Fin.ext
  fin_cases a
  · show (z 0).val = (y 0).val % 8
    omega
  · exact h1.symm

/-- The stored groups read back as the whole. -/
theorem stat_read {sp : Space} (v : View sig .tc sp S128x128 .f32) (f : v.ty.Contents (Elt F)) (g : ℕ → FVec F S8x128 .f32) :
    v.read (Elt F) (v.writes (Elt F) f (statL g)) = statT g := by
  rw [View.read_writes_eq_canon v f _ (View.cover_of_tiledL (statL g) S8x128.size (by sl_kernel_rfl))]
  funext y
  unfold statL
  canon_tiles z h using (View.cover_of_tiledL (statL g) S8x128.size (by sl_kernel_rfl) y)
  all_goals exact stat_at g _ (by rfl) z y (by omega) (by omega)

/-- A group of 256 rows is those rows of the whole. -/
theorem prod_at (a : Vec F S1024x4096 .bf16) (mu rs : Vec F S1024x128 .f32) (p : Vec F S1024x256 .bf16) (u : Vec F S4096x512 .bf16) (v : Vec F S256x512 .bf16) (t : Vec F S1024x512 .f32) (w b : Vec F S1x512 .f32) (o : ℕ) (ho : o % 256 = 0) (z : S256x512.Idx) (y : S1024x512.Idx)
    (h0 : (y 0).val = o + (z 0).val) (h1 : (y 1).val = (z 1).val) : prodP a mu rs p u v t w b o z = prodT a mu rs p u v t w b y := by
  unfold prodT
  have hz : (z 0).val < 256 := (z 0).isLt
  rw [show (y 0).val / 256 * 256 = o by omega]
  congr 1
  funext a
  apply Fin.ext
  fin_cases a
  · show (z 0).val = (y 0).val % 256
    omega
  · exact h1.symm

/-- The stored groups read back as the whole. -/
theorem prod_read {sp : Space} (q : View sig .tc sp S1024x512 .f32) (f : q.ty.Contents (Elt F)) (a : Vec F S1024x4096 .bf16) (mu rs : Vec F S1024x128 .f32) (p : Vec F S1024x256 .bf16) (u : Vec F S4096x512 .bf16) (v : Vec F S256x512 .bf16) (t : Vec F S1024x512 .f32) (w b : Vec F S1x512 .f32) :
    q.read (Elt F) (q.writes (Elt F) f (prodL a mu rs p u v t w b)) = prodT a mu rs p u v t w b := by
  rw [View.read_writes_eq_canon q f _ (View.cover_of_tiledL (prodL a mu rs p u v t w b) S256x512.size (by sl_kernel_rfl))]
  funext y
  unfold prodL
  canon_tiles z h using (View.cover_of_tiledL (prodL a mu rs p u v t w b) S256x512.size (by sl_kernel_rfl) y)
  all_goals exact prod_at a mu rs p u v t w b _ (by rfl) z y (by omega) (by omega)

/-- The stored cast reads back. -/
theorem cast_read {sp : Space} (v : View sig .tc sp S32x11264 .bf16) (f : v.ty.Contents (Elt F)) (x : Vec F S1x32x11264 .f32) :
    v.read (Elt F) (v.writes (Elt F) f (castL x)) = castW x := by
  funext y
  exact View.read_writes_cons_rows_of_mem v f _ _ _ y y (o := 0) rfl (Nat.zero_add _).symm rfl

/-- One more group of `K` rows stored after the first `d` from row `B`: where the element reads `T` of its row among those, it does among these. -/
theorem step {sp : Space} {n : Fin 2 → ℕ} {e : EltTy} (v : View sig .tc sp ⟨2, n⟩ e) (f : v.ty.Contents (Elt F))
    {off size : Fin 2 → ℕ} (inb : ∀ a : Fin 2, off a + size a ≤ n a) (w : (Rect.unit (s := ⟨2, n⟩) off size inb).shape.Idx → Elt F e)
    (L : List (View.Piece (Elt F) ⟨2, n⟩ e)) (y : (⟨2, n⟩ : Shape).Idx) (B d K D : ℕ) (T : ℕ → Elt F e)
    (eo : off = ![B + d, 0]) (hK : size 0 = K) (hD : d + K = D)
    (hw : ∀ z : (Rect.unit (s := ⟨2, n⟩) off size inb).shape.Idx, (z (0 : Fin 2)).val < K → (y (1 : Fin 2)).val = (z (1 : Fin 2)).val → w z = T (d + (z (0 : Fin 2)).val))
    (hz : ∀ k < K, ∃ z : (Rect.unit (s := ⟨2, n⟩) off size inb).shape.Idx, (z (0 : Fin 2)).val = k ∧ (y (1 : Fin 2)).val = (z (1 : Fin 2)).val)
    (ih : v.read (Elt F) (v.writes (Elt F) f L) y = if B ≤ (y (0 : Fin 2)).val ∧ (y (0 : Fin 2)).val < B + d then T ((y (0 : Fin 2)).val - B) else v.read (Elt F) f y) :
    v.read (Elt F) (v.writes (Elt F) f (⟨Rect.unit (s := ⟨2, n⟩) off size inb, w⟩ :: L)) y
      = if B ≤ (y (0 : Fin 2)).val ∧ (y (0 : Fin 2)).val < B + D then T ((y (0 : Fin 2)).val - B) else v.read (Elt F) f y := by
  by_cases h : B + d ≤ (y (0 : Fin 2)).val ∧ (y (0 : Fin 2)).val < B + d + K
  · obtain ⟨z, hz0, hz1⟩ := hz ((y (0 : Fin 2)).val - (B + d)) (by omega)
    rw [if_pos (by omega), View.read_writes_cons_rows_of_mem v f inb w L y z eo (by omega) hz1, hw z (by omega) hz1]
    congr 1
    omega
  · rw [View.read_writes_cons_rows_of_not_mem v f inb w L y eo hK (by omega), ih]
    by_cases h' : B ≤ (y (0 : Fin 2)).val ∧ (y (0 : Fin 2)).val < B + d
    · rw [if_pos h', if_pos (by omega)]
    · rw [if_neg h', if_neg (by omega)]

/-- A slab stored in a row buffer from row `B`: those rows are the slab's, the others as they were. -/
theorem slab_read {sp : Space} (v : View sig .tc sp S1024x4096 .bf16) (f : v.ty.Contents (Elt F)) (x : Vec F S128x4096 .f32) (w b : Vec F S1x4096 .f32)
    (B : ℕ) (o : Fin 8 → Fin 2 → ℕ) (i : ∀ r a, o r a + S16x4096.size a ≤ S1024x4096.size a) (e : ∀ r : Fin 8, o r = ![B + 16 * r.val, 0]) (y : S1024x4096.Idx) :
    v.read (Elt F) (v.writes (Elt F) f (slabL x w b o i)) y
      = if B ≤ (y 0).val ∧ (y 0).val < B + 128 then slab x w b (ix2 (⟨((y 0).val - B) % 128, Nat.mod_lt _ (by omega)⟩ : Fin 128) (y 1))
        else v.read (Elt F) f y := by
  have key : ∀ (d : ℕ) (hd : d % 16 = 0) (hd' : d < 128) (z : S16x4096.Idx) (h0 : (z 0).val < 16) (h1 : (y 1).val = (z 1).val),
      piece x w b d z = slab x w b (ix2 (⟨(d + (z 0).val) % 128, Nat.mod_lt _ (by omega)⟩ : Fin 128) (y 1)) := by
    intro d hd hd' z h0 h1
    unfold slab
    show _ = piece x w b ((d + (z 0).val) % 128 / 16 * 16) (ix2 (⟨(d + (z 0).val) % 128 % 16, _⟩ : Fin 16) (y 1))
    rw [show (d + (z 0).val) % 128 / 16 * 16 = d by omega]
    congr 1
    funext a
    apply Fin.ext
    fin_cases a
    · show (z 0).val = (d + (z 0).val) % 128 % 16
      omega
    · exact h1.symm
  have ex : ∀ k < 16, ∃ z : S16x4096.Idx, (z 0).val = k ∧ (y 1).val = (z 1).val := fun k hk => ⟨ix2 (⟨k, hk⟩ : Fin 16) (y 1), rfl, rfl⟩
  have st := fun (L : List (View.Piece (Elt F) S1024x4096 .bf16)) (r : Fin 8) => step v f (i r) (piece x w b (16 * r.val)) L y B (16 * r.val) 16 (16 * r.val + 16)
    (fun k => slab x w b (ix2 (⟨k % 128, Nat.mod_lt _ (by omega)⟩ : Fin 128) (y 1))) (e r) rfl rfl (fun z => key _ (by omega) (by omega) z) ex
  unfold slabL
  exact st _ 7 (st _ 6 (st _ 5 (st _ 4 (st _ 3 (st _ 2 (st _ 1 (st _ 0 (by rw [if_neg (by omega)]; rfl))))))))

/-- Row statistics stored in a row buffer from row `B`: those rows are the slab's, the others as they were. -/
theorem group_read {sp : Space} (v : View sig .tc sp S1024x128 .f32) (f : v.ty.Contents (Elt F)) (g : ℕ → FVec F S8x128 .f32)
    (B : ℕ) (o : Fin 8 → Fin 2 → Fin 2 → ℕ) (i : ∀ r q a, o r q a + S8x128.size a ≤ S1024x128.size a)
    (e : ∀ (r : Fin 8) (q : Fin 2), o r q = ![B + 16 * r.val + 8 * q.val, 0]) (y : S1024x128.Idx) :
    v.read (Elt F) (v.writes (Elt F) f (groupL g o i)) y
      = if B ≤ (y 0).val ∧ (y 0).val < B + 128 then statT g (ix2 (⟨((y 0).val - B) % 128, Nat.mod_lt _ (by omega)⟩ : Fin 128) (y 1))
        else v.read (Elt F) f y := by
  have key : ∀ (d : ℕ) (hd : d % 8 = 0) (hd' : d < 128) (z : S8x128.Idx) (h0 : (z 0).val < 8) (h1 : (y 1).val = (z 1).val),
      g d z = statT g (ix2 (⟨(d + (z 0).val) % 128, Nat.mod_lt _ (by omega)⟩ : Fin 128) (y 1)) := by
    intro d hd hd' z h0 h1
    refine stat_at g d hd z _ ?_ h1
    show (d + (z 0).val) % 128 = d + (z 0).val
    omega
  have ex : ∀ k < 8, ∃ z : S8x128.Idx, (z 0).val = k ∧ (y 1).val = (z 1).val := fun k hk => ⟨ix2 (⟨k, hk⟩ : Fin 8) (y 1), rfl, rfl⟩
  have st := fun (L : List (View.Piece (Elt F) S1024x128 .f32)) (r : Fin 8) (q : Fin 2) => step v f (i r q) (g (16 * r.val + 8 * q.val)) L y B (16 * r.val + 8 * q.val) 8 (16 * r.val + 8 * q.val + 8)
    (fun k => statT g (ix2 (⟨k % 128, Nat.mod_lt _ (by omega)⟩ : Fin 128) (y 1))) ((e r q).trans (by rw [Nat.add_assoc])) rfl rfl (fun z => key _ (by omega) (by omega) z) ex
  unfold groupL
  exact st _ 7 1 (st _ 7 0 (st _ 6 1 (st _ 6 0 (st _ 5 1 (st _ 5 0 (st _ 4 1 (st _ 4 0 (st _ 3 1 (st _ 3 0 (st _ 2 1 (st _ 2 0 (st _ 1 1 (st _ 1 0 (st _ 0 1 (st _ 0 0 (by rw [if_neg (by omega)]; rfl))))))))))))))))

end Cert.PleIdeal.Run

end
-- ==== Proof.PleFrame.lean ====
module

public import proofs.«01_k».proof.Proof.PleRead
public import proofs.«01_k».proof.Proof.Gen.PleIdeal.Frame
public import Idealize.ShloMosaic.Lib.Pipeline.ValueKit
public import Idealize.ShloMosaic.Lib.Pipeline.ReadBack

/-! The invariant of the loop over the grid, the body's obligation at every point, and the launch. -/

@[expose] public section

set_option maxRecDepth 16384
set_option maxHeartbeats 4000000

noncomputable section

namespace Cert.PleIdeal.Run

open Cert.PleIdeal Cert.PleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The grid's points -/

/-- The branch taken at a point, its inner coordinate, and whether the output tile is written back there. -/
theorem at_A : ∀ t : Fin cfg0.N, t.val / 8 = 0 → k0_cond1 (grid0.coords t) = 1#1 ∧ ¬ k0_cond2 (grid0.coords t) = 1#1 ∧ ¬ k0_cond3 (grid0.coords t) = 1#1
    ∧ win0_10.flush t = false :=
  (by decide +kernel : ∀ t : Fin grid0.N, _)
theorem at_B : ∀ t : Fin cfg0.N, ¬ t.val / 8 = 0 → t.val / 8 % 2 = 0 → ¬ k0_cond1 (grid0.coords t) = 1#1 ∧ k0_cond2 (grid0.coords t) = 1#1 ∧ ¬ k0_cond3 (grid0.coords t) = 1#1 :=
  (by decide +kernel : ∀ t : Fin grid0.N, _)
theorem at_C : ∀ t : Fin cfg0.N, ¬ t.val / 8 = 0 → ¬ t.val / 8 % 2 = 0 → ¬ k0_cond1 (grid0.coords t) = 1#1 ∧ ¬ k0_cond2 (grid0.coords t) = 1#1 ∧ k0_cond3 (grid0.coords t) = 1#1 :=
  (by decide +kernel : ∀ t : Fin grid0.N, _)
theorem inner : ∀ t : Fin cfg0.N, (grid0.coords t 1).val = t.val % 8 :=
  (by decide +kernel : ∀ t : Fin grid0.N, _)

/-- The point at inner coordinate `s` of outer coordinate `g`. -/
def pt (g s : ℕ) : Fin cfg0.N := ⟨(g * 8 + s) % 136, Nat.mod_lt _ (by omega)⟩

theorem pt_val (g s : ℕ) (hg : g < 17) (hs : s < 8) : (pt g s).val = g * 8 + s := Nat.mod_eq_of_lt (by omega)

theorem pt_self (t : Fin cfg0.N) : pt (t.val / 8) (t.val % 8) = t := by
  have ht : t.val < 136 := t.isLt
  exact Fin.ext (show (t.val / 8 * 8 + t.val % 8) % 136 = t.val by omega)

/-! ## What the row buffers hold -/

/-- Before point `n` the buffer being filled has what was stored of tile `n / 8` so far, and the other one the whole previous tile. -/
def Inv {ι α : Type} (r : ι → ℕ) (fill : ℕ → ι → α) (n : ℕ) (s0 s1 : ι → α) : Prop := ∀ y,
  (r y < n % 8 * 128 → (if n / 8 % 2 = 0 then s0 else s1) y = fill (n / 8) y)
  ∧ (1 ≤ n / 8 → (if n / 8 % 2 = 0 then s1 else s0) y = fill (n / 8 - 1) y)

theorem Inv.zero {ι α : Type} (r : ι → ℕ) (fill : ℕ → ι → α) (s0 s1 : ι → α) : Inv r fill 0 s0 s1 := fun y =>
  ⟨fun h => absurd h (by simp), fun h => absurd h (by simp)⟩

/-- Storing a point's 128 rows extends what is stored by them. -/
theorem Inv.even {ι α : Type} {r : ι → ℕ} (hr : ∀ y, r y < 1024) {fill : ℕ → ι → α} {n : ℕ} (hg : n / 8 % 2 = 0) {s0 s1 : ι → α} (h : Inv r fill n s0 s1)
    {G : ι → α} (hG : ∀ y, G y = if 128 * (n % 8) ≤ r y ∧ r y < 128 * (n % 8) + 128 then fill (n / 8) y else s0 y) : Inv r fill (n + 1) G s1 := by
  intro y
  have hy := hr y
  obtain ⟨ha, hb⟩ := h y
  rw [if_pos hg] at ha hb
  have hG' : r y < (n % 8 + 1) * 128 → G y = fill (n / 8) y := fun hlt => by
    rw [hG y]
    split_ifs with hc
    · rfl
    · exact ha (by omega)
  by_cases hj : n % 8 < 7
  · rw [show (n + 1) / 8 = n / 8 by omega, show (n + 1) % 8 = n % 8 + 1 by omega, if_pos hg, if_pos hg]
    exact ⟨hG', hb⟩
  · rw [show (n + 1) / 8 = n / 8 + 1 by omega, show (n + 1) % 8 = 0 by omega, if_neg (show ¬ (n / 8 + 1) % 2 = 0 by omega), if_neg (show ¬ (n / 8 + 1) % 2 = 0 by omega)]
    exact ⟨fun hy => absurd hy (by simp), fun _ => hG' (by omega)⟩

theorem Inv.odd {ι α : Type} {r : ι → ℕ} (hr : ∀ y, r y < 1024) {fill : ℕ → ι → α} {n : ℕ} (hg : ¬ n / 8 % 2 = 0) {s0 s1 : ι → α} (h : Inv r fill n s0 s1)
    {G : ι → α} (hG : ∀ y, G y = if 128 * (n % 8) ≤ r y ∧ r y < 128 * (n % 8) + 128 then fill (n / 8) y else s1 y) : Inv r fill (n + 1) s0 G := by
  intro y
  have hy := hr y
  obtain ⟨ha, hb⟩ := h y
  rw [if_neg hg] at ha hb
  have hG' : r y < (n % 8 + 1) * 128 → G y = fill (n / 8) y := fun hlt => by
    rw [hG y]
    split_ifs with hc
    · rfl
    · exact ha (by omega)
  by_cases hj : n % 8 < 7
  · rw [show (n + 1) / 8 = n / 8 by omega, show (n + 1) % 8 = n % 8 + 1 by omega, if_neg hg, if_neg hg]
    exact ⟨hG', hb⟩
  · rw [show (n + 1) / 8 = n / 8 + 1 by omega, show (n + 1) % 8 = 0 by omega, if_pos (show (n / 8 + 1) % 2 = 0 by omega), if_pos (show (n / 8 + 1) % 2 = 0 by omega)]
    exact ⟨fun hy => absurd hy (by simp), fun _ => hG' (by omega)⟩

/-- The buffer the products read holds the previous tile. -/
theorem Inv.prev_even {ι α : Type} {r : ι → ℕ} {fill : ℕ → ι → α} {n : ℕ} (h0 : ¬ n / 8 = 0) (hg : n / 8 % 2 = 0) {s0 s1 : ι → α} (h : Inv r fill n s0 s1) :
    s1 = fill (n / 8 - 1) := by
  funext y
  have := (h y).2 (by omega)
  rwa [if_pos hg] at this
theorem Inv.prev_odd {ι α : Type} {r : ι → ℕ} {fill : ℕ → ι → α} {n : ℕ} (h0 : ¬ n / 8 = 0) (hg : ¬ n / 8 % 2 = 0) {s0 s1 : ι → α} (h : Inv r fill n s0 s1) :
    s0 = fill (n / 8 - 1) := by
  funext y
  have := (h y).2 (by omega)
  rwa [if_neg hg] at this

section
variable (m : (ℓ : Loc nD τ sig) → Buf (Elt F) ℓ)

/-- The normalized rows of the `g`-th tile. -/
def filled (c : Dev nD) (g : ℕ) : Vec F S1024x4096 .bf16 := fun y =>
  slab (iblk m c 0 (pt g ((y 0).val / 128))) (iblk m c 1 (pt g ((y 0).val / 128))) (iblk m c 2 (pt g ((y 0).val / 128)))
    (ix2 (⟨(y 0).val % 128, Nat.mod_lt _ (by omega)⟩ : Fin 128) (y 1))

/-- The statistics `G` gives of the `g`-th tile's rows. -/
def fillS (G : Vec F S128x4096 .f32 → ℕ → FVec F S8x128 .f32) (c : Dev nD) (g : ℕ) : Vec F S1024x128 .f32 := fun y =>
  statT (G (iblk m c 0 (pt g ((y 0).val / 128)))) (ix2 (⟨(y 0).val % 128, Nat.mod_lt _ (by omega)⟩ : Fin 128) (y 1))

theorem rowA_lt (y : S1024x4096.Idx) : (y 0).val < 1024 := (y 0).isLt
theorem rowS_lt (y : S1024x128.Idx) : (y 0).val < 1024 := (y 0).isLt

/-- What a row buffer reads once a point's slab is written over it. -/
def grown (c : Dev nD) (t : Fin cfg0.N) (s : Vec F S1024x4096 .bf16) : Vec F S1024x4096 .bf16 := fun y =>
  if 128 * (t.val % 8) ≤ (y 0).val ∧ (y 0).val < 128 * (t.val % 8) + 128 then filled m c (t.val / 8) y else s y
/-- The same of a buffer of statistics. -/
def grownS (G : Vec F S128x4096 .f32 → ℕ → FVec F S8x128 .f32) (c : Dev nD) (t : Fin cfg0.N) (s : Vec F S1024x128 .f32) : Vec F S1024x128 .f32 := fun y =>
  if 128 * (t.val % 8) ≤ (y 0).val ∧ (y 0).val < 128 * (t.val % 8) + 128 then fillS m G c (t.val / 8) y else s y

theorem grow_read (c : Dev nD) (t : Fin cfg0.N) {sp : Space} (a : Memref sig .tc sp S1024x4096 .bf16) (ha : a.IsWhole) (s : Vec F S1024x4096 .bf16)
    (o : Fin 8 → Fin 2 → ℕ) (i : ∀ r a, o r a + S16x4096.size a ≤ S1024x4096.size a) (e : ∀ r : Fin 8, o r = ![128 * (t.val % 8) + 16 * r.val, 0]) :
    a.view.read (Elt F) (a.view.writes (Elt F) (ha.unread s) (slabL (iblk m c 0 t) (iblk m c 1 t) (iblk m c 2 t) o i)) = grown m c t s := by
  funext y
  rw [slab_read a.view _ _ _ _ _ o i e y]
  unfold grown
  rw [ha.read_unread]
  split_ifs with h
  · unfold filled
    have e : (y 0).val / 128 = t.val % 8 := by omega
    have e' : ((y 0).val - 128 * (t.val % 8)) % 128 = (y 0).val % 128 := by omega
    rw [e, pt_self]
    simp only [e']
  · rfl

theorem growS_read (G : Vec F S128x4096 .f32 → ℕ → FVec F S8x128 .f32) (c : Dev nD) (t : Fin cfg0.N) {sp : Space} (a : Memref sig .tc sp S1024x128 .f32) (ha : a.IsWhole) (s : Vec F S1024x128 .f32)
    (o : Fin 8 → Fin 2 → Fin 2 → ℕ) (i : ∀ r q a, o r q a + S8x128.size a ≤ S1024x128.size a)
    (e : ∀ (r : Fin 8) (q : Fin 2), o r q = ![128 * (t.val % 8) + 16 * r.val + 8 * q.val, 0]) :
    a.view.read (Elt F) (a.view.writes (Elt F) (ha.unread s) (groupL (G (iblk m c 0 t)) o i)) = grownS m G c t s := by
  funext y
  rw [group_read a.view _ _ _ o i e y]
  unfold grownS
  rw [ha.read_unread]
  split_ifs with h
  · unfold fillS
    have e : (y 0).val / 128 = t.val % 8 := by omega
    have e' : ((y 0).val - 128 * (t.val % 8)) % 128 = (y 0).val % 128 := by omega
    rw [e, pt_self]
    simp only [e']
  · rfl

/-! ## The loop's invariant and the proof data -/

abbrev sc0 : Memref sig .tc .vmem S1024x4096 .bf16 := Memref.whole cc0_scratch0
abbrev sc1 : Memref sig .tc .vmem S1024x4096 .bf16 := Memref.whole cc0_scratch1
abbrev sc2 : Memref sig .tc .vmem S1024x128 .f32 := Memref.whole cc0_scratch2
abbrev sc3 : Memref sig .tc .vmem S1024x128 .f32 := Memref.whole cc0_scratch3
abbrev sc4 : Memref sig .tc .vmem S1024x128 .f32 := Memref.whole cc0_scratch4
abbrev sc5 : Memref sig .tc .vmem S1024x128 .f32 := Memref.whole cc0_scratch5

/-- What the six buffers hold before point `n`: the normalized rows, the means, the reciprocal deviations, a pair of each. -/
structure Holds (c : Dev nD) (n : ℕ) (s0 s1 : Vec F S1024x4096 .bf16) (s2 s3 s4 s5 : Vec F S1024x128 .f32) : Prop where
  a : Inv (fun y : S1024x4096.Idx => (y 0).val) (filled m c) n s0 s1
  mu : Inv (fun y : S1024x128.Idx => (y 0).val) (fillS m meanS c) n s2 s3
  rs : Inv (fun y : S1024x128.Idx => (y 0).val) (fillS m rstdS c) n s4 s5

/-- The buffers the body keeps between points, holding what `Holds` says. -/
def Phi (c : Dev nD) (n : ℕ) : sProp (RunM F) :=
  iprop((∃ s0 s1 s2 s3 s4 s5, ⌜Holds m c n s0 s1 s2 s3 s4 s5⌝ ∗ owns (c : Thread nD τ) sc0 fullShare s0 ∗ owns (c : Thread nD τ) sc1 fullShare s1
    ∗ owns (c : Thread nD τ) sc2 fullShare s2 ∗ owns (c : Thread nD τ) sc3 fullShare s3
    ∗ owns (c : Thread nD τ) sc4 fullShare s4 ∗ owns (c : Thread nD τ) sc5 fullShare s5) ∗ (∃ r, prngReg c r))

/-- The buffers the launch hands over, as memrefs owned at some contents. -/
theorem phiA_eq (c : Dev nD) : (Pipeline.ΦA spec0 c : sProp (RunM F))
    = iprop(iprop((∃ d, owns (c : Thread nD τ) sc0 fullShare d) ∗ (∃ d, owns (c : Thread nD τ) sc1 fullShare d) ∗ (∃ d, owns (c : Thread nD τ) sc2 fullShare d)
      ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

theorem phi_in (c : Dev nD) : (Pipeline.ΦA spec0 c : sProp (RunM F)) ⊢ Phi m c 0 := by
  rw [phiA_eq]; unfold Phi
  iintro ⟨⟨⟨%s0, H0⟩, ⟨%s1, H1⟩, ⟨%s2, H2⟩, ⟨%s3, H3⟩, ⟨%s4, H4⟩, ⟨%s5, H5⟩⟩, Hg⟩
  isplitr [Hg]
  · iexists s0; iexists s1; iexists s2; iexists s3; iexists s4; iexists s5
    isplitr
    · ipureintro; exact ⟨.zero _ _ _ _, .zero _ _ _ _, .zero _ _ _ _⟩
    isplitl [H0]; · iexact H0
    isplitl [H1]; · iexact H1
    isplitl [H2]; · iexact H2
    isplitl [H3]; · iexact H3
    isplitl [H4]; · iexact H4
    iexact H5
  iexact Hg

theorem phi_out (c : Dev nD) (n : ℕ) : Phi m c n ⊢ (Pipeline.ΦA spec0 c : sProp (RunM F)) := by
  rw [phiA_eq]; unfold Phi
  iintro ⟨⟨%s0, %s1, %s2, %s3, %s4, %s5, -, H0, H1, H2, H3, H4, H5⟩, Hg⟩
  isplitr [Hg]
  · isplitl [H0]; · iexists _; iexact H0
    isplitl [H1]; · iexists _; iexact H1
    isplitl [H2]; · iexists _; iexact H2
    isplitl [H3]; · iexists _; iexact H3
    isplitl [H4]; · iexists _; iexact H4
    iexists _; iexact H5
  iexact Hg

/-- The proof data: every input's block stays in place; the output tile is the previous rows', the row statistics and the cast the point's own. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => prodT (filled m c (t.val / 8 - 1)) (fillS m meanS c (t.val / 8 - 1)) (fillS m rstdS c (t.val / 8 - 1)) (iblk m c 3 t) (iblk m c 4 t) (iblk m c 5 t) (iblk m c 6 t) (iblk m c 7 t) (iblk m c 8 t)
    | ⟨11, _⟩ => statT (meanP (iblk m c 0 t))
    | ⟨12, _⟩ => statT (rstdP (iblk m c 0 t))
    | ⟨13, _⟩ => castW (iblk m c 9 t)
  Φ t := Phi m c t.val
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = prodT (filled m c (t.val / 8 - 1)) (fillS m meanS c (t.val / 8 - 1)) (fillS m rstdS c (t.val / 8 - 1)) (iblk m c 3 t) (iblk m c 4 t) (iblk m c 5 t) (iblk m c 6 t) (iblk m c 7 t) (iblk m c 8 t) := by dsimp only [dats]
theorem after_11 (c : Dev nD) (t : Fin cfg0.N) : (dats m 0 c).after 11 t = statT (meanP (iblk m c 0 t)) := by dsimp only [dats]
theorem after_12 (c : Dev nD) (t : Fin cfg0.N) : (dats m 0 c).after 12 t = statT (rstdP (iblk m c 0 t)) := by dsimp only [dats]
theorem after_13 (c : Dev nD) (t : Fin cfg0.N) : (dats m 0 c).after 13 t = castW (iblk m c 9 t) := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem before_9 (c : Dev nD) (t : Fin cfg0.N) (d) : (dats m 0 c).before 9 t d = iblk m c 9 t := before0_9_of m (dats m 0 c) (A_eq m c 9) (after_9 m c) t d

theorem phi_pre (c : Dev nD) (t : Fin cfg0.N) : (dats m 0 c).Φ t.castSucc = Phi m c t.val := by
  dsimp only [dats]; exact Dat.Φ_castSucc (fun n _ => Phi m c n) t
theorem phi_post (c : Dev nD) (t : Fin cfg0.N) : (dats m 0 c).Φ t.succ = Phi m c (t.val + 1) := by
  dsimp only [dats]; rfl

/-! ## The body at one point -/

/-- What the body is called with. -/
def pre (c : Dev nD) (t : Fin cfg0.N) : sProp (RunM F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- What it returns, the output tile's buffer as `R` says. -/
def post (c : Dev nD) (t : Fin cfg0.N) (R : sProp (RunM F)) : sProp (RunM F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ R
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

theorem sound_A (c : Dev nD) (t : Fin cfg0.N) (h0 : t.val / 8 = 0) :
    pre m c t ⊢ wp frame (wpE (defs₀ (F := F)) Variants.none c none) Set.univ (bodyAt0 t) (fun _ => post m c t iprop(∃ d, owns (c : Thread nD τ) (st0_10 t) fullShare ((dats m 0 c).before 10 t d))) := by
  obtain ⟨h1, h2, h3, -⟩ := at_A t h0
  have hg : t.val / 8 % 2 = 0 := by omega
  unfold pre post bodyAt0
  simp only [before_0, before_1, before_2, before_3, before_4, before_5, before_6, before_7, before_8, before_9]
  rw [show (dats m 0 c).owesAt () t.succ = (dats m 0 c).owesAt () t.castSucc from rfl, phi_pre, phi_post,
    after_0, after_1, after_2, after_3, after_4, after_5, after_6, after_7, after_8, after_9, after_11, after_12, after_13]
  unfold Phi
  iintro ⟨⟨⟨%s0, %s1, %s2, %s3, %s4, %s5, %hi, HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, ⟨%d11, H11⟩, ⟨%d12, H12⟩, ⟨%d13, H13⟩⟩
  iapply ((runA (F := F) c (grid0.coords t) h1 h2 h3 _ _ _ _ _ _ _ _ _ _ _ _ _ _ _ _ _ _ _ _ _ _ _ _ _ _ _ _ _ _ _ _ _ _ _ _ _ _ _ _ (iblk m c 0 t) (iblk m c 1 t) (iblk m c 2 t) (iblk m c 9 t) s0 s2 s4).2.2.2.2.2.2 Set.univ _)
  isplitl [H0]; · iexact H0
  isplitl [H1]; · iexact H1
  isplitl [H2]; · iexact H2
  isplitl [H9]; · iexact H9
  isplitl [HS0]; · iexact HS0
  isplitl [HS2]; · iexact HS2
  isplitl [HS4]; · iexact HS4
  isplitl [H11]; · iexists _; iexact H11
  isplitl [H12]; · iexists _; iexact H12
  isplitl [H13]; · iexists _; iexact H13
  iintro ⟨H0, H1, H2, H9, HS0, HS2, HS4, ⟨%e11, H11⟩, ⟨%e12, H12⟩, ⟨%e13, H13⟩⟩
  isplitl [HS0 HS1 HS2 HS3 HS4 HS5 Hg]
  · isplitr [Hg]
    · iexists (grown m c t s0); iexists s1; iexists (grownS m meanS c t s2); iexists s3; iexists (grownS m rstdS c t s4); iexists s5
      isplitr
      · ipureintro; exact ⟨hi.a.even rowA_lt hg fun _ => rfl, hi.mu.even rowS_lt hg fun _ => rfl, hi.rs.even rowS_lt hg fun _ => rfl⟩
      isplitl [HS0]
      · unfold owns; iexists _; isplitr
        swap; · iexact HS0
        ipureintro; rw [(spec_A _ _ _ _ _ _ _ _ _ _ _ _ _ _ _ _ _ _ _ _ _ _ _ _ _ _ _ _ _ _ _ _ _ _ _ _ _ _ _ _ _ _ _ _ _ _ _ _ _ _ _ _ _ rfl).1]
        exact grow_read m c t _ _ _ _ _ fun r => by rw [← inner t]; exact k0_off2_eq _ r
      isplitl [HS1]; · iexact HS1
      isplitl [HS2]
      · unfold owns; iexists _; isplitr
        swap; · iexact HS2
        ipureintro; rw [(spec_A _ _ _ _ _ _ _ _ _ _ _ _ _ _ _ _ _ _ _ _ _ _ _ _ _ _ _ _ _ _ _ _ _ _ _ _ _ _ _ _ _ _ _ _ _ _ _ _ _ _ _ _ _ rfl).2.1]
        exact growS_read m meanS c t _ _ _ _ _ fun r q => by rw [← inner t]; exact k0_off1_eq _ r q
      isplitl [HS3]; · iexact HS3
      isplitl [HS4]
      · unfold owns; iexists _; isplitr
        swap; · iexact HS4
        ipureintro; rw [(spec_A _ _ _ _ _ _ _ _ _ _ _ _ _ _ _ _ _ _ _ _ _ _ _ _ _ _ _ _ _ _ _ _ _ _ _ _ _ _ _ _ _ _ _ _ _ _ _ _ _ _ _ _ _ rfl).2.2.1]
        exact growS_read m rstdS c t _ _ _ _ _ fun r q => by rw [← inner t]; exact k0_off1_eq _ r q
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; rw [(spec_A _ _ _ _ _ _ _ _ _ _ _ _ _ _ _ _ _ _ _ _ _ _ _ _ _ _ _ _ _ _ _ _ _ _ _ _ _ _ _ _ _ _ _ _ _ _ _ _ _ _ _ _ _ rfl).2.2.2.1]; exact stat_read _ _ _
  isplitl [H12]
  · unfold owns; iexists _; isplitr
    swap; · iexact H12
    ipureintro; rw [(spec_A _ _ _ _ _ _ _ _ _ _ _ _ _ _ _ _ _ _ _ _ _ _ _ _ _ _ _ _ _ _ _ _ _ _ _ _ _ _ _ _ _ _ _ _ _ _ _ _ _ _ _ _ _ rfl).2.2.2.2.1]; exact stat_read _ _ _
  unfold owns; iexists _; isplitr
  swap; · iexact H13
  ipureintro; rw [(spec_A _ _ _ _ _ _ _ _ _ _ _ _ _ _ _ _ _ _ _ _ _ _ _ _ _ _ _ _ _ _ _ _ _ _ _ _ _ _ _ _ _ _ _ _ _ _ _ _ _ _ _ _ _ rfl).2.2.2.2.2]; exact cast_read _ _ _

theorem sound_B (c : Dev nD) (t : Fin cfg0.N) (h0 : ¬ t.val / 8 = 0) (hg : t.val / 8 % 2 = 0) :
    pre m c t ⊢ wp frame (wpE (defs₀ (F := F)) Variants.none c none) Set.univ (bodyAt0 t) (fun _ => post m c t (owns (c : Thread nD τ) (st0_10 t) fullShare ((dats m 0 c).after 10 t))) := by
  obtain ⟨h1, h2, h3⟩ := at_B t h0 hg
  unfold pre post bodyAt0
  simp only [before_0, before_1, before_2, before_3, before_4, before_5, before_6, before_7, before_8, before_9]
  rw [show (dats m 0 c).owesAt () t.succ = (dats m 0 c).owesAt () t.castSucc from rfl, phi_pre, phi_post,
    after_0, after_1, after_2, after_3, after_4, after_5, after_6, after_7, after_8, after_9, after_10, after_11, after_12, after_13]
  unfold Phi
  iintro ⟨⟨⟨%s0, %s1, %s2, %s3, %s4, %s5, %hi, HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runB (F := F) c (grid0.coords t) h1 h2 h3 _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) s1 s3 s5 s0 s2 s4).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS1]; · iexact HS1
  isplitl [HS3]; · iexact HS3
  isplitl [HS5]; · iexact HS5
  isplitl [HS0]; · iexact HS0
  isplitl [HS2]; · iexact HS2
  isplitl [HS4]; · iexact HS4
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, HS1, HS3, HS5, HS0, HS2, HS4, ⟨%e10, H10⟩, ⟨%e11, H11⟩, ⟨%e12, H12⟩, ⟨%e13, H13⟩⟩
  isplitl [HS0 HS1 HS2 HS3 HS4 HS5 Hg]
  · isplitr [Hg]
    · iexists (grown m c t s0); iexists s1; iexists (grownS m meanS c t s2); iexists s3; iexists (grownS m rstdS c t s4); iexists s5
      isplitr
      · ipureintro; exact ⟨hi.a.even rowA_lt hg fun _ => rfl, hi.mu.even rowS_lt hg fun _ => rfl, hi.rs.even rowS_lt hg fun _ => rfl⟩
      isplitl [HS0]
      · unfold owns; iexists _; isplitr
        swap; · iexact HS0
        ipureintro; rw [(spec_B _ _ _ _ _ _ _ _ _ _ _ _ _ _ _ _ _ _ _ _ _ _ _ _ _ _ _ _ _ _ _ _ _ _ _ _ _ _ _ _ _ _ _ _ _ _ _ _ _ _ _ _ _ _ _ _ _ _ _ _ _ _ rfl).1]
        exact grow_read m c t _ _ _ _ _ fun r => by rw [← inner t]; exact k0_off4_eq _ r
      isplitl [HS1]; · iexact HS1
      isplitl [HS2]
      · unfold owns; iexists _; isplitr
        swap; · iexact HS2
        ipureintro; rw [(spec_B _ _ _ _ _ _ _ _ _ _ _ _ _ _ _ _ _ _ _ _ _ _ _ _ _ _ _ _ _ _ _ _ _ _ _ _ _ _ _ _ _ _ _ _ _ _ _ _ _ _ _ _ _ _ _ _ _ _ _ _ _ _ rfl).2.1]
        exact growS_read m meanS c t _ _ _ _ _ fun r q => by rw [← inner t]; exact k0_off3_eq _ r q
      isplitl [HS3]; · iexact HS3
      isplitl [HS4]
      · unfold owns; iexists _; isplitr
        swap; · iexact HS4
        ipureintro; rw [(spec_B _ _ _ _ _ _ _ _ _ _ _ _ _ _ _ _ _ _ _ _ _ _ _ _ _ _ _ _ _ _ _ _ _ _ _ _ _ _ _ _ _ _ _ _ _ _ _ _ _ _ _ _ _ _ _ _ _ _ _ _ _ _ rfl).2.2.1]
        exact growS_read m rstdS c t _ _ _ _ _ fun r q => by rw [← inner t]; exact k0_off3_eq _ r q
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; rw [(spec_B _ _ _ _ _ _ _ _ _ _ _ _ _ _ _ _ _ _ _ _ _ _ _ _ _ _ _ _ _ _ _ _ _ _ _ _ _ _ _ _ _ _ _ _ _ _ _ _ _ _ _ _ _ _ _ _ _ _ _ _ _ _ rfl).2.2.2.1, hi.a.prev_even h0 hg, hi.mu.prev_even h0 hg, hi.rs.prev_even h0 hg]; exact prod_read _ _ _ _ _ _ _ _ _ _ _
  isplitl [H11]
  · unfold owns; iexists _; isplitr
    swap; · iexact H11
    ipureintro; rw [(spec_B _ _ _ _ _ _ _ _ _ _ _ _ _ _ _ _ _ _ _ _ _ _ _ _ _ _ _ _ _ _ _ _ _ _ _ _ _ _ _ _ _ _ _ _ _ _ _ _ _ _ _ _ _ _ _ _ _ _ _ _ _ _ rfl).2.2.2.2.1]; exact stat_read _ _ _
  isplitl [H12]
  · unfold owns; iexists _; isplitr
    swap; · iexact H12
    ipureintro; rw [(spec_B _ _ _ _ _ _ _ _ _ _ _ _ _ _ _ _ _ _ _ _ _ _ _ _ _ _ _ _ _ _ _ _ _ _ _ _ _ _ _ _ _ _ _ _ _ _ _ _ _ _ _ _ _ _ _ _ _ _ _ _ _ _ rfl).2.2.2.2.2.1]; exact stat_read _ _ _
  unfold owns; iexists _; isplitr
  swap; · iexact H13
  ipureintro; rw [(spec_B _ _ _ _ _ _ _ _ _ _ _ _ _ _ _ _ _ _ _ _ _ _ _ _ _ _ _ _ _ _ _ _ _ _ _ _ _ _ _ _ _ _ _ _ _ _ _ _ _ _ _ _ _ _ _ _ _ _ _ _ _ _ rfl).2.2.2.2.2.2]; exact cast_read _ _ _

theorem sound_C (c : Dev nD) (t : Fin cfg0.N) (h0 : ¬ t.val / 8 = 0) (hg : ¬ t.val / 8 % 2 = 0) :
    pre m c t ⊢ wp frame (wpE (defs₀ (F := F)) Variants.none c none) Set.univ (bodyAt0 t) (fun _ => post m c t (owns (c : Thread nD τ) (st0_10 t) fullShare ((dats m 0 c).after 10 t))) := by
  obtain ⟨h1, h2, h3⟩ := at_C t h0 hg
  unfold pre post bodyAt0
  simp only [before_0, before_1, before_2, before_3, before_4, before_5, before_6, before_7, before_8, before_9]
  rw [show (dats m 0 c).owesAt () t.succ = (dats m 0 c).owesAt () t.castSucc from rfl, phi_pre, phi_post,
    after_0, after_1, after_2, after_3, after_4, after_5, after_6, after_7, after_8, after_9, after_10, after_11, after_12, after_13]
  unfold Phi
  iintro ⟨⟨⟨%s0, %s1, %s2, %s3, %s4, %s5, %hi, HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runC (F := F) c (grid0.coords t) h1 h2 h3 _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) s0 s2 s4 s1 s3 s5).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS2]; · iexact HS2
  isplitl [HS4]; · iexact HS4
  isplitl [HS1]; · iexact HS1
  isplitl [HS3]; · iexact HS3
  isplitl [HS5]; · iexact HS5
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, HS0, HS2, HS4, HS1, HS3, HS5, ⟨%e10, H10⟩, ⟨%e11, H11⟩, ⟨%e12, H12⟩, ⟨%e13, H13⟩⟩
  isplitl [HS0 HS1 HS2 HS3 HS4 HS5 Hg]
  · isplitr [Hg]
    · iexists s0; iexists (grown m c t s1); iexists s2; iexists (grownS m meanS c t s3); iexists s4; iexists (grownS m rstdS c t s5)
      isplitr
      · ipureintro; exact ⟨hi.a.odd rowA_lt hg fun _ => rfl, hi.mu.odd rowS_lt hg fun _ => rfl, hi.rs.odd rowS_lt hg fun _ => rfl⟩
      isplitl [HS0]; · iexact HS0
      isplitl [HS1]
      · unfold owns; iexists _; isplitr
        swap; · iexact HS1
        ipureintro; rw [(spec_C _ _ _ _ _ _ _ _ _ _ _ _ _ _ _ _ _ _ _ _ _ _ _ _ _ _ _ _ _ _ _ _ _ _ _ _ _ _ _ _ _ _ _ _ _ _ _ _ _ _ _ _ _ _ _ _ _ _ _ _ _ _ rfl).1]
        exact grow_read m c t _ _ _ _ _ fun r => by rw [← inner t]; exact k0_off6_eq _ r
      isplitl [HS2]; · iexact HS2
      isplitl [HS3]
      · unfold owns; iexists _; isplitr
        swap; · iexact HS3
        ipureintro; rw [(spec_C _ _ _ _ _ _ _ _ _ _ _ _ _ _ _ _ _ _ _ _ _ _ _ _ _ _ _ _ _ _ _ _ _ _ _ _ _ _ _ _ _ _ _ _ _ _ _ _ _ _ _ _ _ _ _ _ _ _ _ _ _ _ rfl).2.1]
        exact growS_read m meanS c t _ _ _ _ _ fun r q => by rw [← inner t]; exact k0_off5_eq _ r q
      isplitl [HS4]; · iexact HS4
      unfold owns; iexists _; isplitr
      swap; · iexact HS5
      ipureintro; rw [(spec_C _ _ _ _ _ _ _ _ _ _ _ _ _ _ _ _ _ _ _ _ _ _ _ _ _ _ _ _ _ _ _ _ _ _ _ _ _ _ _ _ _ _ _ _ _ _ _ _ _ _ _ _ _ _ _ _ _ _ _ _ _ _ rfl).2.2.1]
      exact growS_read m rstdS c t _ _ _ _ _ fun r q => by rw [← inner t]; exact k0_off5_eq _ r q
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; rw [(spec_C _ _ _ _ _ _ _ _ _ _ _ _ _ _ _ _ _ _ _ _ _ _ _ _ _ _ _ _ _ _ _ _ _ _ _ _ _ _ _ _ _ _ _ _ _ _ _ _ _ _ _ _ _ _ _ _ _ _ _ _ _ _ rfl).2.2.2.1, hi.a.prev_odd h0 hg, hi.mu.prev_odd h0 hg, hi.rs.prev_odd h0 hg]; exact prod_read _ _ _ _ _ _ _ _ _ _ _
  isplitl [H11]
  · unfold owns; iexists _; isplitr
    swap; · iexact H11
    ipureintro; rw [(spec_C _ _ _ _ _ _ _ _ _ _ _ _ _ _ _ _ _ _ _ _ _ _ _ _ _ _ _ _ _ _ _ _ _ _ _ _ _ _ _ _ _ _ _ _ _ _ _ _ _ _ _ _ _ _ _ _ _ _ _ _ _ _ rfl).2.2.2.2.1]; exact stat_read _ _ _
  isplitl [H12]
  · unfold owns; iexists _; isplitr
    swap; · iexact H12
    ipureintro; rw [(spec_C _ _ _ _ _ _ _ _ _ _ _ _ _ _ _ _ _ _ _ _ _ _ _ _ _ _ _ _ _ _ _ _ _ _ _ _ _ _ _ _ _ _ _ _ _ _ _ _ _ _ _ _ _ _ _ _ _ _ _ _ _ _ rfl).2.2.2.2.2.1]; exact stat_read _ _ _
  unfold owns; iexists _; isplitr
  swap; · iexact H13
  ipureintro; rw [(spec_C _ _ _ _ _ _ _ _ _ _ _ _ _ _ _ _ _ _ _ _ _ _ _ _ _ _ _ _ _ _ _ _ _ _ _ _ _ _ _ _ _ _ _ _ _ _ _ _ _ _ _ _ _ _ _ _ _ _ _ _ _ _ rfl).2.2.2.2.2.2]; exact cast_read _ _ _

theorem row (t : Fin cfg0.N) : defs₀ (F := F) .tc cfg0.body (cfg0.bodyArgs t (cfg0.slots t)) = bodyAt0 t := by
  unfold defs₀; rw [Defs.onTc_tc]

/-- The body does at every point what the proof data say. -/
theorem body (c : Dev nD) : BodyObligation (dats (F := F) m 0 c) (defs₀ (F := F)) Variants.none () Set.univ := fun t => by
  rw [bigSep_W0, bigSep_W0, row]
  have live : ∀ i : grid0.Coords, (k0_cond1 i = 1#1 ∨ k0_cond2 i = 1#1 ∨ k0_cond3 i = 1#1) →
      (!(k0_cond1 i == 1#1) && !(k0_cond2 i == 1#1) && !(k0_cond3 i == 1#1)) = false := by
    rintro i (h | h | h) <;> simp [h]
  by_cases h0 : t.val / 8 = 0
  · obtain ⟨h1, h2, h3, hf⟩ := at_A t h0
    have i10 : cfg0.idle 10 (cfg0.grid.coords t) = true := by
      show (!(k0_cond2 (grid0.coords t) == 1#1) && !(k0_cond3 (grid0.coords t) == 1#1)) = true
      simp [h2, h3]
    have i11 : cfg0.idle 11 (cfg0.grid.coords t) = false := live _ (.inl h1)
    have f10 : (cfg0.win 10).flush t = false := hf
    rw [i10, i11, f10]
    exact triple_restated (sound_A m c t h0) rfl .rfl fun _ => .rfl
  · by_cases hg : t.val / 8 % 2 = 0
    · obtain ⟨h1, h2, h3⟩ := at_B t h0 hg
      have i10 : cfg0.idle 10 (cfg0.grid.coords t) = false := by
        show (!(k0_cond2 (grid0.coords t) == 1#1) && !(k0_cond3 (grid0.coords t) == 1#1)) = false
        simp [h2]
      have i11 : cfg0.idle 11 (cfg0.grid.coords t) = false := live _ (.inr (.inl h2))
      rw [i10, i11]
      exact triple_restated (sound_B m c t h0 hg) rfl .rfl fun _ => .rfl
    · obtain ⟨h1, h2, h3⟩ := at_C t h0 hg
      have i10 : cfg0.idle 10 (cfg0.grid.coords t) = false := by
        show (!(k0_cond2 (grid0.coords t) == 1#1) && !(k0_cond3 (grid0.coords t) == 1#1)) = false
        simp [h3]
      have i11 : cfg0.idle 11 (cfg0.grid.coords t) = false := live _ (.inr (.inr h3))
      rw [i10, i11]
      exact triple_restated (sound_C m c t h0 hg) rfl .rfl fun _ => .rfl

/-! ## The run -/

variable (ρ : Dev nD → PrngReg)

set_option backward.isDefEq.respectTransparency.types false in
/-- The whole program ends with every array at what the proof data leave of it and every counter at zero. -/
theorem run : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body m c).loose) (hq := fun _ _ _ => rfl) (howed := fun _ _ => rfl) (V := V m) (hmain := hmain m Variants.none)
    (hA := A_eq m) (hin := phi_in m) (hout := fun c => phi_out m c _)

theorem run_post : θ_run defs (onTc (τ := τ) (main (F := F))) (s₀ m ρ) (Pipeline.FramePost cfgs (dats m) 0 (V m)) :=
  (θ_run defs _ _).mono (fun _ h => h.1) (run m ρ)

/-- The arguments end unchanged and the counters at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_post m ρ)) ((θ_run defs _ _).mono (fun _ h => h.2) (run m ρ))

end

end Cert.PleIdeal.Run

end
-- ==== Proof.PleValue.lean ====
/- The gated embedding: the kernel's two arrays are the reference's. -/
module

public import proofs.«01_k».proof.Proof.FfnInValue
public import proofs.«01_k».proof.Proof.PleFrame
public import proofs.«01_k».proof.Proof.Gen.PleRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Emb

open Cert.Proj Cert.Ffn

/-- One entry of the gated embedding: the scaled normalized row and the embedding times the gate's logistic. -/
def entry (f w b : Fin 4096 → EReal) (e : Fin 256 → EReal) (u : Fin 256 → EReal) (v : Fin 4096 → EReal) (q : Fin 4096) : EReal :=
  alpha * norm f w b q + dense e u * Ideal.div 1 (1 + Ideal.exp (-dense (norm f w b) v))

end Cert.Emb

namespace Cert.PleRefIdeal.Value

open Cert.PleRefIdeal Cert.PleRefIdeal.Gen
open Cert.Proj Cert.Ffn Cert.Emb
set_option maxHeartbeats 2000000

/-- The reference's cast of the next layer's weight. -/
def refIn (a6 : FVec Ideal S2x4096x11264 .f32) : FVec Ideal S4096x11264 .bf16 :=
  truncf .bf16 (shapeCast _ (extractStridedSlice S1x4096x11264 ![1, 0, 0] a6 slices_S2x4096x11264_S1x4096x11264_1_0_0) shapeCasts_S1x4096x11264_S4096x11264) bitsLt_bf16_f32

theorem refIn_at (a6 : FVec Ideal S2x4096x11264 .f32) (p : Fin 4096) (q : Fin 11264) : refIn a6 (ix2 p q) = a6 (ix3 1 p q) := by
  pointwise [refIn]

/-- The reference's rows at a point. -/
theorem ref_at (m : (ℓ : Loc nD τ sig) → Buf (Elt Ideal) ℓ) (c : Dev nD) (p : Fin 16384) (q : Fin 4096) :
    res_main_v35 m c (ix2 p q) = entry (fun k => m (c.tc.loc main_arg0) (ix2 p k)) (fun k => m (c.tc.loc main_arg1) (ix1 k)) (fun k => m (c.tc.loc main_arg2) (ix1 k))
      (fun k => m (c.tc.loc main_arg3) (ix2 p k)) (fun k => m (c.tc.loc main_arg4) (ix2 k q)) (fun k => m (c.tc.loc main_arg5) (ix2 k q)) q := by
  pointwise [res_main_v35]
  rfl

end Cert.PleRefIdeal.Value

namespace Cert.PleIdeal.Run

open Cert.PleIdeal Cert.PleIdeal.Gen
open Cert.Proj Cert.Ffn Cert.Emb
set_option maxHeartbeats 2000000

/-- Eight normalized rows. -/
theorem pay22_at (w b : Vec Ideal S1x4096 .f32) (v : Vec Ideal S8x4096 .f32) (i0 : ∀ a, (![0, 0] : Fin 2 → Nat) a + S1x4096.size a ≤ S1x4096.size a) (r : Fin 8) (k : Fin 4096) :
    k0_pay22 (k0_pay9 (View.ld w (Rect.unit ![0, 0] ![1, 4096] i0))) (k0_pay10 (View.ld b (Rect.unit ![0, 0] ![1, 4096] i0))) v (ix2 r k)
    = norm (fun k => v (ix2 r k)) (fun k => w (ix2 0 k)) (fun k => b (ix2 0 k)) k := by
  pointwise [k0_pay22, k0_pay21, k0_pay20, k0_pay19, k0_pay9, k0_pay10]
  rfl
theorem pay15_at (v : Vec Ideal S8x4096 .f32) (r : Fin 8) (k : Fin 128) : k0_pay15 v (ix2 r k) = mean (fun k => v (ix2 r k)) := by
  pointwise [k0_pay15, k0_pay11]
  rfl
theorem pay16_at (v : Vec Ideal S8x4096 .f32) (r : Fin 8) (k : Fin 128) : k0_pay16 v (ix2 r k) = rstd (fun k => v (ix2 r k)) := by
  pointwise [k0_pay16, k0_pay13, k0_pay12, k0_pay11]
  rfl
theorem pay17_at (v : FVec Ideal S8x128 .f32) (r : Fin 8) (k : Fin 128) : k0_pay17 v (ix2 r k) = v (ix2 r k) := by
  pointwise [k0_pay17]
theorem pay27_at (a b : FVec Ideal S8x4096 .f32) (r : Fin 16) (k : Fin 4096) : k0_pay27 a b (ix2 r k)
    = if h : r.val < 8 then a (ix2 (⟨r.val, h⟩ : Fin 8) k) else b (ix2 (⟨r.val - 8, by omega⟩ : Fin 8) k) := by
  pointwise [k0_pay27]
  try rfl

/-- Rows from a row offset, at a point. -/
theorem rows_at (x : Vec Ideal S128x4096 .f32) (o : ℕ) (r : Fin 8) (p : Fin 128) (k : Fin 4096) (h : o + r.val = p.val) : rows x o (ix2 r k) = x (ix2 p k) := by
  have e : (⟨(o + r.val) % 128, Nat.mod_lt _ (by omega)⟩ : Fin 128) = p := Fin.ext (by dsimp only; omega)
  exact congrArg (fun q : Fin 128 => x (ix2 q k)) e
theorem rowsA_at (x : Vec Ideal S1024x4096 .bf16) (o : ℕ) (r : Fin 256) (p : Fin 1024) (k : Fin 4096) (h : o + r.val = p.val) : rowsA x o (ix2 r k) = x (ix2 p k) := by
  have e : (⟨(o + r.val) % 1024, Nat.mod_lt _ (by omega)⟩ : Fin 1024) = p := Fin.ext (by dsimp only; omega)
  exact congrArg (fun q : Fin 1024 => x (ix2 q k)) e
theorem rowsP_at (x : Vec Ideal S1024x256 .bf16) (o : ℕ) (r : Fin 256) (p : Fin 1024) (k : Fin 256) (h : o + r.val = p.val) : rowsP x o (ix2 r k) = x (ix2 p k) := by
  have e : (⟨(o + r.val) % 1024, Nat.mod_lt _ (by omega)⟩ : Fin 1024) = p := Fin.ext (by dsimp only; omega)
  exact congrArg (fun q : Fin 1024 => x (ix2 q k)) e
theorem rowsX_at (x : Vec Ideal S1024x512 .f32) (o : ℕ) (r : Fin 256) (p : Fin 1024) (k : Fin 512) (h : o + r.val = p.val) : rowsX x o (ix2 r k) = x (ix2 p k) := by
  have e : (⟨(o + r.val) % 1024, Nat.mod_lt _ (by omega)⟩ : Fin 1024) = p := Fin.ext (by dsimp only; omega)
  exact congrArg (fun q : Fin 1024 => x (ix2 q k)) e
theorem rowsS_at (x : Vec Ideal S1024x128 .f32) (o : ℕ) (r : Fin 256) (p : Fin 1024) (k : Fin 128) (h : o + r.val = p.val) : rowsS x o (ix2 r k) = x (ix2 p k) := by
  have e : (⟨(o + r.val) % 1024, Nat.mod_lt _ (by omega)⟩ : Fin 1024) = p := Fin.ext (by dsimp only; omega)
  exact congrArg (fun q : Fin 1024 => x (ix2 q k)) e

/-- A slab's normalized rows at a point. -/
theorem slab_at (x : Vec Ideal S128x4096 .f32) (w b : Vec Ideal S1x4096 .f32) (p : Fin 128) (k : Fin 4096) :
    slab x w b (ix2 p k) = norm (fun k => x (ix2 p k)) (fun k => w (ix2 0 k)) (fun k => b (ix2 0 k)) k := by
  change piece x w b (p.val / 16 * 16) (ix2 (⟨p.val % 16, by omega⟩ : Fin 16) k) = _
  unfold piece
  rw [pay27_at]
  split_ifs with h
  · refine (pay22_at w b _ _ _ k).trans ?_
    exact congrArg (fun f => norm f _ _ k) (funext fun j => rows_at x _ _ p j (by dsimp only; omega))
  · refine (pay22_at w b _ _ _ k).trans ?_
    exact congrArg (fun f => norm f _ _ k) (funext fun j => rows_at x _ _ p j (by dsimp only at h ⊢; omega))

/-- A slab's means and reciprocal deviations at a point, as the row buffers get them. -/
theorem meanS_at (x : Vec Ideal S128x4096 .f32) (p : Fin 128) (q : Fin 128) : statT (meanS x) (ix2 p q) = mean (fun k => x (ix2 p k)) := by
  change k0_pay17 (k0_pay15 (rows x (p.val / 8 * 8))) (ix2 (⟨p.val % 8, by omega⟩ : Fin 8) q) = _
  exact (pay17_at _ _ q).trans ((pay15_at _ _ q).trans (congrArg mean (funext fun j => rows_at x _ _ p j (by dsimp only; omega))))
theorem rstdS_at (x : Vec Ideal S128x4096 .f32) (p : Fin 128) (q : Fin 128) : statT (rstdS x) (ix2 p q) = rstd (fun k => x (ix2 p k)) := by
  change k0_pay17 (k0_pay16 (rows x (p.val / 8 * 8))) (ix2 (⟨p.val % 8, by omega⟩ : Fin 8) q) = _
  exact (pay17_at _ _ q).trans ((pay16_at _ _ q).trans (congrArg rstd (funext fun j => rows_at x _ _ p j (by dsimp only; omega))))

/-- The output's entry from a row of the row buffer, the row's statistics and the tile's own operands. -/
def out (a : Fin 4096 → EReal) (mu rs : EReal) (e u : Fin 256 → EReal) (v : Fin 4096 → EReal) (x w b : EReal) : EReal :=
  alpha * affine x mu rs w b + dense e u * Ideal.div 1 (1 + Ideal.exp (-dense a v))

/-- The 256 rows of the output at a point, where the row statistics are the same in every lane. -/
theorem pay303_at (a : Vec Ideal S256x4096 .bf16) (u : Vec Ideal S4096x512 .bf16) (e : Vec Ideal S256x256 .bf16) (v : Vec Ideal S256x512 .bf16) (x : Vec Ideal S256x512 .f32)
    (w b : Vec Ideal S1x512 .f32) (mu rs : Vec Ideal S256x128 .f32)
    (em : ∀ p k, mu (ix2 p k) = mu (ix2 p 0)) (er : ∀ p k, rs (ix2 p k) = rs (ix2 p 0))
    (i0 : ∀ a, (![0, 0] : Fin 2 → Nat) a + S4096x512.size a ≤ S4096x512.size a) (i1 : ∀ a, (![0, 0] : Fin 2 → Nat) a + S256x512.size a ≤ S256x512.size a)
    (i2 : ∀ a, (![0, 0] : Fin 2 → Nat) a + S1x512.size a ≤ S1x512.size a) (p : Fin 256) (q : Fin 512) :
    k0_pay303 (k0_pay301 a (View.ld u (Rect.unit ![0, 0] ![4096, 512] i0))) (k0_pay302 e (View.ld v (Rect.unit ![0, 0] ![256, 512] i1))) x
      (View.ld w (Rect.unit ![0, 0] ![1, 512] i2)) (View.ld b (Rect.unit ![0, 0] ![1, 512] i2)) mu rs (ix2 p q)
    = out (fun k => a (ix2 p k)) (mu (ix2 p 0)) (rs (ix2 p 0)) (fun k => e (ix2 p k)) (fun k => v (ix2 k q)) (fun k => u (ix2 k q)) (x (ix2 p q)) (w (ix2 0 q)) (b (ix2 0 q)) := by
  pointwise [k0_pay303, k0_pay302, k0_pay301, out, affine, dense, alpha]
  simp only [em, er]
  rw [Cert.FfnInIdeal.Run.zero_sub']
  split_ifs <;> rfl

/-- The output tile at a point. -/
theorem prodT_at (a : Vec Ideal S1024x4096 .bf16) (mu rs : Vec Ideal S1024x128 .f32) (e : Vec Ideal S1024x256 .bf16) (u : Vec Ideal S4096x512 .bf16) (v : Vec Ideal S256x512 .bf16)
    (x : Vec Ideal S1024x512 .f32) (w b : Vec Ideal S1x512 .f32) (em : ∀ p k, mu (ix2 p k) = mu (ix2 p 0)) (er : ∀ p k, rs (ix2 p k) = rs (ix2 p 0)) (p : Fin 1024) (q : Fin 512) :
    prodT a mu rs e u v x w b (ix2 p q)
      = out (fun k => a (ix2 p k)) (mu (ix2 p 0)) (rs (ix2 p 0)) (fun k => e (ix2 p k)) (fun k => v (ix2 k q)) (fun k => u (ix2 k q)) (x (ix2 p q)) (w (ix2 0 q)) (b (ix2 0 q)) := by
  change prodP a mu rs e u v x w b (p.val / 256 * 256) (ix2 (⟨p.val % 256, by omega⟩ : Fin 256) q) = _
  unfold prodP
  have hs : ∀ (s : Vec Ideal S1024x128 .f32), (∀ p k, s (ix2 p k) = s (ix2 p 0)) → ∀ (r : Fin 256) (k : Fin 128), rowsS s (p.val / 256 * 256) (ix2 r k) = rowsS s (p.val / 256 * 256) (ix2 r 0) :=
    fun s hs r k => hs _ k
  refine (pay303_at _ u _ v _ w b _ _ (hs mu em) (hs rs er) _ _ _ _ q).trans ?_
  have h : p.val / 256 * 256 + p.val % 256 = p.val := by omega
  rw [rowsS_at mu _ _ p 0 h, rowsS_at rs _ _ p 0 h, rowsX_at x _ _ p q h]
  congr 1
  · funext k; exact rowsA_at a _ _ p k h
  · funext k; exact rowsP_at e _ _ p k h

/-- The cast at a point. -/
theorem castW_at (x : Vec Ideal S1x32x11264 .f32) (p : Fin 32) (q : Fin 11264) : castW x (ix2 p q) = x (ix3 0 p q) := by
  unfold castW; pointwise [k0_pay8]

/-- The windows' block indices: the slab one of the point's tile, the output tile one outer step behind, the cast's row blocks until the weight ends. -/
theorem idx_in : ∀ t : Fin cfg0.N, win0_0.index t = ![if t.val / 8 < 16 then t.val else 127, 0]
    ∧ win0_1.index t = ![0, 0] ∧ win0_2.index t = ![0, 0] ∧ win0_9.index t = ![1, min t.val 127, 0] ∧ win0_13.index t = ![min t.val 127, 0] :=
  (by decide +kernel : ∀ t : Fin grid0.N, _)
theorem idx_tile : ∀ t : Fin cfg0.N, ¬ t.val / 8 = 0 → win0_3.index t = ![t.val / 8 - 1, 0] ∧ win0_4.index t = ![0, t.val % 8] ∧ win0_5.index t = ![0, t.val % 8]
    ∧ win0_6.index t = ![t.val / 8 - 1, t.val % 8] ∧ win0_7.index t = ![0, t.val % 8] ∧ win0_8.index t = ![0, t.val % 8] ∧ win0_10.index t = ![t.val / 8 - 1, t.val % 8] :=
  (by decide +kernel : ∀ t : Fin grid0.N, _)

variable (m : (ℓ : Loc nD τ sig) → Buf (Elt Ideal) ℓ)

/-! What the host code leaves in each prepared operand, and each window's block of its array. -/

theorem entry_v0 (c : Dev nD) (p k : Fin 4096) : V m c main_v0 (ix2 p k) = m (c.tc.loc main_arg5) (ix2 p k) := by
  dsimp only [V, hostOps0]; entry_read; pointwise
theorem entry_v1 (c : Dev nD) (p : Fin 16384) (k : Fin 256) : V m c main_v1 (ix2 p k) = m (c.tc.loc main_arg3) (ix2 p k) := by
  dsimp only [V, hostOps0]; entry_read; pointwise
theorem entry_v2 (c : Dev nD) (p : Fin 256) (k : Fin 4096) : V m c main_v2 (ix2 p k) = m (c.tc.loc main_arg4) (ix2 p k) := by
  dsimp only [V, hostOps0]; entry_read; pointwise
theorem entry_v3 (c : Dev nD) (k : Fin 4096) : V m c main_v3 (ix2 0 k) = m (c.tc.loc main_arg1) (ix1 k) := by
  dsimp only [V, hostOps0]; entry_read; pointwise
theorem entry_v4 (c : Dev nD) (k : Fin 4096) : V m c main_v4 (ix2 0 k) = m (c.tc.loc main_arg2) (ix1 k) := by
  dsimp only [V, hostOps0]; entry_read; pointwise
theorem entry_v5 (c : Dev nD) (k : Fin 4096) : V m c main_v5 (ix2 0 k) = m (c.tc.loc main_arg1) (ix1 k) := by
  dsimp only [V, hostOps0]; entry_read; pointwise
theorem entry_v6 (c : Dev nD) (k : Fin 4096) : V m c main_v6 (ix2 0 k) = m (c.tc.loc main_arg2) (ix1 k) := by
  dsimp only [V, hostOps0]; entry_read; pointwise
theorem iblk_0 (c : Dev nD) (t : Fin cfg0.N) (p : Fin 128) (k : Fin 4096) : iblk m c 0 t (ix2 p k)
    = m (c.tc.loc main_arg0) (ix2 (⟨(if t.val / 8 < 16 then t.val else 127) * 128 + p.val, by split_ifs <;> omega⟩ : Fin 16384) k) := by
  blk_ext [iblk, V, idx_in t]
theorem iblk_1 (c : Dev nD) (t : Fin cfg0.N) (k : Fin 4096) : iblk m c 1 t (ix2 0 k) = V m c main_v3 (ix2 0 k) := by
  blk_ext [iblk, idx_in t]
theorem iblk_2 (c : Dev nD) (t : Fin cfg0.N) (k : Fin 4096) : iblk m c 2 t (ix2 0 k) = V m c main_v4 (ix2 0 k) := by
  blk_ext [iblk, idx_in t]
theorem iblk_3 (c : Dev nD) (t : Fin cfg0.N) (ht : ¬ t.val / 8 = 0) (p : Fin 1024) (k : Fin 256) : iblk m c 3 t (ix2 p k)
    = V m c main_v1 (ix2 (⟨(t.val / 8 - 1) * 1024 + p.val, by have : t.val < 136 := t.isLt; omega⟩ : Fin 16384) k) := by
  blk_ext [iblk, idx_tile t ht]
theorem iblk_4 (c : Dev nD) (t : Fin cfg0.N) (ht : ¬ t.val / 8 = 0) (k : Fin 4096) (q : Fin 512) : iblk m c 4 t (ix2 k q)
    = V m c main_v0 (ix2 k (⟨t.val % 8 * 512 + q.val, by omega⟩ : Fin 4096)) := by
  blk_ext [iblk, idx_tile t ht]
theorem iblk_5 (c : Dev nD) (t : Fin cfg0.N) (ht : ¬ t.val / 8 = 0) (k : Fin 256) (q : Fin 512) : iblk m c 5 t (ix2 k q)
    = V m c main_v2 (ix2 k (⟨t.val % 8 * 512 + q.val, by omega⟩ : Fin 4096)) := by
  blk_ext [iblk, idx_tile t ht]
theorem iblk_6 (c : Dev nD) (t : Fin cfg0.N) (ht : ¬ t.val / 8 = 0) (p : Fin 1024) (q : Fin 512) : iblk m c 6 t (ix2 p q)
    = m (c.tc.loc main_arg0) (ix2 (⟨(t.val / 8 - 1) * 1024 + p.val, by have : t.val < 136 := t.isLt; omega⟩ : Fin 16384) (⟨t.val % 8 * 512 + q.val, by omega⟩ : Fin 4096)) := by
  blk_ext [iblk, V, idx_tile t ht]
theorem iblk_7 (c : Dev nD) (t : Fin cfg0.N) (ht : ¬ t.val / 8 = 0) (q : Fin 512) : iblk m c 7 t (ix2 0 q)
    = V m c main_v5 (ix2 0 (⟨t.val % 8 * 512 + q.val, by omega⟩ : Fin 4096)) := by
  blk_ext [iblk, idx_tile t ht]
theorem iblk_8 (c : Dev nD) (t : Fin cfg0.N) (ht : ¬ t.val / 8 = 0) (q : Fin 512) : iblk m c 8 t (ix2 0 q)
    = V m c main_v6 (ix2 0 (⟨t.val % 8 * 512 + q.val, by omega⟩ : Fin 4096)) := by
  blk_ext [iblk, idx_tile t ht]
theorem iblk_9 (c : Dev nD) (t : Fin cfg0.N) (p : Fin 32) (q : Fin 11264) : iblk m c 9 t (ix3 0 p q)
    = m (c.tc.loc main_arg6) (ix3 1 (⟨min t.val 127 * 32 + p.val, by omega⟩ : Fin 4096) q) := by
  blk_ext [iblk, V, idx_in t]

/-- A row of a tile's slab is a row of the array. -/
theorem slab_row (c : Dev nD) (g : ℕ) (hg : g < 16) (p : Fin 1024) (k : Fin 4096) :
    iblk m c 0 (pt g (p.val / 128)) (ix2 (⟨p.val % 128, Nat.mod_lt _ (by omega)⟩ : Fin 128) k)
      = m (c.tc.loc main_arg0) (ix2 (⟨g * 1024 + p.val, by omega⟩ : Fin 16384) k) := by
  have hv := pt_val g (p.val / 128) (by omega) (by omega)
  refine (iblk_0 m c _ _ k).trans ?_
  congr 2
  refine Fin.ext ?_
  dsimp only
  rw [hv, if_pos (by omega)]
  omega

/-- The filled row buffers at a point: the normalized row of the tile, its mean and its reciprocal deviation. -/
theorem filled_at (c : Dev nD) (g : ℕ) (hg : g < 16) (p : Fin 1024) (k : Fin 4096) : filled m c g (ix2 p k)
    = norm (fun k => m (c.tc.loc main_arg0) (ix2 (⟨g * 1024 + p.val, by omega⟩ : Fin 16384) k)) (fun k => m (c.tc.loc main_arg1) (ix1 k)) (fun k => m (c.tc.loc main_arg2) (ix1 k)) k := by
  change slab (iblk m c 0 (pt g (p.val / 128))) (iblk m c 1 (pt g (p.val / 128))) (iblk m c 2 (pt g (p.val / 128))) (ix2 (⟨p.val % 128, _⟩ : Fin 128) k) = _
  rw [slab_at]
  congr 1
  · funext k
    exact slab_row m c g hg p k
  · funext k
    exact (iblk_1 m c _ k).trans (entry_v3 m c k)
  · funext k
    exact (iblk_2 m c _ k).trans (entry_v4 m c k)
theorem fillM_at (c : Dev nD) (g : ℕ) (hg : g < 16) (p : Fin 1024) (k : Fin 128) : fillS m meanS c g (ix2 p k)
    = mean (fun k => m (c.tc.loc main_arg0) (ix2 (⟨g * 1024 + p.val, by omega⟩ : Fin 16384) k)) := by
  change statT (meanS (iblk m c 0 (pt g (p.val / 128)))) (ix2 (⟨p.val % 128, _⟩ : Fin 128) k) = _
  exact (meanS_at _ _ k).trans (congrArg mean (funext fun j => slab_row m c g hg p j))
theorem fillR_at (c : Dev nD) (g : ℕ) (hg : g < 16) (p : Fin 1024) (k : Fin 128) : fillS m rstdS c g (ix2 p k)
    = rstd (fun k => m (c.tc.loc main_arg0) (ix2 (⟨g * 1024 + p.val, by omega⟩ : Fin 16384) k)) := by
  change statT (rstdS (iblk m c 0 (pt g (p.val / 128)))) (ix2 (⟨p.val % 128, _⟩ : Fin 128) k) = _
  exact (rstdS_at _ _ k).trans (congrArg rstd (funext fun j => slab_row m c g hg p j))

/-- The kernel's rows are the reference's. -/
theorem final_10 (m' : (ℓ : Loc nD τ Cert.PleRefIdeal.sig) → Buf (Elt Ideal) ℓ) (c : Dev nD)
    (e0 : m' (c.tc.loc Cert.PleRefIdeal.main_arg0) = m (c.tc.loc main_arg0)) (e1 : m' (c.tc.loc Cert.PleRefIdeal.main_arg1) = m (c.tc.loc main_arg1))
    (e2 : m' (c.tc.loc Cert.PleRefIdeal.main_arg2) = m (c.tc.loc main_arg2)) (e3 : m' (c.tc.loc Cert.PleRefIdeal.main_arg3) = m (c.tc.loc main_arg3))
    (e4 : m' (c.tc.loc Cert.PleRefIdeal.main_arg4) = m (c.tc.loc main_arg4)) (e5 : m' (c.tc.loc Cert.PleRefIdeal.main_arg5) = m (c.tc.loc main_arg5)) :
    (dats m 0 c).arrAt 10 (cfgs 0).N = Cert.PleRefIdeal.Value.res_main_v35 m' c := by
  refine (dats m 0 c).arrAt_eq_of_covers 10 _ (by decide +kernel) fun t hf y => ?_
  have h0 : ¬ t.val / 8 = 0 := fun h => by
    have := (at_A t h).2.2.2
    exact absurd (hf.symm.trans this) (by decide)
  obtain ⟨i3, i4, i5, i6, i7, i8, i10⟩ := idx_tile t h0
  have ht : t.val < 136 := t.isLt
  have hg : t.val / 8 - 1 < 16 := by omega
  blk_simp [i10]
  rw [after_10]
  obtain ⟨p, q, rfl⟩ : ∃ (p : Fin 1024) (q : Fin 512), y = ix2 p q := ⟨y 0, y 1, by funext a; fin_cases a <;> rfl⟩
  have he : (win0_10.blk t).view.emb (ix2 p q) = ix2 (⟨(t.val / 8 - 1) * 1024 + p.val, by omega⟩ : Fin 16384) (⟨t.val % 8 * 512 + q.val, by omega⟩ : Fin 4096) := by
    blk_ext [i10]
  rw [he]
  refine (prodT_at _ _ _ _ _ _ _ _ _ (fun p k => (fillM_at m c _ hg p k).trans (fillM_at m c _ hg p 0).symm)
    (fun p k => (fillR_at m c _ hg p k).trans (fillR_at m c _ hg p 0).symm) p q).trans ?_
  refine Eq.trans ?_ (Cert.PleRefIdeal.Value.ref_at m' c _ _).symm
  rw [e0, e1, e2, e3, e4, e5, fillM_at m c _ hg, fillR_at m c _ hg]
  unfold out entry
  congr 1
  · congr 1
    unfold Cert.Ffn.norm affine
    rw [iblk_6 m c t h0 p q]
    congr 1
    · congr 1
      exact (iblk_7 m c t h0 q).trans (entry_v5 m c _)
    · exact (iblk_8 m c t h0 q).trans (entry_v6 m c _)
  · congr 1
    · congr 1
      · funext k
        exact (iblk_3 m c t h0 p k).trans (entry_v1 m c _ k)
      · funext k
        exact (iblk_5 m c t h0 k q).trans (entry_v2 m c k _)
    · refine congrArg (fun z => Ideal.div 1 (1 + Ideal.exp (-z))) ?_
      congr 1
      · funext k
        exact filled_at m c _ hg p k
      · funext k
        exact (iblk_4 m c t h0 k q).trans (entry_v0 m c k _)

/-- The kernel's cast is the reference's. -/
theorem final_13 (c : Dev nD) : (dats m 0 c).arrAt 13 (cfgs 0).N = Cert.PleRefIdeal.Value.refIn (m (c.tc.loc main_arg6)) := by
  refine (dats m 0 c).arrAt_eq_of_covers 13 _ (by decide +kernel) fun t hf y => ?_
  obtain ⟨i0, i1, i2, i9, i13⟩ := idx_in t
  blk_simp [i13]
  rw [after_13]
  obtain ⟨p, q, rfl⟩ : ∃ (p : Fin 32) (q : Fin 11264), y = ix2 p q := ⟨y 0, y 1, by funext a; fin_cases a <;> rfl⟩
  have he : (win0_13.blk t).view.emb (ix2 p q) = ix2 (⟨min t.val 127 * 32 + p.val, by omega⟩ : Fin 4096) q := by
    blk_ext [i13]
  rw [he]
  refine (castW_at _ p q).trans ?_
  refine Eq.trans ?_ (Cert.PleRefIdeal.Value.refIn_at _ _ _).symm
  exact iblk_9 m c t p q

/-- The run: each result is the reference's function of the arguments, the arguments unchanged, the counters at zero. -/
theorem run_values (ρ : Dev nD → PrngReg) (m' : (ℓ : Loc nD τ Cert.PleRefIdeal.sig) → Buf (Elt Ideal) ℓ)
    (hagree : ∀ c : Dev nD, m' (c.tc.loc Cert.PleRefIdeal.main_arg0) = m (c.tc.loc main_arg0) ∧ m' (c.tc.loc Cert.PleRefIdeal.main_arg1) = m (c.tc.loc main_arg1)
      ∧ m' (c.tc.loc Cert.PleRefIdeal.main_arg2) = m (c.tc.loc main_arg2) ∧ m' (c.tc.loc Cert.PleRefIdeal.main_arg3) = m (c.tc.loc main_arg3)
      ∧ m' (c.tc.loc Cert.PleRefIdeal.main_arg4) = m (c.tc.loc main_arg4) ∧ m' (c.tc.loc Cert.PleRefIdeal.main_arg5) = m (c.tc.loc main_arg5)) :
    θ_run defs (onTc (τ := τ) (main (F := Ideal))) ⟨m, fun _ => 0, ρ⟩ (fun r => ∀ c : Dev nD,
      r.2.mem ((c.tc : Thread nD τ).loc main_v7_0) = Cert.PleRefIdeal.Value.res_main_v35 m' c
      ∧ r.2.mem ((c.tc : Thread nD τ).loc main_v7_3) = Cert.PleRefIdeal.Value.refIn (m (c.tc.loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => by
    obtain ⟨hp, ha, -⟩ := h
    obtain ⟨e0, e1, e2, e3, e4, e5⟩ := hagree c
    exact ⟨((hp c).1 10).trans (final_10 m m' c e0 e1 e2 e3 e4 e5), ((hp c).1 13).trans (final_13 m c), ha c⟩)
    (θ_run_and (run_post m ρ) (frame_holds m ρ))

end Cert.PleIdeal.Run

end
-- ==== Proof.PleSame.lean ====
/- The gated embedding: the program and its idealization have the same text, so the run of one is the run of the other. -/
module

public import proofs.«01_k».proof.Defs
public import proofs.«01_k».proof.Proof.Gen.Ple
public import proofs.«01_k».proof.Proof.PleFrame

@[expose] public section

set_option maxRecDepth 16384

open Idealize.ShloMosaic Idealize.ShloMosaic.TcCoe Idealize.SL.Sem

namespace Cert.Ple.Run

local instance : Cert.Ple.Facts := Cert.Ple.Gen.facts
local instance : Cert.PleIdeal.Facts := Cert.PleIdeal.Gen.facts

/-- The two bodies are one function. -/
theorem body_eq a0 a1 a2 a3 a4 a5 a6 a7 a8 a9 a10 a11 a12 a13 a14 a15 a16 a17 a18 a19 a20 a21 a22 a23 a24 a25 a26 a27 a28 a29 a30 a31 a32 a33 a34 a35 a36 a37 a38 a39 a40 :
    Cert.Ple.cc0_ple (F := Bits) a0 a1 a2 a3 a4 a5 a6 a7 a8 a9 a10 a11 a12 a13 a14 a15 a16 a17 a18 a19 a20 a21 a22 a23 a24 a25 a26 a27 a28 a29 a30 a31 a32 a33 a34 a35 a36 a37 a38 a39 a40
    = Cert.PleIdeal.cc0_ple (F := Bits) a0 a1 a2 a3 a4 a5 a6 a7 a8 a9 a10 a11 a12 a13 a14 a15 a16 a17 a18 a19 a20 a21 a22 a23 a24 a25 a26 a27 a28 a29 a30 a31 a32 a33 a34 a35 a36 a37 a38 a39 a40 := rfl

set_option maxHeartbeats 4000000 in
/-- The two tables of bodies are one table. -/
theorem bodies_eq : Cert.Ple.defs₀ (F := Bits) = Cert.PleIdeal.defs₀ (F := Bits) := by
  refine congrArg Defs.onTc (funext fun l => funext fun a => ?_)
  match l, a with
  | 0, (t, s) => exact body_eq _ _ _ _ _ _ _ _ _ _ _ _ _ _ _ _ _ _ _ _ _ _ _ _ _ _ _ _ _ _ _ _ _ _ _ _ _ _ _ _ _

/-- So are the tables with the pipeline around them. -/
theorem defs_eq : Cert.Ple.defs (F := Bits) = Cert.PleIdeal.defs (F := Bits) := congrArg (Pipeline.defs (Cert.PleIdeal.pcfgs (F := Bits))) bodies_eq

/-- The program's frame, from the run stated for its idealization over any float values. -/
theorem frame_holds : Cert.quiescent_Ple := fun m g _ => by
  rw [defs_eq]
  exact Cert.PleIdeal.Run.frame_holds (F := Bits) m g

end Cert.Ple.Run

end
-- ==== Proof.FfnInSame.lean ====
/- The channel mixer's input: the program and its idealization have the same text, so the run of one is the run of the other. -/
module

public import proofs.«01_k».proof.Defs
public import proofs.«01_k».proof.Proof.Gen.FfnIn
public import proofs.«01_k».proof.Proof.FfnInFrame

@[expose] public section

set_option maxRecDepth 16384

open Idealize.ShloMosaic Idealize.ShloMosaic.TcCoe Idealize.SL.Sem

namespace Cert.FfnIn.Run

local instance : Cert.FfnIn.Facts := Cert.FfnIn.Gen.facts
local instance : Cert.FfnInIdeal.Facts := Cert.FfnInIdeal.Gen.facts

/-- The two bodies are one function. -/
theorem body_eq a0 a1 a2 a3 a4 a5 a6 a7 a8 a9 a10 a11 a12 a13 a14 a15 a16 a17 a18 a19 a20 a21 a22 a23 a24 a25 a26 a27 a28 a29 a30 a31 a32 a33 a34 a35 a36 :
    Cert.FfnIn.cc0_ffn_in (F := Bits) a0 a1 a2 a3 a4 a5 a6 a7 a8 a9 a10 a11 a12 a13 a14 a15 a16 a17 a18 a19 a20 a21 a22 a23 a24 a25 a26 a27 a28 a29 a30 a31 a32 a33 a34 a35 a36
    = Cert.FfnInIdeal.cc0_ffn_in (F := Bits) a0 a1 a2 a3 a4 a5 a6 a7 a8 a9 a10 a11 a12 a13 a14 a15 a16 a17 a18 a19 a20 a21 a22 a23 a24 a25 a26 a27 a28 a29 a30 a31 a32 a33 a34 a35 a36 := rfl

set_option maxHeartbeats 4000000 in
/-- The two tables of bodies are one table. -/
theorem bodies_eq : Cert.FfnIn.defs₀ (F := Bits) = Cert.FfnInIdeal.defs₀ (F := Bits) := by
  refine congrArg Defs.onTc (funext fun l => funext fun a => ?_)
  match l, a with
  | 0, (t, s) => exact body_eq _ _ _ _ _ _ _ _ _ _ _ _ _ _ _ _ _ _ _ _ _ _ _ _ _ _ _ _ _ _ _ _ _ _ _ _ _

/-- So are the tables with the pipeline around them. -/
theorem defs_eq : Cert.FfnIn.defs (F := Bits) = Cert.FfnInIdeal.defs (F := Bits) := congrArg (Pipeline.defs (Cert.FfnInIdeal.pcfgs (F := Bits))) bodies_eq

/-- The program's frame, from the run stated for its idealization over any float values. -/
theorem frame_holds : Cert.quiescent_FfnIn := fun m g _ => by
  rw [defs_eq]
  exact Cert.FfnInIdeal.Run.frame_holds (F := Bits) m g

end Cert.FfnIn.Run

end
-- ==== Proof.Consts.lean ====
/- The float constants of the two programs as the extended reals they denote, and the one identity of the gating
   function: the kernel's form of GELU, with its two constants folded into one, is the reference's form on every
   extended real. -/
module

public import proofs.«01_k».proof.KernelIdeal
public import Idealize.ShloMosaic.Lib.Pointwise
public import Idealize.ShloMosaic.Lib.IdealHost

@[expose] public section

noncomputable section

namespace Cert.Consts

open Idealize.ShloMosaic

theorem half : Ideal.ofBits .f32 0x3F000000#32 = ((1 / 2 : ℝ) : EReal) := by
  simp [Ideal.ofBits, Ideal.ieee, -EReal.coe_mul]; norm_num

theorem gc : Ideal.ofBits .f32 0x3F4C422A#32 = ((6693141 / 8388608 : ℝ) : EReal) := by
  simp [Ideal.ofBits, Ideal.ieee, -EReal.coe_mul]; norm_num

theorem gk : Ideal.ofBits .f32 0x3D372713#32 = ((12003091 / 268435456 : ℝ) : EReal) := by
  simp [Ideal.ofBits, Ideal.ieee, -EReal.coe_mul]; norm_num

/-- The kernel's folded constant, named the exact product of the two constants of the reference. -/
theorem ck : Named.named (F := Ideal) Cert.KernelIdeal.κ "ck" (φ := .f32) 0x3D122279#32
    = ((80338380498831 / 2251799813685248 : ℝ) : EReal) :=
  IdealRules.named_const.ideal_named_scalar _ _ _ _ rfl

/-- GELU as the reference writes it: `x · (1/2 · (1 + tanh (c · (x + k · x³))))`. -/
def gelu (x : EReal) : EReal :=
  x * (Ideal.ofBits .f32 0x3F000000#32 * (1 + Ideal.tanh (Ideal.ofBits .f32 0x3F4C422A#32 * (x + Ideal.ofBits .f32 0x3D372713#32 * (x * x * x)))))

/-- The kernel's form of GELU, `x · (1/2 + 1/2 · tanh (x · (c + ck · x²)))`, is the reference's at every extended real. -/
theorem gelu_kernel (x : EReal) :
    x * (Ideal.ofBits .f32 0x3F000000#32 + Ideal.ofBits .f32 0x3F000000#32 * Ideal.tanh (x * (Ideal.ofBits .f32 0x3F4C422A#32
      + Named.named (F := Ideal) Cert.KernelIdeal.κ "ck" (φ := .f32) 0x3D122279#32 * (x * x)))) = gelu x := by
  unfold gelu
  rw [half, gc, gk, ck]
  induction x with
  | bot =>
    rw [EReal.bot_mul_bot, EReal.coe_mul_top_of_pos (by norm_num), EReal.coe_add_top, EReal.bot_mul_top, EReal.top_mul_bot,
      EReal.coe_mul_bot_of_pos (by norm_num), EReal.bot_add, EReal.coe_mul_bot_of_pos (by norm_num), Ideal.tanh_bot]
    have h1 : ((1 / 2 : ℝ) : EReal) + ((1 / 2 : ℝ) : EReal) * -1 = 0 := by
      rw [show (-1 : EReal) = ((-1 : ℝ) : EReal) from rfl, ← EReal.coe_mul, ← EReal.coe_add]; norm_num
    have h2 : (1 : EReal) + -1 = 0 := by
      rw [show (-1 : EReal) = ((-1 : ℝ) : EReal) from rfl, show (1 : EReal) = ((1 : ℝ) : EReal) from rfl, ← EReal.coe_add]; norm_num
    rw [h1, h2]; simp
  | top =>
    rw [EReal.top_mul_top, EReal.coe_mul_top_of_pos (by norm_num), EReal.coe_add_top, EReal.top_mul_top,
      EReal.coe_mul_top_of_pos (by norm_num), EReal.top_add_top, EReal.coe_mul_top_of_pos (by norm_num), Ideal.tanh_top]
    have h1 : ((1 / 2 : ℝ) : EReal) + ((1 / 2 : ℝ) : EReal) * 1 = 1 := by
      rw [show (1 : EReal) = ((1 : ℝ) : EReal) from rfl, ← EReal.coe_mul, ← EReal.coe_add]; norm_num
    have h2 : ((1 / 2 : ℝ) : EReal) * ((1 : EReal) + 1) = 1 := by
      rw [show (1 : EReal) = ((1 : ℝ) : EReal) from rfl, ← EReal.coe_add, ← EReal.coe_mul]; norm_num
    rw [h1, h2]
  | coe r =>
    rw [show (1 : EReal) = ((1 : ℝ) : EReal) from rfl]
    simp only [← EReal.coe_mul, ← EReal.coe_add, Ideal.tanh_coe]
    congr 1
    rw [show (r * (6693141 / 8388608 + 80338380498831 / 2251799813685248 * (r * r)) : ℝ)
      = 6693141 / 8388608 * (r + 12003091 / 268435456 * (r * r * r)) by ring]
    ring

end Cert.Consts

end
-- ==== Proof.Sgu.lean ====
/- The spatial gating unit on one row, as a function of the row's own branch, the gate rows of its chunk, and the
   parameters. Both programs are read to this one form. -/
module

public import proofs.«01_k».proof.Proof.Consts

@[expose] public section

noncomputable section

namespace Cert.Sgu

open Idealize.ShloMosaic Cert.Consts

/-- The mean of 1024 lanes: their sum divided by the float 1024. -/
def mean (f : Fin 1024 → EReal) : EReal := Ideal.div (∑ k, f k) (Ideal.ofBits .f32 0x44800000#32)

/-- LayerNorm of one row with scale and shift. -/
def lnorm (f w b : Fin 1024 → EReal) (q : Fin 1024) : EReal :=
  (f q - mean f) * Ideal.rsqrt (mean (fun k => (f k - mean f) * (f k - mean f)) + Ideal.ofBits .f32 0x3727C5AC#32) * w q + b q

/-- RMSNorm of one row with scale. -/
def rnorm (f w : Fin 1024 → EReal) (q : Fin 1024) : EReal :=
  f q * Ideal.rsqrt (mean (fun k => f k * f k) + Ideal.ofBits .f32 0x358637BD#32) * w q

/-- The head of a lane. -/
def head (q : Fin 1024) : Fin 8 := ⟨q.val / 128, by omega⟩

/-- One row of the gated product: the row's activated branch times the causal mixture, per head, of the normalised
    gate rows of its chunk, plus the head's bias. -/
def gated (u : Fin 1024 → EReal) (v : Fin 128 → Fin 1024 → EReal) (lw lb : Fin 1024 → EReal)
    (W : Fin 8 → Fin 128 → EReal) (B : Fin 1024 → EReal) (q : Fin 1024) : EReal :=
  gelu (u q) * ((∑ s, W (head q) s * lnorm (fun k => gelu (v s k)) lw lb q) + B q)

/-- One row of the unit's output. -/
def sgu (u : Fin 1024 → EReal) (v : Fin 128 → Fin 1024 → EReal) (lw lb : Fin 1024 → EReal)
    (W : Fin 8 → Fin 128 → EReal) (B : Fin 1024 → EReal) (nw : Fin 1024 → EReal) (q : Fin 1024) : EReal :=
  rnorm (gated u v lw lb W B) nw q

end Cert.Sgu

end
-- ==== Proof.Tile.lean ====
/- The 64 tiles the body writes into its scratch are one array: the gated product of the block. -/
module

public import proofs.«01_k».proof.Proof.Sgu
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen
open Cert.Consts Cert.Sgu
set_option maxHeartbeats 2000000
/-- One 128×128 tile of the gated product from the head's mixture, the bias and the branch, at column `o` of the mixture. -/
def tileP (o : ℕ) (hs : S128x1024.Slices ![0, o] S128x128) (pw : FVec Ideal S128x1024 .f32) (b : Vec Ideal S128x128 .f32) (u : Vec Ideal S1x128x128 .f32) : FVec Ideal S128x128 .f32 :=
  have v76 : FVec Ideal S128x128 .f32 := extractStridedSlice S128x128 ![0, o] pw hs
  have v78 : FVec Ideal S128x128 .f32 := shapeCast S128x128 b shapeCasts_S128x128_S128x128
  have v79 : FVec Ideal S128x128 .f32 := addf v76 v78
  have v81 : FVec Ideal S128x128 .f32 := shapeCast S128x128 u shapeCasts_S1x128x128_S128x128
  have v82 : FVec Ideal S128x128 .f32 := mulf v81 v81
  have cst_45 : Ideal .f32 := Named.named κ "ck" 0x3D122279#32
  have v83 : FVec Ideal S128x128 .f32 := broadcast S128x128 cst_45
  have v84 : FVec Ideal S128x128 .f32 := mulf v83 v82
  have cst_46 : Ideal .f32 := Scalar.ofBits .f32 0x3F4C422A#32
  have v85 : FVec Ideal S128x128 .f32 := broadcast S128x128 cst_46
  have v86 : FVec Ideal S128x128 .f32 := addf v85 v84
  have v87 : FVec Ideal S128x128 .f32 := mulf v81 v86
  have v88 : FVec Ideal S128x128 .f32 := tanh v87
  have cst_47 : Ideal .f32 := Scalar.ofBits .f32 0x3F000000#32
  have v89 : FVec Ideal S128x128 .f32 := broadcast S128x128 cst_47
  have v90 : FVec Ideal S128x128 .f32 := mulf v89 v88
  have cst_48 : Ideal .f32 := Scalar.ofBits .f32 0x3F000000#32
  have v91 : FVec Ideal S128x128 .f32 := broadcast S128x128 cst_48
  have v92 : FVec Ideal S128x128 .f32 := addf v91 v90
  have v93 : FVec Ideal S128x128 .f32 := mulf v81 v92
  have v94 : FVec Ideal S128x128 .f32 := mulf v93 v79
  shapeCast S128x128 v94 shapeCasts_S128x128_S128x128

/-- The mixture of one head over the eight chunks: column `k·128 + j` of it is chunk `k`, lane `j` of the head. -/
theorem mix_at (VB : Vec Ideal S1024x1024 .bf16) (W : Vec Ideal S1x128x128 .bf16) (o : ℕ)
    (i0 : ∀ a, (![0, o] : Fin 2 → Nat) a + S128x128.size a ≤ S1024x1024.size a)
    (i1 : ∀ a, (![128, o] : Fin 2 → Nat) a + S128x128.size a ≤ S1024x1024.size a)
    (i2 : ∀ a, (![256, o] : Fin 2 → Nat) a + S128x128.size a ≤ S1024x1024.size a)
    (i3 : ∀ a, (![384, o] : Fin 2 → Nat) a + S128x128.size a ≤ S1024x1024.size a)
    (i4 : ∀ a, (![512, o] : Fin 2 → Nat) a + S128x128.size a ≤ S1024x1024.size a)
    (i5 : ∀ a, (![640, o] : Fin 2 → Nat) a + S128x128.size a ≤ S1024x1024.size a)
    (i6 : ∀ a, (![768, o] : Fin 2 → Nat) a + S128x128.size a ≤ S1024x1024.size a)
    (i7 : ∀ a, (![896, o] : Fin 2 → Nat) a + S128x128.size a ≤ S1024x1024.size a)
    (r : Fin 128) (k : ℕ) (hk : k < 8) (j : Fin 128) (l : Fin 1024) (hl : l.val = o + j.val) (q : Fin 1024) (hq : q.val = k * 128 + j.val) :
    k0_pay4 (View.ld VB (Rect.unit ![0, o] ![128, 128] i0)) (View.ld VB (Rect.unit ![128, o] ![128, 128] i1))
      (View.ld VB (Rect.unit ![256, o] ![128, 128] i2)) (View.ld VB (Rect.unit ![384, o] ![128, 128] i3))
      (View.ld VB (Rect.unit ![512, o] ![128, 128] i4)) (View.ld VB (Rect.unit ![640, o] ![128, 128] i5))
      (View.ld VB (Rect.unit ![768, o] ![128, 128] i6)) (View.ld VB (Rect.unit ![896, o] ![128, 128] i7)) W (ix2 r q)
    = ∑ s : Fin 128, W (ix3 0 r s) * VB (ix2 (⟨k * 128 + s.val, by omega⟩ : Fin 1024) l) := by
  have hj := j.isLt
  pointwise [k0_pay4]
  refine Finset.sum_congr rfl fun s _ => ?_
  congr 1
  obtain ⟨l, hlt⟩ := l
  obtain ⟨q, hqt⟩ := q
  simp only at hl hq
  subst hl hq
  interval_cases k
  all_goals
    dsimp only
    split_ifs <;> first
      | omega
      | exact congrArg₂ (fun a b => VB (ix2 a b)) (Fin.ext (by dsimp only <;> omega)) (Fin.ext (by dsimp only <;> omega))

/-- The gated product of a block as an array: its own branch, the causal mixture of its chunk's gate rows, the bias. -/
def G (VB : Vec Ideal S1024x1024 .bf16) (W : Vec Ideal S8x128x128 .bf16) (B : Vec Ideal S128x1024 .f32) (U : Vec Ideal S1x1024x1024 .f32)
    (p q : Fin 1024) : EReal :=
  gelu (U (ix3 0 p q)) * ((∑ s : Fin 128, W (ix3 (⟨q.val / 128, by omega⟩ : Fin 8) (⟨p.val % 128, by omega⟩ : Fin 128) s)
      * VB (ix2 (⟨p.val / 128 * 128 + s.val, by omega⟩ : Fin 1024) q)) + B (ix2 (⟨p.val % 128, by omega⟩ : Fin 128) q))

/-- Every tile the body writes is the gated product at the tile's place. -/
theorem tile_at (VB : Vec Ideal S1024x1024 .bf16) (W : Vec Ideal S8x128x128 .bf16) (B : Vec Ideal S128x1024 .f32) (U : Vec Ideal S1x1024x1024 .f32)
    (o0 o1 h : ℕ) (i0 i1 i2 i3 i4 i5 i6 i7 iw)
    (hs : S128x1024.Slices ![0, o0] S128x128)
    (ib : ∀ a, (![0, o1] : Fin 2 → Nat) a + S128x128.size a ≤ S128x1024.size a)
    (iu : ∀ a, (![0, o0, o1] : Fin 3 → Nat) a + S1x128x128.size a ≤ S1x1024x1024.size a)
    (x : S128x128.Idx) (y : S1024x1024.Idx) (e0 : o0 / 128 * 128 = o0) (e1 : h * 128 = o1) (l0 : o0 < 1024)
    (h0 : (y 0).val = o0 + (x 0).val) (h1 : (y 1).val = o1 + (x 1).val) :
    tileP o0 hs (k0_pay4 (View.ld VB (Rect.unit ![0, o1] ![128, 128] i0)) (View.ld VB (Rect.unit ![128, o1] ![128, 128] i1))
      (View.ld VB (Rect.unit ![256, o1] ![128, 128] i2)) (View.ld VB (Rect.unit ![384, o1] ![128, 128] i3))
      (View.ld VB (Rect.unit ![512, o1] ![128, 128] i4)) (View.ld VB (Rect.unit ![640, o1] ![128, 128] i5))
      (View.ld VB (Rect.unit ![768, o1] ![128, 128] i6)) (View.ld VB (Rect.unit ![896, o1] ![128, 128] i7))
      (View.ld W (Rect.unit ![h, 0, 0] ![1, 128, 128] iw)))
      (View.ld B (Rect.unit ![0, o1] ![128, 128] ib)) (View.ld U (Rect.unit ![0, o0, o1] ![1, 128, 128] iu)) x
    = G VB W B U (y 0) (y 1) := by
  obtain ⟨i, j, rfl⟩ : ∃ i j, x = ix2 i j := ⟨x 0, x 1, by funext a; fin_cases a <;> rfl⟩
  have hj : j.val < 128 := j.isLt
  have hi : i.val < 128 := i.isLt
  generalize y 0 = p at *
  generalize y 1 = q at *
  change p.val = o0 + i.val at h0
  change q.val = o1 + j.val at h1
  have hp : p.val < 1024 := p.isLt
  have hq : q.val < 1024 := q.isLt
  have ht : tileP o0 hs (k0_pay4 (View.ld VB (Rect.unit ![0, o1] ![128, 128] i0)) (View.ld VB (Rect.unit ![128, o1] ![128, 128] i1))
      (View.ld VB (Rect.unit ![256, o1] ![128, 128] i2)) (View.ld VB (Rect.unit ![384, o1] ![128, 128] i3))
      (View.ld VB (Rect.unit ![512, o1] ![128, 128] i4)) (View.ld VB (Rect.unit ![640, o1] ![128, 128] i5))
      (View.ld VB (Rect.unit ![768, o1] ![128, 128] i6)) (View.ld VB (Rect.unit ![896, o1] ![128, 128] i7))
      (View.ld W (Rect.unit ![h, 0, 0] ![1, 128, 128] iw)))
      (View.ld B (Rect.unit ![0, o1] ![128, 128] ib)) (View.ld U (Rect.unit ![0, o0, o1] ![1, 128, 128] iu)) (ix2 i j)
    = gelu (U (ix3 0 (⟨o0 + i.val, by omega⟩ : Fin 1024) (⟨o1 + j.val, by omega⟩ : Fin 1024)))
      * ((∑ s : Fin 128, View.ld W (Rect.unit ![h, 0, 0] ![1, 128, 128] iw) (ix3 0 i s)
          * VB (ix2 (⟨o0 / 128 * 128 + s.val, by omega⟩ : Fin 1024) q)) + B (ix2 i (⟨o1 + j.val, by omega⟩ : Fin 1024))) := by
    rw [← mix_at VB _ o1 i0 i1 i2 i3 i4 i5 i6 i7 i (o0 / 128) (by omega) j q h1 (⟨o0 + j.val, by omega⟩ : Fin 1024) (by dsimp only; omega)]
    generalize k0_pay4 (F := Ideal) _ _ _ _ _ _ _ _ _ = pw
    pointwise [tileP]
    rw [gelu_kernel]
  rw [ht]
  obtain ⟨p, hpt⟩ := p
  obtain ⟨q, hqt⟩ := q
  dsimp only at h0 h1
  subst h0 h1
  unfold G
  have a1 : (o0 + i.val) % 128 = i.val := by omega
  have a2 : (o0 + i.val) / 128 = o0 / 128 := by omega
  have a3 : (o1 + j.val) / 128 = h := by omega
  simp only [a1, a2, a3]
  congr 2
  refine Finset.sum_congr rfl fun s _ => ?_
  congr 1
  pointwise
variable (m : (ℓ : Loc nD τ sig) → Buf (Elt Ideal) ℓ)

/-- What the body leaves of one block. -/
theorem out_at (c : Dev nD) (t : Fin cfg0.N) (y : S1x1024x1024.Idx) : (outsAt0 m c t) y =
    k0_pay1 (k0_pay159 (fun y => G (k0_pay3 (k0_pay2 (iblk m c 1 t) (iblk m c 2 t) (iblk m c 3 t))) (iblk m c 4 t) (iblk m c 5 t) (iblk m c 0 t) (y 0) (y 1)) (iblk m c 6 t)) y := by
  unfold outsAt0; frame_out
  simp (disch := decide) only [↓ View.readCov_fill]
  generalize k0_pay3 (k0_pay2 (iblk m c 1 t) (iblk m c 2 t) (iblk m c 3 t)) = VB
  generalize iblk m c 4 t = W
  generalize iblk m c 5 t = B
  generalize iblk m c 0 t = U
  congr 2
  rw [View.readCov_eq_canon']
  funext y
  have hy : (Rect.unit ![0, 0] ![1024, 1024] inb_S1024x1024_S1024x1024_0_0).idx y = y := by
    funext a; fin_cases a <;> exact Fin.ext (by simp [LoadRect.idx, Rect.unit])
  rw [hy]
  clear hy
  change S1024x1024.Idx at y
  canon_tiles x h
  all_goals
    exact tile_at VB W B U _ _ _ _ _ _ _ _ _ _ _ _ (by decide) _ _ x y rfl rfl (by decide) (by omega) (by omega)

end Cert.KernelIdeal.Value

end
-- ==== Proof.Value.lean ====
/- Both programs at a point are the spatial gating unit on the point's row, and so the kernel's array is the reference's. -/
module

public import proofs.«01_k».proof.Proof.Tile
public import proofs.«01_k».proof.Proof.Gen.ReferenceIdeal.Run
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen
open Cert.Consts Cert.Sgu
set_option maxHeartbeats 2000000
variable (m : (ℓ : Loc nD τ sig) → Buf (Elt Ideal) ℓ)

/-- The normalised gate rows of a block. -/
theorem vb_at (X : Vec Ideal S1x1024x1024 .f32) (w b : Vec Ideal S1x1024 .f32) (p q : Fin 1024) :
    k0_pay3 (k0_pay2 X w b) (ix2 p q) = lnorm (fun k => gelu (X (ix3 0 p k))) (fun k => w (ix2 0 k)) (fun k => b (ix2 0 k)) q := by
  pointwise [k0_pay3, k0_pay2]
  simp only [gelu_kernel]
  rfl

/-- The body's last step normalises each row of the gated product. -/
theorem rms_at (g : Vec Ideal S1024x1024 .f32) (w : Vec Ideal S1x1024 .f32) (p q : Fin 1024) :
    k0_pay1 (k0_pay159 g w) (ix3 0 p q) = rnorm (fun k => g (ix2 p k)) (fun k => w (ix2 0 k)) q := by
  pointwise [k0_pay1, k0_pay159]
  rfl

/-- The body's block at a point is the unit on the block's row. -/
theorem blk_at (U V : Vec Ideal S1x1024x1024 .f32) (lw lb : Vec Ideal S1x1024 .f32) (W : Vec Ideal S8x128x128 .bf16) (B : Vec Ideal S128x1024 .f32)
    (nw : Vec Ideal S1x1024 .f32) (p q : Fin 1024) :
    k0_pay1 (k0_pay159 (fun y => G (k0_pay3 (k0_pay2 V lw lb)) W B U (y 0) (y 1)) nw) (ix3 0 p q) =
    sgu (fun k => U (ix3 0 p k)) (fun s k => V (ix3 0 (⟨p.val / 128 * 128 + s.val, by omega⟩ : Fin 1024) k))
      (fun k => lw (ix2 0 k)) (fun k => lb (ix2 0 k)) (fun h s => W (ix3 h (⟨p.val % 128, by omega⟩ : Fin 128) s))
      (fun q => B (ix2 (⟨p.val % 128, by omega⟩ : Fin 128) q)) (fun k => nw (ix2 0 k)) q := by
  rw [rms_at]
  unfold sgu
  congr 1
  funext k
  change G _ W B U p k = _
  unfold G gated
  simp only [vb_at]
  rfl

theorem outs_at (c : Dev nD) (t : Fin cfg0.N) (p q : Fin 1024) : (outsAt0 m c t) (ix3 0 p q) =
    sgu (fun k => iblk m c 0 t (ix3 0 p k)) (fun s k => iblk m c 1 t (ix3 0 (⟨p.val / 128 * 128 + s.val, by omega⟩ : Fin 1024) k))
      (fun k => iblk m c 2 t (ix2 0 k)) (fun k => iblk m c 3 t (ix2 0 k))
      (fun h s => iblk m c 4 t (ix3 h (⟨p.val % 128, by omega⟩ : Fin 128) s))
      (fun q => iblk m c 5 t (ix2 (⟨p.val % 128, by omega⟩ : Fin 128) q)) (fun k => iblk m c 6 t (ix2 0 k)) q :=
  (out_at m c t _).trans (blk_at (iblk m c 0 t) (iblk m c 1 t) (iblk m c 2 t) (iblk m c 3 t) (iblk m c 4 t) (iblk m c 5 t) (iblk m c 6 t) p q)

/-- The causal weight of chunk row `i` on chunk row `s`: the weight at or below the diagonal, zero above it. -/
def causal (w : EReal) (i s : Fin 128) : EReal :=
  Scalar.select (Scalar.select (IntOp.cmpi .sge (IntOp.addi (BitVec.ofNat 32 i.val) 0#32) (BitVec.ofNat 32 s.val)) 1#1 0#1) w 0

theorem select_mul (k : BitVec 1) (a b : EReal) : Scalar.select k (a * b) 0 = Scalar.select k b 0 * a := by
  unfold Scalar.select
  split
  · exact mul_comm a b
  · exact (zero_mul a).symm

/-- The reference at a point is the unit on the point's row. -/
theorem ref_at (m : (ℓ : Loc Cert.ReferenceIdeal.nD Cert.ReferenceIdeal.τ Cert.ReferenceIdeal.sig) → Buf (Elt Ideal) ℓ) (c : Dev Cert.ReferenceIdeal.nD)
    (b : Fin 4) (r : Fin 4096) (q : Fin 1024) :
    Cert.ReferenceIdeal.Value.res_main_v79 m c (ix3 b r q) =
    sgu (fun k => m (c.tc.loc Cert.ReferenceIdeal.main_arg0) (ix3 b r (⟨k.val, by omega⟩ : Fin 10240)))
      (fun s k => m (c.tc.loc Cert.ReferenceIdeal.main_arg0) (ix3 b (⟨r.val / 128 * 128 + s.val, by omega⟩ : Fin 4096) (⟨1024 + k.val, by omega⟩ : Fin 10240)))
      (fun k => m (c.tc.loc Cert.ReferenceIdeal.main_arg1) (ix1 k)) (fun k => m (c.tc.loc Cert.ReferenceIdeal.main_arg2) (ix1 k))
      (fun h s => causal (m (c.tc.loc Cert.ReferenceIdeal.main_arg3) (ix3 h (⟨r.val % 128, by omega⟩ : Fin 128) s)) (⟨r.val % 128, by omega⟩ : Fin 128) s)
      (fun k => m (c.tc.loc Cert.ReferenceIdeal.main_arg4) (ix2 (⟨k.val / 128, by omega⟩ : Fin 8) (⟨r.val % 128, by omega⟩ : Fin 128))) (fun k => m (c.tc.loc Cert.ReferenceIdeal.main_arg5) (ix1 k)) q := by
  pointwise [Cert.ReferenceIdeal.Value.res_main_v79]
  simp only [← gelu.eq_def, select_mul]
  rfl

/-- Every window's block index at every grid point. -/
theorem idx_val : ∀ t : Fin cfg0.N, win0_0.index t = ![t.val / 4, t.val % 4, 0]
    ∧ win0_1.index t = ![t.val / 4, t.val % 4, 1]
    ∧ win0_2.index t = ![0, 0]
    ∧ win0_3.index t = ![0, 0]
    ∧ win0_4.index t = ![0, 0, 0]
    ∧ win0_5.index t = ![0, 0]
    ∧ win0_6.index t = ![0, 0]
    ∧ win0_7.index t = ![t.val / 4, t.val % 4, 0] :=
  (by decide +kernel : ∀ t : Fin grid0.N, _)

/-! What the host code leaves in each operand, and each window's block of it. -/

theorem entry_v9 (c : Dev nD) (k : Fin 1024) : V m c main_v9 (ix2 0 k) = m (c.tc.loc main_arg1) (ix1 k) := by
  dsimp only [V, hostOps0, hostOps0_1, hostOps0_2, hostOps0_3, hostOps0_4, List.flatten_cons, List.flatten_nil, List.cons_append, List.nil_append, List.append_nil]; entry_read; pointwise
theorem entry_v10 (c : Dev nD) (k : Fin 1024) : V m c main_v10 (ix2 0 k) = m (c.tc.loc main_arg2) (ix1 k) := by
  dsimp only [V, hostOps0, hostOps0_1, hostOps0_2, hostOps0_3, hostOps0_4, List.flatten_cons, List.flatten_nil, List.cons_append, List.nil_append, List.append_nil]; entry_read; pointwise
theorem entry_v11 (c : Dev nD) (k : Fin 1024) : V m c main_v11 (ix2 0 k) = m (c.tc.loc main_arg5) (ix1 k) := by
  dsimp only [V, hostOps0, hostOps0_1, hostOps0_2, hostOps0_3, hostOps0_4, List.flatten_cons, List.flatten_nil, List.cons_append, List.nil_append, List.append_nil]; entry_read; pointwise
theorem entry_v8 (c : Dev nD) (r : Fin 128) (k : Fin 1024) : V m c main_v8 (ix2 r k) = m (c.tc.loc main_arg4) (ix2 (⟨k.val / 128, by omega⟩ : Fin 8) r) := by
  dsimp only [V, hostOps0, hostOps0_1, hostOps0_2, hostOps0_3, hostOps0_4, List.flatten_cons, List.flatten_nil, List.cons_append, List.nil_append, List.append_nil]; entry_read; pointwise
theorem entry_v5 (c : Dev nD) (h : Fin 8) (r s : Fin 128) : V m c main_v5 (ix3 h r s) = causal (m (c.tc.loc main_arg3) (ix3 h r s)) r s := by
  dsimp only [V, hostOps0, hostOps0_1, hostOps0_2, hostOps0_3, hostOps0_4, List.flatten_cons, List.flatten_nil, List.cons_append, List.nil_append, List.append_nil]; entry_read; simp only [StableHlo.TRef.ofBuf, StableHlo.TRef.toBuf, cast_eq]; pointwise; rfl
theorem iblk_0 (c : Dev nD) (t : Fin cfg0.N) (p k : Fin 1024) : iblk m c 0 t (ix3 0 p k)
    = m (c.tc.loc main_arg0) (ix3 (⟨t.val / 4, by have : t.val < 16 := t.isLt; omega⟩ : Fin 4) (⟨t.val % 4 * 1024 + p.val, by omega⟩ : Fin 4096) (⟨k.val, by omega⟩ : Fin 10240)) := by
  blk_ext [iblk, V, idx_val t]
theorem iblk_1 (c : Dev nD) (t : Fin cfg0.N) (p k : Fin 1024) : iblk m c 1 t (ix3 0 p k)
    = m (c.tc.loc main_arg0) (ix3 (⟨t.val / 4, by have : t.val < 16 := t.isLt; omega⟩ : Fin 4) (⟨t.val % 4 * 1024 + p.val, by omega⟩ : Fin 4096) (⟨1024 + k.val, by omega⟩ : Fin 10240)) := by
  blk_ext [iblk, V, idx_val t]
theorem iblk_2 (c : Dev nD) (t : Fin cfg0.N) (k : Fin 1024) : iblk m c 2 t (ix2 0 k) = V m c main_v9 (ix2 0 k) := by
  blk_ext [iblk, idx_val t]
theorem iblk_3 (c : Dev nD) (t : Fin cfg0.N) (k : Fin 1024) : iblk m c 3 t (ix2 0 k) = V m c main_v10 (ix2 0 k) := by
  blk_ext [iblk, idx_val t]
theorem iblk_6 (c : Dev nD) (t : Fin cfg0.N) (k : Fin 1024) : iblk m c 6 t (ix2 0 k) = V m c main_v11 (ix2 0 k) := by
  blk_ext [iblk, idx_val t]
theorem iblk_4 (c : Dev nD) (t : Fin cfg0.N) (h : Fin 8) (r s : Fin 128) : iblk m c 4 t (ix3 h r s) = V m c main_v5 (ix3 h r s) := by
  blk_ext [iblk, idx_val t]
theorem iblk_5 (c : Dev nD) (t : Fin cfg0.N) (r : Fin 128) (k : Fin 1024) : iblk m c 5 t (ix2 r k) = V m c main_v8 (ix2 r k) := by
  blk_ext [iblk, idx_val t]

/-- The kernel's array is the reference's, on arguments that agree. -/
theorem final (m' : (ℓ : Loc Cert.ReferenceIdeal.nD Cert.ReferenceIdeal.τ Cert.ReferenceIdeal.sig) → Buf (Elt Ideal) ℓ) (c : Dev nD)
    (e0 : m' (c.tc.loc Cert.ReferenceIdeal.main_arg0) = m (c.tc.loc main_arg0))
    (e1 : m' (c.tc.loc Cert.ReferenceIdeal.main_arg1) = m (c.tc.loc main_arg1))
    (e2 : m' (c.tc.loc Cert.ReferenceIdeal.main_arg2) = m (c.tc.loc main_arg2))
    (e3 : m' (c.tc.loc Cert.ReferenceIdeal.main_arg3) = m (c.tc.loc main_arg3))
    (e4 : m' (c.tc.loc Cert.ReferenceIdeal.main_arg4) = m (c.tc.loc main_arg4))
    (e5 : m' (c.tc.loc Cert.ReferenceIdeal.main_arg5) = m (c.tc.loc main_arg5)) :
    (dats m 0 c).arrAt 7 (cfgs 0).N = Cert.ReferenceIdeal.Value.res_main_v79 m' c := by
  refine (dats m 0 c).arrAt_eq_of_covers 7 _ (by decide +kernel) fun t hf y => ?_
  obtain ⟨i0, i1, i2, i3, i4, i5, i6, i7⟩ := idx_val t
  blk_simp [i7]
  rw [after0_7]
  have ht : t.val < 16 := t.isLt
  obtain ⟨p, q, rfl⟩ : ∃ (p q : Fin 1024), y = ix3 0 p q :=
    ⟨y 1, y 2, by funext a; fin_cases a; exacts [Subsingleton.elim (α := Fin 1) _ _, rfl, rfl]⟩
  have hp := p.isLt
  have hq := q.isLt
  have he : (win0_7.blk t).view.emb (ix3 0 p q) = ix3 (⟨t.val / 4, by omega⟩ : Fin 4) (⟨t.val % 4 * 1024 + p.val, by omega⟩ : Fin 4096) q := by
    blk_ext [i7]
  rw [he]
  refine (outs_at m c t p q).trans (Eq.trans ?_ (ref_at m' c _ _ q).symm)
  rw [e0, e1, e2, e3, e4, e5]
  have ht4 : ∀ x : Fin 1024, (t.val % 4 * 1024 + x.val) % 128 = x.val % 128 := fun x => by omega
  simp only [iblk_0, iblk_1, iblk_2, iblk_3, iblk_4, iblk_5, iblk_6, ht4]
  congr 1
  · funext s k
    refine congrArg (m (c.tc.loc main_arg0)) ?_
    have h3 : t.val % 4 * 1024 + (p.val / 128 * 128 + s.val) = (t.val % 4 * 1024 + p.val) / 128 * 128 + s.val := by omega
    simp only [h3]
  · exact funext fun k => entry_v9 m c k
  · exact funext fun k => entry_v10 m c k
  · exact funext fun h => funext fun s => entry_v5 m c h _ s
  · exact funext fun k => entry_v8 m c _ k
  · exact funext fun k => entry_v11 m c k

end Cert.KernelIdeal.Value

end
-- ==== Proof.InProjValue.lean ====
/- The input projection and the two casts its grid carries: the kernel's arrays are the reference's. -/
module

public import proofs.«01_k».proof.Proof.ProjSpec
public import proofs.«01_k».proof.Proof.Gen.InProjIdeal.Value
public import proofs.«01_k».proof.Proof.Gen.InProjRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InProjRefIdeal.Value

open Cert.InProjRefIdeal Cert.InProjRefIdeal.Gen
open Cert.Proj

/-- The reference's projection as a function of its arguments. -/
def ref (a0 : FVec Ideal S16384x4096 .f32) (a1 : FVec Ideal S4096x11264 .f32) : FVec Ideal S16384x10240 .f32 :=
  extractStridedSlice S16384x10240 ![0, 1024] (Host.dotGeneral (F := Ideal) dot_S16384x4096_S4096x11264_S16384x11264_1_0_0_1_n_n none a0 a1) slices_S16384x11264_S16384x10240_0_1024

/-- The reference's cast of the channel mixer's weight. -/
def refFfn (a2 : FVec Ideal S2x4096x22016 .f32) : FVec Ideal S4096x22016 .bf16 :=
  truncf .bf16 (shapeCast _ (extractStridedSlice S1x4096x22016 ![0, 0, 0] a2 slices_S2x4096x22016_S1x4096x22016_0_0_0) shapeCasts_S1x4096x22016_S4096x22016) bitsLt_bf16_f32

/-- The reference's cast of the output projection's weight. -/
def refOut (a3 : FVec Ideal S2x4096x4096 .f32) : FVec Ideal S4096x4096 .bf16 :=
  truncf .bf16 (shapeCast _ (extractStridedSlice S1x4096x4096 ![0, 0, 0] a3 slices_S2x4096x4096_S1x4096x4096_0_0_0) shapeCasts_S1x4096x4096_S4096x4096) bitsLt_bf16_f32

/-- The reference's projection at a point. -/
theorem ref_at (a0 : FVec Ideal S16384x4096 .f32) (a1 : FVec Ideal S4096x11264 .f32) (p : Fin 16384) (q : Fin 10240) :
    ref a0 a1 (ix2 p q) = dense (fun k => a0 (ix2 p k)) (fun k => a1 (ix2 k (⟨1024 + q.val, by omega⟩ : Fin 11264))) := by
  pointwise [ref, dense]
theorem refFfn_at (a2 : FVec Ideal S2x4096x22016 .f32) (p : Fin 4096) (q : Fin 22016) : refFfn a2 (ix2 p q) = a2 (ix3 0 p q) := by
  pointwise [refFfn]
theorem refOut_at (a3 : FVec Ideal S2x4096x4096 .f32) (p q : Fin 4096) : refOut a3 (ix2 p q) = a3 (ix3 0 p q) := by
  pointwise [refOut]

end Cert.InProjRefIdeal.Value

namespace Cert.InProjIdeal.Value

open Cert.InProjIdeal Cert.InProjIdeal.Gen
open Cert.Proj
set_option maxHeartbeats 2000000

/-- The 256 rows the body computes at a time, from any row offset of the block. -/
theorem rows_at (x0 : Vec Ideal S1024x4096 .bf16) (x1 : Vec Ideal S4096x1024 .bf16)
    (o : ℕ) (i0 : ∀ a, (![o, 0] : Fin 2 → Nat) a + S256x4096.size a ≤ S1024x4096.size a)
    (i1 : ∀ a, (![0, 0] : Fin 2 → Nat) a + S4096x1024.size a ≤ S4096x1024.size a)
    (x : S256x1024.Idx) (y : S1024x1024.Idx) (h0 : (y 0).val = o + (x 0).val) (h1 : (y 1).val = (x 1).val) :
    k0_pay1 (View.ld x0 (Rect.unit ![o, 0] ![256, 4096] i0)) (View.ld x1 (Rect.unit ![0, 0] ![4096, 1024] i1)) x
    = dense (fun k => x0 (ix2 (y 0) k)) (fun k => x1 (ix2 k (y 1))) := by
  obtain ⟨i, j, rfl⟩ : ∃ i j, x = ix2 i j := ⟨x 0, x 1, by funext a; fin_cases a <;> rfl⟩
  generalize y 0 = p at *
  generalize y 1 = q at *
  change p.val = o + i.val at h0
  change q.val = j.val at h1
  have hp : p.val < 1024 := p.isLt
  obtain ⟨p, hpt⟩ := p
  obtain rfl : q = j := Fin.ext h1
  dsimp only at h0
  subst h0
  pointwise [k0_pay1, dense]

/-- What the body leaves of one block of the projection. -/
theorem out_at (x0 : Vec Ideal S1024x4096 .bf16) (x1 : Vec Ideal S4096x1024 .bf16) (x2 : Vec Ideal S1x32x22016 .f32) (x3 : Vec Ideal S1x32x4096 .f32)
    (y : S1024x1024.Idx) : out0_4 x0 x1 x2 x3 y = dense (fun k => x0 (ix2 (y 0) k)) (fun k => x1 (ix2 k (y 1))) := by
  unfold out0_4
  canon_tiles x h
  all_goals exact rows_at x0 x1 _ _ _ x y (by omega) (by omega)

/-- What the body leaves of one block of the channel mixer's weight. -/
theorem ffn_at (x0 : Vec Ideal S1024x4096 .bf16) (x1 : Vec Ideal S4096x1024 .bf16) (x2 : Vec Ideal S1x32x22016 .f32) (x3 : Vec Ideal S1x32x4096 .f32)
    (p : Fin 32) (q : Fin 22016) : out0_5 x0 x1 x2 x3 (ix2 p q) = x2 (ix3 0 p q) := by
  unfold out0_5
  canon_tiles x h
  all_goals
    obtain ⟨i, j, rfl⟩ : ∃ i j, x = ix2 i j := ⟨x 0, x 1, by funext a; fin_cases a <;> rfl⟩
    obtain rfl : p = i := Fin.ext (by change p.val = i.val; dsimp at h0; omega)
    obtain rfl : q = j := Fin.ext (by change q.val = j.val; dsimp at h1; omega)
    pointwise [k0_pay2]

/-- What the body leaves of one block of the output projection's weight. -/
theorem wout_at (x0 : Vec Ideal S1024x4096 .bf16) (x1 : Vec Ideal S4096x1024 .bf16) (x2 : Vec Ideal S1x32x22016 .f32) (x3 : Vec Ideal S1x32x4096 .f32)
    (p : Fin 32) (q : Fin 4096) : out0_6 x0 x1 x2 x3 (ix2 p q) = x3 (ix3 0 p q) := by
  unfold out0_6
  canon_tiles x h
  all_goals
    obtain ⟨i, j, rfl⟩ : ∃ i j, x = ix2 i j := ⟨x 0, x 1, by funext a; fin_cases a <;> rfl⟩
    obtain rfl : p = i := Fin.ext (by change p.val = i.val; dsimp at h0; omega)
    obtain rfl : q = j := Fin.ext (by change q.val = j.val; dsimp at h1; omega)
    pointwise [k0_pay3]

/-- Every window's block index at every grid point: the casts' row blocks advance with the grid until the weights end. -/
theorem idx_val : ∀ t : Fin cfg0.N, win0_0.index t = ![t.val / 10, 0]
    ∧ win0_1.index t = ![0, (t.val % 10) + 1]
    ∧ win0_2.index t = ![0, min t.val 127, 0]
    ∧ win0_3.index t = ![0, min t.val 127, 0]
    ∧ win0_4.index t = ![t.val / 10, t.val % 10]
    ∧ win0_5.index t = ![min t.val 127, 0]
    ∧ win0_6.index t = ![min t.val 127, 0] :=
  (by decide +kernel : ∀ t : Fin grid0.N, _)

variable (m : (ℓ : Loc nD τ sig) → Buf (Elt Ideal) ℓ)

/-! What the host code leaves in each prepared operand, and each window's block of its array. -/

theorem entry_v0 (c : Dev nD) (p : Fin 16384) (k : Fin 4096) : V m c main_v0 (ix2 p k) = m (c.tc.loc main_arg0) (ix2 p k) := by
  dsimp only [V, hostOps0]; entry_read; pointwise
theorem entry_v1 (c : Dev nD) (k : Fin 4096) (q : Fin 11264) : V m c main_v1 (ix2 k q) = m (c.tc.loc main_arg1) (ix2 k q) := by
  dsimp only [V, hostOps0]; entry_read; pointwise
theorem iblk_0 (c : Dev nD) (t : Fin cfg0.N) (p : Fin 1024) (k : Fin 4096) : iblk m c 0 t (ix2 p k)
    = V m c main_v0 (ix2 (⟨t.val / 10 * 1024 + p.val, by have : t.val < 160 := t.isLt; omega⟩ : Fin 16384) k) := by
  blk_ext [iblk, idx_val t]
theorem iblk_1 (c : Dev nD) (t : Fin cfg0.N) (k : Fin 4096) (q : Fin 1024) : iblk m c 1 t (ix2 k q)
    = V m c main_v1 (ix2 k (⟨(t.val % 10 + 1) * 1024 + q.val, by omega⟩ : Fin 11264)) := by
  blk_ext [iblk, idx_val t]
theorem iblk_2 (c : Dev nD) (t : Fin cfg0.N) (p : Fin 32) (q : Fin 22016) : iblk m c 2 t (ix3 0 p q)
    = m (c.tc.loc main_arg2) (ix3 0 (⟨min t.val 127 * 32 + p.val, by omega⟩ : Fin 4096) q) := by
  blk_ext [iblk, V, idx_val t]
theorem iblk_3 (c : Dev nD) (t : Fin cfg0.N) (p : Fin 32) (q : Fin 4096) : iblk m c 3 t (ix3 0 p q)
    = m (c.tc.loc main_arg3) (ix3 0 (⟨min t.val 127 * 32 + p.val, by omega⟩ : Fin 4096) q) := by
  blk_ext [iblk, V, idx_val t]

/-- The kernel's projection is the reference's. -/
theorem final (c : Dev nD) : (dats m 0 c).arrAt 4 (cfgs 0).N = Cert.InProjRefIdeal.Value.ref (m (c.tc.loc main_arg0)) (m (c.tc.loc main_arg1)) := by
  refine (dats m 0 c).arrAt_eq_of_covers 4 _ (by decide +kernel) fun t hf y => ?_
  obtain ⟨i0, i1, i2, i3, i4, i5, i6⟩ := idx_val t
  blk_simp [i4]
  rw [after0_4]
  have ht : t.val < 160 := t.isLt
  obtain ⟨p, q, rfl⟩ : ∃ (p q : Fin 1024), y = ix2 p q := ⟨y 0, y 1, by funext a; fin_cases a <;> rfl⟩
  have hp := p.isLt
  have hq := q.isLt
  have he : (win0_4.blk t).view.emb (ix2 p q) = ix2 (⟨t.val / 10 * 1024 + p.val, by omega⟩ : Fin 16384) (⟨t.val % 10 * 1024 + q.val, by omega⟩ : Fin 10240) := by
    blk_ext [i4]
  rw [he]
  refine (out_at (iblk m c 0 t) (iblk m c 1 t) (iblk m c 2 t) (iblk m c 3 t) (ix2 p q)).trans (Eq.trans ?_ (Cert.InProjRefIdeal.Value.ref_at _ _ _ _).symm)
  change dense (fun k => iblk m c 0 t (ix2 p k)) (fun k => iblk m c 1 t (ix2 k q)) = _
  simp only [iblk_0, iblk_1]
  congr 1
  · refine funext fun k => (entry_v1 m c k _).trans ?_
    congr 2
    exact Fin.ext (by dsimp only; omega)

/-- The kernel's copy of the channel mixer's weight is the reference's. -/
theorem final_ffn (c : Dev nD) : (dats m 0 c).arrAt 5 (cfgs 0).N = Cert.InProjRefIdeal.Value.refFfn (m (c.tc.loc main_arg2)) := by
  refine (dats m 0 c).arrAt_eq_of_covers 5 _ (by decide +kernel) fun t hf y => ?_
  obtain ⟨i0, i1, i2, i3, i4, i5, i6⟩ := idx_val t
  blk_simp [i5]
  rw [after0_5]
  obtain ⟨p, q, rfl⟩ : ∃ (p : Fin 32) (q : Fin 22016), y = ix2 p q := ⟨y 0, y 1, by funext a; fin_cases a <;> rfl⟩
  have hp := p.isLt
  have he : (win0_5.blk t).view.emb (ix2 p q) = ix2 (⟨min t.val 127 * 32 + p.val, by omega⟩ : Fin 4096) q := by
    blk_ext [i5]
  rw [he]
  exact (ffn_at (iblk m c 0 t) (iblk m c 1 t) (iblk m c 2 t) (iblk m c 3 t) p q).trans ((iblk_2 m c t p q).trans (Cert.InProjRefIdeal.Value.refFfn_at _ _ _).symm)

/-- The kernel's copy of the output projection's weight is the reference's. -/
theorem final_out (c : Dev nD) : (dats m 0 c).arrAt 6 (cfgs 0).N = Cert.InProjRefIdeal.Value.refOut (m (c.tc.loc main_arg3)) := by
  refine (dats m 0 c).arrAt_eq_of_covers 6 _ (by decide +kernel) fun t hf y => ?_
  obtain ⟨i0, i1, i2, i3, i4, i5, i6⟩ := idx_val t
  blk_simp [i6]
  rw [after0_6]
  obtain ⟨p, q, rfl⟩ : ∃ (p : Fin 32) (q : Fin 4096), y = ix2 p q := ⟨y 0, y 1, by funext a; fin_cases a <;> rfl⟩
  have hp := p.isLt
  have he : (win0_6.blk t).view.emb (ix2 p q) = ix2 (⟨min t.val 127 * 32 + p.val, by omega⟩ : Fin 4096) q := by
    blk_ext [i6]
  rw [he]
  exact (wout_at (iblk m c 0 t) (iblk m c 1 t) (iblk m c 2 t) (iblk m c 3 t) p q).trans ((iblk_3 m c t p q).trans (Cert.InProjRefIdeal.Value.refOut_at _ _ _).symm)

end Cert.InProjIdeal.Value

end
-- ==== Proof.OutProjValue.lean ====
/- The output projection: the kernel's array is the reference's. -/
module

public import proofs.«01_k».proof.Proof.ProjSpec
public import proofs.«01_k».proof.Proof.Gen.OutProjIdeal.Value
public import proofs.«01_k».proof.Proof.Gen.OutProjRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.OutProjRefIdeal.Value

open Cert.OutProjRefIdeal Cert.OutProjRefIdeal.Gen
open Cert.Proj

/-- The reference's result as a function of its arguments. -/
def ref (a0 : FVec Ideal S16384x4096 .f32) (a1 a2 : FVec Ideal S16384x1024 .bf16)
    (a3 : FVec Ideal S16384x2048 .bf16) (a4 : FVec Ideal S4096x4096 .f32) : FVec Ideal S16384x4096 .f32 :=
  addf (mulf (broadcastInDim S16384x4096 ![] bcast_S_S16384x4096 (constant S_ .f32 0x3FB504F3#32)) a0) (Host.dotGeneral (F := Ideal) dot_S16384x4096_S4096x4096_S16384x4096_1_0_0_1_n_n none (extf .f32 ((concatenate S16384x4096 1 [⟨S16384x1024, (a1 : (⟨S16384x1024, .bf16⟩ : BufTy).Contents (Elt Ideal))⟩, ⟨S16384x1024, (a2 : (⟨S16384x1024, .bf16⟩ : BufTy).Contents (Elt Ideal))⟩, ⟨S16384x2048, (a3 : (⟨S16384x2048, .bf16⟩ : BufTy).Contents (Elt Ideal))⟩] concatenates_S16384x1024_S16384x1024_S16384x2048_S16384x4096_d1 : (⟨S16384x4096, .bf16⟩ : BufTy).Contents (Elt Ideal))) bitsLt_bf16_f32) a4)

/-- The reference at a point. -/
theorem ref_at (a0 : Vec Ideal S16384x4096 .f32) (a1 a2 : Vec Ideal S16384x1024 .bf16)
    (a3 : Vec Ideal S16384x2048 .bf16) (a4 : Vec Ideal S4096x4096 .f32) (p : Fin 16384) (q : Fin 4096) :
    ref a0 a1 a2 a3 a4 (ix2 p q) = alpha * a0 (ix2 p q)
      + dense (side (fun k => a1 (ix2 p k)) (fun k => a2 (ix2 p k)) (fun k => a3 (ix2 p k))) (fun k => a4 (ix2 k q)) := by
  pointwise [ref, dense, side, alpha]

end Cert.OutProjRefIdeal.Value

namespace Cert.OutProjIdeal.Value

open Cert.OutProjIdeal Cert.OutProjIdeal.Gen
open Cert.Proj
set_option maxHeartbeats 2000000

/-- One entry of the output projection from the blocks' rows. -/
def entry (x0 x1 : Vec Ideal S1024x1024 .bf16) (x2 : Vec Ideal S1024x2048 .bf16) (x3 : Vec Ideal S4096x1024 .bf16) (x4 : Vec Ideal S1024x1024 .f32)
    (p q : Fin 1024) : EReal :=
  alpha * x4 (ix2 p q) + dense (side (fun k => x0 (ix2 p k)) (fun k => x1 (ix2 p k)) (fun k => x2 (ix2 p k))) (fun k => x3 (ix2 k q))

/-- The 256 rows the body computes at a time, from any row offset of the blocks. -/
theorem rows_at (x0 x1 : Vec Ideal S1024x1024 .bf16) (x2 : Vec Ideal S1024x2048 .bf16) (x3 : Vec Ideal S4096x1024 .bf16) (x4 : Vec Ideal S1024x1024 .f32)
    (o : ℕ) (i0 : ∀ a, (![o, 0] : Fin 2 → Nat) a + S256x1024.size a ≤ S1024x1024.size a)
    (i2 : ∀ a, (![o, 0] : Fin 2 → Nat) a + S256x2048.size a ≤ S1024x2048.size a)
    (i3 : ∀ a, (![0, 0] : Fin 2 → Nat) a + S4096x1024.size a ≤ S4096x1024.size a)
    (x : S256x1024.Idx) (y : S1024x1024.Idx) (h0 : (y 0).val = o + (x 0).val) (h1 : (y 1).val = (x 1).val) :
    k0_pay1 (View.ld x0 (Rect.unit ![o, 0] ![256, 1024] i0)) (View.ld x1 (Rect.unit ![o, 0] ![256, 1024] i0))
      (View.ld x2 (Rect.unit ![o, 0] ![256, 2048] i2)) (View.ld x3 (Rect.unit ![0, 0] ![4096, 1024] i3))
      (View.ld x4 (Rect.unit ![o, 0] ![256, 1024] i0)) x = entry x0 x1 x2 x3 x4 (y 0) (y 1) := by
  obtain ⟨i, j, rfl⟩ : ∃ i j, x = ix2 i j := ⟨x 0, x 1, by funext a; fin_cases a <;> rfl⟩
  generalize y 0 = p at *
  generalize y 1 = q at *
  change p.val = o + i.val at h0
  change q.val = j.val at h1
  have hp : p.val < 1024 := p.isLt
  obtain ⟨p, hpt⟩ := p
  obtain rfl : q = j := Fin.ext h1
  dsimp only at h0
  subst h0
  pointwise [k0_pay1, entry, dense, side, alpha]

/-- What the body leaves of one block. -/
theorem out_at (x0 x1 : Vec Ideal S1024x1024 .bf16) (x2 : Vec Ideal S1024x2048 .bf16) (x3 : Vec Ideal S4096x1024 .bf16) (x4 : Vec Ideal S1024x1024 .f32) (y : S1024x1024.Idx) :
    out0_5 x0 x1 x2 x3 x4 y = entry x0 x1 x2 x3 x4 (y 0) (y 1) := by
  unfold out0_5
  canon_tiles x h
  all_goals exact rows_at x0 x1 x2 x3 x4 _ _ _ _ x y (by omega) (by omega)

/-- Every window's block index at every grid point. -/
theorem idx_val : ∀ t : Fin cfg0.N, win0_0.index t = ![t.val / 4, 0]
    ∧ win0_1.index t = ![t.val / 4, 0]
    ∧ win0_2.index t = ![t.val / 4, 0]
    ∧ win0_3.index t = ![0, t.val % 4]
    ∧ win0_4.index t = ![t.val / 4, t.val % 4]
    ∧ win0_5.index t = ![t.val / 4, t.val % 4] :=
  (by decide +kernel : ∀ t : Fin grid0.N, _)

variable (m : (ℓ : Loc nD τ sig) → Buf (Elt Ideal) ℓ)

/-! What the host code leaves in the weight's operand, and each window's block of its array. -/

theorem entry_v0 (c : Dev nD) (k q : Fin 4096) : V m c main_v0 (ix2 k q) = m (c.tc.loc main_arg4) (ix2 k q) := by
  dsimp only [V, hostOps0]; entry_read; pointwise
theorem iblk_0 (c : Dev nD) (t : Fin cfg0.N) (p k : Fin 1024) : iblk m c 0 t (ix2 p k)
    = m (c.tc.loc main_arg1) (ix2 (⟨t.val / 4 * 1024 + p.val, by have : t.val < 64 := t.isLt; omega⟩ : Fin 16384) k) := by
  blk_ext [iblk, V, idx_val t]
theorem iblk_1 (c : Dev nD) (t : Fin cfg0.N) (p k : Fin 1024) : iblk m c 1 t (ix2 p k)
    = m (c.tc.loc main_arg2) (ix2 (⟨t.val / 4 * 1024 + p.val, by have : t.val < 64 := t.isLt; omega⟩ : Fin 16384) k) := by
  blk_ext [iblk, V, idx_val t]
theorem iblk_2 (c : Dev nD) (t : Fin cfg0.N) (p : Fin 1024) (k : Fin 2048) : iblk m c 2 t (ix2 p k)
    = m (c.tc.loc main_arg3) (ix2 (⟨t.val / 4 * 1024 + p.val, by have : t.val < 64 := t.isLt; omega⟩ : Fin 16384) k) := by
  blk_ext [iblk, V, idx_val t]
theorem iblk_3 (c : Dev nD) (t : Fin cfg0.N) (k : Fin 4096) (q : Fin 1024) : iblk m c 3 t (ix2 k q)
    = V m c main_v0 (ix2 k (⟨t.val % 4 * 1024 + q.val, by omega⟩ : Fin 4096)) := by
  blk_ext [iblk, idx_val t]
theorem iblk_4 (c : Dev nD) (t : Fin cfg0.N) (p q : Fin 1024) : iblk m c 4 t (ix2 p q)
    = m (c.tc.loc main_arg0) (ix2 (⟨t.val / 4 * 1024 + p.val, by have : t.val < 64 := t.isLt; omega⟩ : Fin 16384) (⟨t.val % 4 * 1024 + q.val, by omega⟩ : Fin 4096)) := by
  blk_ext [iblk, V, idx_val t]

/-- The kernel's array is the reference's. -/
theorem final (c : Dev nD) : (dats m 0 c).arrAt 5 (cfgs 0).N
    = Cert.OutProjRefIdeal.Value.ref (m (c.tc.loc main_arg0)) (m (c.tc.loc main_arg1)) (m (c.tc.loc main_arg2)) (m (c.tc.loc main_arg3)) (m (c.tc.loc main_arg4)) := by
  refine (dats m 0 c).arrAt_eq_of_covers 5 _ (by decide +kernel) fun t hf y => ?_
  obtain ⟨i0, i1, i2, i3, i4, i5⟩ := idx_val t
  blk_simp [i5]
  rw [after0_5]
  have ht : t.val < 64 := t.isLt
  obtain ⟨p, q, rfl⟩ : ∃ (p q : Fin 1024), y = ix2 p q := ⟨y 0, y 1, by funext a; fin_cases a <;> rfl⟩
  have hp := p.isLt
  have hq := q.isLt
  have he : (win0_5.blk t).view.emb (ix2 p q) = ix2 (⟨t.val / 4 * 1024 + p.val, by omega⟩ : Fin 16384) (⟨t.val % 4 * 1024 + q.val, by omega⟩ : Fin 4096) := by
    blk_ext [i5]
  rw [he]
  refine (out_at (iblk m c 0 t) (iblk m c 1 t) (iblk m c 2 t) (iblk m c 3 t) (iblk m c 4 t) (ix2 p q)).trans (Eq.trans ?_ (Cert.OutProjRefIdeal.Value.ref_at _ _ _ _ _ _ _).symm)
  change entry (iblk m c 0 t) (iblk m c 1 t) (iblk m c 2 t) (iblk m c 3 t) (iblk m c 4 t) p q = _
  unfold entry
  simp only [iblk_0, iblk_1, iblk_2, iblk_3, iblk_4]
  congr 2

end Cert.OutProjIdeal.Value

end
-- ==== Proof.FfnOutValue.lean ====
/- The channel mixer's output: the kernel's array is the reference's. -/
module

public import proofs.«01_k».proof.Proof.ProjSpec
public import proofs.«01_k».proof.Proof.Gen.FfnOutIdeal.Value
public import proofs.«01_k».proof.Proof.Gen.FfnOutRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnOutRefIdeal.Value

open Cert.FfnOutRefIdeal Cert.FfnOutRefIdeal.Gen
open Cert.Proj

/-- The reference's result as a function of its arguments. -/
def ref (a0 : FVec Ideal S16384x11008 .bf16) (a1 : FVec Ideal S11008x4096 .f32) (a2 : FVec Ideal S16384x4096 .f32)
    (a3 a4 : FVec Ideal S16384x1 .f32) (a5 a6 : FVec Ideal S4096 .f32) : FVec Ideal S16384x4096 .f32 :=
  addf (mulf (broadcastInDim S16384x4096 ![] bcast_S_S16384x4096 (constant S_ .f32 0x3FB504F3#32)) (addf (mulf (mulf (subf a2 (broadcastInDim S16384x4096 ![0, 1] bcast_S16384x1_S16384x4096_0_1 a3)) (broadcastInDim S16384x4096 ![0, 1] bcast_S16384x1_S16384x4096_0_1 a4)) (broadcastInDim S16384x4096 ![0, 1] bcast_S1x4096_S16384x4096_0_1 (broadcastInDim S1x4096 ![1] bcast_S4096_S1x4096_1 a5))) (broadcastInDim S16384x4096 ![0, 1] bcast_S1x4096_S16384x4096_0_1 (broadcastInDim S1x4096 ![1] bcast_S4096_S1x4096_1 a6)))) (Host.dotGeneral (F := Ideal) dot_S16384x11008_S11008x4096_S16384x4096_1_0_0_1_n_n none (extf .f32 a0 bitsLt_bf16_f32) a1)

/-- The reference at a point. -/
theorem ref_at (a0 : FVec Ideal S16384x11008 .bf16) (a1 : FVec Ideal S11008x4096 .f32) (a2 : FVec Ideal S16384x4096 .f32)
    (a3 a4 : FVec Ideal S16384x1 .f32) (a5 a6 : FVec Ideal S4096 .f32) (p : Fin 16384) (q : Fin 4096) :
    ref a0 a1 a2 a3 a4 a5 a6 (ix2 p q) = alpha * affine (a2 (ix2 p q)) (a3 (ix2 p 0)) (a4 (ix2 p 0)) (a5 (ix1 q)) (a6 (ix1 q))
      + dense (fun k => a0 (ix2 p k)) (fun k => a1 (ix2 k q)) := by
  pointwise [ref, dense, affine, alpha]

end Cert.FfnOutRefIdeal.Value

namespace Cert.FfnOutIdeal.Value

open Cert.FfnOutIdeal Cert.FfnOutIdeal.Gen
open Cert.Proj
set_option maxHeartbeats 2000000

/-- One entry of the channel mixer's output from the blocks' rows, the mean and the reciprocal deviation read in their first lane. -/
def entry (x0 : Vec Ideal S512x11008 .bf16) (x1 : Vec Ideal S11008x1024 .bf16) (x2 : Vec Ideal S512x1024 .f32) (x3 x4 : Vec Ideal S512x128 .f32)
    (x5 x6 : Vec Ideal S1x1024 .f32) (p : Fin 512) (q : Fin 1024) : EReal :=
  alpha * affine (x2 (ix2 p q)) (x3 (ix2 p 0)) (x4 (ix2 p 0)) (x5 (ix2 0 q)) (x6 (ix2 0 q)) + dense (fun k => x0 (ix2 p k)) (fun k => x1 (ix2 k q))

/-- The 256 rows the body computes at a time, from any row offset of the blocks, where the row statistics are the same in every lane. -/
theorem rows_at (x0 : Vec Ideal S512x11008 .bf16) (x1 : Vec Ideal S11008x1024 .bf16) (x2 : Vec Ideal S512x1024 .f32) (x3 x4 : Vec Ideal S512x128 .f32)
    (x5 x6 : Vec Ideal S1x1024 .f32) (e3 : ∀ p k, x3 (ix2 p k) = x3 (ix2 p 0)) (e4 : ∀ p k, x4 (ix2 p k) = x4 (ix2 p 0))
    (o : ℕ) (i0 : ∀ a, (![o, 0] : Fin 2 → Nat) a + S256x11008.size a ≤ S512x11008.size a)
    (i1 : ∀ a, (![0, 0] : Fin 2 → Nat) a + S11008x1024.size a ≤ S11008x1024.size a)
    (i2 : ∀ a, (![o, 0] : Fin 2 → Nat) a + S256x1024.size a ≤ S512x1024.size a)
    (i3 : ∀ a, (![o, 0] : Fin 2 → Nat) a + S256x128.size a ≤ S512x128.size a)
    (i5 : ∀ a, (![0, 0] : Fin 2 → Nat) a + S1x1024.size a ≤ S1x1024.size a)
    (x : S256x1024.Idx) (y : S512x1024.Idx) (h0 : (y 0).val = o + (x 0).val) (h1 : (y 1).val = (x 1).val) :
    k0_pay2 (View.ld x0 (Rect.unit ![o, 0] ![256, 11008] i0)) (View.ld x1 (Rect.unit ![0, 0] ![11008, 1024] i1))
      (View.ld x2 (Rect.unit ![o, 0] ![256, 1024] i2)) (View.ld x3 (Rect.unit ![o, 0] ![256, 128] i3)) (View.ld x4 (Rect.unit ![o, 0] ![256, 128] i3))
      (View.ld x5 (Rect.unit ![0, 0] ![1, 1024] i5)) (View.ld x6 (Rect.unit ![0, 0] ![1, 1024] i5)) x
    = entry x0 x1 x2 x3 x4 x5 x6 (y 0) (y 1) := by
  obtain ⟨i, j, rfl⟩ : ∃ i j, x = ix2 i j := ⟨x 0, x 1, by funext a; fin_cases a <;> rfl⟩
  generalize y 0 = p at *
  generalize y 1 = q at *
  change p.val = o + i.val at h0
  change q.val = j.val at h1
  have hp : p.val < 512 := p.isLt
  obtain ⟨p, hpt⟩ := p
  obtain rfl : q = j := Fin.ext h1
  dsimp only at h0
  subst h0
  pointwise [k0_pay2, entry, dense, affine, alpha]
  simp only [e3, e4]
  split_ifs <;> rfl

/-- What the body leaves of one block. -/
theorem out_at (x0 : Vec Ideal S512x11008 .bf16) (x1 : Vec Ideal S11008x1024 .bf16) (x2 : Vec Ideal S512x1024 .f32) (x3 x4 : Vec Ideal S512x128 .f32)
    (x5 x6 : Vec Ideal S1x1024 .f32) (e3 : ∀ p k, x3 (ix2 p k) = x3 (ix2 p 0)) (e4 : ∀ p k, x4 (ix2 p k) = x4 (ix2 p 0)) (y : S512x1024.Idx) :
    out0_7 x0 x1 x2 x3 x4 x5 x6 y = entry x0 x1 x2 x3 x4 x5 x6 (y 0) (y 1) := by
  unfold out0_7
  canon_tiles x h
  all_goals exact rows_at x0 x1 x2 x3 x4 x5 x6 e3 e4 _ _ _ _ _ _ x y (by omega) (by omega)

/-- Every window's block index at every grid point. -/
theorem idx_val : ∀ t : Fin cfg0.N, win0_0.index t = ![t.val % 32, 0]
    ∧ win0_1.index t = ![0, t.val / 32]
    ∧ win0_2.index t = ![t.val % 32, t.val / 32]
    ∧ win0_3.index t = ![t.val % 32, 0]
    ∧ win0_4.index t = ![t.val % 32, 0]
    ∧ win0_5.index t = ![0, t.val / 32]
    ∧ win0_6.index t = ![0, t.val / 32]
    ∧ win0_7.index t = ![t.val % 32, t.val / 32] :=
  (by decide +kernel : ∀ t : Fin grid0.N, _)

variable (m : (ℓ : Loc nD τ sig) → Buf (Elt Ideal) ℓ)

/-! What the host code leaves in each prepared operand, and each window's block of its array. -/

theorem entry_v0 (c : Dev nD) (k : Fin 11008) (q : Fin 4096) : V m c main_v0 (ix2 k q) = m (c.tc.loc main_arg1) (ix2 k q) := by
  dsimp only [V, hostOps0]; entry_read; pointwise
theorem entry_v1 (c : Dev nD) (p : Fin 16384) (k : Fin 128) : V m c main_v1 (ix2 p k) = m (c.tc.loc main_arg3) (ix2 p 0) := by
  dsimp only [V, hostOps0]; entry_read; pointwise
theorem entry_v2 (c : Dev nD) (p : Fin 16384) (k : Fin 128) : V m c main_v2 (ix2 p k) = m (c.tc.loc main_arg4) (ix2 p 0) := by
  dsimp only [V, hostOps0]; entry_read; pointwise
theorem entry_v3 (c : Dev nD) (k : Fin 4096) : V m c main_v3 (ix2 0 k) = m (c.tc.loc main_arg5) (ix1 k) := by
  dsimp only [V, hostOps0]; entry_read; pointwise
theorem entry_v4 (c : Dev nD) (k : Fin 4096) : V m c main_v4 (ix2 0 k) = m (c.tc.loc main_arg6) (ix1 k) := by
  dsimp only [V, hostOps0]; entry_read; pointwise
theorem iblk_0 (c : Dev nD) (t : Fin cfg0.N) (p : Fin 512) (k : Fin 11008) : iblk m c 0 t (ix2 p k)
    = m (c.tc.loc main_arg0) (ix2 (⟨t.val % 32 * 512 + p.val, by omega⟩ : Fin 16384) k) := by
  blk_ext [iblk, V, idx_val t]
theorem iblk_1 (c : Dev nD) (t : Fin cfg0.N) (k : Fin 11008) (q : Fin 1024) : iblk m c 1 t (ix2 k q)
    = V m c main_v0 (ix2 k (⟨t.val / 32 * 1024 + q.val, by have : t.val < 128 := t.isLt; omega⟩ : Fin 4096)) := by
  blk_ext [iblk, idx_val t]
theorem iblk_2 (c : Dev nD) (t : Fin cfg0.N) (p : Fin 512) (q : Fin 1024) : iblk m c 2 t (ix2 p q)
    = m (c.tc.loc main_arg2) (ix2 (⟨t.val % 32 * 512 + p.val, by omega⟩ : Fin 16384) (⟨t.val / 32 * 1024 + q.val, by have : t.val < 128 := t.isLt; omega⟩ : Fin 4096)) := by
  blk_ext [iblk, V, idx_val t]
theorem iblk_3 (c : Dev nD) (t : Fin cfg0.N) (p : Fin 512) (k : Fin 128) : iblk m c 3 t (ix2 p k)
    = V m c main_v1 (ix2 (⟨t.val % 32 * 512 + p.val, by omega⟩ : Fin 16384) k) := by
  blk_ext [iblk, idx_val t]
theorem iblk_4 (c : Dev nD) (t : Fin cfg0.N) (p : Fin 512) (k : Fin 128) : iblk m c 4 t (ix2 p k)
    = V m c main_v2 (ix2 (⟨t.val % 32 * 512 + p.val, by omega⟩ : Fin 16384) k) := by
  blk_ext [iblk, idx_val t]
theorem iblk_5 (c : Dev nD) (t : Fin cfg0.N) (q : Fin 1024) : iblk m c 5 t (ix2 0 q)
    = V m c main_v3 (ix2 0 (⟨t.val / 32 * 1024 + q.val, by have : t.val < 128 := t.isLt; omega⟩ : Fin 4096)) := by
  blk_ext [iblk, idx_val t]
theorem iblk_6 (c : Dev nD) (t : Fin cfg0.N) (q : Fin 1024) : iblk m c 6 t (ix2 0 q)
    = V m c main_v4 (ix2 0 (⟨t.val / 32 * 1024 + q.val, by have : t.val < 128 := t.isLt; omega⟩ : Fin 4096)) := by
  blk_ext [iblk, idx_val t]
/-- A row's mean is the same in every lane of its block. -/
theorem lane_3 (c : Dev nD) (t : Fin cfg0.N) (p : Fin 512) (k : Fin 128) : iblk m c 3 t (ix2 p k)
    = m (c.tc.loc main_arg3) (ix2 (⟨t.val % 32 * 512 + p.val, by omega⟩ : Fin 16384) 0) := (iblk_3 m c t p k).trans (entry_v1 m c _ k)
/-- A row's reciprocal deviation is the same in every lane of its block. -/
theorem lane_4 (c : Dev nD) (t : Fin cfg0.N) (p : Fin 512) (k : Fin 128) : iblk m c 4 t (ix2 p k)
    = m (c.tc.loc main_arg4) (ix2 (⟨t.val % 32 * 512 + p.val, by omega⟩ : Fin 16384) 0) := (iblk_4 m c t p k).trans (entry_v2 m c _ k)

/-- The kernel's array is the reference's. -/
theorem final (c : Dev nD) : (dats m 0 c).arrAt 7 (cfgs 0).N
    = Cert.FfnOutRefIdeal.Value.ref (m (c.tc.loc main_arg0)) (m (c.tc.loc main_arg1)) (m (c.tc.loc main_arg2)) (m (c.tc.loc main_arg3)) (m (c.tc.loc main_arg4))
      (m (c.tc.loc main_arg5)) (m (c.tc.loc main_arg6)) := by
  refine (dats m 0 c).arrAt_eq_of_covers 7 _ (by decide +kernel) fun t hf y => ?_
  obtain ⟨i0, i1, i2, i3, i4, i5, i6, i7⟩ := idx_val t
  blk_simp [i7]
  rw [after0_7]
  have ht : t.val < 128 := t.isLt
  obtain ⟨p, q, rfl⟩ : ∃ (p : Fin 512) (q : Fin 1024), y = ix2 p q := ⟨y 0, y 1, by funext a; fin_cases a <;> rfl⟩
  have hp := p.isLt
  have hq := q.isLt
  have he : (win0_7.blk t).view.emb (ix2 p q) = ix2 (⟨t.val % 32 * 512 + p.val, by omega⟩ : Fin 16384) (⟨t.val / 32 * 1024 + q.val, by omega⟩ : Fin 4096) := by
    blk_ext [i7]
  rw [he]
  refine (out_at (iblk m c 0 t) (iblk m c 1 t) (iblk m c 2 t) (iblk m c 3 t) (iblk m c 4 t) (iblk m c 5 t) (iblk m c 6 t)
    (fun p k => (lane_3 m c t p k).trans (lane_3 m c t p 0).symm) (fun p k => (lane_4 m c t p k).trans (lane_4 m c t p 0).symm) (ix2 p q)).trans
    (Eq.trans ?_ (Cert.FfnOutRefIdeal.Value.ref_at _ _ _ _ _ _ _ _ _).symm)
  change entry (iblk m c 0 t) (iblk m c 1 t) (iblk m c 2 t) (iblk m c 3 t) (iblk m c 4 t) (iblk m c 5 t) (iblk m c 6 t) p q = _
  unfold entry
  simp only [iblk_0, iblk_1, iblk_2, lane_3, lane_4, iblk_5, iblk_6]
  congr 2
  · congr 1
    · exact entry_v3 m c _
    · exact entry_v4 m c _

end Cert.FfnOutIdeal.Value

end
-- ==== Proof.SsmInValue.lean ====
/- S5's columns of the input projection and the cast rows: the kernel's two arrays are the reference's. -/
module

public import proofs.«01_k».proof.Proof.ProjSpec
public import proofs.«01_k».proof.Proof.Gen.SsmInIdeal.Value
public import proofs.«01_k».proof.Proof.Gen.SsmInRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SsmInRefIdeal.Value

open Cert.SsmInRefIdeal Cert.SsmInRefIdeal.Gen
open Cert.Proj
set_option maxHeartbeats 2000000

/-- The reference's S5 input, its 1024 columns in eight groups of 128. -/
def ref (a0 : FVec Ideal S16384x4096 .f32) (a1 : FVec Ideal S4096x11264 .f32) : FVec Ideal S8x16384x128 .f32 :=
  transpose S8x16384x128 [1, 0, 2] (shapeCast _ (extractStridedSlice S16384x1024 ![0, 0] (Host.dotGeneral (F := Ideal) dot_S16384x4096_S4096x11264_S16384x11264_1_0_0_1_n_n none a0 a1) slices_S16384x11264_S16384x1024_0_0) shapeCasts_S16384x1024_S16384x8x128) transposes_S16384x8x128_S8x16384x128_1_0_2

/-- The reference's cast rows. -/
def refRows (a0 : FVec Ideal S16384x4096 .f32) : FVec Ideal S16384x4096 .bf16 := truncf .bf16 a0 bitsLt_bf16_f32

/-- The reference's S5 input at a point. -/
theorem ref_at (a0 : FVec Ideal S16384x4096 .f32) (a1 : FVec Ideal S4096x11264 .f32) (g : Fin 8) (p : Fin 16384) (l : Fin 128) :
    ref a0 a1 (ix3 g p l) = dense (fun k => a0 (ix2 p k)) (fun k => a1 (ix2 k (⟨g.val * 128 + l.val, by omega⟩ : Fin 11264))) := by
  pointwise [ref, dense]
theorem refRows_at (a0 : FVec Ideal S16384x4096 .f32) (p : Fin 16384) (q : Fin 4096) : refRows a0 (ix2 p q) = a0 (ix2 p q) := by
  pointwise [refRows]

end Cert.SsmInRefIdeal.Value

namespace Cert.SsmInIdeal.Value

open Cert.SsmInIdeal Cert.SsmInIdeal.Gen
open Cert.Proj
set_option maxHeartbeats 4000000

/-- The product of the 256 rows the body takes at a time, from any row offset of the block. -/
theorem rows_at (x0 : Vec Ideal S512x4096 .f32) (x1 : Vec Ideal S4096x1024 .bf16)
    (o : ℕ) (i0 : ∀ a, (![o, 0] : Fin 2 → Nat) a + S256x4096.size a ≤ S512x4096.size a)
    (i1 : ∀ a, (![0, 0] : Fin 2 → Nat) a + S4096x1024.size a ≤ S4096x1024.size a) (i : Fin 256) (j : Fin 1024) :
    k0_pay7 (View.ld x0 (Rect.unit ![o, 0] ![256, 4096] i0)) (View.ld x1 (Rect.unit ![0, 0] ![4096, 1024] i1)) (ix2 i j)
    = dense (fun k => x0 (ix2 (⟨o + i.val, by have := i0 0; have := i.isLt; simp at *; omega⟩ : Fin 512) k)) (fun k => x1 (ix2 k j)) := by
  pointwise [k0_pay7, k0_pay6, dense]

/-- One stored piece: a group of 128 columns of the product. -/
theorem piece_at (x0 : Vec Ideal S512x4096 .f32) (x1 : Vec Ideal S4096x1024 .bf16)
    (o g : ℕ) (i0 : ∀ a, (![o, 0] : Fin 2 → Nat) a + S256x4096.size a ≤ S512x4096.size a)
    (i1 : ∀ a, (![0, 0] : Fin 2 → Nat) a + S4096x1024.size a ≤ S4096x1024.size a)
    (e : FVec Ideal S1x256x128 .f32)
    (he : ∀ (i : Fin 256) (l : Fin 128) (n : Fin 1024), n.val = g * 128 + l.val → e (ix3 0 i l)
      = k0_pay7 (View.ld x0 (Rect.unit ![o, 0] ![256, 4096] i0)) (View.ld x1 (Rect.unit ![0, 0] ![4096, 1024] i1)) (ix2 i n))
    (x : S1x256x128.Idx) (y : S8x512x128.Idx) (h0 : (y 0).val = g + (x 0).val) (h1 : (y 1).val = o + (x 1).val) (h2 : (y 2).val = (x 2).val) :
    e x = dense (fun k => x0 (ix2 (y 1) k)) (fun k => x1 (ix2 k (⟨(y 0).val * 128 + (y 2).val, by have h8 : (y 0).val < 8 := (y 0).isLt; have h9 : (y 2).val < 128 := (y 2).isLt; omega⟩ : Fin 1024))) := by
  obtain ⟨u, i, l, rfl⟩ : ∃ u i l, x = ix3 u i l := ⟨x 0, x 1, x 2, by funext a; fin_cases a <;> rfl⟩
  obtain rfl : u = 0 := Subsingleton.elim _ _
  change (y 0).val = g + 0 at h0
  change (y 1).val = o + i.val at h1
  change (y 2).val = l.val at h2
  have hn : (y 0).val * 128 + (y 2).val < 1024 := by
    have h8 : (y 0).val < 8 := (y 0).isLt
    have h9 : (y 2).val < 128 := (y 2).isLt
    omega
  refine (he i l ⟨(y 0).val * 128 + (y 2).val, hn⟩ (by dsimp only; omega)).trans ((rows_at x0 x1 o i0 i1 i ⟨(y 0).val * 128 + (y 2).val, hn⟩).trans ?_)
  exact congrArg (fun r : Fin 512 => dense (fun k => x0 (ix2 r k)) fun k => x1 (ix2 k (⟨(y 0).val * 128 + (y 2).val, hn⟩ : Fin 1024))) (Fin.ext h1.symm)

/-- A group of 128 columns cut out of the product and given a unit axis. -/
theorem cut_at (v : FVec Ideal S256x1024 .f32) (o : ℕ) (hs : S256x1024.Slices ![0, o] S256x128) (i : Fin 256) (l : Fin 128) (n : Fin 1024) (hn : n.val = o + l.val) :
    shapeCast S1x256x128 (extractStridedSlice S256x128 ![0, o] v hs) shapeCasts_S256x128_S1x256x128 (ix3 0 i l) = v (ix2 i n) := by
  obtain ⟨n, hl⟩ := n
  dsimp only at hn
  subst hn
  pointwise

/-- What the body leaves of one block of S5's columns. -/
theorem out_at (x0 : Vec Ideal S512x4096 .f32) (x1 : Vec Ideal S4096x1024 .bf16) (y : S8x512x128.Idx) :
    out0_2 x0 x1 y = dense (fun k => x0 (ix2 (y 1) k)) (fun k => x1 (ix2 k (⟨(y 0).val * 128 + (y 2).val, by have h8 : (y 0).val < 8 := (y 0).isLt; have h9 : (y 2).val < 128 := (y 2).isLt; omega⟩ : Fin 1024))) := by
  unfold_out out0_2
  canon_tiles x h
  · exact piece_at x0 x1 256 7 inb_S512x4096_S256x4096_256_0 inb_S4096x1024_S4096x1024_0_0 _ (fun i l n hn => cut_at _ 896 slices_S256x1024_o0_896_S256x128 i l n hn) x y (by omega) (by omega) (by omega)
  · exact piece_at x0 x1 256 6 inb_S512x4096_S256x4096_256_0 inb_S4096x1024_S4096x1024_0_0 _ (fun i l n hn => cut_at _ 768 slices_S256x1024_o0_768_S256x128 i l n hn) x y (by omega) (by omega) (by omega)
  · exact piece_at x0 x1 256 5 inb_S512x4096_S256x4096_256_0 inb_S4096x1024_S4096x1024_0_0 _ (fun i l n hn => cut_at _ 640 slices_S256x1024_o0_640_S256x128 i l n hn) x y (by omega) (by omega) (by omega)
  · exact piece_at x0 x1 256 4 inb_S512x4096_S256x4096_256_0 inb_S4096x1024_S4096x1024_0_0 _ (fun i l n hn => cut_at _ 512 slices_S256x1024_o0_512_S256x128 i l n hn) x y (by omega) (by omega) (by omega)
  · exact piece_at x0 x1 256 3 inb_S512x4096_S256x4096_256_0 inb_S4096x1024_S4096x1024_0_0 (k0_pay1 (k0_pay22 (View.ld x0 r0_10) (View.ld x1 r0_1))) (fun i l n hn => cut_at (k0_pay7 (View.ld x0 r0_10) (View.ld x1 r0_1)) 384 slices_S256x1024_o0_384_S256x128 i l n hn) x y (by omega) (by omega) (by omega)
  · exact piece_at x0 x1 256 2 inb_S512x4096_S256x4096_256_0 inb_S4096x1024_S4096x1024_0_0 _ (fun i l n hn => cut_at _ 256 slices_S256x1024_o0_256_S256x128 i l n hn) x y (by omega) (by omega) (by omega)
  · exact piece_at x0 x1 256 1 inb_S512x4096_S256x4096_256_0 inb_S4096x1024_S4096x1024_0_0 _ (fun i l n hn => cut_at _ 128 slices_S256x1024_o0_128_S256x128 i l n hn) x y (by omega) (by omega) (by omega)
  · exact piece_at x0 x1 256 0 inb_S512x4096_S256x4096_256_0 inb_S4096x1024_S4096x1024_0_0 _ (fun i l n hn => cut_at _ 0 slices_S256x1024_o0_0_S256x128 i l n hn) x y (by omega) (by omega) (by omega)
  · exact piece_at x0 x1 0 7 inb_S512x4096_S256x4096_0_0 inb_S4096x1024_S4096x1024_0_0 _ (fun i l n hn => cut_at _ 896 slices_S256x1024_o0_896_S256x128 i l n hn) x y (by omega) (by omega) (by omega)
  · exact piece_at x0 x1 0 6 inb_S512x4096_S256x4096_0_0 inb_S4096x1024_S4096x1024_0_0 _ (fun i l n hn => cut_at _ 768 slices_S256x1024_o0_768_S256x128 i l n hn) x y (by omega) (by omega) (by omega)
  · exact piece_at x0 x1 0 5 inb_S512x4096_S256x4096_0_0 inb_S4096x1024_S4096x1024_0_0 _ (fun i l n hn => cut_at _ 640 slices_S256x1024_o0_640_S256x128 i l n hn) x y (by omega) (by omega) (by omega)
  · exact piece_at x0 x1 0 4 inb_S512x4096_S256x4096_0_0 inb_S4096x1024_S4096x1024_0_0 _ (fun i l n hn => cut_at _ 512 slices_S256x1024_o0_512_S256x128 i l n hn) x y (by omega) (by omega) (by omega)
  · exact piece_at x0 x1 0 3 inb_S512x4096_S256x4096_0_0 inb_S4096x1024_S4096x1024_0_0 _ (fun i l n hn => cut_at _ 384 slices_S256x1024_o0_384_S256x128 i l n hn) x y (by omega) (by omega) (by omega)
  · exact piece_at x0 x1 0 2 inb_S512x4096_S256x4096_0_0 inb_S4096x1024_S4096x1024_0_0 _ (fun i l n hn => cut_at _ 256 slices_S256x1024_o0_256_S256x128 i l n hn) x y (by omega) (by omega) (by omega)
  · exact piece_at x0 x1 0 1 inb_S512x4096_S256x4096_0_0 inb_S4096x1024_S4096x1024_0_0 _ (fun i l n hn => cut_at _ 128 slices_S256x1024_o0_128_S256x128 i l n hn) x y (by omega) (by omega) (by omega)
  · exact piece_at x0 x1 0 0 inb_S512x4096_S256x4096_0_0 inb_S4096x1024_S4096x1024_0_0 _ (fun i l n hn => cut_at _ 0 slices_S256x1024_o0_0_S256x128 i l n hn) x y (by omega) (by omega) (by omega)

/-- What the body leaves of one block of the cast rows. -/
theorem cast_at (x0 : Vec Ideal S512x4096 .f32) (x1 : Vec Ideal S4096x1024 .bf16) (p : Fin 512) (q : Fin 4096) : out0_3 x0 x1 (ix2 p q) = x0 (ix2 p q) := by
  unfold_out out0_3
  canon_tiles x h
  all_goals
    obtain ⟨i, j, rfl⟩ : ∃ i j, x = ix2 i j := ⟨x 0, x 1, by funext a; fin_cases a <;> rfl⟩
    obtain ⟨p, hpt⟩ := p
    obtain rfl : q = j := Fin.ext (by dsimp at h1; omega)
    dsimp at h0
    subst h0
    pointwise [k0_pay6, k0_pay17]

/-- Every window's block index at every grid point. -/
theorem idx_val : ∀ t : Fin cfg0.N, win0_0.index t = ![t.val, 0] ∧ win0_1.index t = ![0, 0] ∧ win0_2.index t = ![0, t.val, 0] ∧ win0_3.index t = ![t.val, 0] :=
  (by decide +kernel : ∀ t : Fin grid0.N, _)

variable (m : (ℓ : Loc nD τ sig) → Buf (Elt Ideal) ℓ)

theorem entry_v0 (c : Dev nD) (k : Fin 4096) (q : Fin 11264) : V m c main_v0 (ix2 k q) = m (c.tc.loc main_arg1) (ix2 k q) := by
  dsimp only [V, hostOps0]; entry_read; pointwise
theorem iblk_0 (c : Dev nD) (t : Fin cfg0.N) (p : Fin 512) (k : Fin 4096) : iblk m c 0 t (ix2 p k)
    = m (c.tc.loc main_arg0) (ix2 (⟨t.val * 512 + p.val, by have : t.val < 32 := t.isLt; omega⟩ : Fin 16384) k) := by
  blk_ext [iblk, V, idx_val t]
theorem iblk_1 (c : Dev nD) (t : Fin cfg0.N) (k : Fin 4096) (q : Fin 1024) : iblk m c 1 t (ix2 k q)
    = V m c main_v0 (ix2 k (⟨q.val, by omega⟩ : Fin 11264)) := by
  blk_ext [iblk, idx_val t]

/-- The kernel's S5 input is the reference's. -/
theorem final (c : Dev nD) : (dats m 0 c).arrAt 2 (cfgs 0).N = Cert.SsmInRefIdeal.Value.ref (m (c.tc.loc main_arg0)) (m (c.tc.loc main_arg1)) := by
  refine (dats m 0 c).arrAt_eq_of_covers 2 _ (by decide +kernel) fun t hf y => ?_
  obtain ⟨i0, i1, i2, i3⟩ := idx_val t
  blk_simp [i2]
  rw [after0_2]
  have ht : t.val < 32 := t.isLt
  obtain ⟨g, p, l, rfl⟩ : ∃ (g : Fin 8) (p : Fin 512) (l : Fin 128), y = ix3 g p l := ⟨y 0, y 1, y 2, by funext a; fin_cases a <;> rfl⟩
  have hp := p.isLt
  have he : (win0_2.blk t).view.emb (ix3 g p l) = ix3 g (⟨t.val * 512 + p.val, by omega⟩ : Fin 16384) l := by
    blk_ext [i2]
  rw [he]
  refine (out_at (iblk m c 0 t) (iblk m c 1 t) (ix3 g p l)).trans (Eq.trans ?_ (Cert.SsmInRefIdeal.Value.ref_at _ _ _ _ _).symm)
  change dense (fun k => iblk m c 0 t (ix2 p k)) (fun k => iblk m c 1 t (ix2 k (⟨g.val * 128 + l.val, by omega⟩ : Fin 1024))) = _
  simp only [iblk_0, iblk_1]
  exact congrArg (dense _) (funext fun k => entry_v0 m c k _)

/-- The kernel's cast rows are the reference's. -/
theorem final_rows (c : Dev nD) : (dats m 0 c).arrAt 3 (cfgs 0).N = Cert.SsmInRefIdeal.Value.refRows (m (c.tc.loc main_arg0)) := by
  refine (dats m 0 c).arrAt_eq_of_covers 3 _ (by decide +kernel) fun t hf y => ?_
  obtain ⟨i0, i1, i2, i3⟩ := idx_val t
  blk_simp [i3]
  rw [after0_3]
  have ht : t.val < 32 := t.isLt
  obtain ⟨p, q, rfl⟩ : ∃ (p : Fin 512) (q : Fin 4096), y = ix2 p q := ⟨y 0, y 1, by funext a; fin_cases a <;> rfl⟩
  have hp := p.isLt
  have he : (win0_3.blk t).view.emb (ix2 p q) = ix2 (⟨t.val * 512 + p.val, by omega⟩ : Fin 16384) q := by
    blk_ext [i3]
  rw [he]
  exact (cast_at (iblk m c 0 t) (iblk m c 1 t) p q).trans ((iblk_0 m c t p q).trans (Cert.SsmInRefIdeal.Value.refRows_at _ _ _).symm)

end Cert.SsmInIdeal.Value

end
-- ==== Proof.GluValue.lean ====
/- S5's gated linear unit and its RMS normalization: the kernel's array is the reference's. -/
module

public import proofs.«01_k».proof.Proof.FfnInValue
public import proofs.«01_k».proof.Proof.Gen.GluIdeal.Value
public import proofs.«01_k».proof.Proof.Gen.GluRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Glu

open Cert.Proj

/-- Eight groups of 128 lanes as one row. -/
def row (z : Fin 8 → Fin 128 → EReal) (n : Fin 1024) : EReal := z ⟨n.val / 128, by omega⟩ ⟨n.val % 128, by omega⟩

/-- The gated linear unit of one row: each entry times the logistic of its product with the weight. -/
def unit (f : Fin 1024 → EReal) (w : Fin 1024 → Fin 1024 → EReal) (n : Fin 1024) : EReal :=
  f n * Ideal.div 1 (1 + Ideal.exp (-dense f fun k => w k n))

/-- The normalization of one row by its root mean square. -/
def rms (y s : Fin 1024 → EReal) (n : Fin 1024) : EReal :=
  y n * Ideal.rsqrt (Ideal.div (∑ k, y k * y k) (Ideal.ofBits .f32 0x44800000#32) + Ideal.ofBits .f32 0x358637BD#32) * s n

end Cert.Glu

namespace Cert.GluRefIdeal.Value

open Cert.GluRefIdeal Cert.GluRefIdeal.Gen
open Cert.Proj Cert.Glu
set_option maxHeartbeats 2000000

/-- The reference's rows, gathered from the eight groups of lanes. -/
def refRow (a0 : FVec Ideal S8x16384x128 .f32) : FVec Ideal S16384x1024 .f32 :=
  shapeCast _ (transpose S16384x8x128 [1, 0, 2] a0 transposes_S8x16384x128_S16384x8x128_1_0_2) shapeCasts_S16384x8x128_S16384x1024

/-- The reference's gated rows. -/
def refY (a0 : FVec Ideal S8x16384x128 .f32) (a1 : FVec Ideal S1024x1024 .f32) : FVec Ideal S16384x1024 .f32 :=
  mulf (refRow a0) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (Host.dotGeneral dot_S16384x1024_S1024x1024_S16384x1024_1_0_0_1_n_n none (refRow a0) a1)))))

/-- The reference's result as a function of its arguments. -/
def ref (a0 : FVec Ideal S8x16384x128 .f32) (a1 : FVec Ideal S1024x1024 .f32) (a2 : FVec Ideal S1024 .f32) : FVec Ideal S16384x1024 .bf16 :=
  truncf .bf16 (mulf (mulf (refY a0 a1) (broadcastInDim S16384x1024 ![0, 1] bcast_S16384x1_S16384x1024_0_1 (Host.rsqrt (addf (Host.divf (broadcastInDim S16384x1 ![0] bcast_S16384_S16384x1_0 (Host.reduceAdd (mulf (refY a0 a1) (refY a0 a1)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 a2))) bitsLt_bf16_f32

theorem refRow_at (a0 : FVec Ideal S8x16384x128 .f32) (p : Fin 16384) (n : Fin 1024) : refRow a0 (ix2 p n) = row (fun g l => a0 (ix3 g p l)) n := by
  pointwise [refRow, row]
theorem refY_at (a0 : FVec Ideal S8x16384x128 .f32) (a1 : FVec Ideal S1024x1024 .f32) (p : Fin 16384) (n : Fin 1024) :
    refY a0 a1 (ix2 p n) = unit (row fun g l => a0 (ix3 g p l)) (fun k n => a1 (ix2 k n)) n := by
  pointwise [refY, unit, dense]
  simp only [refRow_at]
theorem ref_at (a0 : FVec Ideal S8x16384x128 .f32) (a1 : FVec Ideal S1024x1024 .f32) (a2 : FVec Ideal S1024 .f32) (p : Fin 16384) (n : Fin 1024) :
    ref a0 a1 a2 (ix2 p n) = rms (unit (row fun g l => a0 (ix3 g p l)) fun k n => a1 (ix2 k n)) (fun n => a2 (ix1 n)) n := by
  pointwise [ref, rms]
  simp only [refY_at]

end Cert.GluRefIdeal.Value

namespace Cert.GluIdeal.Value

open Cert.GluIdeal Cert.GluIdeal.Gen
open Cert.Proj Cert.Glu
set_option maxHeartbeats 4000000

/-- Eight groups of lanes joined along the lanes, at a point. -/
theorem join_at (v : Fin 8 → FVec Ideal S512x128 .f32) (h) (p : Fin 512) (n : Fin 1024) :
    concatenate S512x1024 1 [⟨S512x128, v 0⟩, ⟨S512x128, v 1⟩, ⟨S512x128, v 2⟩, ⟨S512x128, v 3⟩, ⟨S512x128, v 4⟩, ⟨S512x128, v 5⟩, ⟨S512x128, v 6⟩, ⟨S512x128, v 7⟩] h (ix2 p n)
    = row (fun g l => v g (ix2 p l)) n := by
  have key : ∀ (g : Fin 8) (l : Fin 128), n.val = g.val * 128 + l.val →
      concatenate S512x1024 1 [⟨S512x128, v 0⟩, ⟨S512x128, v 1⟩, ⟨S512x128, v 2⟩, ⟨S512x128, v 3⟩, ⟨S512x128, v 4⟩, ⟨S512x128, v 5⟩, ⟨S512x128, v 6⟩, ⟨S512x128, v 7⟩] h (ix2 p n)
      = v g (ix2 p l) := by
    intro g l hn
    refine concatenate_apply_piece 1 _ h (ix2 p n) g.val g.isLt S512x128 (v g) (by fin_cases g <;> rfl) rfl (g.val * 128) (by fin_cases g <;> rfl) (ix2 p l) (fun b hb => ?_) hn.symm
    fin_cases b
    · rfl
    · exact absurd rfl hb
  exact key ⟨n.val / 128, by omega⟩ ⟨n.val % 128, by omega⟩ (by dsimp only; omega)

/-- The gated rows of one block. -/
theorem gated_at (x0 : Vec Ideal S8x512x128 .f32) (x1 : Vec Ideal S1024x1024 .bf16) (p : Fin 512) (n : Fin 1024) :
    k0_pay2 (View.ld x0 r0_0) (View.ld x0 r0_1) (View.ld x0 r0_2) (View.ld x0 r0_3) (View.ld x0 r0_4) (View.ld x0 r0_5) (View.ld x0 r0_6) (View.ld x0 r0_7) (View.ld x1 r0_8) (ix2 p n)
    = unit (row fun g l => x0 (ix3 g p l)) (fun k n => x1 (ix2 k n)) n := by
  unfold k0_pay2
  have hz : ∀ n : Fin 1024, concatenate S512x1024 1 [⟨S512x128, shapeCast S512x128 (View.ld x0 r0_0) shapeCasts_S1x512x128_S512x128⟩, ⟨S512x128, shapeCast S512x128 (View.ld x0 r0_1) shapeCasts_S1x512x128_S512x128⟩, ⟨S512x128, shapeCast S512x128 (View.ld x0 r0_2) shapeCasts_S1x512x128_S512x128⟩, ⟨S512x128, shapeCast S512x128 (View.ld x0 r0_3) shapeCasts_S1x512x128_S512x128⟩, ⟨S512x128, shapeCast S512x128 (View.ld x0 r0_4) shapeCasts_S1x512x128_S512x128⟩, ⟨S512x128, shapeCast S512x128 (View.ld x0 r0_5) shapeCasts_S1x512x128_S512x128⟩, ⟨S512x128, shapeCast S512x128 (View.ld x0 r0_6) shapeCasts_S1x512x128_S512x128⟩, ⟨S512x128, shapeCast S512x128 (View.ld x0 r0_7) shapeCasts_S1x512x128_S512x128⟩] concatenates_S512x128_S512x128_S512x128_S512x128_S512x128_S512x128_S512x128_S512x128_S512x1024_d1 (ix2 p n)
      = row (fun g l => x0 (ix3 g p l)) n := fun n => by
    refine (join_at ![shapeCast S512x128 (View.ld x0 r0_0) shapeCasts_S1x512x128_S512x128, shapeCast S512x128 (View.ld x0 r0_1) shapeCasts_S1x512x128_S512x128, shapeCast S512x128 (View.ld x0 r0_2) shapeCasts_S1x512x128_S512x128, shapeCast S512x128 (View.ld x0 r0_3) shapeCasts_S1x512x128_S512x128, shapeCast S512x128 (View.ld x0 r0_4) shapeCasts_S1x512x128_S512x128, shapeCast S512x128 (View.ld x0 r0_5) shapeCasts_S1x512x128_S512x128, shapeCast S512x128 (View.ld x0 r0_6) shapeCasts_S1x512x128_S512x128, shapeCast S512x128 (View.ld x0 r0_7) shapeCasts_S1x512x128_S512x128] _ p n).trans (congrArg (fun z => row z n) (funext fun g => funext fun l => ?_))
    fin_cases g <;> (dsimp; pointwise)
  generalize concatenate S512x1024 1 _ _ = Z at hz ⊢
  pointwise
  simp only [hz, Cert.FfnInIdeal.Run.zero_sub']
  rfl

/-- What the body leaves of one block. -/
theorem out_at (x0 : Vec Ideal S8x512x128 .f32) (x1 : Vec Ideal S1024x1024 .bf16) (x2 : Vec Ideal S1x1024 .f32) (p : Fin 512) (n : Fin 1024) :
    out0_3 x0 x1 x2 (ix2 p n) = rms (unit (row fun g l => x0 (ix3 g p l)) fun k n => x1 (ix2 k n)) (fun n => x2 (ix2 0 n)) n := by
  unfold out0_3
  canon_tiles x h
  all_goals
    obtain ⟨i, j, rfl⟩ : ∃ i j, x = ix2 i j := ⟨x 0, x 1, by funext a; fin_cases a <;> rfl⟩
    obtain rfl : p = i := Fin.ext (by dsimp at h0; omega)
    obtain rfl : n = j := Fin.ext (by dsimp at h1; omega)
    have hy := fun k => gated_at x0 x1 p k
    generalize k0_pay2 (F := Ideal) _ _ _ _ _ _ _ _ _ = Y at hy ⊢
    pointwise [k0_pay1]
    simp only [hy]
    rfl

/-- Every window's block index at every grid point. -/
theorem idx_val : ∀ t : Fin cfg0.N, win0_0.index t = ![0, t.val, 0] ∧ win0_1.index t = ![0, 0] ∧ win0_2.index t = ![0, 0] ∧ win0_3.index t = ![t.val, 0] :=
  (by decide +kernel : ∀ t : Fin grid0.N, _)

variable (m : (ℓ : Loc nD τ sig) → Buf (Elt Ideal) ℓ)

theorem entry_v0 (c : Dev nD) (k n : Fin 1024) : V m c main_v0 (ix2 k n) = m (c.tc.loc main_arg1) (ix2 k n) := by
  dsimp only [V, hostOps0]; entry_read; pointwise
theorem entry_v1 (c : Dev nD) (n : Fin 1024) : V m c main_v1 (ix2 0 n) = m (c.tc.loc main_arg2) (ix1 n) := by
  dsimp only [V, hostOps0]; entry_read; pointwise
theorem iblk_0 (c : Dev nD) (t : Fin cfg0.N) (g : Fin 8) (p : Fin 512) (l : Fin 128) : iblk m c 0 t (ix3 g p l)
    = m (c.tc.loc main_arg0) (ix3 g (⟨t.val * 512 + p.val, by have : t.val < 32 := t.isLt; omega⟩ : Fin 16384) l) := by
  blk_ext [iblk, V, idx_val t]
theorem iblk_1 (c : Dev nD) (t : Fin cfg0.N) (k n : Fin 1024) : iblk m c 1 t (ix2 k n) = V m c main_v0 (ix2 k n) := by
  blk_ext [iblk, idx_val t]
theorem iblk_2 (c : Dev nD) (t : Fin cfg0.N) (n : Fin 1024) : iblk m c 2 t (ix2 0 n) = V m c main_v1 (ix2 0 n) := by
  blk_ext [iblk, idx_val t]

/-- The kernel's array is the reference's. -/
theorem final (c : Dev nD) : (dats m 0 c).arrAt 3 (cfgs 0).N
    = Cert.GluRefIdeal.Value.ref (m (c.tc.loc main_arg0)) (m (c.tc.loc main_arg1)) (m (c.tc.loc main_arg2)) := by
  refine (dats m 0 c).arrAt_eq_of_covers 3 _ (by decide +kernel) fun t hf y => ?_
  obtain ⟨i0, i1, i2, i3⟩ := idx_val t
  blk_simp [i3]
  rw [after0_3]
  have ht : t.val < 32 := t.isLt
  obtain ⟨p, q, rfl⟩ : ∃ (p : Fin 512) (q : Fin 1024), y = ix2 p q := ⟨y 0, y 1, by funext a; fin_cases a <;> rfl⟩
  have hp := p.isLt
  have he : (win0_3.blk t).view.emb (ix2 p q) = ix2 (⟨t.val * 512 + p.val, by omega⟩ : Fin 16384) q := by
    blk_ext [i3]
  rw [he]
  refine (out_at (iblk m c 0 t) (iblk m c 1 t) (iblk m c 2 t) p q).trans (Eq.trans ?_ (Cert.GluRefIdeal.Value.ref_at _ _ _ _ _).symm)
  simp only [iblk_0, iblk_1, iblk_2]
  exact congrArg₂ (fun w s => rms (unit _ w) s q) (funext fun k => funext fun n => entry_v0 m c k n) (funext fun n => entry_v1 m c n)

end Cert.GluIdeal.Value

end
-- ==== Proof.FinalValue.lean ====
/- The model's last LayerNorm: the kernel's array is the reference's. -/
module

public import proofs.«01_k».proof.Proof.FfnInValue
public import proofs.«01_k».proof.Proof.Gen.FinalIdeal.Value
public import proofs.«01_k».proof.Proof.Gen.FinalRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FinalRefIdeal.Value

open Cert.FinalRefIdeal Cert.FinalRefIdeal.Gen
open Cert.Proj Cert.Ffn
set_option maxHeartbeats 2000000

/-- The reference's LayerNorm as a function of its arguments. -/
def ref (a0 : FVec Ideal S16384x4096 .f32) (a1 a2 : FVec Ideal S4096 .f32) : FVec Ideal S16384x4096 .f32 :=
  addf (mulf (mulf (subf a0 (broadcastInDim S16384x4096 ![0, 1] bcast_S16384x1_S16384x4096_0_1 (Host.divf (broadcastInDim S16384x1 ![0] bcast_S16384_S16384x1_0 (Host.reduceAdd a0 (constant S_ .f32 0x00000000#32) reducesTo_S16384x4096_S16384_d1 h_S_)) (broadcastInDim S16384x1 ![] bcast_S_S16384x1 (constant S_ .f32 0x45800000#32))))) (broadcastInDim S16384x4096 ![0, 1] bcast_S16384x1_S16384x4096_0_1 (Host.rsqrt (addf (Host.divf (broadcastInDim S16384x1 ![0] bcast_S16384_S16384x1_0 (Host.reduceAdd (mulf (subf a0 (broadcastInDim S16384x4096 ![0, 1] bcast_S16384x1_S16384x4096_0_1 (Host.divf (broadcastInDim S16384x1 ![0] bcast_S16384_S16384x1_0 (Host.reduceAdd a0 (constant S_ .f32 0x00000000#32) reducesTo_S16384x4096_S16384_d1 h_S_)) (broadcastInDim S16384x1 ![] bcast_S_S16384x1 (constant S_ .f32 0x45800000#32))))) (subf a0 (broadcastInDim S16384x4096 ![0, 1] bcast_S16384x1_S16384x4096_0_1 (Host.divf (broadcastInDim S16384x1 ![0] bcast_S16384_S16384x1_0 (Host.reduceAdd a0 (constant S_ .f32 0x00000000#32) reducesTo_S16384x4096_S16384_d1 h_S_)) (broadcastInDim S16384x1 ![] bcast_S_S16384x1 (constant S_ .f32 0x45800000#32)))))) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x3727C5AC#32)))))) (broadcastInDim S16384x4096 ![0, 1] bcast_S1x4096_S16384x4096_0_1 (broadcastInDim S1x4096 ![1] bcast_S4096_S1x4096_1 a1))) (broadcastInDim S16384x4096 ![0, 1] bcast_S1x4096_S16384x4096_0_1 (broadcastInDim S1x4096 ![1] bcast_S4096_S1x4096_1 a2))

/-- The reference's LayerNorm at a point. -/
theorem ref_at (a0 : FVec Ideal S16384x4096 .f32) (a1 a2 : FVec Ideal S4096 .f32) (p : Fin 16384) (q : Fin 4096) :
    ref a0 a1 a2 (ix2 p q) = norm (fun k => a0 (ix2 p k)) (fun k => a1 (ix1 k)) (fun k => a2 (ix1 k)) q := by
  pointwise [ref]
  rfl

end Cert.FinalRefIdeal.Value

namespace Cert.FinalIdeal.Value

open Cert.FinalIdeal Cert.FinalIdeal.Gen
open Cert.Proj Cert.Ffn
set_option maxHeartbeats 4000000

/-- The eight rows the body normalizes at a time, from any row offset of the block. -/
theorem rows_at (x0 : Vec Ideal S512x4096 .f32) (x1 x2 : Vec Ideal S1x4096 .f32)
    (o : ℕ) (i0 : ∀ a, (![o, 0] : Fin 2 → Nat) a + S8x4096.size a ≤ S512x4096.size a)
    (i1 : ∀ a, (![0, 0] : Fin 2 → Nat) a + S1x4096.size a ≤ S1x4096.size a)
    (x : S8x4096.Idx) (y : S512x4096.Idx) (h0 : (y 0).val = o + (x 0).val) (h1 : (y 1).val = (x 1).val) :
    k0_pay4 (View.ld x1 (Rect.unit ![0, 0] ![1, 4096] i1)) (View.ld x2 (Rect.unit ![0, 0] ![1, 4096] i1)) (View.ld x0 (Rect.unit ![o, 0] ![8, 4096] i0)) x
    = norm (fun k => x0 (ix2 (y 0) k)) (fun k => x1 (ix2 0 k)) (fun k => x2 (ix2 0 k)) (y 1) := by
  obtain ⟨i, j, rfl⟩ : ∃ i j, x = ix2 i j := ⟨x 0, x 1, by funext a; fin_cases a <;> rfl⟩
  generalize y 0 = p at *
  generalize y 1 = q at *
  change p.val = o + i.val at h0
  change q.val = j.val at h1
  have hp : p.val < 512 := p.isLt
  obtain ⟨p, hpt⟩ := p
  obtain rfl : q = j := Fin.ext h1
  dsimp only at h0
  subst h0
  pointwise [k0_pay4, k0_pay2, k0_pay3]
  rfl

/-- What the body leaves of one block. -/
theorem out_at (x0 : Vec Ideal S512x4096 .f32) (x1 x2 : Vec Ideal S1x4096 .f32) (y : S512x4096.Idx) :
    out0_3 x0 x1 x2 y = norm (fun k => x0 (ix2 (y 0) k)) (fun k => x1 (ix2 0 k)) (fun k => x2 (ix2 0 k)) (y 1) := by
  unfold_out out0_3
  canon_tiles x h
  all_goals exact rows_at x0 x1 x2 _ _ _ x y (by omega) (by omega)

/-- Every window's block index at every grid point. -/
theorem idx_val : ∀ t : Fin cfg0.N, win0_0.index t = ![t.val, 0] ∧ win0_1.index t = ![0, 0] ∧ win0_2.index t = ![0, 0] ∧ win0_3.index t = ![t.val, 0] :=
  (by decide +kernel : ∀ t : Fin grid0.N, _)

variable (m : (ℓ : Loc nD τ sig) → Buf (Elt Ideal) ℓ)

theorem entry_v0 (c : Dev nD) (k : Fin 4096) : V m c main_v0 (ix2 0 k) = m (c.tc.loc main_arg1) (ix1 k) := by
  dsimp only [V, hostOps0]; entry_read; pointwise
theorem entry_v1 (c : Dev nD) (k : Fin 4096) : V m c main_v1 (ix2 0 k) = m (c.tc.loc main_arg2) (ix1 k) := by
  dsimp only [V, hostOps0]; entry_read; pointwise
theorem iblk_0 (c : Dev nD) (t : Fin cfg0.N) (p : Fin 512) (k : Fin 4096) : iblk m c 0 t (ix2 p k)
    = m (c.tc.loc main_arg0) (ix2 (⟨t.val * 512 + p.val, by have : t.val < 32 := t.isLt; omega⟩ : Fin 16384) k) := by
  blk_ext [iblk, V, idx_val t]
theorem iblk_1 (c : Dev nD) (t : Fin cfg0.N) (k : Fin 4096) : iblk m c 1 t (ix2 0 k) = V m c main_v0 (ix2 0 k) := by
  blk_ext [iblk, idx_val t]
theorem iblk_2 (c : Dev nD) (t : Fin cfg0.N) (k : Fin 4096) : iblk m c 2 t (ix2 0 k) = V m c main_v1 (ix2 0 k) := by
  blk_ext [iblk, idx_val t]

/-- The kernel's array is the reference's. -/
theorem final (c : Dev nD) : (dats m 0 c).arrAt 3 (cfgs 0).N
    = Cert.FinalRefIdeal.Value.ref (m (c.tc.loc main_arg0)) (m (c.tc.loc main_arg1)) (m (c.tc.loc main_arg2)) := by
  refine (dats m 0 c).arrAt_eq_of_covers 3 _ (by decide +kernel) fun t hf y => ?_
  obtain ⟨i0, i1, i2, i3⟩ := idx_val t
  blk_simp [i3]
  rw [after0_3]
  have ht : t.val < 32 := t.isLt
  obtain ⟨p, q, rfl⟩ : ∃ (p : Fin 512) (q : Fin 4096), y = ix2 p q := ⟨y 0, y 1, by funext a; fin_cases a <;> rfl⟩
  have hp := p.isLt
  have he : (win0_3.blk t).view.emb (ix2 p q) = ix2 (⟨t.val * 512 + p.val, by omega⟩ : Fin 16384) q := by
    blk_ext [i3]
  rw [he]
  refine (out_at (iblk m c 0 t) (iblk m c 1 t) (iblk m c 2 t) (ix2 p q)).trans (Eq.trans ?_ (Cert.FinalRefIdeal.Value.ref_at _ _ _ _ _).symm)
  change norm (fun k => iblk m c 0 t (ix2 p k)) (fun k => iblk m c 1 t (ix2 0 k)) (fun k => iblk m c 2 t (ix2 0 k)) q = _
  simp only [iblk_0, iblk_1, iblk_2]
  exact congrArg₂ (fun w b => Cert.Ffn.norm _ w b q) (funext fun k => entry_v0 m c k) (funext fun k => entry_v1 m c k)

end Cert.FinalIdeal.Value

end
-- ==== Proof.OutNextValue.lean ====
/- The output projection onto the residual rebuilt from the LayerNorm: the kernel's array is the reference's. -/
module

public import proofs.«01_k».proof.Proof.ProjSpec
public import proofs.«01_k».proof.Proof.Gen.OutNextIdeal.Value
public import proofs.«01_k».proof.Proof.Gen.OutNextRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.OutNextRefIdeal.Value

open Cert.OutNextRefIdeal Cert.OutNextRefIdeal.Gen
open Cert.Proj

/-- The reference's result as a function of its arguments. -/
def ref (a0 a1 : FVec Ideal S16384x1024 .bf16) (a2 : FVec Ideal S16384x2048 .bf16) (a3 : FVec Ideal S4096x4096 .f32)
    (a4 : FVec Ideal S16384x4096 .f32) (a5 a6 : FVec Ideal S16384x1 .f32) (a7 a8 : FVec Ideal S4096 .f32) : FVec Ideal S16384x4096 .f32 :=
  addf (mulf (broadcastInDim S16384x4096 ![] bcast_S_S16384x4096 (constant S_ .f32 0x3FB504F3#32)) (addf (mulf (mulf (subf a4 (broadcastInDim S16384x4096 ![0, 1] bcast_S16384x1_S16384x4096_0_1 a5)) (broadcastInDim S16384x4096 ![0, 1] bcast_S16384x1_S16384x4096_0_1 a6)) (broadcastInDim S16384x4096 ![0, 1] bcast_S1x4096_S16384x4096_0_1 (broadcastInDim S1x4096 ![1] bcast_S4096_S1x4096_1 a7))) (broadcastInDim S16384x4096 ![0, 1] bcast_S1x4096_S16384x4096_0_1 (broadcastInDim S1x4096 ![1] bcast_S4096_S1x4096_1 a8)))) (Host.dotGeneral (F := Ideal) dot_S16384x4096_S4096x4096_S16384x4096_1_0_0_1_n_n none (extf .f32 ((concatenate S16384x4096 1 [⟨S16384x1024, (a0 : (⟨S16384x1024, .bf16⟩ : BufTy).Contents (Elt Ideal))⟩, ⟨S16384x1024, (a1 : (⟨S16384x1024, .bf16⟩ : BufTy).Contents (Elt Ideal))⟩, ⟨S16384x2048, (a2 : (⟨S16384x2048, .bf16⟩ : BufTy).Contents (Elt Ideal))⟩] concatenates_S16384x1024_S16384x1024_S16384x2048_S16384x4096_d1 : (⟨S16384x4096, .bf16⟩ : BufTy).Contents (Elt Ideal))) bitsLt_bf16_f32) a3)

/-- The reference at a point. -/
theorem ref_at (a0 a1 : FVec Ideal S16384x1024 .bf16) (a2 : FVec Ideal S16384x2048 .bf16) (a3 : FVec Ideal S4096x4096 .f32)
    (a4 : FVec Ideal S16384x4096 .f32) (a5 a6 : FVec Ideal S16384x1 .f32) (a7 a8 : FVec Ideal S4096 .f32) (p : Fin 16384) (q : Fin 4096) :
    ref a0 a1 a2 a3 a4 a5 a6 a7 a8 (ix2 p q) = alpha * affine (a4 (ix2 p q)) (a5 (ix2 p 0)) (a6 (ix2 p 0)) (a7 (ix1 q)) (a8 (ix1 q))
      + dense (side (fun k => a0 (ix2 p k)) (fun k => a1 (ix2 p k)) (fun k => a2 (ix2 p k))) (fun k => a3 (ix2 k q)) := by
  pointwise [ref, dense, side, affine, alpha]

end Cert.OutNextRefIdeal.Value

namespace Cert.OutNextIdeal.Value

open Cert.OutNextIdeal Cert.OutNextIdeal.Gen
open Cert.Proj
set_option maxHeartbeats 2000000

/-- One entry of the projection from the blocks' rows, the mean and the reciprocal deviation read in their first lane. -/
def entry (x0 x1 : Vec Ideal S1024x1024 .bf16) (x2 : Vec Ideal S1024x2048 .bf16) (x3 : Vec Ideal S4096x1024 .bf16)
    (x4 : Vec Ideal S1024x1024 .f32) (x5 x6 : Vec Ideal S1024x128 .f32) (x7 x8 : Vec Ideal S1x1024 .f32) (p q : Fin 1024) : EReal :=
  alpha * affine (x4 (ix2 p q)) (x5 (ix2 p 0)) (x6 (ix2 p 0)) (x7 (ix2 0 q)) (x8 (ix2 0 q))
    + dense (side (fun k => x0 (ix2 p k)) (fun k => x1 (ix2 p k)) (fun k => x2 (ix2 p k))) (fun k => x3 (ix2 k q))

/-- The 256 rows the body computes at a time, from any row offset of the blocks, where the row statistics are the same in every lane. -/
theorem rows_at (x0 x1 : Vec Ideal S1024x1024 .bf16) (x2 : Vec Ideal S1024x2048 .bf16) (x3 : Vec Ideal S4096x1024 .bf16)
    (x4 : Vec Ideal S1024x1024 .f32) (x5 x6 : Vec Ideal S1024x128 .f32) (x7 x8 : Vec Ideal S1x1024 .f32)
    (e5 : ∀ p k, x5 (ix2 p k) = x5 (ix2 p 0)) (e6 : ∀ p k, x6 (ix2 p k) = x6 (ix2 p 0))
    (o : ℕ) (i0 : ∀ a, (![o, 0] : Fin 2 → Nat) a + S256x1024.size a ≤ S1024x1024.size a)
    (i2 : ∀ a, (![o, 0] : Fin 2 → Nat) a + S256x2048.size a ≤ S1024x2048.size a)
    (i3 : ∀ a, (![0, 0] : Fin 2 → Nat) a + S4096x1024.size a ≤ S4096x1024.size a)
    (i5 : ∀ a, (![o, 0] : Fin 2 → Nat) a + S256x128.size a ≤ S1024x128.size a)
    (i7 : ∀ a, (![0, 0] : Fin 2 → Nat) a + S1x1024.size a ≤ S1x1024.size a)
    (x : S256x1024.Idx) (y : S1024x1024.Idx) (h0 : (y 0).val = o + (x 0).val) (h1 : (y 1).val = (x 1).val) :
    k0_pay2 (View.ld x0 (Rect.unit ![o, 0] ![256, 1024] i0)) (View.ld x1 (Rect.unit ![o, 0] ![256, 1024] i0))
      (View.ld x2 (Rect.unit ![o, 0] ![256, 2048] i2)) (View.ld x3 (Rect.unit ![0, 0] ![4096, 1024] i3))
      (View.ld x4 (Rect.unit ![o, 0] ![256, 1024] i0)) (View.ld x5 (Rect.unit ![o, 0] ![256, 128] i5)) (View.ld x6 (Rect.unit ![o, 0] ![256, 128] i5))
      (View.ld x7 (Rect.unit ![0, 0] ![1, 1024] i7)) (View.ld x8 (Rect.unit ![0, 0] ![1, 1024] i7)) x
    = entry x0 x1 x2 x3 x4 x5 x6 x7 x8 (y 0) (y 1) := by
  obtain ⟨i, j, rfl⟩ : ∃ i j, x = ix2 i j := ⟨x 0, x 1, by funext a; fin_cases a <;> rfl⟩
  generalize y 0 = p at *
  generalize y 1 = q at *
  change p.val = o + i.val at h0
  change q.val = j.val at h1
  have hp : p.val < 1024 := p.isLt
  obtain ⟨p, hpt⟩ := p
  obtain rfl : q = j := Fin.ext h1
  dsimp only at h0
  subst h0
  pointwise [k0_pay2, entry, dense, side, affine, alpha]
  simp only [e5, e6]
  split_ifs <;> rfl

/-- What the body leaves of one block. -/
theorem out_at (x0 x1 : Vec Ideal S1024x1024 .bf16) (x2 : Vec Ideal S1024x2048 .bf16) (x3 : Vec Ideal S4096x1024 .bf16)
    (x4 : Vec Ideal S1024x1024 .f32) (x5 x6 : Vec Ideal S1024x128 .f32) (x7 x8 : Vec Ideal S1x1024 .f32)
    (e5 : ∀ p k, x5 (ix2 p k) = x5 (ix2 p 0)) (e6 : ∀ p k, x6 (ix2 p k) = x6 (ix2 p 0)) (y : S1024x1024.Idx) :
    out0_9 x0 x1 x2 x3 x4 x5 x6 x7 x8 y = entry x0 x1 x2 x3 x4 x5 x6 x7 x8 (y 0) (y 1) := by
  unfold out0_9
  canon_tiles x h
  all_goals exact rows_at x0 x1 x2 x3 x4 x5 x6 x7 x8 e5 e6 _ _ _ _ _ _ x y (by omega) (by omega)

/-- Every window's block index at every grid point. -/
theorem idx_val : ∀ t : Fin cfg0.N, win0_0.index t = ![t.val / 4, 0]
    ∧ win0_1.index t = ![t.val / 4, 0]
    ∧ win0_2.index t = ![t.val / 4, 0]
    ∧ win0_3.index t = ![0, t.val % 4]
    ∧ win0_4.index t = ![t.val / 4, t.val % 4]
    ∧ win0_5.index t = ![t.val / 4, 0]
    ∧ win0_6.index t = ![t.val / 4, 0]
    ∧ win0_7.index t = ![0, t.val % 4]
    ∧ win0_8.index t = ![0, t.val % 4]
    ∧ win0_9.index t = ![t.val / 4, t.val % 4] :=
  (by decide +kernel : ∀ t : Fin grid0.N, _)

variable (m : (ℓ : Loc nD τ sig) → Buf (Elt Ideal) ℓ)

/-! What the host code leaves in each prepared operand, and each window's block of its array. -/

theorem entry_v0 (c : Dev nD) (k q : Fin 4096) : V m c main_v0 (ix2 k q)
    = m (c.tc.loc main_arg3) (ix2 k q) := by
  dsimp only [V, hostOps0]; entry_read; pointwise
theorem entry_v1 (c : Dev nD) (p : Fin 16384) (k : Fin 128) : V m c main_v1 (ix2 p k)
    = m (c.tc.loc main_arg5) (ix2 p 0) := by
  dsimp only [V, hostOps0]; entry_read; pointwise
theorem entry_v2 (c : Dev nD) (p : Fin 16384) (k : Fin 128) : V m c main_v2 (ix2 p k)
    = m (c.tc.loc main_arg6) (ix2 p 0) := by
  dsimp only [V, hostOps0]; entry_read; pointwise
theorem entry_v3 (c : Dev nD) (k : Fin 4096) : V m c main_v3 (ix2 0 k)
    = m (c.tc.loc main_arg7) (ix1 k) := by
  dsimp only [V, hostOps0]; entry_read; pointwise
theorem entry_v4 (c : Dev nD) (k : Fin 4096) : V m c main_v4 (ix2 0 k)
    = m (c.tc.loc main_arg8) (ix1 k) := by
  dsimp only [V, hostOps0]; entry_read; pointwise
theorem iblk_0 (c : Dev nD) (t : Fin cfg0.N) (p : Fin 1024) (k : Fin 1024) : iblk m c 0 t (ix2 p k)
    = m (c.tc.loc main_arg0) (ix2 (⟨t.val / 4 * 1024 + p.val, by have : t.val < 64 := t.isLt; omega⟩ : Fin 16384) k) := by
  blk_ext [iblk, V, idx_val t]
theorem iblk_1 (c : Dev nD) (t : Fin cfg0.N) (p : Fin 1024) (k : Fin 1024) : iblk m c 1 t (ix2 p k)
    = m (c.tc.loc main_arg1) (ix2 (⟨t.val / 4 * 1024 + p.val, by have : t.val < 64 := t.isLt; omega⟩ : Fin 16384) k) := by
  blk_ext [iblk, V, idx_val t]
theorem iblk_2 (c : Dev nD) (t : Fin cfg0.N) (p : Fin 1024) (k : Fin 2048) : iblk m c 2 t (ix2 p k)
    = m (c.tc.loc main_arg2) (ix2 (⟨t.val / 4 * 1024 + p.val, by have : t.val < 64 := t.isLt; omega⟩ : Fin 16384) k) := by
  blk_ext [iblk, V, idx_val t]
theorem iblk_3 (c : Dev nD) (t : Fin cfg0.N) (k : Fin 4096) (q : Fin 1024) : iblk m c 3 t (ix2 k q)
    = V m c main_v0 (ix2 k (⟨t.val % 4 * 1024 + q.val, by omega⟩ : Fin 4096)) := by
  blk_ext [iblk, idx_val t]
theorem iblk_4 (c : Dev nD) (t : Fin cfg0.N) (p q : Fin 1024) : iblk m c 4 t (ix2 p q)
    = m (c.tc.loc main_arg4) (ix2 (⟨t.val / 4 * 1024 + p.val, by have : t.val < 64 := t.isLt; omega⟩ : Fin 16384) (⟨t.val % 4 * 1024 + q.val, by omega⟩ : Fin 4096)) := by
  blk_ext [iblk, V, idx_val t]
theorem iblk_5 (c : Dev nD) (t : Fin cfg0.N) (p : Fin 1024) (k : Fin 128) : iblk m c 5 t (ix2 p k)
    = V m c main_v1 (ix2 (⟨t.val / 4 * 1024 + p.val, by have : t.val < 64 := t.isLt; omega⟩ : Fin 16384) k) := by
  blk_ext [iblk, idx_val t]
theorem iblk_6 (c : Dev nD) (t : Fin cfg0.N) (p : Fin 1024) (k : Fin 128) : iblk m c 6 t (ix2 p k)
    = V m c main_v2 (ix2 (⟨t.val / 4 * 1024 + p.val, by have : t.val < 64 := t.isLt; omega⟩ : Fin 16384) k) := by
  blk_ext [iblk, idx_val t]
theorem iblk_7 (c : Dev nD) (t : Fin cfg0.N) (q : Fin 1024) : iblk m c 7 t (ix2 0 q)
    = V m c main_v3 (ix2 0 (⟨t.val % 4 * 1024 + q.val, by omega⟩ : Fin 4096)) := by
  blk_ext [iblk, idx_val t]
theorem iblk_8 (c : Dev nD) (t : Fin cfg0.N) (q : Fin 1024) : iblk m c 8 t (ix2 0 q)
    = V m c main_v4 (ix2 0 (⟨t.val % 4 * 1024 + q.val, by omega⟩ : Fin 4096)) := by
  blk_ext [iblk, idx_val t]
/-- A row's mean is the same in every lane of its block. -/
theorem lane_5 (c : Dev nD) (t : Fin cfg0.N) (p : Fin 1024) (k : Fin 128) : iblk m c 5 t (ix2 p k)
    = m (c.tc.loc main_arg5) (ix2 (⟨t.val / 4 * 1024 + p.val, by have : t.val < 64 := t.isLt; omega⟩ : Fin 16384) 0) := (iblk_5 m c t p k).trans (entry_v1 m c _ k)
/-- A row's reciprocal deviation is the same in every lane of its block. -/
theorem lane_6 (c : Dev nD) (t : Fin cfg0.N) (p : Fin 1024) (k : Fin 128) : iblk m c 6 t (ix2 p k)
    = m (c.tc.loc main_arg6) (ix2 (⟨t.val / 4 * 1024 + p.val, by have : t.val < 64 := t.isLt; omega⟩ : Fin 16384) 0) := (iblk_6 m c t p k).trans (entry_v2 m c _ k)

/-- The kernel's array is the reference's. -/
theorem final (c : Dev nD) : (dats m 0 c).arrAt 9 (cfgs 0).N
    = Cert.OutNextRefIdeal.Value.ref (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) := by
  refine (dats m 0 c).arrAt_eq_of_covers 9 _ (by decide +kernel) fun t hf y => ?_
  obtain ⟨i0, i1, i2, i3, i4, i5, i6, i7, i8, i9⟩ := idx_val t
  blk_simp [i9]
  rw [after0_9]
  have ht : t.val < 64 := t.isLt
  obtain ⟨p, q, rfl⟩ : ∃ (p q : Fin 1024), y = ix2 p q := ⟨y 0, y 1, by funext a; fin_cases a <;> rfl⟩
  have hp := p.isLt
  have hq := q.isLt
  have he : (win0_9.blk t).view.emb (ix2 p q) = ix2 (⟨t.val / 4 * 1024 + p.val, by omega⟩ : Fin 16384) (⟨t.val % 4 * 1024 + q.val, by omega⟩ : Fin 4096) := by
    blk_ext [i9]
  rw [he]
  refine (out_at (iblk m c 0 t) (iblk m c 1 t) (iblk m c 2 t) (iblk m c 3 t) (iblk m c 4 t) (iblk m c 5 t) (iblk m c 6 t) (iblk m c 7 t) (iblk m c 8 t)
    (fun p k => (lane_5 m c t p k).trans (lane_5 m c t p 0).symm) (fun p k => (lane_6 m c t p k).trans (lane_6 m c t p 0).symm) (ix2 p q)).trans
    (Eq.trans ?_ (Cert.OutNextRefIdeal.Value.ref_at _ _ _ _ _ _ _ _ _ _ _).symm)
  change entry (iblk m c 0 t) (iblk m c 1 t) (iblk m c 2 t) (iblk m c 3 t) (iblk m c 4 t) (iblk m c 5 t) (iblk m c 6 t) (iblk m c 7 t) (iblk m c 8 t) p q = _
  unfold entry
  simp only [iblk_0, iblk_1, iblk_2, iblk_3, iblk_4, lane_5, lane_6, iblk_7, iblk_8]
  congr 2
  · congr 1
    · exact entry_v3 m c _
    · exact entry_v4 m c _

end Cert.OutNextIdeal.Value

end
-- ==== Proof.SsmNextRun.lean ====
module

public import proofs.«01_k».proof.Proof.Gen.SsmNextIdeal.Frame
public import proofs.«01_k».proof.Proof.Gen.SsmNextIdeal.Skeleton
public import Idealize.ShloMosaic.Lib.Ring
public import Idealize.ShloMosaic.Lib.Tactic
public import Idealize.ShloMosaic.Lib.WordCmp
public import Idealize.ShloMosaic.Lib.Pipeline.FrameBody

/-! The body of layer 1's columns for S5, run once for each of the three kinds of grid point: the first row of the grid, which
    only fills the first row buffer; the even rows after it, which fill the first buffer and multiply the second; and the odd
    rows, which do the opposite. -/

@[expose] public section

set_option maxRecDepth 16384
set_option maxHeartbeats 16000000

noncomputable section

namespace Cert.SsmNextIdeal.Run

open Cert.SsmNextIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The propositions of the run's logic. -/
abbrev RunM (F : FTy → Type) [FloatOps F] := MT nD τ sig Unit (Elt F) ℕ (UR sig nD τ) ℕ

/-- A point of the first row of the grid: what it leaves in the first row buffer over what it found, and in the outputs. -/
noncomputable def runA (c : Dev nD) (i : grid0.Coords) (h1 : k0_cond1 i = 1#1) (h2 : ¬ k0_cond2 i = 1#1) (h3 : ¬ k0_cond3 i = 1#1) (arg2 : Memref sig .tc .vmem S256x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S2x1024x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x4096 .bf16) (harg9 : arg9.IsWhole) (arg10 : Memref sig .tc .vmem S1024x4096 .bf16) (harg10 : arg10.IsWhole) (arg11 : Memref sig .tc .vmem S1024x4096 .bf16) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole)
    (x2 : Vec F S256x4096 .f32) (x3 : Vec F S1x4096 .f32) (x4 : Vec F S1x4096 .f32) (x10 : Vec F S1024x4096 .bf16) :
    Σ' (L10 : List (View.Piece (Elt F) S1024x4096 .bf16)), Σ' (L7 : List (View.Piece (Elt F) S256x128 .f32)), Σ' (L8 : List (View.Piece (Elt F) S256x128 .f32)), Σ' (L9 : List (View.Piece (Elt F) S256x4096 .bf16)), Σ' (L12 : List (View.Piece (Elt F) S1024x128 .f32)), { L14 : List (View.Piece (Elt F) S1024x128 .f32) //
      ∀ (E : Set ℕ) (K : PUnit → sProp (RunM F)),
        iprop(owns (c : Thread nD τ) arg2 fullShare x2 ∗ owns (c : Thread nD τ) arg3 fullShare x3 ∗ owns (c : Thread nD τ) arg4 fullShare x4 ∗ owns (c : Thread nD τ) arg10 fullShare x10 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg12 fullShare d) ∗ (∃ d, owns (c : Thread nD τ) arg14 fullShare d)
            ∗ (iprop(owns (c : Thread nD τ) arg2 fullShare x2 ∗ owns (c : Thread nD τ) arg3 fullShare x3 ∗ owns (c : Thread nD τ) arg4 fullShare x4 ∗ (arg10.view.loc (c : Thread nD τ) ↦[arg10.view.set]{fullShare} arg10.view.writes (Elt F) (harg10.unread x10) L10) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg12.view.loc (c : Thread nD τ) ↦[arg12.view.set]{fullShare} arg12.view.writes (Elt F) f L12) ∗ (∃ f, arg14.view.loc (c : Thread nD τ) ↦[arg14.view.set]{fullShare} arg14.view.writes (Elt F) f L14)) -∗ K ⟨⟩))
          ⊢ wp frame (wpE (defs₀ (F := F)) Variants.none c none) E (cc0_in_proj_s5 i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0_in_proj_s5_eq_skeleton]; unfold cc0_in_proj_s5_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, h1, h2, h3, ↓reduceDIte]
    unfold owns
    iintro ⟨⟨%f2, %hf2, H2⟩, ⟨%f3, %hf3, H3⟩, ⟨%f4, %hf4, H4⟩, ⟨%f10, %hf10, H10⟩, ⟨%d7, %f7, -, H7⟩, ⟨%d8, %f8, -, H8⟩, ⟨%d9, %f9, -, H9⟩, ⟨%d12, %f12, -, H12⟩, ⟨%d14, %f14, -, H14⟩, Hk⟩
    obtain rfl := harg2.eq_unread hf2; obtain rfl := harg3.eq_unread hf3; obtain rfl := harg4.eq_unread hf4; obtain rfl := harg10.eq_unread hf10
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H10]; · iexact H10
    isplitl [H7]; · iexists _; iexact H7
    isplitl [H8]; · iexists _; iexact H8
    isplitl [H9]; · iexists _; iexact H9
    isplitl [H12]; · iexists _; iexact H12
    iexists _; iexact H14

/-- A point of a later even row: the first row buffer written, the second multiplied. -/
noncomputable def runB (c : Dev nD) (i : grid0.Coords) (h1 : ¬ k0_cond1 i = 1#1) (h2 : k0_cond2 i = 1#1) (h3 : ¬ k0_cond3 i = 1#1) (arg2 : Memref sig .tc .vmem S256x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S2x1024x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x4096 .bf16) (harg9 : arg9.IsWhole) (arg10 : Memref sig .tc .vmem S1024x4096 .bf16) (harg10 : arg10.IsWhole) (arg11 : Memref sig .tc .vmem S1024x4096 .bf16) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole)
    (x2 : Vec F S256x4096 .f32) (x3 : Vec F S1x4096 .f32) (x4 : Vec F S1x4096 .f32) (x5 : Vec F S4096x256 .bf16) (x11 : Vec F S1024x4096 .bf16) (x10 : Vec F S1024x4096 .bf16) :
    Σ' (L10 : List (View.Piece (Elt F) S1024x4096 .bf16)), Σ' (L6 : List (View.Piece (Elt F) S2x1024x128 .f32)), Σ' (L7 : List (View.Piece (Elt F) S256x128 .f32)), Σ' (L8 : List (View.Piece (Elt F) S256x128 .f32)), Σ' (L9 : List (View.Piece (Elt F) S256x4096 .bf16)), Σ' (L12 : List (View.Piece (Elt F) S1024x128 .f32)), { L14 : List (View.Piece (Elt F) S1024x128 .f32) //
      ∀ (E : Set ℕ) (K : PUnit → sProp (RunM F)),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg11 fullShare x11 ∗ owns (c : Thread nD τ) arg10 fullShare x10 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg12 fullShare d) ∗ (∃ d, owns (c : Thread nD τ) arg14 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg11 fullShare x11 ∗ (arg10.view.loc (c : Thread nD τ) ↦[arg10.view.set]{fullShare} arg10.view.writes (Elt F) (harg10.unread x10) L10) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg12.view.loc (c : Thread nD τ) ↦[arg12.view.set]{fullShare} arg12.view.writes (Elt F) f L12) ∗ (∃ f, arg14.view.loc (c : Thread nD τ) ↦[arg14.view.set]{fullShare} arg14.view.writes (Elt F) f L14)) -∗ K ⟨⟩))
          ⊢ wp frame (wpE (defs₀ (F := F)) Variants.none c none) E (cc0_in_proj_s5 i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun E K => ?run⟩
  case run =>
    simp only [cc0_in_proj_s5_eq_skeleton]; unfold cc0_in_proj_s5_skel
    simp only [k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, h1, h2, h3, ↓reduceDIte]
    unfold owns
    iintro ⟨⟨%f2, %hf2, H2⟩, ⟨%f3, %hf3, H3⟩, ⟨%f4, %hf4, H4⟩, ⟨%f5, %hf5, H5⟩, ⟨%f11, %hf11, H11⟩, ⟨%f10, %hf10, H10⟩, ⟨%d6, %f6, -, H6⟩, ⟨%d7, %f7, -, H7⟩, ⟨%d8, %f8, -, H8⟩, ⟨%d9, %f9, -, H9⟩, ⟨%d12, %f12, -, H12⟩, ⟨%d14, %f14, -, H14⟩, Hk⟩
    obtain rfl := harg2.eq_unread hf2; obtain rfl := harg3.eq_unread hf3; obtain rfl := harg4.eq_unread hf4; obtain rfl := harg5.eq_unread hf5; obtain rfl := harg11.eq_unread hf11; obtain rfl := harg10.eq_unread hf10
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H11]
    · iexists _; isplitr; · ipureintro; exact harg11.read_unread _
      iexact H11
    isplitl [H10]; · iexact H10
    isplitl [H6]; · iexists _; iexact H6
    isplitl [H7]; · iexists _; iexact H7
    isplitl [H8]; · iexists _; iexact H8
    isplitl [H9]; · iexists _; iexact H9
    isplitl [H12]; · iexists _; iexact H12
    iexists _; iexact H14

/-- A point of an odd row: the second row buffer written, the first multiplied. -/
noncomputable def runC (c : Dev nD) (i : grid0.Coords) (h1 : ¬ k0_cond1 i = 1#1) (h2 : ¬ k0_cond2 i = 1#1) (h3 : k0_cond3 i = 1#1) (arg2 : Memref sig .tc .vmem S256x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S2x1024x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x4096 .bf16) (harg9 : arg9.IsWhole) (arg10 : Memref sig .tc .vmem S1024x4096 .bf16) (harg10 : arg10.IsWhole) (arg11 : Memref sig .tc .vmem S1024x4096 .bf16) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole)
    (x2 : Vec F S256x4096 .f32) (x3 : Vec F S1x4096 .f32) (x4 : Vec F S1x4096 .f32) (x5 : Vec F S4096x256 .bf16) (x10 : Vec F S1024x4096 .bf16) (x11 : Vec F S1024x4096 .bf16) :
    Σ' (L11 : List (View.Piece (Elt F) S1024x4096 .bf16)), Σ' (L6 : List (View.Piece (Elt F) S2x1024x128 .f32)), Σ' (L7 : List (View.Piece (Elt F) S256x128 .f32)), Σ' (L8 : List (View.Piece (Elt F) S256x128 .f32)), Σ' (L9 : List (View.Piece (Elt F) S256x4096 .bf16)), Σ' (L13 : List (View.Piece (Elt F) S1024x128 .f32)), { L15 : List (View.Piece (Elt F) S1024x128 .f32) //
      ∀ (E : Set ℕ) (K : PUnit → sProp (RunM F)),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg10 fullShare x10 ∗ owns (c : Thread nD τ) arg11 fullShare x11 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg13 fullShare d) ∗ (∃ d, owns (c : Thread nD τ) arg15 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg10 fullShare x10 ∗ (arg11.view.loc (c : Thread nD τ) ↦[arg11.view.set]{fullShare} arg11.view.writes (Elt F) (harg11.unread x11) L11) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg13.view.loc (c : Thread nD τ) ↦[arg13.view.set]{fullShare} arg13.view.writes (Elt F) f L13) ∗ (∃ f, arg15.view.loc (c : Thread nD τ) ↦[arg15.view.set]{fullShare} arg15.view.writes (Elt F) f L15)) -∗ K ⟨⟩))
          ⊢ wp frame (wpE (defs₀ (F := F)) Variants.none c none) E (cc0_in_proj_s5 i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun E K => ?run⟩
  case run =>
    simp only [cc0_in_proj_s5_eq_skeleton]; unfold cc0_in_proj_s5_skel
    simp only [k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, h1, h2, h3, ↓reduceDIte]
    unfold owns
    iintro ⟨⟨%f2, %hf2, H2⟩, ⟨%f3, %hf3, H3⟩, ⟨%f4, %hf4, H4⟩, ⟨%f5, %hf5, H5⟩, ⟨%f10, %hf10, H10⟩, ⟨%f11, %hf11, H11⟩, ⟨%d6, %f6, -, H6⟩, ⟨%d7, %f7, -, H7⟩, ⟨%d8, %f8, -, H8⟩, ⟨%d9, %f9, -, H9⟩, ⟨%d13, %f13, -, H13⟩, ⟨%d15, %f15, -, H15⟩, Hk⟩
    obtain rfl := harg2.eq_unread hf2; obtain rfl := harg3.eq_unread hf3; obtain rfl := harg4.eq_unread hf4; obtain rfl := harg5.eq_unread hf5; obtain rfl := harg10.eq_unread hf10; obtain rfl := harg11.eq_unread hf11
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H10]
    · iexists _; isplitr; · ipureintro; exact harg10.read_unread _
      iexact H10
    isplitl [H11]; · iexact H11
    isplitl [H6]; · iexists _; iexact H6
    isplitl [H7]; · iexists _; iexact H7
    isplitl [H8]; · iexists _; iexact H8
    isplitl [H9]; · iexists _; iexact H9
    isplitl [H13]; · iexists _; iexact H13
    iexists _; iexact H15

end Cert.SsmNextIdeal.Run

end
-- ==== Proof.SsmNextSpec.lean ====
module

public import proofs.«01_k».proof.Proof.SsmNextRun
public import Idealize.ShloMosaic.Lib.Pipeline.ValueKit
public import Idealize.ShloMosaic.Lib.WritesUnit

/-! What one grid point of layer 1's columns for S5 computes, as functions of the blocks it reads:
    the normalized slab it adds to a row buffer, the same slab and the row statistics it returns, and the output tile. -/

@[expose] public section

set_option maxRecDepth 16384
set_option maxHeartbeats 8000000

noncomputable section

namespace Cert.SsmNextIdeal.Run

open Cert.SsmNextIdeal.Gen
open Idealize.ShloMosaic Idealize.ShloMosaic.TcCoe Idealize.ShloMosaic.Tactic
open Idealize.SL Idealize.SL.RA Idealize.SL.BI Idealize.SL.Sem

variable {F : FTy → Type} [FloatOps F]

/-- A load through a whole buffer holding `X` reads `X`. -/
theorem ldU {sp : Space} {s : Shape} {e : EltTy} {a : Memref sig .tc sp s e} (h : a.IsWhole) (X : Vec F s e) (r : Rect s) :
    View.readAt (Elt F) a.view r.toLoadRect (h.unread X) = View.ld X r := by
  rw [View.readAt_eq_ld, h.read_unread]

/-- Eight rows of a slab, from row `o`. -/
def rows (x : Vec F S256x4096 .f32) (o : ℕ) : Vec F S8x4096 .f32 :=
  fun z => x (ix2 (⟨(o + (z 0).val) % 256, Nat.mod_lt _ (by omega)⟩ : Fin 256) (z 1))

theorem ld_rows (x : Vec F S256x4096 .f32) (o : ℕ) (h : ∀ a, (![o, 0] : Fin 2 → Nat) a + (![8, 4096] : Fin 2 → Nat) a ≤ S256x4096.size a) :
    View.ld x (Rect.unit (s := S256x4096) ![o, 0] ![8, 4096] h) = rows x o := by
  funext z
  unfold rows
  have h0 : o + 8 ≤ 256 := h 0
  have hz : (z 0).val < 8 := (z 0).isLt
  show x _ = x _
  congr 1
  funext a
  apply Fin.ext
  fin_cases a
  · show o + 1 * (z 0).val = (o + (z 0).val) % 256
    rw [Nat.mod_eq_of_lt (by omega)]; omega
  · show 0 + 1 * (z 1).val = (z 1).val
    omega

/-- Two hundred and fifty-six rows of a row buffer, from row `o`. -/
def rowsA (x : Vec F S1024x4096 .bf16) (o : ℕ) : Vec F S256x4096 .bf16 :=
  fun z => x (ix2 (⟨(o + (z 0).val) % 1024, Nat.mod_lt _ (by omega)⟩ : Fin 1024) (z 1))

theorem ld_rowsA (x : Vec F S1024x4096 .bf16) (o : ℕ) (h : ∀ a, (![o, 0] : Fin 2 → Nat) a + (![256, 4096] : Fin 2 → Nat) a ≤ S1024x4096.size a) :
    View.ld x (Rect.unit (s := S1024x4096) ![o, 0] ![256, 4096] h) = rowsA x o := by
  funext z
  unfold rowsA
  have h0 : o + 256 ≤ 1024 := h 0
  have hz : (z 0).val < 256 := (z 0).isLt
  show x _ = x _
  congr 1
  funext a
  apply Fin.ext
  fin_cases a
  · show o + 1 * (z 0).val = (o + (z 0).val) % 1024
    rw [Nat.mod_eq_of_lt (by omega)]; omega
  · show 0 + 1 * (z 1).val = (z 1).val
    omega

/-- Sixteen normalized rows of a slab, from row `o`: as the output gets them and as the row buffer does. -/
def pieceH (x : Vec F S256x4096 .f32) (w b : Vec F S1x4096 .f32) (o : ℕ) : FVec F S16x4096 .bf16 :=
  k0_pay25 (k0_pay20 (k0_pay7 (View.ld w (Rect.unit (s := S1x4096) ![0, 0] S1x4096.size inb_S1x4096_S1x4096_0_0))) (k0_pay8 (View.ld b (Rect.unit (s := S1x4096) ![0, 0] S1x4096.size inb_S1x4096_S1x4096_0_0))) (rows x o))
    (k0_pay20 (k0_pay7 (View.ld w (Rect.unit (s := S1x4096) ![0, 0] S1x4096.size inb_S1x4096_S1x4096_0_0))) (k0_pay8 (View.ld b (Rect.unit (s := S1x4096) ![0, 0] S1x4096.size inb_S1x4096_S1x4096_0_0))) (rows x (o + 8)))
def piece (x : Vec F S256x4096 .f32) (w b : Vec F S1x4096 .f32) (o : ℕ) : FVec F S16x4096 .bf16 :=
  k0_pay26 (k0_pay20 (k0_pay7 (View.ld w (Rect.unit (s := S1x4096) ![0, 0] S1x4096.size inb_S1x4096_S1x4096_0_0))) (k0_pay8 (View.ld b (Rect.unit (s := S1x4096) ![0, 0] S1x4096.size inb_S1x4096_S1x4096_0_0))) (rows x o))
    (k0_pay20 (k0_pay7 (View.ld w (Rect.unit (s := S1x4096) ![0, 0] S1x4096.size inb_S1x4096_S1x4096_0_0))) (k0_pay8 (View.ld b (Rect.unit (s := S1x4096) ![0, 0] S1x4096.size inb_S1x4096_S1x4096_0_0))) (rows x (o + 8)))

/-- A slab from its groups of sixteen rows. -/
def slabT (g : ℕ → FVec F S16x4096 .bf16) : Vec F S256x4096 .bf16 :=
  fun y => g ((y 0).val / 16 * 16) (ix2 (⟨(y 0).val % 16, Nat.mod_lt _ (by omega)⟩ : Fin 16) (y 1))

/-- The means and the reciprocal deviations of eight rows, in every lane. -/
def meanP (x : Vec F S256x4096 .f32) (o : ℕ) : FVec F S8x128 .f32 := k0_pay13 (rows x o)
def rstdP (x : Vec F S256x4096 .f32) (o : ℕ) : FVec F S8x128 .f32 := k0_pay14 (rows x o)

/-- A slab's statistics from those of its groups of eight rows. -/
def statT (g : ℕ → FVec F S8x128 .f32) : Vec F S256x128 .f32 :=
  fun y => g ((y 0).val / 8 * 8) (ix2 (⟨(y 0).val % 8, Nat.mod_lt _ (by omega)⟩ : Fin 8) (y 1))

/-- One group of 128 columns of the output tile, two hundred and fifty-six rows of it: the first group, or the second. -/
def prodP (a : Vec F S1024x4096 .bf16) (u : Vec F S4096x256 .bf16) (o n : ℕ) : FVec F S1x256x128 .f32 :=
  match n with
  | 0 => k0_pay604 (k0_pay603 (rowsA a o) (View.ld u (Rect.unit (s := S4096x256) ![0, 0] S4096x256.size inb_S4096x256_S4096x256_0_0)))
  | _ + 1 => k0_pay605 (k0_pay602 (rowsA a o) (View.ld u (Rect.unit (s := S4096x256) ![0, 0] S4096x256.size inb_S4096x256_S4096x256_0_0)))

/-- The output tile. -/
def prodT (a : Vec F S1024x4096 .bf16) (u : Vec F S4096x256 .bf16) : Vec F S2x1024x128 .f32 :=
  fun y => prodP a u ((y 1).val / 256 * 256) (y 0).val (ix3 0 (⟨(y 1).val % 256, Nat.mod_lt _ (by omega)⟩ : Fin 256) (y 2))

/-! The pieces the body stores, last first. -/

def statL (g : ℕ → FVec F S8x128 .f32) : List (View.Piece (Elt F) S256x128 .f32) :=
  [⟨Rect.unit (s := S256x128) ![248, 0] S8x128.size inb_S256x128_S8x128_248_0, g 248⟩, ⟨Rect.unit (s := S256x128) ![240, 0] S8x128.size inb_S256x128_S8x128_240_0, g 240⟩, ⟨Rect.unit (s := S256x128) ![232, 0] S8x128.size inb_S256x128_S8x128_232_0, g 232⟩, ⟨Rect.unit (s := S256x128) ![224, 0] S8x128.size inb_S256x128_S8x128_224_0, g 224⟩, ⟨Rect.unit (s := S256x128) ![216, 0] S8x128.size inb_S256x128_S8x128_216_0, g 216⟩, ⟨Rect.unit (s := S256x128) ![208, 0] S8x128.size inb_S256x128_S8x128_208_0, g 208⟩, ⟨Rect.unit (s := S256x128) ![200, 0] S8x128.size inb_S256x128_S8x128_200_0, g 200⟩, ⟨Rect.unit (s := S256x128) ![192, 0] S8x128.size inb_S256x128_S8x128_192_0, g 192⟩, ⟨Rect.unit (s := S256x128) ![184, 0] S8x128.size inb_S256x128_S8x128_184_0, g 184⟩, ⟨Rect.unit (s := S256x128) ![176, 0] S8x128.size inb_S256x128_S8x128_176_0, g 176⟩, ⟨Rect.unit (s := S256x128) ![168, 0] S8x128.size inb_S256x128_S8x128_168_0, g 168⟩, ⟨Rect.unit (s := S256x128) ![160, 0] S8x128.size inb_S256x128_S8x128_160_0, g 160⟩, ⟨Rect.unit (s := S256x128) ![152, 0] S8x128.size inb_S256x128_S8x128_152_0, g 152⟩, ⟨Rect.unit (s := S256x128) ![144, 0] S8x128.size inb_S256x128_S8x128_144_0, g 144⟩, ⟨Rect.unit (s := S256x128) ![136, 0] S8x128.size inb_S256x128_S8x128_136_0, g 136⟩, ⟨Rect.unit (s := S256x128) ![128, 0] S8x128.size inb_S256x128_S8x128_128_0, g 128⟩, ⟨Rect.unit (s := S256x128) ![120, 0] S8x128.size inb_S256x128_S8x128_120_0, g 120⟩, ⟨Rect.unit (s := S256x128) ![112, 0] S8x128.size inb_S256x128_S8x128_112_0, g 112⟩, ⟨Rect.unit (s := S256x128) ![104, 0] S8x128.size inb_S256x128_S8x128_104_0, g 104⟩, ⟨Rect.unit (s := S256x128) ![96, 0] S8x128.size inb_S256x128_S8x128_96_0, g 96⟩, ⟨Rect.unit (s := S256x128) ![88, 0] S8x128.size inb_S256x128_S8x128_88_0, g 88⟩, ⟨Rect.unit (s := S256x128) ![80, 0] S8x128.size inb_S256x128_S8x128_80_0, g 80⟩, ⟨Rect.unit (s := S256x128) ![72, 0] S8x128.size inb_S256x128_S8x128_72_0, g 72⟩, ⟨Rect.unit (s := S256x128) ![64, 0] S8x128.size inb_S256x128_S8x128_64_0, g 64⟩, ⟨Rect.unit (s := S256x128) ![56, 0] S8x128.size inb_S256x128_S8x128_56_0, g 56⟩, ⟨Rect.unit (s := S256x128) ![48, 0] S8x128.size inb_S256x128_S8x128_48_0, g 48⟩, ⟨Rect.unit (s := S256x128) ![40, 0] S8x128.size inb_S256x128_S8x128_40_0, g 40⟩, ⟨Rect.unit (s := S256x128) ![32, 0] S8x128.size inb_S256x128_S8x128_32_0, g 32⟩, ⟨Rect.unit (s := S256x128) ![24, 0] S8x128.size inb_S256x128_S8x128_24_0, g 24⟩, ⟨Rect.unit (s := S256x128) ![16, 0] S8x128.size inb_S256x128_S8x128_16_0, g 16⟩, ⟨Rect.unit (s := S256x128) ![8, 0] S8x128.size inb_S256x128_S8x128_8_0, g 8⟩, ⟨Rect.unit (s := S256x128) ![0, 0] S8x128.size inb_S256x128_S8x128_0_0, g 0⟩]
def rowsL (g : ℕ → FVec F S16x4096 .bf16) : List (View.Piece (Elt F) S256x4096 .bf16) :=
  [⟨Rect.unit (s := S256x4096) ![240, 0] S16x4096.size inb_S256x4096_S16x4096_240_0, g 240⟩, ⟨Rect.unit (s := S256x4096) ![224, 0] S16x4096.size inb_S256x4096_S16x4096_224_0, g 224⟩, ⟨Rect.unit (s := S256x4096) ![208, 0] S16x4096.size inb_S256x4096_S16x4096_208_0, g 208⟩, ⟨Rect.unit (s := S256x4096) ![192, 0] S16x4096.size inb_S256x4096_S16x4096_192_0, g 192⟩, ⟨Rect.unit (s := S256x4096) ![176, 0] S16x4096.size inb_S256x4096_S16x4096_176_0, g 176⟩, ⟨Rect.unit (s := S256x4096) ![160, 0] S16x4096.size inb_S256x4096_S16x4096_160_0, g 160⟩, ⟨Rect.unit (s := S256x4096) ![144, 0] S16x4096.size inb_S256x4096_S16x4096_144_0, g 144⟩, ⟨Rect.unit (s := S256x4096) ![128, 0] S16x4096.size inb_S256x4096_S16x4096_128_0, g 128⟩, ⟨Rect.unit (s := S256x4096) ![112, 0] S16x4096.size inb_S256x4096_S16x4096_112_0, g 112⟩, ⟨Rect.unit (s := S256x4096) ![96, 0] S16x4096.size inb_S256x4096_S16x4096_96_0, g 96⟩, ⟨Rect.unit (s := S256x4096) ![80, 0] S16x4096.size inb_S256x4096_S16x4096_80_0, g 80⟩, ⟨Rect.unit (s := S256x4096) ![64, 0] S16x4096.size inb_S256x4096_S16x4096_64_0, g 64⟩, ⟨Rect.unit (s := S256x4096) ![48, 0] S16x4096.size inb_S256x4096_S16x4096_48_0, g 48⟩, ⟨Rect.unit (s := S256x4096) ![32, 0] S16x4096.size inb_S256x4096_S16x4096_32_0, g 32⟩, ⟨Rect.unit (s := S256x4096) ![16, 0] S16x4096.size inb_S256x4096_S16x4096_16_0, g 16⟩, ⟨Rect.unit (s := S256x4096) ![0, 0] S16x4096.size inb_S256x4096_S16x4096_0_0, g 0⟩]
def prodL (a : Vec F S1024x4096 .bf16) (u : Vec F S4096x256 .bf16) : List (View.Piece (Elt F) S2x1024x128 .f32) :=
  [⟨Rect.unit (s := S2x1024x128) ![1, 768, 0] S1x256x128.size inb_S2x1024x128_S1x256x128_1_768_0, prodP a u 768 1⟩, ⟨Rect.unit (s := S2x1024x128) ![0, 768, 0] S1x256x128.size inb_S2x1024x128_S1x256x128_0_768_0, prodP a u 768 0⟩, ⟨Rect.unit (s := S2x1024x128) ![1, 512, 0] S1x256x128.size inb_S2x1024x128_S1x256x128_1_512_0, prodP a u 512 1⟩, ⟨Rect.unit (s := S2x1024x128) ![0, 512, 0] S1x256x128.size inb_S2x1024x128_S1x256x128_0_512_0, prodP a u 512 0⟩, ⟨Rect.unit (s := S2x1024x128) ![1, 256, 0] S1x256x128.size inb_S2x1024x128_S1x256x128_1_256_0, prodP a u 256 1⟩, ⟨Rect.unit (s := S2x1024x128) ![0, 256, 0] S1x256x128.size inb_S2x1024x128_S1x256x128_0_256_0, prodP a u 256 0⟩, ⟨Rect.unit (s := S2x1024x128) ![1, 0, 0] S1x256x128.size inb_S2x1024x128_S1x256x128_1_0_0, prodP a u 0 1⟩, ⟨Rect.unit (s := S2x1024x128) ![0, 0, 0] S1x256x128.size inb_S2x1024x128_S1x256x128_0_0_0, prodP a u 0 0⟩]
/-- The slab's sixteen groups of sixteen rows at sixteen places of a row buffer. -/
def slabL (g : ℕ → FVec F S16x4096 .bf16) (o : Fin 16 → Fin 2 → ℕ) (i : ∀ r a, o r a + S16x4096.size a ≤ S1024x4096.size a) :
    List (View.Piece (Elt F) S1024x4096 .bf16) :=
  [⟨Rect.unit (s := S1024x4096) (o 15) S16x4096.size (i 15), g 240⟩, ⟨Rect.unit (s := S1024x4096) (o 14) S16x4096.size (i 14), g 224⟩, ⟨Rect.unit (s := S1024x4096) (o 13) S16x4096.size (i 13), g 208⟩, ⟨Rect.unit (s := S1024x4096) (o 12) S16x4096.size (i 12), g 192⟩, ⟨Rect.unit (s := S1024x4096) (o 11) S16x4096.size (i 11), g 176⟩, ⟨Rect.unit (s := S1024x4096) (o 10) S16x4096.size (i 10), g 160⟩, ⟨Rect.unit (s := S1024x4096) (o 9) S16x4096.size (i 9), g 144⟩, ⟨Rect.unit (s := S1024x4096) (o 8) S16x4096.size (i 8), g 128⟩, ⟨Rect.unit (s := S1024x4096) (o 7) S16x4096.size (i 7), g 112⟩, ⟨Rect.unit (s := S1024x4096) (o 6) S16x4096.size (i 6), g 96⟩, ⟨Rect.unit (s := S1024x4096) (o 5) S16x4096.size (i 5), g 80⟩, ⟨Rect.unit (s := S1024x4096) (o 4) S16x4096.size (i 4), g 64⟩, ⟨Rect.unit (s := S1024x4096) (o 3) S16x4096.size (i 3), g 48⟩, ⟨Rect.unit (s := S1024x4096) (o 2) S16x4096.size (i 2), g 32⟩, ⟨Rect.unit (s := S1024x4096) (o 1) S16x4096.size (i 1), g 16⟩, ⟨Rect.unit (s := S1024x4096) (o 0) S16x4096.size (i 0), g 0⟩]

/-- What the run of a point of this kind leaves in each buffer whose contents count. -/
theorem spec_A (c : Dev nD) (i : grid0.Coords) (h1 : k0_cond1 i = 1#1) (h2 : ¬ k0_cond2 i = 1#1) (h3 : ¬ k0_cond3 i = 1#1) (arg2 : Memref sig .tc .vmem S256x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S2x1024x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x4096 .bf16) (harg9 : arg9.IsWhole) (arg10 : Memref sig .tc .vmem S1024x4096 .bf16) (harg10 : arg10.IsWhole) (arg11 : Memref sig .tc .vmem S1024x4096 .bf16) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole)
    (x2 : Vec F S256x4096 .f32) (x3 : Vec F S1x4096 .f32) (x4 : Vec F S1x4096 .f32) (x10 : Vec F S1024x4096 .bf16) :
    ∀ R, R = (runA (F := F) c i h1 h2 h3 arg2 harg2 arg3 harg3 arg4 harg4 arg5 harg5 arg6 harg6 arg7 harg7 arg8 harg8 arg9 harg9 arg10 harg10 arg11 harg11 arg12 harg12 arg13 harg13 arg14 harg14 arg15 harg15 x2 x3 x4 x10) →
      R.1 = slabL (piece x2 x3 x4) (fun r => k0_off2 i (BitVec.ofNat 32 (16 * r.val))) (fun r => k0_off2_inb i h1 r) ∧
      R.2.1 = statL (meanP x2) ∧
      R.2.2.1 = statL (rstdP x2) ∧
      R.2.2.2.1 = rowsL (pieceH x2 x3 x4) := by
  rintro _ rfl
  unfold runA
  open runA.sl in
  refine ⟨?_, ?_, ?_, ?_⟩ <;>
    (simp only [r, r_1, r_10, r_100, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_61, r_62, r_63, r_64, r_65, r_66, r_67, r_68, r_69, r_7, r_70, r_71, r_72, r_73, r_74, r_75, r_76, r_77, r_78, r_79, r_8, r_80, r_81, r_82, r_83, r_84, r_85, r_86, r_87, r_88, r_89, r_9, r_90, r_91, r_92, r_93, r_94, r_95, r_96, r_97, r_98, r_99, v1316, v1317, v15, v16, v168, v169, v49, v50, v52, v756, v794, v869, v870, v872, v988, v989, ldU, ld_rows, ld_rowsA]; rfl)

/-- What the run of a point of this kind leaves in each buffer whose contents count. -/
theorem spec_B (c : Dev nD) (i : grid0.Coords) (h1 : ¬ k0_cond1 i = 1#1) (h2 : k0_cond2 i = 1#1) (h3 : ¬ k0_cond3 i = 1#1) (arg2 : Memref sig .tc .vmem S256x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S2x1024x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x4096 .bf16) (harg9 : arg9.IsWhole) (arg10 : Memref sig .tc .vmem S1024x4096 .bf16) (harg10 : arg10.IsWhole) (arg11 : Memref sig .tc .vmem S1024x4096 .bf16) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole)
    (x2 : Vec F S256x4096 .f32) (x3 : Vec F S1x4096 .f32) (x4 : Vec F S1x4096 .f32) (x5 : Vec F S4096x256 .bf16) (x11 : Vec F S1024x4096 .bf16) (x10 : Vec F S1024x4096 .bf16) :
    ∀ R, R = (runB (F := F) c i h1 h2 h3 arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x11 x10) →
      R.1 = slabL (piece x2 x3 x4) (fun r => k0_off4 i (BitVec.ofNat 32 (16 * r.val))) (fun r => k0_off4_inb i h2 r) ∧
      R.2.1 = prodL x11 x5 ∧
      R.2.2.1 = statL (meanP x2) ∧
      R.2.2.2.1 = statL (rstdP x2) ∧
      R.2.2.2.2.1 = rowsL (pieceH x2 x3 x4) := by
  rintro _ rfl
  unfold runB
  open runB.sl in
  refine ⟨?_, ?_, ?_, ?_, ?_⟩ <;>
    (simp only [r, r_1, r_10, r_100, r_101, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_61, r_62, r_63, r_64, r_65, r_66, r_67, r_68, r_69, r_7, r_70, r_71, r_72, r_73, r_74, r_75, r_76, r_77, r_78, r_79, r_8, r_80, r_81, r_82, r_83, r_84, r_85, r_86, r_87, r_88, r_89, r_9, r_90, r_91, r_92, r_93, r_94, r_95, r_96, r_97, r_98, r_99, v15, v16, v168, v169, v49, v50, v52, v756, v794, v869, v870, v872, v988, v989, ldU, ld_rows, ld_rowsA]; rfl)

/-- What the run of a point of this kind leaves in each buffer whose contents count. -/
theorem spec_C (c : Dev nD) (i : grid0.Coords) (h1 : ¬ k0_cond1 i = 1#1) (h2 : ¬ k0_cond2 i = 1#1) (h3 : k0_cond3 i = 1#1) (arg2 : Memref sig .tc .vmem S256x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S2x1024x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x4096 .bf16) (harg9 : arg9.IsWhole) (arg10 : Memref sig .tc .vmem S1024x4096 .bf16) (harg10 : arg10.IsWhole) (arg11 : Memref sig .tc .vmem S1024x4096 .bf16) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole)
    (x2 : Vec F S256x4096 .f32) (x3 : Vec F S1x4096 .f32) (x4 : Vec F S1x4096 .f32) (x5 : Vec F S4096x256 .bf16) (x10 : Vec F S1024x4096 .bf16) (x11 : Vec F S1024x4096 .bf16) :
    ∀ R, R = (runC (F := F) c i h1 h2 h3 arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x10 x11) →
      R.1 = slabL (piece x2 x3 x4) (fun r => k0_off6 i (BitVec.ofNat 32 (16 * r.val))) (fun r => k0_off6_inb i h3 r) ∧
      R.2.1 = prodL x10 x5 ∧
      R.2.2.1 = statL (meanP x2) ∧
      R.2.2.2.1 = statL (rstdP x2) ∧
      R.2.2.2.2.1 = rowsL (pieceH x2 x3 x4) := by
  rintro _ rfl
  unfold runC
  open runC.sl in
  refine ⟨?_, ?_, ?_, ?_, ?_⟩ <;>
    (simp only [r, r_1, r_10, r_100, r_101, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_61, r_62, r_63, r_64, r_65, r_66, r_67, r_68, r_69, r_7, r_70, r_71, r_72, r_73, r_74, r_75, r_76, r_77, r_78, r_79, r_8, r_80, r_81, r_82, r_83, r_84, r_85, r_86, r_87, r_88, r_89, r_9, r_90, r_91, r_92, r_93, r_94, r_95, r_96, r_97, r_98, r_99, v15, v16, v168, v169, v49, v50, v52, v756, v794, v869, v870, v872, v988, v989, ldU, ld_rows, ld_rowsA]; rfl)

end Cert.SsmNextIdeal.Run

end
-- ==== Proof.SsmNextRead.lean ====
module

public import proofs.«01_k».proof.Proof.SsmNextSpec

/-! Reading back what one grid point stores. -/

@[expose] public section

set_option maxRecDepth 16384
set_option maxHeartbeats 4000000

noncomputable section

namespace Cert.SsmNextIdeal.Run

open Cert.SsmNextIdeal.Gen
open Idealize.ShloMosaic Idealize.ShloMosaic.TcCoe Idealize.ShloMosaic.Tactic
open Idealize.SL Idealize.SL.RA Idealize.SL.BI Idealize.SL.Sem

variable {F : FTy → Type} [FloatOps F]

/-- A group of 8 rows is those rows of the whole. -/
theorem stat_at (g : ℕ → FVec F S8x128 .f32) (o : ℕ) (ho : o % 8 = 0) (z : S8x128.Idx) (y : S256x128.Idx)
    (h0 : (y 0).val = o + (z 0).val) (h1 : (y 1).val = (z 1).val) : g o z = statT g y := by
  unfold statT
  have hz : (z 0).val < 8 := (z 0).isLt
  rw [show (y 0).val / 8 * 8 = o by omega]
  congr 1
  funext a
  apply Fin.ext
  fin_cases a
  · show (z 0).val = (y 0).val % 8
    omega
  · exact h1.symm

/-- The stored groups read back as the whole. -/
theorem stat_read {sp : Space} (v : View sig .tc sp S256x128 .f32) (f : v.ty.Contents (Elt F)) (g : ℕ → FVec F S8x128 .f32) :
    v.read (Elt F) (v.writes (Elt F) f (statL g)) = statT g := by
  rw [View.read_writes_eq_canon v f _ (View.cover_of_tiledL (statL g) S8x128.size (by sl_kernel_rfl))]
  funext y
  unfold statL
  canon_tiles z h using (View.cover_of_tiledL (statL g) S8x128.size (by sl_kernel_rfl) y)
  all_goals exact stat_at g _ (by rfl) z y (by omega) (by omega)

/-- A group of 16 rows is those rows of the whole. -/
theorem rows_at (g : ℕ → FVec F S16x4096 .bf16) (o : ℕ) (ho : o % 16 = 0) (z : S16x4096.Idx) (y : S256x4096.Idx)
    (h0 : (y 0).val = o + (z 0).val) (h1 : (y 1).val = (z 1).val) : g o z = slabT g y := by
  unfold slabT
  have hz : (z 0).val < 16 := (z 0).isLt
  rw [show (y 0).val / 16 * 16 = o by omega]
  congr 1
  funext a
  apply Fin.ext
  fin_cases a
  · show (z 0).val = (y 0).val % 16
    omega
  · exact h1.symm

/-- The stored groups read back as the whole. -/
theorem rows_read {sp : Space} (v : View sig .tc sp S256x4096 .bf16) (f : v.ty.Contents (Elt F)) (g : ℕ → FVec F S16x4096 .bf16) :
    v.read (Elt F) (v.writes (Elt F) f (rowsL g)) = slabT g := by
  rw [View.read_writes_eq_canon v f _ (View.cover_of_tiledL (rowsL g) S16x4096.size (by sl_kernel_rfl))]
  funext y
  unfold rowsL
  canon_tiles z h using (View.cover_of_tiledL (rowsL g) S16x4096.size (by sl_kernel_rfl) y)
  all_goals exact rows_at g _ (by rfl) z y (by omega) (by omega)

/-- A stored group of 128 columns is those columns of the tile. -/
theorem prod_at (a : Vec F S1024x4096 .bf16) (u : Vec F S4096x256 .bf16) (o n : ℕ) (ho : o % 256 = 0) (z : S1x256x128.Idx) (y : S2x1024x128.Idx)
    (h0 : (y 0).val = n + (z 0).val) (h1 : (y 1).val = o + (z 1).val) (h2 : (y 2).val = (z 2).val) : prodP a u o n z = prodT a u y := by
  unfold prodT
  have hz : (z 1).val < 256 := (z 1).isLt
  have hn : (z 0).val < 1 := (z 0).isLt
  rw [show (y 1).val / 256 * 256 = o by omega, show (y 0).val = n by omega]
  congr 1
  funext a
  apply Fin.ext
  fin_cases a
  · show (z 0).val = 0
    omega
  · show (z 1).val = (y 1).val % 256
    omega
  · exact h2.symm

/-- The stored groups read back as the tile. -/
theorem prod_read {sp : Space} (q : View sig .tc sp S2x1024x128 .f32) (f : q.ty.Contents (Elt F)) (a : Vec F S1024x4096 .bf16) (u : Vec F S4096x256 .bf16) :
    q.read (Elt F) (q.writes (Elt F) f (prodL a u)) = prodT a u := by
  rw [View.read_writes_eq_canon q f _ (View.cover_of_tiledL (prodL a u) S1x256x128.size (by sl_kernel_rfl))]
  funext y
  unfold prodL
  canon_tiles z h using (View.cover_of_tiledL (prodL a u) S1x256x128.size (by sl_kernel_rfl) y)
  all_goals exact prod_at a u _ _ (by rfl) z y (by omega) (by omega) (by omega)

/-- One more group of `K` rows stored after the first `d` from row `B`: where the element reads `T` of its row among those, it does among these. -/
theorem step {sp : Space} {n : Fin 2 → ℕ} {e : EltTy} (v : View sig .tc sp ⟨2, n⟩ e) (f : v.ty.Contents (Elt F))
    {off size : Fin 2 → ℕ} (inb : ∀ a : Fin 2, off a + size a ≤ n a) (w : (Rect.unit (s := ⟨2, n⟩) off size inb).shape.Idx → Elt F e)
    (L : List (View.Piece (Elt F) ⟨2, n⟩ e)) (y : (⟨2, n⟩ : Shape).Idx) (B d K D : ℕ) (T : ℕ → Elt F e)
    (eo : off = ![B + d, 0]) (hK : size 0 = K) (hD : d + K = D)
    (hw : ∀ z : (Rect.unit (s := ⟨2, n⟩) off size inb).shape.Idx, (z (0 : Fin 2)).val < K → (y (1 : Fin 2)).val = (z (1 : Fin 2)).val → w z = T (d + (z (0 : Fin 2)).val))
    (hz : ∀ k < K, ∃ z : (Rect.unit (s := ⟨2, n⟩) off size inb).shape.Idx, (z (0 : Fin 2)).val = k ∧ (y (1 : Fin 2)).val = (z (1 : Fin 2)).val)
    (ih : v.read (Elt F) (v.writes (Elt F) f L) y = if B ≤ (y (0 : Fin 2)).val ∧ (y (0 : Fin 2)).val < B + d then T ((y (0 : Fin 2)).val - B) else v.read (Elt F) f y) :
    v.read (Elt F) (v.writes (Elt F) f (⟨Rect.unit (s := ⟨2, n⟩) off size inb, w⟩ :: L)) y
      = if B ≤ (y (0 : Fin 2)).val ∧ (y (0 : Fin 2)).val < B + D then T ((y (0 : Fin 2)).val - B) else v.read (Elt F) f y := by
  by_cases h : B + d ≤ (y (0 : Fin 2)).val ∧ (y (0 : Fin 2)).val < B + d + K
  · obtain ⟨z, hz0, hz1⟩ := hz ((y (0 : Fin 2)).val - (B + d)) (by omega)
    rw [if_pos (by omega), View.read_writes_cons_rows_of_mem v f inb w L y z eo (by omega) hz1, hw z (by omega) hz1]
    congr 1
    omega
  · rw [View.read_writes_cons_rows_of_not_mem v f inb w L y eo hK (by omega), ih]
    by_cases h' : B ≤ (y (0 : Fin 2)).val ∧ (y (0 : Fin 2)).val < B + d
    · rw [if_pos h', if_pos (by omega)]
    · rw [if_neg h', if_neg (by omega)]

/-- A slab stored in a row buffer from row `B`: those rows are the slab's, the others as they were. -/
theorem slab_read {sp : Space} (v : View sig .tc sp S1024x4096 .bf16) (f : v.ty.Contents (Elt F)) (g : ℕ → FVec F S16x4096 .bf16)
    (B : ℕ) (o : Fin 16 → Fin 2 → ℕ) (i : ∀ r a, o r a + S16x4096.size a ≤ S1024x4096.size a) (e : ∀ r : Fin 16, o r = ![B + 16 * r.val, 0]) (y : S1024x4096.Idx) :
    v.read (Elt F) (v.writes (Elt F) f (slabL g o i)) y
      = if B ≤ (y 0).val ∧ (y 0).val < B + 256 then slabT g (ix2 (⟨((y 0).val - B) % 256, Nat.mod_lt _ (by omega)⟩ : Fin 256) (y 1))
        else v.read (Elt F) f y := by
  have key : ∀ (d : ℕ) (hd : d % 16 = 0) (hd' : d < 256) (z : S16x4096.Idx) (h0 : (z 0).val < 16) (h1 : (y 1).val = (z 1).val),
      g d z = slabT g (ix2 (⟨(d + (z 0).val) % 256, Nat.mod_lt _ (by omega)⟩ : Fin 256) (y 1)) := by
    intro d hd hd' z h0 h1
    refine rows_at g d hd z _ ?_ h1
    show (d + (z 0).val) % 256 = d + (z 0).val
    omega
  have ex : ∀ k < 16, ∃ z : S16x4096.Idx, (z 0).val = k ∧ (y 1).val = (z 1).val := fun k hk => ⟨ix2 (⟨k, hk⟩ : Fin 16) (y 1), rfl, rfl⟩
  have st := fun (L : List (View.Piece (Elt F) S1024x4096 .bf16)) (r : Fin 16) => step v f (i r) (g (16 * r.val)) L y B (16 * r.val) 16 (16 * r.val + 16)
    (fun k => slabT g (ix2 (⟨k % 256, Nat.mod_lt _ (by omega)⟩ : Fin 256) (y 1))) (e r) rfl rfl (fun z => key _ (by omega) (by omega) z) ex
  unfold slabL
  exact st _ 15 (st _ 14 (st _ 13 (st _ 12 (st _ 11 (st _ 10 (st _ 9 (st _ 8 (st _ 7 (st _ 6 (st _ 5 (st _ 4 (st _ 3 (st _ 2 (st _ 1 (st _ 0 (by rw [if_neg (by omega)]; rfl))))))))))))))))

end Cert.SsmNextIdeal.Run

end
-- ==== Proof.SsmNextFrame.lean ====
module

public import proofs.«01_k».proof.Proof.SsmNextRead
public import proofs.«01_k».proof.Proof.Gen.SsmNextIdeal.Frame
public import Idealize.ShloMosaic.Lib.Pipeline.ValueKit
public import Idealize.ShloMosaic.Lib.Pipeline.ReadBack

/-! The invariant of the loop over the grid, the body's obligation at every point, and the launch. -/

@[expose] public section

set_option maxRecDepth 16384
set_option maxHeartbeats 4000000

noncomputable section

namespace Cert.SsmNextIdeal.Run

open Cert.SsmNextIdeal Cert.SsmNextIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The grid's points -/

/-- The branch taken at a point, its inner coordinate, and whether the output tile is written back there. -/
theorem at_A : ∀ t : Fin cfg0.N, t.val / 4 = 0 → k0_cond1 (grid0.coords t) = 1#1 ∧ ¬ k0_cond2 (grid0.coords t) = 1#1 ∧ ¬ k0_cond3 (grid0.coords t) = 1#1
    ∧ win0_4.flush t = false :=
  (by decide +kernel : ∀ t : Fin grid0.N, _)
theorem at_B : ∀ t : Fin cfg0.N, ¬ t.val / 4 = 0 → t.val / 4 % 2 = 0 → ¬ k0_cond1 (grid0.coords t) = 1#1 ∧ k0_cond2 (grid0.coords t) = 1#1 ∧ ¬ k0_cond3 (grid0.coords t) = 1#1 :=
  (by decide +kernel : ∀ t : Fin grid0.N, _)
theorem at_C : ∀ t : Fin cfg0.N, ¬ t.val / 4 = 0 → ¬ t.val / 4 % 2 = 0 → ¬ k0_cond1 (grid0.coords t) = 1#1 ∧ ¬ k0_cond2 (grid0.coords t) = 1#1 ∧ k0_cond3 (grid0.coords t) = 1#1 :=
  (by decide +kernel : ∀ t : Fin grid0.N, _)
theorem inner : ∀ t : Fin cfg0.N, (grid0.coords t 1).val = t.val % 4 :=
  (by decide +kernel : ∀ t : Fin grid0.N, _)

/-- The point at inner coordinate `s` of outer coordinate `g`. -/
def pt (g s : ℕ) : Fin cfg0.N := ⟨(g * 4 + s) % 68, Nat.mod_lt _ (by omega)⟩

theorem pt_val (g s : ℕ) (hg : g < 17) (hs : s < 4) : (pt g s).val = g * 4 + s := Nat.mod_eq_of_lt (by omega)

theorem pt_self (t : Fin cfg0.N) : pt (t.val / 4) (t.val % 4) = t := by
  have ht : t.val < 68 := t.isLt
  exact Fin.ext (show (t.val / 4 * 4 + t.val % 4) % 68 = t.val by omega)

/-! ## What the row buffers hold -/

/-- Before point `n` the buffer being filled has what was stored of tile `n / 4` so far, and the other one the whole previous tile. -/
def Inv {ι α : Type} (r : ι → ℕ) (fill : ℕ → ι → α) (n : ℕ) (s0 s1 : ι → α) : Prop := ∀ y,
  (r y < n % 4 * 256 → (if n / 4 % 2 = 0 then s0 else s1) y = fill (n / 4) y)
  ∧ (1 ≤ n / 4 → (if n / 4 % 2 = 0 then s1 else s0) y = fill (n / 4 - 1) y)

theorem Inv.zero {ι α : Type} (r : ι → ℕ) (fill : ℕ → ι → α) (s0 s1 : ι → α) : Inv r fill 0 s0 s1 := fun y =>
  ⟨fun h => absurd h (by simp), fun h => absurd h (by simp)⟩

/-- Storing a point's 256 rows extends what is stored by them. -/
theorem Inv.even {ι α : Type} {r : ι → ℕ} (hr : ∀ y, r y < 1024) {fill : ℕ → ι → α} {n : ℕ} (hg : n / 4 % 2 = 0) {s0 s1 : ι → α} (h : Inv r fill n s0 s1)
    {G : ι → α} (hG : ∀ y, G y = if 256 * (n % 4) ≤ r y ∧ r y < 256 * (n % 4) + 256 then fill (n / 4) y else s0 y) : Inv r fill (n + 1) G s1 := by
  intro y
  have hy := hr y
  obtain ⟨ha, hb⟩ := h y
  rw [if_pos hg] at ha hb
  have hG' : r y < (n % 4 + 1) * 256 → G y = fill (n / 4) y := fun hlt => by
    rw [hG y]
    split_ifs with hc
    · rfl
    · exact ha (by omega)
  by_cases hj : n % 4 < 3
  · rw [show (n + 1) / 4 = n / 4 by omega, show (n + 1) % 4 = n % 4 + 1 by omega, if_pos hg, if_pos hg]
    exact ⟨hG', hb⟩
  · rw [show (n + 1) / 4 = n / 4 + 1 by omega, show (n + 1) % 4 = 0 by omega, if_neg (show ¬ (n / 4 + 1) % 2 = 0 by omega), if_neg (show ¬ (n / 4 + 1) % 2 = 0 by omega)]
    exact ⟨fun hy => absurd hy (by simp), fun _ => hG' (by omega)⟩

theorem Inv.odd {ι α : Type} {r : ι → ℕ} (hr : ∀ y, r y < 1024) {fill : ℕ → ι → α} {n : ℕ} (hg : ¬ n / 4 % 2 = 0) {s0 s1 : ι → α} (h : Inv r fill n s0 s1)
    {G : ι → α} (hG : ∀ y, G y = if 256 * (n % 4) ≤ r y ∧ r y < 256 * (n % 4) + 256 then fill (n / 4) y else s1 y) : Inv r fill (n + 1) s0 G := by
  intro y
  have hy := hr y
  obtain ⟨ha, hb⟩ := h y
  rw [if_neg hg] at ha hb
  have hG' : r y < (n % 4 + 1) * 256 → G y = fill (n / 4) y := fun hlt => by
    rw [hG y]
    split_ifs with hc
    · rfl
    · exact ha (by omega)
  by_cases hj : n % 4 < 3
  · rw [show (n + 1) / 4 = n / 4 by omega, show (n + 1) % 4 = n % 4 + 1 by omega, if_neg hg, if_neg hg]
    exact ⟨hG', hb⟩
  · rw [show (n + 1) / 4 = n / 4 + 1 by omega, show (n + 1) % 4 = 0 by omega, if_pos (show (n / 4 + 1) % 2 = 0 by omega), if_pos (show (n / 4 + 1) % 2 = 0 by omega)]
    exact ⟨fun hy => absurd hy (by simp), fun _ => hG' (by omega)⟩

/-- The buffer the products read holds the previous tile. -/
theorem Inv.prev_even {ι α : Type} {r : ι → ℕ} {fill : ℕ → ι → α} {n : ℕ} (h0 : ¬ n / 4 = 0) (hg : n / 4 % 2 = 0) {s0 s1 : ι → α} (h : Inv r fill n s0 s1) :
    s1 = fill (n / 4 - 1) := by
  funext y
  have := (h y).2 (by omega)
  rwa [if_pos hg] at this
theorem Inv.prev_odd {ι α : Type} {r : ι → ℕ} {fill : ℕ → ι → α} {n : ℕ} (h0 : ¬ n / 4 = 0) (hg : ¬ n / 4 % 2 = 0) {s0 s1 : ι → α} (h : Inv r fill n s0 s1) :
    s0 = fill (n / 4 - 1) := by
  funext y
  have := (h y).2 (by omega)
  rwa [if_neg hg] at this

section
variable (m : (ℓ : Loc nD τ sig) → Buf (Elt F) ℓ)

/-- The normalized rows of the `g`-th tile. -/
def filled (c : Dev nD) (g : ℕ) : Vec F S1024x4096 .bf16 := fun y =>
  slabT (piece (iblk m c 0 (pt g ((y 0).val / 256))) (iblk m c 1 (pt g ((y 0).val / 256))) (iblk m c 2 (pt g ((y 0).val / 256))))
    (ix2 (⟨(y 0).val % 256, Nat.mod_lt _ (by omega)⟩ : Fin 256) (y 1))

theorem rowA_lt (y : S1024x4096.Idx) : (y 0).val < 1024 := (y 0).isLt

/-- What a row buffer reads once a point's slab is written over it. -/
def grown (c : Dev nD) (t : Fin cfg0.N) (s : Vec F S1024x4096 .bf16) : Vec F S1024x4096 .bf16 := fun y =>
  if 256 * (t.val % 4) ≤ (y 0).val ∧ (y 0).val < 256 * (t.val % 4) + 256 then filled m c (t.val / 4) y else s y

theorem grow_read (c : Dev nD) (t : Fin cfg0.N) {sp : Space} (a : Memref sig .tc sp S1024x4096 .bf16) (ha : a.IsWhole) (s : Vec F S1024x4096 .bf16)
    (o : Fin 16 → Fin 2 → ℕ) (i : ∀ r a, o r a + S16x4096.size a ≤ S1024x4096.size a) (e : ∀ r : Fin 16, o r = ![256 * (t.val % 4) + 16 * r.val, 0]) :
    a.view.read (Elt F) (a.view.writes (Elt F) (ha.unread s) (slabL (piece (iblk m c 0 t) (iblk m c 1 t) (iblk m c 2 t)) o i)) = grown m c t s := by
  funext y
  rw [slab_read a.view _ _ _ o i e y]
  unfold grown
  rw [ha.read_unread]
  split_ifs with h
  · unfold filled
    have e : (y 0).val / 256 = t.val % 4 := by omega
    have e' : ((y 0).val - 256 * (t.val % 4)) % 256 = (y 0).val % 256 := by omega
    rw [e, pt_self]
    simp only [e']
  · rfl

/-! ## The loop's invariant and the proof data -/

abbrev sc0 : Memref sig .tc .vmem S1024x4096 .bf16 := Memref.whole cc0_scratch0
abbrev sc1 : Memref sig .tc .vmem S1024x4096 .bf16 := Memref.whole cc0_scratch1
abbrev sc2 : Memref sig .tc .vmem S1024x128 .f32 := Memref.whole cc0_scratch2
abbrev sc3 : Memref sig .tc .vmem S1024x128 .f32 := Memref.whole cc0_scratch3
abbrev sc4 : Memref sig .tc .vmem S1024x128 .f32 := Memref.whole cc0_scratch4
abbrev sc5 : Memref sig .tc .vmem S1024x128 .f32 := Memref.whole cc0_scratch5

/-- The buffers the body keeps between points: the two row buffers as `Inv` says, and the statistics', which nothing reads. -/
def Phi (c : Dev nD) (n : ℕ) : sProp (RunM F) :=
  iprop((∃ s0 s1, ⌜Inv (fun y : S1024x4096.Idx => (y 0).val) (filled m c) n s0 s1⌝ ∗ owns (c : Thread nD τ) sc0 fullShare s0 ∗ owns (c : Thread nD τ) sc1 fullShare s1)
    ∗ (∃ d, owns (c : Thread nD τ) sc2 fullShare d) ∗ (∃ d, owns (c : Thread nD τ) sc3 fullShare d)
    ∗ (∃ d, owns (c : Thread nD τ) sc4 fullShare d) ∗ (∃ d, owns (c : Thread nD τ) sc5 fullShare d) ∗ (∃ r, prngReg c r))

/-- The buffers the launch hands over, as memrefs owned at some contents. -/
theorem phiA_eq (c : Dev nD) : (Pipeline.ΦA spec0 c : sProp (RunM F))
    = iprop(iprop((∃ d, owns (c : Thread nD τ) sc0 fullShare d) ∗ (∃ d, owns (c : Thread nD τ) sc1 fullShare d) ∗ (∃ d, owns (c : Thread nD τ) sc2 fullShare d)
      ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

theorem phi_in (c : Dev nD) : (Pipeline.ΦA spec0 c : sProp (RunM F)) ⊢ Phi m c 0 := by
  rw [phiA_eq]; unfold Phi
  iintro ⟨⟨⟨%s0, H0⟩, ⟨%s1, H1⟩, H2, H3, H4, H5⟩, Hg⟩
  isplitl [H0 H1]
  · iexists s0; iexists s1
    isplitr
    · ipureintro; exact .zero _ _ _ _
    isplitl [H0]; · iexact H0
    iexact H1
  isplitl [H2]; · iexact H2
  isplitl [H3]; · iexact H3
  isplitl [H4]; · iexact H4
  isplitl [H5]; · iexact H5
  iexact Hg

theorem phi_out (c : Dev nD) (n : ℕ) : Phi m c n ⊢ (Pipeline.ΦA spec0 c : sProp (RunM F)) := by
  rw [phiA_eq]; unfold Phi
  iintro ⟨⟨%s0, %s1, -, H0, H1⟩, H2, H3, H4, H5, Hg⟩
  isplitr [Hg]
  · isplitl [H0]; · iexists _; iexact H0
    isplitl [H1]; · iexists _; iexact H1
    isplitl [H2]; · iexact H2
    isplitl [H3]; · iexact H3
    isplitl [H4]; · iexact H4
    iexact H5
  iexact Hg

/-- The proof data: every input's block stays in place; the output tile is the previous rows', the row statistics and the rows the point's own. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => prodT (filled m c (t.val / 4 - 1)) (iblk m c 3 t)
    | ⟨5, _⟩ => statT (meanP (iblk m c 0 t))
    | ⟨6, _⟩ => statT (rstdP (iblk m c 0 t))
    | ⟨7, _⟩ => slabT (pieceH (iblk m c 0 t) (iblk m c 1 t) (iblk m c 2 t))
  Φ t := Phi m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = prodT (filled m c (t.val / 4 - 1)) (iblk m c 3 t) := by dsimp only [dats]
theorem after_5 (c : Dev nD) (t : Fin cfg0.N) : (dats m 0 c).after 5 t = statT (meanP (iblk m c 0 t)) := by dsimp only [dats]
theorem after_6 (c : Dev nD) (t : Fin cfg0.N) : (dats m 0 c).after 6 t = statT (rstdP (iblk m c 0 t)) := by dsimp only [dats]
theorem after_7 (c : Dev nD) (t : Fin cfg0.N) : (dats m 0 c).after 7 t = slabT (pieceH (iblk m c 0 t) (iblk m c 1 t) (iblk m c 2 t)) := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d

theorem phi_pre (c : Dev nD) (t : Fin cfg0.N) : (dats m 0 c).Φ t.castSucc = Phi m c t.val := by
  dsimp only [dats]; exact Dat.Φ_castSucc (fun n _ => Phi m c n) t
theorem phi_post (c : Dev nD) (t : Fin cfg0.N) : (dats m 0 c).Φ t.succ = Phi m c (t.val + 1) := by
  dsimp only [dats]; rfl

/-! ## The body at one point -/

/-- What the body is called with. -/
def pre (c : Dev nD) (t : Fin cfg0.N) : sProp (RunM F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns, the output tile's buffer as `R` says. -/
def post (c : Dev nD) (t : Fin cfg0.N) (R : sProp (RunM F)) : sProp (RunM F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ R
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_A (c : Dev nD) (t : Fin cfg0.N) (h0 : t.val / 4 = 0) :
    pre m c t ⊢ wp frame (wpE (defs₀ (F := F)) Variants.none c none) Set.univ (bodyAt0 t) (fun _ => post m c t iprop(∃ d, owns (c : Thread nD τ) (st0_4 t) fullShare ((dats m 0 c).before 4 t d))) := by
  obtain ⟨h1, h2, h3, -⟩ := at_A t h0
  have hg : t.val / 4 % 2 = 0 := by omega
  unfold pre post bodyAt0
  simp only [before_0, before_1, before_2, before_3]
  rw [show (dats m 0 c).owesAt () t.succ = (dats m 0 c).owesAt () t.castSucc from rfl, phi_pre, phi_post,
    after_0, after_1, after_2, after_3, after_5, after_6, after_7]
  unfold Phi
  iintro ⟨⟨⟨%s0, %s1, %hi, HS0, HS1⟩, HS2, HS3, HS4, HS5, Hg⟩, Ho, ⟨%d0, H0⟩, ⟨%d1, H1⟩, ⟨%d2, H2⟩, ⟨%d3, H3⟩, H4, ⟨%d5, H5⟩, ⟨%d6, H6⟩, ⟨%d7, H7⟩⟩
  iapply ((runA (F := F) c (grid0.coords t) h1 h2 h3 _ _ _ _ _ _ _ _ _ _ _ _ _ _ _ _ _ _ _ _ _ _ _ _ _ _ _ _ (iblk m c 0 t) (iblk m c 1 t) (iblk m c 2 t) s0).2.2.2.2.2.2 Set.univ _)
  isplitl [H0]; · iexact H0
  isplitl [H1]; · iexact H1
  isplitl [H2]; · iexact H2
  isplitl [HS0]; · iexact HS0
  isplitl [H5]; · iexists _; iexact H5
  isplitl [H6]; · iexists _; iexact H6
  isplitl [H7]; · iexists _; iexact H7
  isplitl [HS2]; · iexact HS2
  isplitl [HS4]; · iexact HS4
  iintro ⟨H0, H1, H2, HS0, ⟨%e5, H5⟩, ⟨%e6, H6⟩, ⟨%e7, H7⟩, ⟨%fHS2, HS2⟩, ⟨%fHS4, HS4⟩⟩
  isplitl [HS0 HS1 HS2 HS3 HS4 HS5 Hg]
  · isplitl [HS0 HS1]
    · iexists (grown m c t s0); iexists s1
      isplitr
      · ipureintro; exact hi.even rowA_lt hg fun _ => rfl
      isplitl [HS0]
      · unfold owns; iexists _; isplitr
        swap; · iexact HS0
        ipureintro; rw [(spec_A _ _ _ _ _ _ _ _ _ _ _ _ _ _ _ _ _ _ _ _ _ _ _ _ _ _ _ _ _ _ _ _ _ _ _ _ _ _ rfl).1]
        exact grow_read m c t _ _ _ _ _ fun r => by rw [← inner t]; exact k0_off2_eq _ r
      iexact HS1
    isplitl [HS2]
    · iexists _; unfold owns; iexists _; isplitr
      swap; · iexact HS2
      ipureintro; rfl
    isplitl [HS3]; · iexact HS3
    isplitl [HS4]
    · iexists _; unfold owns; iexists _; isplitr
      swap; · iexact HS4
      ipureintro; rfl
    isplitl [HS5]; · iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; rw [(spec_A _ _ _ _ _ _ _ _ _ _ _ _ _ _ _ _ _ _ _ _ _ _ _ _ _ _ _ _ _ _ _ _ _ _ _ _ _ _ rfl).2.1]; exact stat_read _ _ _
  isplitl [H6]
  · unfold owns; iexists _; isplitr
    swap; · iexact H6
    ipureintro; rw [(spec_A _ _ _ _ _ _ _ _ _ _ _ _ _ _ _ _ _ _ _ _ _ _ _ _ _ _ _ _ _ _ _ _ _ _ _ _ _ _ rfl).2.2.1]; exact stat_read _ _ _
  unfold owns; iexists _; isplitr
  swap; · iexact H7
  ipureintro; rw [(spec_A _ _ _ _ _ _ _ _ _ _ _ _ _ _ _ _ _ _ _ _ _ _ _ _ _ _ _ _ _ _ _ _ _ _ _ _ _ _ rfl).2.2.2]; exact rows_read _ _ _

theorem sound_B (c : Dev nD) (t : Fin cfg0.N) (h0 : ¬ t.val / 4 = 0) (hg : t.val / 4 % 2 = 0) :
    pre m c t ⊢ wp frame (wpE (defs₀ (F := F)) Variants.none c none) Set.univ (bodyAt0 t) (fun _ => post m c t (owns (c : Thread nD τ) (st0_4 t) fullShare ((dats m 0 c).after 4 t))) := by
  obtain ⟨h1, h2, h3⟩ := at_B t h0 hg
  unfold pre post bodyAt0
  simp only [before_0, before_1, before_2, before_3]
  rw [show (dats m 0 c).owesAt () t.succ = (dats m 0 c).owesAt () t.castSucc from rfl, phi_pre, phi_post,
    after_0, after_1, after_2, after_3, after_4, after_5, after_6, after_7]
  unfold Phi
  iintro ⟨⟨⟨%s0, %s1, %hi, HS0, HS1⟩, HS2, HS3, HS4, HS5, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runB (F := F) c (grid0.coords t) h1 h2 h3 _ _ _ _ _ _ _ _ _ _ _ _ _ _ _ _ _ _ _ _ _ _ _ _ _ _ _ _ (iblk m c 0 t) (iblk m c 1 t) (iblk m c 2 t) (iblk m c 3 t) s1 s0).2.2.2.2.2.2.2 Set.univ _)
  isplitl [H0]; · iexact H0
  isplitl [H1]; · iexact H1
  isplitl [H2]; · iexact H2
  isplitl [H3]; · iexact H3
  isplitl [HS1]; · iexact HS1
  isplitl [HS0]; · iexact HS0
  isplitl [H4]; · iexists _; iexact H4
  isplitl [H5]; · iexists _; iexact H5
  isplitl [H6]; · iexists _; iexact H6
  isplitl [H7]; · iexists _; iexact H7
  isplitl [HS2]; · iexact HS2
  isplitl [HS4]; · iexact HS4
  iintro ⟨H0, H1, H2, H3, HS1, HS0, ⟨%e4, H4⟩, ⟨%e5, H5⟩, ⟨%e6, H6⟩, ⟨%e7, H7⟩, ⟨%fHS2, HS2⟩, ⟨%fHS4, HS4⟩⟩
  isplitl [HS0 HS1 HS2 HS3 HS4 HS5 Hg]
  · isplitl [HS0 HS1]
    · iexists (grown m c t s0); iexists s1
      isplitr
      · ipureintro; exact hi.even rowA_lt hg fun _ => rfl
      isplitl [HS0]
      · unfold owns; iexists _; isplitr
        swap; · iexact HS0
        ipureintro; rw [(spec_B _ _ _ _ _ _ _ _ _ _ _ _ _ _ _ _ _ _ _ _ _ _ _ _ _ _ _ _ _ _ _ _ _ _ _ _ _ _ _ _ rfl).1]
        exact grow_read m c t _ _ _ _ _ fun r => by rw [← inner t]; exact k0_off4_eq _ r
      iexact HS1
    isplitl [HS2]
    · iexists _; unfold owns; iexists _; isplitr
      swap; · iexact HS2
      ipureintro; rfl
    isplitl [HS3]; · iexact HS3
    isplitl [HS4]
    · iexists _; unfold owns; iexists _; isplitr
      swap; · iexact HS4
      ipureintro; rfl
    isplitl [HS5]; · iexact HS5
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; rw [(spec_B _ _ _ _ _ _ _ _ _ _ _ _ _ _ _ _ _ _ _ _ _ _ _ _ _ _ _ _ _ _ _ _ _ _ _ _ _ _ _ _ rfl).2.1, hi.prev_even h0 hg]; exact prod_read _ _ _ _
  isplitl [H5]
  · unfold owns; iexists _; isplitr
    swap; · iexact H5
    ipureintro; rw [(spec_B _ _ _ _ _ _ _ _ _ _ _ _ _ _ _ _ _ _ _ _ _ _ _ _ _ _ _ _ _ _ _ _ _ _ _ _ _ _ _ _ rfl).2.2.1]; exact stat_read _ _ _
  isplitl [H6]
  · unfold owns; iexists _; isplitr
    swap; · iexact H6
    ipureintro; rw [(spec_B _ _ _ _ _ _ _ _ _ _ _ _ _ _ _ _ _ _ _ _ _ _ _ _ _ _ _ _ _ _ _ _ _ _ _ _ _ _ _ _ rfl).2.2.2.1]; exact stat_read _ _ _
  unfold owns; iexists _; isplitr
  swap; · iexact H7
  ipureintro; rw [(spec_B _ _ _ _ _ _ _ _ _ _ _ _ _ _ _ _ _ _ _ _ _ _ _ _ _ _ _ _ _ _ _ _ _ _ _ _ _ _ _ _ rfl).2.2.2.2]; exact rows_read _ _ _

theorem sound_C (c : Dev nD) (t : Fin cfg0.N) (h0 : ¬ t.val / 4 = 0) (hg : ¬ t.val / 4 % 2 = 0) :
    pre m c t ⊢ wp frame (wpE (defs₀ (F := F)) Variants.none c none) Set.univ (bodyAt0 t) (fun _ => post m c t (owns (c : Thread nD τ) (st0_4 t) fullShare ((dats m 0 c).after 4 t))) := by
  obtain ⟨h1, h2, h3⟩ := at_C t h0 hg
  unfold pre post bodyAt0
  simp only [before_0, before_1, before_2, before_3]
  rw [show (dats m 0 c).owesAt () t.succ = (dats m 0 c).owesAt () t.castSucc from rfl, phi_pre, phi_post,
    after_0, after_1, after_2, after_3, after_4, after_5, after_6, after_7]
  unfold Phi
  iintro ⟨⟨⟨%s0, %s1, %hi, HS0, HS1⟩, HS2, HS3, HS4, HS5, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runC (F := F) c (grid0.coords t) h1 h2 h3 _ _ _ _ _ _ _ _ _ _ _ _ _ _ _ _ _ _ _ _ _ _ _ _ _ _ _ _ (iblk m c 0 t) (iblk m c 1 t) (iblk m c 2 t) (iblk m c 3 t) s0 s1).2.2.2.2.2.2.2 Set.univ _)
  isplitl [H0]; · iexact H0
  isplitl [H1]; · iexact H1
  isplitl [H2]; · iexact H2
  isplitl [H3]; · iexact H3
  isplitl [HS0]; · iexact HS0
  isplitl [HS1]; · iexact HS1
  isplitl [H4]; · iexists _; iexact H4
  isplitl [H5]; · iexists _; iexact H5
  isplitl [H6]; · iexists _; iexact H6
  isplitl [H7]; · iexists _; iexact H7
  isplitl [HS3]; · iexact HS3
  isplitl [HS5]; · iexact HS5
  iintro ⟨H0, H1, H2, H3, HS0, HS1, ⟨%e4, H4⟩, ⟨%e5, H5⟩, ⟨%e6, H6⟩, ⟨%e7, H7⟩, ⟨%fHS3, HS3⟩, ⟨%fHS5, HS5⟩⟩
  isplitl [HS0 HS1 HS2 HS3 HS4 HS5 Hg]
  · isplitl [HS0 HS1]
    · iexists s0; iexists (grown m c t s1)
      isplitr
      · ipureintro; exact hi.odd rowA_lt hg fun _ => rfl
      isplitl [HS0]; · iexact HS0
      unfold owns; iexists _; isplitr
      swap; · iexact HS1
      ipureintro; rw [(spec_C _ _ _ _ _ _ _ _ _ _ _ _ _ _ _ _ _ _ _ _ _ _ _ _ _ _ _ _ _ _ _ _ _ _ _ _ _ _ _ _ rfl).1]
      exact grow_read m c t _ _ _ _ _ fun r => by rw [← inner t]; exact k0_off6_eq _ r
    isplitl [HS2]; · iexact HS2
    isplitl [HS3]
    · iexists _; unfold owns; iexists _; isplitr
      swap; · iexact HS3
      ipureintro; rfl
    isplitl [HS4]; · iexact HS4
    isplitl [HS5]
    · iexists _; unfold owns; iexists _; isplitr
      swap; · iexact HS5
      ipureintro; rfl
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; rw [(spec_C _ _ _ _ _ _ _ _ _ _ _ _ _ _ _ _ _ _ _ _ _ _ _ _ _ _ _ _ _ _ _ _ _ _ _ _ _ _ _ _ rfl).2.1, hi.prev_odd h0 hg]; exact prod_read _ _ _ _
  isplitl [H5]
  · unfold owns; iexists _; isplitr
    swap; · iexact H5
    ipureintro; rw [(spec_C _ _ _ _ _ _ _ _ _ _ _ _ _ _ _ _ _ _ _ _ _ _ _ _ _ _ _ _ _ _ _ _ _ _ _ _ _ _ _ _ rfl).2.2.1]; exact stat_read _ _ _
  isplitl [H6]
  · unfold owns; iexists _; isplitr
    swap; · iexact H6
    ipureintro; rw [(spec_C _ _ _ _ _ _ _ _ _ _ _ _ _ _ _ _ _ _ _ _ _ _ _ _ _ _ _ _ _ _ _ _ _ _ _ _ _ _ _ _ rfl).2.2.2.1]; exact stat_read _ _ _
  unfold owns; iexists _; isplitr
  swap; · iexact H7
  ipureintro; rw [(spec_C _ _ _ _ _ _ _ _ _ _ _ _ _ _ _ _ _ _ _ _ _ _ _ _ _ _ _ _ _ _ _ _ _ _ _ _ _ _ _ _ rfl).2.2.2.2]; exact rows_read _ _ _

theorem row (t : Fin cfg0.N) : defs₀ (F := F) .tc cfg0.body (cfg0.bodyArgs t (cfg0.slots t)) = bodyAt0 t := by
  unfold defs₀; rw [Defs.onTc_tc]

/-- The body does at every point what the proof data say. -/
theorem body (c : Dev nD) : BodyObligation (dats (F := F) m 0 c) (defs₀ (F := F)) Variants.none () Set.univ := fun t => by
  rw [bigSep_W0, bigSep_W0, row]
  have live : ∀ i : grid0.Coords, (k0_cond1 i = 1#1 ∨ k0_cond2 i = 1#1 ∨ k0_cond3 i = 1#1) →
      (!(k0_cond1 i == 1#1) && !(k0_cond2 i == 1#1) && !(k0_cond3 i == 1#1)) = false := by
    rintro i (h | h | h) <;> simp [h]
  by_cases h0 : t.val / 4 = 0
  · obtain ⟨h1, h2, h3, hf⟩ := at_A t h0
    have i4 : cfg0.idle 4 (cfg0.grid.coords t) = true := by
      show (!(k0_cond2 (grid0.coords t) == 1#1) && !(k0_cond3 (grid0.coords t) == 1#1)) = true
      simp [h2, h3]
    have i5 : cfg0.idle 5 (cfg0.grid.coords t) = false := live _ (.inl h1)
    have f4 : (cfg0.win 4).flush t = false := hf
    rw [i4, i5, f4]
    exact triple_restated (sound_A m c t h0) rfl .rfl fun _ => .rfl
  · by_cases hg : t.val / 4 % 2 = 0
    · obtain ⟨h1, h2, h3⟩ := at_B t h0 hg
      have i4 : cfg0.idle 4 (cfg0.grid.coords t) = false := by
        show (!(k0_cond2 (grid0.coords t) == 1#1) && !(k0_cond3 (grid0.coords t) == 1#1)) = false
        simp [h2]
      have i5 : cfg0.idle 5 (cfg0.grid.coords t) = false := live _ (.inr (.inl h2))
      rw [i4, i5]
      exact triple_restated (sound_B m c t h0 hg) rfl .rfl fun _ => .rfl
    · obtain ⟨h1, h2, h3⟩ := at_C t h0 hg
      have i4 : cfg0.idle 4 (cfg0.grid.coords t) = false := by
        show (!(k0_cond2 (grid0.coords t) == 1#1) && !(k0_cond3 (grid0.coords t) == 1#1)) = false
        simp [h3]
      have i5 : cfg0.idle 5 (cfg0.grid.coords t) = false := live _ (.inr (.inr h3))
      rw [i4, i5]
      exact triple_restated (sound_C m c t h0 hg) rfl .rfl fun _ => .rfl

/-! ## The run -/

variable (ρ : Dev nD → PrngReg)

set_option backward.isDefEq.respectTransparency.types false in
/-- The whole program ends with every array at what the proof data leave of it and every counter at zero. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body m c).loose) (hshare := fun c w => by unfold Dat.share; exact ite_self _) (howed := fun _ _ => rfl) (V := V m) (hmain := hmain m Variants.none)
    (hA := A_eq m) (hin := phi_in m) (hout := fun c => phi_out m c _)

theorem run_post : θ_run defs (onTc (τ := τ) (main (F := F))) (s₀ m ρ) (Pipeline.FramePost cfgs (dats m) 0 (V m)) :=
  (θ_run defs _ _).mono (fun _ h => h.1) (run m ρ)

/-- The arguments end unchanged and the counters at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_post m ρ)) ((θ_run defs _ _).mono (fun _ h => h.2) (run m ρ))

end

end Cert.SsmNextIdeal.Run

end
-- ==== Proof.SsmNextValue.lean ====
/- Layer 1's columns for S5: the kernel's four arrays are the reference's. -/
module

public import proofs.«01_k».proof.Proof.FfnInValue
public import proofs.«01_k».proof.Proof.SsmNextFrame
public import proofs.«01_k».proof.Proof.Gen.SsmNextRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SsmNextRefIdeal.Value

open Cert.SsmNextRefIdeal Cert.SsmNextRefIdeal.Gen
open Cert.Proj Cert.Ffn
set_option maxHeartbeats 2000000

/-- The reference's columns for S5, in eight groups of 128. -/
def ref (a0 : FVec Ideal S16384x4096 .f32) (a1 a2 : FVec Ideal S4096 .f32) (a3 : FVec Ideal S4096x11264 .f32) : FVec Ideal S8x16384x128 .f32 :=
  transpose S8x16384x128 [1, 0, 2] (shapeCast _ (extractStridedSlice S16384x1024 ![0, 0] (Host.dotGeneral (F := Ideal) dot_S16384x4096_S4096x11264_S16384x11264_1_0_0_1_n_n none (addf (mulf (mulf (subf a0 (broadcastInDim S16384x4096 ![0, 1] bcast_S16384x1_S16384x4096_0_1 (Host.divf (broadcastInDim S16384x1 ![0] bcast_S16384_S16384x1_0 (Host.reduceAdd a0 (constant S_ .f32 0x00000000#32) reducesTo_S16384x4096_S16384_d1 h_S_)) (broadcastInDim S16384x1 ![] bcast_S_S16384x1 (constant S_ .f32 0x45800000#32))))) (broadcastInDim S16384x4096 ![0, 1] bcast_S16384x1_S16384x4096_0_1 (Host.rsqrt (addf (Host.divf (broadcastInDim S16384x1 ![0] bcast_S16384_S16384x1_0 (Host.reduceAdd (mulf (subf a0 (broadcastInDim S16384x4096 ![0, 1] bcast_S16384x1_S16384x4096_0_1 (Host.divf (broadcastInDim S16384x1 ![0] bcast_S16384_S16384x1_0 (Host.reduceAdd a0 (constant S_ .f32 0x00000000#32) reducesTo_S16384x4096_S16384_d1 h_S_)) (broadcastInDim S16384x1 ![] bcast_S_S16384x1 (constant S_ .f32 0x45800000#32))))) (subf a0 (broadcastInDim S16384x4096 ![0, 1] bcast_S16384x1_S16384x4096_0_1 (Host.divf (broadcastInDim S16384x1 ![0] bcast_S16384_S16384x1_0 (Host.reduceAdd a0 (constant S_ .f32 0x00000000#32) reducesTo_S16384x4096_S16384_d1 h_S_)) (broadcastInDim S16384x1 ![] bcast_S_S16384x1 (constant S_ .f32 0x45800000#32)))))) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x3727C5AC#32)))))) (broadcastInDim S16384x4096 ![0, 1] bcast_S1x4096_S16384x4096_0_1 (broadcastInDim S1x4096 ![1] bcast_S4096_S1x4096_1 a1))) (broadcastInDim S16384x4096 ![0, 1] bcast_S1x4096_S16384x4096_0_1 (broadcastInDim S1x4096 ![1] bcast_S4096_S1x4096_1 a2))) a3) slices_S16384x11264_S16384x1024_0_0) shapeCasts_S16384x1024_S16384x8x128) transposes_S16384x8x128_S8x16384x128_1_0_2

/-- The reference's means and reciprocal deviations, in every lane. -/
def refMean (a0 : FVec Ideal S16384x4096 .f32) : FVec Ideal S16384x128 .f32 :=
  broadcastInDim S16384x128 ![0, 1] bcast_S16384x1_S16384x128_0_1 (Host.divf (broadcastInDim S16384x1 ![0] bcast_S16384_S16384x1_0 (Host.reduceAdd a0 (constant S_ .f32 0x00000000#32) reducesTo_S16384x4096_S16384_d1 h_S_)) (broadcastInDim S16384x1 ![] bcast_S_S16384x1 (constant S_ .f32 0x45800000#32)))
def refRstd (a0 : FVec Ideal S16384x4096 .f32) : FVec Ideal S16384x128 .f32 :=
  broadcastInDim S16384x128 ![0, 1] bcast_S16384x1_S16384x128_0_1 (Host.rsqrt (addf (Host.divf (broadcastInDim S16384x1 ![0] bcast_S16384_S16384x1_0 (Host.reduceAdd (mulf (subf a0 (broadcastInDim S16384x4096 ![0, 1] bcast_S16384x1_S16384x4096_0_1 (Host.divf (broadcastInDim S16384x1 ![0] bcast_S16384_S16384x1_0 (Host.reduceAdd a0 (constant S_ .f32 0x00000000#32) reducesTo_S16384x4096_S16384_d1 h_S_)) (broadcastInDim S16384x1 ![] bcast_S_S16384x1 (constant S_ .f32 0x45800000#32))))) (subf a0 (broadcastInDim S16384x4096 ![0, 1] bcast_S16384x1_S16384x4096_0_1 (Host.divf (broadcastInDim S16384x1 ![0] bcast_S16384_S16384x1_0 (Host.reduceAdd a0 (constant S_ .f32 0x00000000#32) reducesTo_S16384x4096_S16384_d1 h_S_)) (broadcastInDim S16384x1 ![] bcast_S_S16384x1 (constant S_ .f32 0x45800000#32)))))) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x3727C5AC#32))))

/-- The reference's normalized rows. -/
def refRows (a0 : FVec Ideal S16384x4096 .f32) (a1 a2 : FVec Ideal S4096 .f32) : FVec Ideal S16384x4096 .bf16 :=
  truncf .bf16 (addf (mulf (mulf (subf a0 (broadcastInDim S16384x4096 ![0, 1] bcast_S16384x1_S16384x4096_0_1 (Host.divf (broadcastInDim S16384x1 ![0] bcast_S16384_S16384x1_0 (Host.reduceAdd a0 (constant S_ .f32 0x00000000#32) reducesTo_S16384x4096_S16384_d1 h_S_)) (broadcastInDim S16384x1 ![] bcast_S_S16384x1 (constant S_ .f32 0x45800000#32))))) (broadcastInDim S16384x4096 ![0, 1] bcast_S16384x1_S16384x4096_0_1 (Host.rsqrt (addf (Host.divf (broadcastInDim S16384x1 ![0] bcast_S16384_S16384x1_0 (Host.reduceAdd (mulf (subf a0 (broadcastInDim S16384x4096 ![0, 1] bcast_S16384x1_S16384x4096_0_1 (Host.divf (broadcastInDim S16384x1 ![0] bcast_S16384_S16384x1_0 (Host.reduceAdd a0 (constant S_ .f32 0x00000000#32) reducesTo_S16384x4096_S16384_d1 h_S_)) (broadcastInDim S16384x1 ![] bcast_S_S16384x1 (constant S_ .f32 0x45800000#32))))) (subf a0 (broadcastInDim S16384x4096 ![0, 1] bcast_S16384x1_S16384x4096_0_1 (Host.divf (broadcastInDim S16384x1 ![0] bcast_S16384_S16384x1_0 (Host.reduceAdd a0 (constant S_ .f32 0x00000000#32) reducesTo_S16384x4096_S16384_d1 h_S_)) (broadcastInDim S16384x1 ![] bcast_S_S16384x1 (constant S_ .f32 0x45800000#32)))))) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x3727C5AC#32)))))) (broadcastInDim S16384x4096 ![0, 1] bcast_S1x4096_S16384x4096_0_1 (broadcastInDim S1x4096 ![1] bcast_S4096_S1x4096_1 a1))) (broadcastInDim S16384x4096 ![0, 1] bcast_S1x4096_S16384x4096_0_1 (broadcastInDim S1x4096 ![1] bcast_S4096_S1x4096_1 a2))) bitsLt_bf16_f32

/-- The reference's columns at a point: the normalized row times the weight's column. -/
theorem ref_at (a0 : FVec Ideal S16384x4096 .f32) (a1 a2 : FVec Ideal S4096 .f32) (a3 : FVec Ideal S4096x11264 .f32) (g : Fin 8) (p : Fin 16384) (l : Fin 128) :
    ref a0 a1 a2 a3 (ix3 g p l) = dense (norm (fun k => a0 (ix2 p k)) (fun k => a1 (ix1 k)) (fun k => a2 (ix1 k)))
      (fun k => a3 (ix2 k (⟨g.val * 128 + l.val, by omega⟩ : Fin 11264))) := by
  pointwise [ref]
  rfl
theorem refMean_at (a0 : FVec Ideal S16384x4096 .f32) (p : Fin 16384) (k : Fin 128) : refMean a0 (ix2 p k) = mean (fun k => a0 (ix2 p k)) := by
  pointwise [refMean]; rfl
theorem refRstd_at (a0 : FVec Ideal S16384x4096 .f32) (p : Fin 16384) (k : Fin 128) : refRstd a0 (ix2 p k) = rstd (fun k => a0 (ix2 p k)) := by
  pointwise [refRstd]; rfl
theorem refRows_at (a0 : FVec Ideal S16384x4096 .f32) (a1 a2 : FVec Ideal S4096 .f32) (p : Fin 16384) (k : Fin 4096) :
    refRows a0 a1 a2 (ix2 p k) = norm (fun k => a0 (ix2 p k)) (fun k => a1 (ix1 k)) (fun k => a2 (ix1 k)) k := by
  pointwise [refRows]; rfl

end Cert.SsmNextRefIdeal.Value

namespace Cert.SsmNextIdeal.Run

open Cert.SsmNextIdeal Cert.SsmNextIdeal.Gen
open Cert.Proj Cert.Ffn
set_option maxHeartbeats 2000000

/-- Eight normalized rows, and their statistics in every lane. -/
theorem pay20_at (w b : Vec Ideal S1x4096 .f32) (v : Vec Ideal S8x4096 .f32) (i0 : ∀ a, (![0, 0] : Fin 2 → Nat) a + S1x4096.size a ≤ S1x4096.size a) (r : Fin 8) (k : Fin 4096) :
    k0_pay20 (k0_pay7 (View.ld w (Rect.unit ![0, 0] ![1, 4096] i0))) (k0_pay8 (View.ld b (Rect.unit ![0, 0] ![1, 4096] i0))) v (ix2 r k)
    = norm (fun k => v (ix2 r k)) (fun k => w (ix2 0 k)) (fun k => b (ix2 0 k)) k := by
  pointwise [k0_pay20, k0_pay19, k0_pay18, k0_pay17, k0_pay7, k0_pay8]
  rfl
theorem pay13_at (v : Vec Ideal S8x4096 .f32) (r : Fin 8) (k : Fin 128) : k0_pay13 v (ix2 r k) = mean (fun k => v (ix2 r k)) := by
  pointwise [k0_pay13, k0_pay9]
  rfl
theorem pay14_at (v : Vec Ideal S8x4096 .f32) (r : Fin 8) (k : Fin 128) : k0_pay14 v (ix2 r k) = rstd (fun k => v (ix2 r k)) := by
  pointwise [k0_pay14, k0_pay11, k0_pay10, k0_pay9]
  rfl

/-- Sixteen rows from two groups of eight. -/
theorem pay25_at (a b : FVec Ideal S8x4096 .f32) (r : Fin 16) (k : Fin 4096) : k0_pay25 a b (ix2 r k)
    = if h : r.val < 8 then a (ix2 (⟨r.val, h⟩ : Fin 8) k) else b (ix2 (⟨r.val - 8, by omega⟩ : Fin 8) k) := by
  pointwise [k0_pay25]
  try rfl
theorem pay26_at (a b : FVec Ideal S8x4096 .f32) (r : Fin 16) (k : Fin 4096) : k0_pay26 a b (ix2 r k) = k0_pay25 a b (ix2 r k) := by
  pointwise [k0_pay26, k0_pay25]

/-- Rows from a row offset, at a point. -/
theorem row_at (x : Vec Ideal S256x4096 .f32) (o : ℕ) (r : Fin 8) (p : Fin 256) (k : Fin 4096) (h : o + r.val = p.val) : rows x o (ix2 r k) = x (ix2 p k) := by
  have e : (⟨(o + r.val) % 256, Nat.mod_lt _ (by omega)⟩ : Fin 256) = p := Fin.ext (by dsimp only; omega)
  exact congrArg (fun q : Fin 256 => x (ix2 q k)) e
theorem rowA_at (x : Vec Ideal S1024x4096 .bf16) (o : ℕ) (r : Fin 256) (p : Fin 1024) (k : Fin 4096) (h : o + r.val = p.val) : rowsA x o (ix2 r k) = x (ix2 p k) := by
  have e : (⟨(o + r.val) % 1024, Nat.mod_lt _ (by omega)⟩ : Fin 1024) = p := Fin.ext (by dsimp only; omega)
  exact congrArg (fun q : Fin 1024 => x (ix2 q k)) e

/-- A slab's normalized rows at a point: as the output gets them, and as the row buffer does. -/
theorem pieceH_at (x : Vec Ideal S256x4096 .f32) (w b : Vec Ideal S1x4096 .f32) (p : Fin 256) (k : Fin 4096) :
    slabT (pieceH x w b) (ix2 p k) = norm (fun k => x (ix2 p k)) (fun k => w (ix2 0 k)) (fun k => b (ix2 0 k)) k := by
  change pieceH x w b (p.val / 16 * 16) (ix2 (⟨p.val % 16, by omega⟩ : Fin 16) k) = _
  unfold pieceH
  rw [pay25_at]
  split_ifs with h
  · refine (pay20_at w b _ _ _ k).trans ?_
    exact congrArg (fun f => norm f _ _ k) (funext fun j => row_at x _ _ p j (by dsimp only; omega))
  · refine (pay20_at w b _ _ _ k).trans ?_
    exact congrArg (fun f => norm f _ _ k) (funext fun j => row_at x _ _ p j (by dsimp only at h ⊢; omega))
theorem piece_at (x : Vec Ideal S256x4096 .f32) (w b : Vec Ideal S1x4096 .f32) (p : Fin 256) (k : Fin 4096) :
    slabT (piece x w b) (ix2 p k) = norm (fun k => x (ix2 p k)) (fun k => w (ix2 0 k)) (fun k => b (ix2 0 k)) k :=
  (pay26_at _ _ (⟨p.val % 16, by omega⟩ : Fin 16) k).trans (pieceH_at x w b p k)

/-- A slab's means and reciprocal deviations at a point. -/
theorem mean_at (x : Vec Ideal S256x4096 .f32) (p : Fin 256) (q : Fin 128) : statT (meanP x) (ix2 p q) = mean (fun k => x (ix2 p k)) := by
  change k0_pay13 (rows x (p.val / 8 * 8)) (ix2 (⟨p.val % 8, by omega⟩ : Fin 8) q) = _
  exact (pay13_at _ _ q).trans (congrArg mean (funext fun j => row_at x _ _ p j (by dsimp only; omega)))
theorem rstd_at (x : Vec Ideal S256x4096 .f32) (p : Fin 256) (q : Fin 128) : statT (rstdP x) (ix2 p q) = rstd (fun k => x (ix2 p k)) := by
  change k0_pay14 (rows x (p.val / 8 * 8)) (ix2 (⟨p.val % 8, by omega⟩ : Fin 8) q) = _
  exact (pay14_at _ _ q).trans (congrArg rstd (funext fun j => row_at x _ _ p j (by dsimp only; omega)))

/-- The product of 256 rows with a block of 256 columns, and its two halves at a point. -/
theorem pay602_at (a : Vec Ideal S256x4096 .bf16) (u : Vec Ideal S4096x256 .bf16) (i0 : ∀ a, (![0, 0] : Fin 2 → Nat) a + S4096x256.size a ≤ S4096x256.size a) (i j : Fin 256) :
    k0_pay602 a (View.ld u (Rect.unit ![0, 0] ![4096, 256] i0)) (ix2 i j) = dense (fun k => a (ix2 i k)) (fun k => u (ix2 k j)) := by
  pointwise [k0_pay602, dense]
theorem pay604_at (a : Vec Ideal S256x4096 .bf16) (u : Vec Ideal S4096x256 .bf16) (i0 : ∀ a, (![0, 0] : Fin 2 → Nat) a + S4096x256.size a ≤ S4096x256.size a) (i : Fin 256) (l : Fin 128) :
    k0_pay604 (k0_pay603 a (View.ld u (Rect.unit ![0, 0] ![4096, 256] i0))) (ix3 0 i l) = dense (fun k => a (ix2 i k)) (fun k => u (ix2 k (⟨l.val, by omega⟩ : Fin 256))) := by
  refine Eq.trans ?_ (pay602_at a u i0 i _)
  pointwise [k0_pay604, k0_pay603]
theorem pay605_at (a : Vec Ideal S256x4096 .bf16) (u : Vec Ideal S4096x256 .bf16) (i0 : ∀ a, (![0, 0] : Fin 2 → Nat) a + S4096x256.size a ≤ S4096x256.size a) (i : Fin 256) (l : Fin 128) :
    k0_pay605 (k0_pay602 a (View.ld u (Rect.unit ![0, 0] ![4096, 256] i0))) (ix3 0 i l) = dense (fun k => a (ix2 i k)) (fun k => u (ix2 k (⟨128 + l.val, by omega⟩ : Fin 256))) := by
  refine Eq.trans ?_ (pay602_at a u i0 i _)
  pointwise [k0_pay605]

/-- The output tile at a point. -/
theorem prodT_at (a : Vec Ideal S1024x4096 .bf16) (u : Vec Ideal S4096x256 .bf16) (g : Fin 2) (p : Fin 1024) (l : Fin 128) :
    prodT a u (ix3 g p l) = dense (fun k => a (ix2 p k)) (fun k => u (ix2 k (⟨g.val * 128 + l.val, by omega⟩ : Fin 256))) := by
  have hr : (fun k => rowsA a (p.val / 256 * 256) (ix2 (⟨p.val % 256, by omega⟩ : Fin 256) k)) = fun k => a (ix2 p k) :=
    funext fun k => rowA_at a _ _ p k (by dsimp only; omega)
  have hc : ∀ n n' : Fin 256, n.val = n'.val → (fun k => u (ix2 k n)) = fun k => u (ix2 k n') := fun n n' h => by rw [Fin.ext h]
  change prodP a u (p.val / 256 * 256) g.val (ix3 0 (⟨p.val % 256, by omega⟩ : Fin 256) l) = _
  fin_cases g
  · change k0_pay604 (k0_pay603 (rowsA a (p.val / 256 * 256)) (View.ld u (Rect.unit (s := S4096x256) ![0, 0] S4096x256.size inb_S4096x256_S4096x256_0_0))) (ix3 0 _ l) = _
    exact (pay604_at _ u _ _ l).trans (congrArg₂ dense hr (hc _ _ (by dsimp only; omega)))
  · change k0_pay605 (k0_pay602 (rowsA a (p.val / 256 * 256)) (View.ld u (Rect.unit (s := S4096x256) ![0, 0] S4096x256.size inb_S4096x256_S4096x256_0_0))) (ix3 0 _ l) = _
    exact (pay605_at _ u _ _ l).trans (congrArg₂ dense hr (hc _ _ (by first | omega | simp)))

/-- The windows' block indices: the slab one of the point's tile, the output tile one outer step behind. -/
theorem idx_in : ∀ t : Fin cfg0.N, win0_0.index t = ![if t.val / 4 < 16 then t.val else 63, 0] ∧ win0_1.index t = ![0, 0] ∧ win0_2.index t = ![0, 0]
    ∧ win0_5.index t = ![if t.val / 4 < 16 then t.val else 63, 0] ∧ win0_6.index t = ![if t.val / 4 < 16 then t.val else 63, 0] ∧ win0_7.index t = ![if t.val / 4 < 16 then t.val else 63, 0] :=
  (by decide +kernel : ∀ t : Fin grid0.N, _)
theorem idx_tile : ∀ t : Fin cfg0.N, ¬ t.val / 4 = 0 → win0_3.index t = ![0, t.val % 4] ∧ win0_4.index t = ![t.val % 4, t.val / 4 - 1, 0] :=
  (by decide +kernel : ∀ t : Fin grid0.N, _)

variable (m : (ℓ : Loc nD τ sig) → Buf (Elt Ideal) ℓ)

/-! What the host code leaves in each prepared operand, and each window's block of its array. -/

theorem entry_v0 (c : Dev nD) (k : Fin 4096) (q : Fin 11264) : V m c main_v0 (ix2 k q) = m (c.tc.loc main_arg3) (ix2 k q) := by
  dsimp only [V, hostOps0]; entry_read; pointwise
theorem entry_v1 (c : Dev nD) (k : Fin 4096) : V m c main_v1 (ix2 0 k) = m (c.tc.loc main_arg1) (ix1 k) := by
  dsimp only [V, hostOps0]; entry_read; pointwise
theorem entry_v2 (c : Dev nD) (k : Fin 4096) : V m c main_v2 (ix2 0 k) = m (c.tc.loc main_arg2) (ix1 k) := by
  dsimp only [V, hostOps0]; entry_read; pointwise
theorem iblk_0 (c : Dev nD) (t : Fin cfg0.N) (p : Fin 256) (k : Fin 4096) : iblk m c 0 t (ix2 p k)
    = m (c.tc.loc main_arg0) (ix2 (⟨(if t.val / 4 < 16 then t.val else 63) * 256 + p.val, by split_ifs <;> omega⟩ : Fin 16384) k) := by
  blk_ext [iblk, V, idx_in t]
theorem iblk_1 (c : Dev nD) (t : Fin cfg0.N) (k : Fin 4096) : iblk m c 1 t (ix2 0 k) = V m c main_v1 (ix2 0 k) := by
  blk_ext [iblk, idx_in t]
theorem iblk_2 (c : Dev nD) (t : Fin cfg0.N) (k : Fin 4096) : iblk m c 2 t (ix2 0 k) = V m c main_v2 (ix2 0 k) := by
  blk_ext [iblk, idx_in t]
theorem iblk_3 (c : Dev nD) (t : Fin cfg0.N) (ht : ¬ t.val / 4 = 0) (k : Fin 4096) (q : Fin 256) : iblk m c 3 t (ix2 k q)
    = V m c main_v0 (ix2 k (⟨t.val % 4 * 256 + q.val, by omega⟩ : Fin 11264)) := by
  blk_ext [iblk, idx_tile t ht]

/-- A row of a tile's slab is a row of the array. -/
theorem slab_row (c : Dev nD) (g : ℕ) (hg : g < 16) (p : Fin 1024) (k : Fin 4096) :
    iblk m c 0 (pt g (p.val / 256)) (ix2 (⟨p.val % 256, Nat.mod_lt _ (by omega)⟩ : Fin 256) k)
      = m (c.tc.loc main_arg0) (ix2 (⟨g * 1024 + p.val, by omega⟩ : Fin 16384) k) := by
  have hv := pt_val g (p.val / 256) (by omega) (by omega)
  refine (iblk_0 m c _ _ k).trans ?_
  congr 2
  refine Fin.ext ?_
  dsimp only
  rw [hv, if_pos (by omega)]
  omega

/-- The scale's and the shift's blocks. -/
theorem scale_at (c : Dev nD) (t : Fin cfg0.N) : (fun k => iblk m c 1 t (ix2 0 k)) = fun k => m (c.tc.loc main_arg1) (ix1 k) :=
  funext fun k => (iblk_1 m c t k).trans (entry_v1 m c k)
theorem shift_at (c : Dev nD) (t : Fin cfg0.N) : (fun k => iblk m c 2 t (ix2 0 k)) = fun k => m (c.tc.loc main_arg2) (ix1 k) :=
  funext fun k => (iblk_2 m c t k).trans (entry_v2 m c k)

/-- The filled row buffer at a point: the normalized row of the tile. -/
theorem filled_at (c : Dev nD) (g : ℕ) (hg : g < 16) (p : Fin 1024) (k : Fin 4096) : filled m c g (ix2 p k)
    = norm (fun k => m (c.tc.loc main_arg0) (ix2 (⟨g * 1024 + p.val, by omega⟩ : Fin 16384) k)) (fun k => m (c.tc.loc main_arg1) (ix1 k)) (fun k => m (c.tc.loc main_arg2) (ix1 k)) k := by
  change slabT (piece (iblk m c 0 (pt g (p.val / 256))) (iblk m c 1 (pt g (p.val / 256))) (iblk m c 2 (pt g (p.val / 256)))) (ix2 (⟨p.val % 256, _⟩ : Fin 256) k) = _
  rw [piece_at, scale_at, shift_at]
  exact congrArg (fun f => norm f _ _ k) (funext fun j => slab_row m c g hg p j)

/-- The kernel's columns are the reference's. -/
theorem final_4 (c : Dev nD) : (dats m 0 c).arrAt 4 (cfgs 0).N
    = Cert.SsmNextRefIdeal.Value.ref (m (c.tc.loc main_arg0)) (m (c.tc.loc main_arg1)) (m (c.tc.loc main_arg2)) (m (c.tc.loc main_arg3)) := by
  refine (dats m 0 c).arrAt_eq_of_covers 4 _ (by decide +kernel) fun t hf y => ?_
  have h0 : ¬ t.val / 4 = 0 := fun h => by
    have := (at_A t h).2.2.2
    exact absurd (hf.symm.trans this) (by decide)
  obtain ⟨i3, i4⟩ := idx_tile t h0
  have ht : t.val < 68 := t.isLt
  have hg : t.val / 4 - 1 < 16 := by omega
  blk_simp [i4]
  rw [after_4]
  obtain ⟨g, p, l, rfl⟩ : ∃ (g : Fin 2) (p : Fin 1024) (l : Fin 128), y = ix3 g p l := ⟨y 0, y 1, y 2, by funext a; fin_cases a <;> rfl⟩
  have he : (win0_4.blk t).view.emb (ix3 g p l) = ix3 (⟨t.val % 4 * 2 + g.val, by omega⟩ : Fin 8) (⟨(t.val / 4 - 1) * 1024 + p.val, by omega⟩ : Fin 16384) l := by
    blk_ext [i4]
  rw [he]
  refine (prodT_at _ _ g p l).trans ?_
  refine Eq.trans ?_ (Cert.SsmNextRefIdeal.Value.ref_at _ _ _ _ _ _ _).symm
  congr 1
  · funext k
    exact filled_at m c _ hg p k
  · funext k
    refine (iblk_3 m c t h0 k _).trans ((entry_v0 m c k _).trans ?_)
    congr 2
    exact Fin.ext (by dsimp only; omega)

/-- The kernel's means and reciprocal deviations are the reference's. -/
theorem final_5 (c : Dev nD) : (dats m 0 c).arrAt 5 (cfgs 0).N = Cert.SsmNextRefIdeal.Value.refMean (m (c.tc.loc main_arg0)) := by
  refine (dats m 0 c).arrAt_eq_of_covers 5 _ (by decide +kernel) fun t hf y => ?_
  obtain ⟨i0, i1, i2, i5, i6, i7⟩ := idx_in t
  have ht : t.val < 68 := t.isLt
  blk_simp [i5]
  rw [after_5]
  obtain ⟨p, q, rfl⟩ : ∃ (p : Fin 256) (q : Fin 128), y = ix2 p q := ⟨y 0, y 1, by funext a; fin_cases a <;> rfl⟩
  have he : (win0_5.blk t).view.emb (ix2 p q) = ix2 (⟨(if t.val / 4 < 16 then t.val else 63) * 256 + p.val, by split_ifs <;> omega⟩ : Fin 16384) q := by
    blk_ext [i5]
  rw [he]
  refine (mean_at _ p q).trans (Eq.trans ?_ (Cert.SsmNextRefIdeal.Value.refMean_at _ _ _).symm)
  exact congrArg mean (funext fun k => iblk_0 m c t p k)
theorem final_6 (c : Dev nD) : (dats m 0 c).arrAt 6 (cfgs 0).N = Cert.SsmNextRefIdeal.Value.refRstd (m (c.tc.loc main_arg0)) := by
  refine (dats m 0 c).arrAt_eq_of_covers 6 _ (by decide +kernel) fun t hf y => ?_
  obtain ⟨i0, i1, i2, i5, i6, i7⟩ := idx_in t
  have ht : t.val < 68 := t.isLt
  blk_simp [i6]
  rw [after_6]
  obtain ⟨p, q, rfl⟩ : ∃ (p : Fin 256) (q : Fin 128), y = ix2 p q := ⟨y 0, y 1, by funext a; fin_cases a <;> rfl⟩
  have he : (win0_6.blk t).view.emb (ix2 p q) = ix2 (⟨(if t.val / 4 < 16 then t.val else 63) * 256 + p.val, by split_ifs <;> omega⟩ : Fin 16384) q := by
    blk_ext [i6]
  rw [he]
  refine (rstd_at _ p q).trans (Eq.trans ?_ (Cert.SsmNextRefIdeal.Value.refRstd_at _ _ _).symm)
  exact congrArg rstd (funext fun k => iblk_0 m c t p k)

/-- The kernel's normalized rows are the reference's. -/
theorem final_7 (c : Dev nD) : (dats m 0 c).arrAt 7 (cfgs 0).N
    = Cert.SsmNextRefIdeal.Value.refRows (m (c.tc.loc main_arg0)) (m (c.tc.loc main_arg1)) (m (c.tc.loc main_arg2)) := by
  refine (dats m 0 c).arrAt_eq_of_covers 7 _ (by decide +kernel) fun t hf y => ?_
  obtain ⟨i0, i1, i2, i5, i6, i7⟩ := idx_in t
  have ht : t.val < 68 := t.isLt
  blk_simp [i7]
  rw [after_7]
  obtain ⟨p, q, rfl⟩ : ∃ (p : Fin 256) (q : Fin 4096), y = ix2 p q := ⟨y 0, y 1, by funext a; fin_cases a <;> rfl⟩
  have he : (win0_7.blk t).view.emb (ix2 p q) = ix2 (⟨(if t.val / 4 < 16 then t.val else 63) * 256 + p.val, by split_ifs <;> omega⟩ : Fin 16384) q := by
    blk_ext [i7]
  rw [he]
  refine (pieceH_at _ _ _ p q).trans (Eq.trans ?_ (Cert.SsmNextRefIdeal.Value.refRows_at _ _ _ _ _).symm)
  rw [scale_at, shift_at]
  exact congrArg (fun f => norm f _ _ q) (funext fun k => iblk_0 m c t p k)

/-- The run: each result is the reference's function of the arguments, the arguments unchanged, the counters at zero. -/
theorem run_values (ρ : Dev nD → PrngReg) :
    θ_run defs (onTc (τ := τ) (main (F := Ideal))) ⟨m, fun _ => 0, ρ⟩ (fun r => ∀ c : Dev nD,
      r.2.mem ((c.tc : Thread nD τ).loc main_v3_0) = Cert.SsmNextRefIdeal.Value.ref (m (c.tc.loc main_arg0)) (m (c.tc.loc main_arg1)) (m (c.tc.loc main_arg2)) (m (c.tc.loc main_arg3))
      ∧ r.2.mem ((c.tc : Thread nD τ).loc main_v3_1) = Cert.SsmNextRefIdeal.Value.refMean (m (c.tc.loc main_arg0))
      ∧ r.2.mem ((c.tc : Thread nD τ).loc main_v3_2) = Cert.SsmNextRefIdeal.Value.refRstd (m (c.tc.loc main_arg0))
      ∧ r.2.mem ((c.tc : Thread nD τ).loc main_v3_3) = Cert.SsmNextRefIdeal.Value.refRows (m (c.tc.loc main_arg0)) (m (c.tc.loc main_arg1)) (m (c.tc.loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    obtain ⟨hp, ha, -⟩ := h
    exact ⟨((hp c).1 4).trans (final_4 m c), ((hp c).1 5).trans (final_5 m c), ((hp c).1 6).trans (final_6 m c), ((hp c).1 7).trans (final_7 m c), ha c⟩)
    (θ_run_and (run_post m ρ) (frame_holds m ρ))

end Cert.SsmNextIdeal.Run

end
-- ==== Proof.CastValue.lean ====
/- The casts v16 makes in calls of their own, at layer 0: each kernel's array is the reference's. -/
module

public import proofs.«01_k».proof.Proof.ProjSpec
public import proofs.«01_k».proof.Proof.Gen.CastInIdeal.Value
public import proofs.«01_k».proof.Proof.Gen.CastInRefIdeal.Run
public import proofs.«01_k».proof.Proof.Gen.CastGluIdeal.Value
public import proofs.«01_k».proof.Proof.Gen.CastGluRefIdeal.Run
public import proofs.«01_k».proof.Proof.Gen.CastEmbIdeal.Value
public import proofs.«01_k».proof.Proof.Gen.CastEmbRefIdeal.Run
public import proofs.«01_k».proof.Proof.Gen.CastPleIdeal.Value
public import proofs.«01_k».proof.Proof.Gen.CastPleRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! The input projection. -/

namespace Cert.CastInRefIdeal.Value

open Cert.CastInRefIdeal Cert.CastInRefIdeal.Gen

/-- The reference as a function of its argument. -/
def ref (a : FVec Ideal S2x4096x11264 .f32) : FVec Ideal S4096x11264 .bf16 :=
  truncf .bf16 (shapeCast _ (extractStridedSlice S1x4096x11264 ![0, 0, 0] a slices_S2x4096x11264_S1x4096x11264_0_0_0) shapeCasts_S1x4096x11264_S4096x11264) bitsLt_bf16_f32
theorem ref_at (a : FVec Ideal S2x4096x11264 .f32) (p : Fin 4096) (q : Fin 11264) : ref a (ix2 p q) = a (ix3 0 p q) := by
  pointwise [ref]

end Cert.CastInRefIdeal.Value

namespace Cert.CastInIdeal.Value

open Cert.CastInIdeal Cert.CastInIdeal.Gen

/-- What the body leaves of one block. -/
theorem out_at (x : Vec Ideal S1x128x11264 .f32) (p : Fin 128) (q : Fin 11264) : out0_1 x (ix2 p q) = x (ix3 0 p q) := by
  unfold out0_1
  canon_tiles x h
  all_goals
    obtain ⟨i, j, rfl⟩ : ∃ i j, x = ix2 i j := ⟨x 0, x 1, by funext a; fin_cases a <;> rfl⟩
    obtain rfl : p = i := Fin.ext (by dsimp at h0; omega)
    obtain rfl : q = j := Fin.ext (by dsimp at h1; omega)
    pointwise [k0_pay1]

/-- The windows' block indices. -/
theorem idx_val : ∀ t : Fin cfg0.N, win0_0.index t = ![0, t.val, 0] ∧ win0_1.index t = ![t.val, 0] :=
  (by decide +kernel : ∀ t : Fin grid0.N, _)

variable (m : (ℓ : Loc nD τ sig) → Buf (Elt Ideal) ℓ)

theorem iblk_0 (c : Dev nD) (t : Fin cfg0.N) (p : Fin 128) (q : Fin 11264) : iblk m c 0 t (ix3 0 p q) = m (c.tc.loc main_arg0) (ix3 0 (⟨t.val * 128 + p.val, by have : t.val < 32 := t.isLt; omega⟩ : Fin 4096) q) := by
  blk_ext [iblk, V, idx_val t]

/-- The kernel's array is the reference's. -/
theorem final (c : Dev nD) : (dats m 0 c).arrAt 1 (cfgs 0).N = Cert.CastInRefIdeal.Value.ref (m (c.tc.loc main_arg0)) := by
  refine (dats m 0 c).arrAt_eq_of_covers 1 _ (by decide +kernel) fun t hf y => ?_
  obtain ⟨i0, i1⟩ := idx_val t
  have ht : t.val < 32 := t.isLt
  blk_simp [i1]
  rw [after0_1]
  obtain ⟨p, q, rfl⟩ : ∃ (p : Fin 128) (q : Fin 11264), y = ix2 p q := ⟨y 0, y 1, by funext a; fin_cases a <;> rfl⟩
  have he : (win0_1.blk t).view.emb (ix2 p q) = ix2 (⟨t.val * 128 + p.val, by have : t.val < 32 := t.isLt; omega⟩ : Fin 4096) q := by
    blk_ext [i1]
  rw [he]
  exact (out_at _ p q).trans ((iblk_0 m c t p q).trans (Cert.CastInRefIdeal.Value.ref_at _ _ q).symm)

end Cert.CastInIdeal.Value

/-! The gated linear unit's weight. -/

namespace Cert.CastGluRefIdeal.Value

open Cert.CastGluRefIdeal Cert.CastGluRefIdeal.Gen

/-- The reference as a function of its argument. -/
def ref (a : FVec Ideal S2x1024x1024 .f32) : FVec Ideal S1024x1024 .bf16 :=
  truncf .bf16 (shapeCast _ (extractStridedSlice S1x1024x1024 ![0, 0, 0] a slices_S2x1024x1024_S1x1024x1024_0_0_0) shapeCasts_S1x1024x1024_S1024x1024) bitsLt_bf16_f32
theorem ref_at (a : FVec Ideal S2x1024x1024 .f32) (p : Fin 1024) (q : Fin 1024) : ref a (ix2 p q) = a (ix3 0 p q) := by
  pointwise [ref]

end Cert.CastGluRefIdeal.Value

namespace Cert.CastGluIdeal.Value

open Cert.CastGluIdeal Cert.CastGluIdeal.Gen

/-- What the body leaves of one block. -/
theorem out_at (x : Vec Ideal S1x1024x1024 .f32) (p : Fin 1024) (q : Fin 1024) : out0_1 x (ix2 p q) = x (ix3 0 p q) := by
  unfold out0_1
  canon_tiles x h
  all_goals
    obtain ⟨i, j, rfl⟩ : ∃ i j, x = ix2 i j := ⟨x 0, x 1, by funext a; fin_cases a <;> rfl⟩
    obtain rfl : p = i := Fin.ext (by dsimp at h0; omega)
    obtain rfl : q = j := Fin.ext (by dsimp at h1; omega)
    pointwise [k0_pay1]

/-- The windows' block indices. -/
theorem idx_val : ∀ t : Fin cfg0.N, win0_0.index t = ![0, t.val, 0] ∧ win0_1.index t = ![t.val, 0] :=
  (by decide +kernel : ∀ t : Fin grid0.N, _)

variable (m : (ℓ : Loc nD τ sig) → Buf (Elt Ideal) ℓ)

theorem iblk_0 (c : Dev nD) (t : Fin cfg0.N) (p : Fin 1024) (q : Fin 1024) : iblk m c 0 t (ix3 0 p q) = m (c.tc.loc main_arg0) (ix3 0 (⟨t.val * 1024 + p.val, by have : t.val < 1 := t.isLt; omega⟩ : Fin 1024) q) := by
  blk_ext [iblk, V, idx_val t]

/-- The kernel's array is the reference's. -/
theorem final (c : Dev nD) : (dats m 0 c).arrAt 1 (cfgs 0).N = Cert.CastGluRefIdeal.Value.ref (m (c.tc.loc main_arg0)) := by
  refine (dats m 0 c).arrAt_eq_of_covers 1 _ (by decide +kernel) fun t hf y => ?_
  obtain ⟨i0, i1⟩ := idx_val t
  have ht : t.val < 1 := t.isLt
  blk_simp [i1]
  rw [after0_1]
  obtain ⟨p, q, rfl⟩ : ∃ (p : Fin 1024) (q : Fin 1024), y = ix2 p q := ⟨y 0, y 1, by funext a; fin_cases a <;> rfl⟩
  have he : (win0_1.blk t).view.emb (ix2 p q) = ix2 (⟨t.val * 1024 + p.val, by have : t.val < 1 := t.isLt; omega⟩ : Fin 1024) q := by
    blk_ext [i1]
  rw [he]
  exact (out_at _ p q).trans ((iblk_0 m c t p q).trans (Cert.CastGluRefIdeal.Value.ref_at _ _ q).symm)

end Cert.CastGluIdeal.Value

/-! The embedding rows. -/

namespace Cert.CastEmbRefIdeal.Value

open Cert.CastEmbRefIdeal Cert.CastEmbRefIdeal.Gen

/-- The reference as a function of its argument. -/
def ref (a : FVec Ideal S2x4x4096x256 .f32) : FVec Ideal S16384x256 .bf16 :=
  truncf .bf16 (shapeCast _ (shapeCast _ (extractStridedSlice S1x4x4096x256 ![0, 0, 0, 0] a slices_S2x4x4096x256_S1x4x4096x256_0_0_0_0) shapeCasts_S1x4x4096x256_S4x4096x256) shapeCasts_S4x4096x256_S16384x256) bitsLt_bf16_f32
theorem ref_at (a : FVec Ideal S2x4x4096x256 .f32) (p : Fin 16384) (q : Fin 256) : ref a (ix2 p q) = a (ix4 0 (⟨p.val / 4096, by omega⟩ : Fin 4) (⟨p.val % 4096, by omega⟩ : Fin 4096) q) := by
  pointwise [ref]

end Cert.CastEmbRefIdeal.Value

namespace Cert.CastEmbIdeal.Value

open Cert.CastEmbIdeal Cert.CastEmbIdeal.Gen

/-- What the body leaves of one block. -/
theorem out_at (x : Vec Ideal S1x8192x256 .f32) (p : Fin 8192) (q : Fin 256) : out0_1 x (ix2 p q) = x (ix3 0 p q) := by
  unfold out0_1
  canon_tiles x h
  all_goals
    obtain ⟨i, j, rfl⟩ : ∃ i j, x = ix2 i j := ⟨x 0, x 1, by funext a; fin_cases a <;> rfl⟩
    obtain rfl : p = i := Fin.ext (by dsimp at h0; omega)
    obtain rfl : q = j := Fin.ext (by dsimp at h1; omega)
    pointwise [k0_pay1]

/-- The windows' block indices. -/
theorem idx_val : ∀ t : Fin cfg0.N, win0_0.index t = ![0, t.val, 0] ∧ win0_1.index t = ![t.val, 0] :=
  (by decide +kernel : ∀ t : Fin grid0.N, _)

variable (m : (ℓ : Loc nD τ sig) → Buf (Elt Ideal) ℓ)

theorem entry_v0 (c : Dev nD) (p : Fin 16384) (q : Fin 256) : V m c main_v0 (ix3 0 p q)
    = m (c.tc.loc main_arg0) (ix4 0 (⟨p.val / 4096, by omega⟩ : Fin 4) (⟨p.val % 4096, by omega⟩ : Fin 4096) q) := by
  dsimp only [V, hostOps0]; entry_read; pointwise
theorem iblk_0 (c : Dev nD) (t : Fin cfg0.N) (p : Fin 8192) (q : Fin 256) : iblk m c 0 t (ix3 0 p q) = V m c main_v0 (ix3 0 (⟨t.val * 8192 + p.val, by have : t.val < 2 := t.isLt; omega⟩ : Fin 16384) q) := by
  blk_ext [iblk, idx_val t]

/-- The kernel's array is the reference's. -/
theorem final (c : Dev nD) : (dats m 0 c).arrAt 1 (cfgs 0).N = Cert.CastEmbRefIdeal.Value.ref (m (c.tc.loc main_arg0)) := by
  refine (dats m 0 c).arrAt_eq_of_covers 1 _ (by decide +kernel) fun t hf y => ?_
  obtain ⟨i0, i1⟩ := idx_val t
  have ht : t.val < 2 := t.isLt
  blk_simp [i1]
  rw [after0_1]
  obtain ⟨p, q, rfl⟩ : ∃ (p : Fin 8192) (q : Fin 256), y = ix2 p q := ⟨y 0, y 1, by funext a; fin_cases a <;> rfl⟩
  have he : (win0_1.blk t).view.emb (ix2 p q) = ix2 (⟨t.val * 8192 + p.val, by have : t.val < 2 := t.isLt; omega⟩ : Fin 16384) q := by
    blk_ext [i1]
  rw [he]
  exact (out_at _ p q).trans (((iblk_0 m c t p q).trans (entry_v0 m c _ q)).trans (Cert.CastEmbRefIdeal.Value.ref_at _ _ q).symm)

end Cert.CastEmbIdeal.Value

/-! The embedding's weight. -/

namespace Cert.CastPleRefIdeal.Value

open Cert.CastPleRefIdeal Cert.CastPleRefIdeal.Gen

/-- The reference as a function of its argument. -/
def ref (a : FVec Ideal S2x256x4096 .f32) : FVec Ideal S256x4096 .bf16 :=
  truncf .bf16 (shapeCast _ (extractStridedSlice S1x256x4096 ![0, 0, 0] a slices_S2x256x4096_S1x256x4096_0_0_0) shapeCasts_S1x256x4096_S256x4096) bitsLt_bf16_f32
theorem ref_at (a : FVec Ideal S2x256x4096 .f32) (p : Fin 256) (q : Fin 4096) : ref a (ix2 p q) = a (ix3 0 p q) := by
  pointwise [ref]

end Cert.CastPleRefIdeal.Value

namespace Cert.CastPleIdeal.Value

open Cert.CastPleIdeal Cert.CastPleIdeal.Gen

/-- What the body leaves of one block. -/
theorem out_at (x : Vec Ideal S1x256x4096 .f32) (p : Fin 256) (q : Fin 4096) : out0_1 x (ix2 p q) = x (ix3 0 p q) := by
  unfold out0_1
  canon_tiles x h
  all_goals
    obtain ⟨i, j, rfl⟩ : ∃ i j, x = ix2 i j := ⟨x 0, x 1, by funext a; fin_cases a <;> rfl⟩
    obtain rfl : p = i := Fin.ext (by dsimp at h0; omega)
    obtain rfl : q = j := Fin.ext (by dsimp at h1; omega)
    pointwise [k0_pay1]

/-- The windows' block indices. -/
theorem idx_val : ∀ t : Fin cfg0.N, win0_0.index t = ![0, t.val, 0] ∧ win0_1.index t = ![t.val, 0] :=
  (by decide +kernel : ∀ t : Fin grid0.N, _)

variable (m : (ℓ : Loc nD τ sig) → Buf (Elt Ideal) ℓ)

theorem iblk_0 (c : Dev nD) (t : Fin cfg0.N) (p : Fin 256) (q : Fin 4096) : iblk m c 0 t (ix3 0 p q) = m (c.tc.loc main_arg0) (ix3 0 (⟨t.val * 256 + p.val, by have : t.val < 1 := t.isLt; omega⟩ : Fin 256) q) := by
  blk_ext [iblk, V, idx_val t]

/-- The kernel's array is the reference's. -/
theorem final (c : Dev nD) : (dats m 0 c).arrAt 1 (cfgs 0).N = Cert.CastPleRefIdeal.Value.ref (m (c.tc.loc main_arg0)) := by
  refine (dats m 0 c).arrAt_eq_of_covers 1 _ (by decide +kernel) fun t hf y => ?_
  obtain ⟨i0, i1⟩ := idx_val t
  have ht : t.val < 1 := t.isLt
  blk_simp [i1]
  rw [after0_1]
  obtain ⟨p, q, rfl⟩ : ∃ (p : Fin 256) (q : Fin 4096), y = ix2 p q := ⟨y 0, y 1, by funext a; fin_cases a <;> rfl⟩
  have he : (win0_1.blk t).view.emb (ix2 p q) = ix2 (⟨t.val * 256 + p.val, by have : t.val < 1 := t.isLt; omega⟩ : Fin 256) q := by
    blk_ext [i1]
  rw [he]
  exact (out_at _ p q).trans ((iblk_0 m c t p q).trans (Cert.CastPleRefIdeal.Value.ref_at _ _ q).symm)

end Cert.CastPleIdeal.Value

end
-- ==== Proof.SsmNextSame.lean ====
/- Layer 1's columns for S5: the program and its idealization have the same text, so the run of one is the run of the other. -/
module

public import proofs.«01_k».proof.Defs
public import proofs.«01_k».proof.Proof.Gen.SsmNext
public import proofs.«01_k».proof.Proof.SsmNextFrame

@[expose] public section

set_option maxRecDepth 16384

open Idealize.ShloMosaic Idealize.ShloMosaic.TcCoe Idealize.SL.Sem

namespace Cert.SsmNext.Run

local instance : Cert.SsmNext.Facts := Cert.SsmNext.Gen.facts
local instance : Cert.SsmNextIdeal.Facts := Cert.SsmNextIdeal.Gen.facts

/-- The two bodies are one function. -/
theorem body_eq a0 a1 a2 a3 a4 a5 a6 a7 a8 a9 a10 a11 a12 a13 a14 a15 a16 a17 a18 a19 a20 a21 a22 a23 a24 a25 a26 a27 a28 :
    Cert.SsmNext.cc0_in_proj_s5 (F := Bits) a0 a1 a2 a3 a4 a5 a6 a7 a8 a9 a10 a11 a12 a13 a14 a15 a16 a17 a18 a19 a20 a21 a22 a23 a24 a25 a26 a27 a28
    = Cert.SsmNextIdeal.cc0_in_proj_s5 (F := Bits) a0 a1 a2 a3 a4 a5 a6 a7 a8 a9 a10 a11 a12 a13 a14 a15 a16 a17 a18 a19 a20 a21 a22 a23 a24 a25 a26 a27 a28 := rfl

set_option maxHeartbeats 4000000 in
/-- The two tables of bodies are one table. -/
theorem bodies_eq : Cert.SsmNext.defs₀ (F := Bits) = Cert.SsmNextIdeal.defs₀ (F := Bits) := by
  refine congrArg Defs.onTc (funext fun l => funext fun a => ?_)
  match l, a with
  | 0, (t, s) => exact body_eq _ _ _ _ _ _ _ _ _ _ _ _ _ _ _ _ _ _ _ _ _ _ _ _ _ _ _ _ _

/-- So are the tables with the pipeline around them. -/
theorem defs_eq : Cert.SsmNext.defs (F := Bits) = Cert.SsmNextIdeal.defs (F := Bits) := congrArg (Pipeline.defs (Cert.SsmNextIdeal.pcfgs (F := Bits))) bodies_eq

/-- The program's frame, from the run stated for its idealization over any float values. -/
theorem frame_holds : Cert.quiescent_SsmNext := fun m g _ => by
  rw [defs_eq]
  exact Cert.SsmNextIdeal.Run.frame_holds (F := Bits) m g

end Cert.SsmNext.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.InProj
public import proofs.«01_k».proof.Proof.Gen.InProj.Frame
public import proofs.«01_k».proof.Proof.Gen.InProjIdeal
public import proofs.«01_k».proof.Proof.Gen.InProjIdeal.Value
public import proofs.«01_k».proof.Proof.Gen.InProjRefIdeal
public import proofs.«01_k».proof.Proof.Gen.InProjRefIdeal.Run
public import proofs.«01_k».proof.Proof.Gen.OutProj
public import proofs.«01_k».proof.Proof.Gen.OutProj.Frame
public import proofs.«01_k».proof.Proof.Gen.OutProjIdeal
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.FfnOut
public import proofs.«01_k».proof.Proof.Gen.FfnOut.Frame
public import proofs.«01_k».proof.Proof.Gen.FfnOutIdeal
public import proofs.«01_k».proof.Proof.Gen.FfnOutIdeal.Value
public import proofs.«01_k».proof.Proof.Gen.FfnOutRefIdeal
public import proofs.«01_k».proof.Proof.Gen.FfnOutRefIdeal.Run
public import proofs.«01_k».proof.Proof.Gen.FfnIn
public import proofs.«01_k».proof.Proof.Gen.FfnIn.Frame
public import proofs.«01_k».proof.Proof.Gen.FfnInIdeal
public import proofs.«01_k».proof.Proof.Gen.FfnInIdeal.Frame
public import proofs.«01_k».proof.Proof.Gen.FfnInRefIdeal
public import proofs.«01_k».proof.Proof.Gen.FfnInRefIdeal.Run
public import proofs.«01_k».proof.Proof.Gen.Ple
public import proofs.«01_k».proof.Proof.Gen.Ple.Frame
public import proofs.«01_k».proof.Proof.Gen.Ple.Skeleton
public import proofs.«01_k».proof.Proof.Gen.PleIdeal
public import proofs.«01_k».proof.Proof.Gen.PleIdeal.Frame
public import proofs.«01_k».proof.Proof.Gen.PleIdeal.Skeleton
public import proofs.«01_k».proof.Proof.Gen.PleRefIdeal
public import proofs.«01_k».proof.Proof.Gen.PleRefIdeal.Run
public import proofs.«01_k».proof.Proof.Gen.SsmIn
public import proofs.«01_k».proof.Proof.Gen.SsmIn.Frame
public import proofs.«01_k».proof.Proof.Gen.SsmInIdeal
public import proofs.«01_k».proof.Proof.Gen.SsmInIdeal.Value
public import proofs.«01_k».proof.Proof.Gen.SsmInRefIdeal
public import proofs.«01_k».proof.Proof.Gen.SsmInRefIdeal.Run
public import proofs.«01_k».proof.Proof.Gen.Glu
public import proofs.«01_k».proof.Proof.Gen.Glu.Frame
public import proofs.«01_k».proof.Proof.Gen.GluIdeal
public import proofs.«01_k».proof.Proof.Gen.GluIdeal.Value
public import proofs.«01_k».proof.Proof.Gen.GluRefIdeal
public import proofs.«01_k».proof.Proof.Gen.GluRefIdeal.Run
public import proofs.«01_k».proof.Proof.Gen.OutNext
public import proofs.«01_k».proof.Proof.Gen.OutNext.Frame
public import proofs.«01_k».proof.Proof.Gen.OutNextIdeal
public import proofs.«01_k».proof.Proof.Gen.OutNextIdeal.Value
public import proofs.«01_k».proof.Proof.Gen.OutNextRefIdeal
public import proofs.«01_k».proof.Proof.Gen.OutNextRefIdeal.Run
public import proofs.«01_k».proof.Proof.Gen.SsmNext
public import proofs.«01_k».proof.Proof.Gen.SsmNext.Frame
public import proofs.«01_k».proof.Proof.Gen.SsmNext.Skeleton
public import proofs.«01_k».proof.Proof.Gen.SsmNextIdeal
public import proofs.«01_k».proof.Proof.Gen.SsmNextIdeal.Frame
public import proofs.«01_k».proof.Proof.Gen.SsmNextIdeal.Skeleton
public import proofs.«01_k».proof.Proof.Gen.SsmNextRefIdeal
public import proofs.«01_k».proof.Proof.Gen.SsmNextRefIdeal.Run
public import proofs.«01_k».proof.Proof.Gen.Final
public import proofs.«01_k».proof.Proof.Gen.Final.Frame
public import proofs.«01_k».proof.Proof.Gen.FinalIdeal
public import proofs.«01_k».proof.Proof.Gen.FinalIdeal.Value
public import proofs.«01_k».proof.Proof.Gen.FinalRefIdeal
public import proofs.«01_k».proof.Proof.Gen.FinalRefIdeal.Run
public import proofs.«01_k».proof.Proof.Gen.CastIn
public import proofs.«01_k».proof.Proof.Gen.CastIn.Frame
public import proofs.«01_k».proof.Proof.Gen.CastInIdeal
public import proofs.«01_k».proof.Proof.Gen.CastInIdeal.Value
public import proofs.«01_k».proof.Proof.Gen.CastInRefIdeal
public import proofs.«01_k».proof.Proof.Gen.CastInRefIdeal.Run
public import proofs.«01_k».proof.Proof.Gen.CastGlu
public import proofs.«01_k».proof.Proof.Gen.CastGlu.Frame
public import proofs.«01_k».proof.Proof.Gen.CastGluIdeal
public import proofs.«01_k».proof.Proof.Gen.CastGluIdeal.Value
public import proofs.«01_k».proof.Proof.Gen.CastGluRefIdeal
public import proofs.«01_k».proof.Proof.Gen.CastGluRefIdeal.Run
public import proofs.«01_k».proof.Proof.Gen.CastEmb
public import proofs.«01_k».proof.Proof.Gen.CastEmb.Frame
public import proofs.«01_k».proof.Proof.Gen.CastEmbIdeal
public import proofs.«01_k».proof.Proof.Gen.CastEmbIdeal.Value
public import proofs.«01_k».proof.Proof.Gen.CastEmbRefIdeal
public import proofs.«01_k».proof.Proof.Gen.CastEmbRefIdeal.Run
public import proofs.«01_k».proof.Proof.Gen.CastPle
public import proofs.«01_k».proof.Proof.Gen.CastPle.Frame
public import proofs.«01_k».proof.Proof.Gen.CastPleIdeal
public import proofs.«01_k».proof.Proof.Gen.CastPleIdeal.Value
public import proofs.«01_k».proof.Proof.Gen.CastPleRefIdeal
public import proofs.«01_k».proof.Proof.Gen.CastPleRefIdeal.Run
public import proofs.«01_k».proof.Proof.PleValue
public import proofs.«01_k».proof.Proof.PleSame
public import proofs.«01_k».proof.Proof.FfnInValue
public import proofs.«01_k».proof.Proof.FfnInSame
public import proofs.«01_k».proof.Proof.Value
public import proofs.«01_k».proof.Proof.InProjValue
public import proofs.«01_k».proof.Proof.OutProjValue
public import proofs.«01_k».proof.Proof.FfnOutValue
public import proofs.«01_k».proof.Proof.SsmInValue
public import proofs.«01_k».proof.Proof.GluValue
public import proofs.«01_k».proof.Proof.FinalValue
public import proofs.«01_k».proof.Proof.OutNextValue
public import proofs.«01_k».proof.Proof.SsmNextValue
public import proofs.«01_k».proof.Proof.CastValue
public import proofs.«01_k».proof.Proof.SsmNextSame
public import Idealize.ShloMosaic.Adequacy
public import Idealize.ShloMosaic.Lib.Claim
public import Idealize.ShloMosaic.Init

@[expose] public section

noncomputable section

namespace Cert.Proof

open Idealize.ShloMosaic Idealize.SL.Sem Cert.Kernel

/-- The reference runs, ends at its term over its arguments, and leaves every semaphore at zero. -/
theorem frame_ref : letI := Cert.ReferenceIdeal.Gen.facts; Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- Kernel and reference end with the same array. -/
theorem algebraic : letI := Cert.KernelIdeal.Gen.facts; letI := Cert.ReferenceIdeal.Gen.facts; Cert.algebraic_KernelIdeal_ReferenceIdeal := by
  intro m g m' g' _ hagree
  refine ⟨_, Cert.KernelIdeal.Value.run_blocks (F := Ideal) m g, ?_⟩
  refine (θ_run Cert.ReferenceIdeal.defs _ _).mono (fun _ h c => ⟨(h c).1.trans ?_, (h c).2⟩) (Cert.ReferenceIdeal.Value.run (F := Ideal) m' g')
  exact (Cert.KernelIdeal.Value.final m m' c (hagree c).1 (hagree c).2.1 (hagree c).2.2.1 (hagree c).2.2.2.1 (hagree c).2.2.2.2.1
    (hagree c).2.2.2.2.2).symm

/-- The reference of the input projection runs, ends at its term, and leaves every semaphore at zero. -/
theorem frame_InProj : letI := Cert.InProjRefIdeal.Gen.facts; Cert.quiescent_InProjRefIdeal := fun m g _ =>
  (θ_run Cert.InProjRefIdeal.defs _ _).mono (fun r h => ⟨fun c => (h c).2.2.2, Idealize.ShloMosaic.sem_eq_zero_of_no_sems (by decide) r.2⟩)
    (Cert.InProjRefIdeal.Value.run (F := Ideal) m g)

/-- Kernel and reference of the input projection end with the same arrays. -/
theorem algebraic_InProj : letI := Cert.InProjIdeal.Gen.facts; letI := Cert.InProjRefIdeal.Gen.facts; Cert.algebraic_InProjIdeal_InProjRefIdeal := by
  intro m g m' g' _ hagree
  refine ⟨_, _, _, Cert.InProjIdeal.Value.run_blocks (F := Ideal) m g, ?_⟩
  refine (θ_run Cert.InProjRefIdeal.defs _ _).mono (fun _ h c => ⟨(h c).1.trans ?_, (h c).2.1.trans ?_, (h c).2.2.1.trans ?_, (h c).2.2.2⟩) (Cert.InProjRefIdeal.Value.run (F := Ideal) m' g')
  all_goals obtain ⟨a0, a1, a2, a3⟩ := hagree c
  · rw [a0, a1]; exact (Cert.InProjIdeal.Value.final m c).symm
  · rw [a2]; exact (Cert.InProjIdeal.Value.final_ffn m c).symm
  · rw [a3]; exact (Cert.InProjIdeal.Value.final_out m c).symm

/-- The reference of the output projection runs, ends at its term, and leaves every semaphore at zero. -/
theorem frame_OutProj : letI := Cert.OutProjRefIdeal.Gen.facts; Cert.quiescent_OutProjRefIdeal := fun m g _ =>
  (θ_run Cert.OutProjRefIdeal.defs _ _).mono (fun r h => ⟨fun c => (h c).2, Idealize.ShloMosaic.sem_eq_zero_of_no_sems (by decide) r.2⟩)
    (Cert.OutProjRefIdeal.Value.run (F := Ideal) m g)

/-- Kernel and reference of the output projection end with the same array. -/
theorem algebraic_OutProj : letI := Cert.OutProjIdeal.Gen.facts; letI := Cert.OutProjRefIdeal.Gen.facts; Cert.algebraic_OutProjIdeal_OutProjRefIdeal := by
  intro m g m' g' _ hagree
  refine ⟨_, Cert.OutProjIdeal.Value.run_blocks (F := Ideal) m g, ?_⟩
  refine (θ_run Cert.OutProjRefIdeal.defs _ _).mono (fun _ h c => ⟨(h c).1.trans ?_, (h c).2⟩) (Cert.OutProjRefIdeal.Value.run (F := Ideal) m' g')
  obtain ⟨a0, a1, a2, a3, a4⟩ := hagree c
  rw [a0, a1, a2, a3, a4]
  exact (Cert.OutProjIdeal.Value.final m c).symm

/-- The reference of the channel mixer's output runs, ends at its term, and leaves every semaphore at zero. -/
theorem frame_FfnOut : letI := Cert.FfnOutRefIdeal.Gen.facts; Cert.quiescent_FfnOutRefIdeal := fun m g _ =>
  (θ_run Cert.FfnOutRefIdeal.defs _ _).mono (fun r h => ⟨fun c => (h c).2, Idealize.ShloMosaic.sem_eq_zero_of_no_sems (by decide) r.2⟩)
    (Cert.FfnOutRefIdeal.Value.run (F := Ideal) m g)

/-- Kernel and reference of the channel mixer's output end with the same array. -/
theorem algebraic_FfnOut : letI := Cert.FfnOutIdeal.Gen.facts; letI := Cert.FfnOutRefIdeal.Gen.facts; Cert.algebraic_FfnOutIdeal_FfnOutRefIdeal := by
  intro m g m' g' _ hagree
  refine ⟨_, Cert.FfnOutIdeal.Value.run_blocks (F := Ideal) m g, ?_⟩
  refine (θ_run Cert.FfnOutRefIdeal.defs _ _).mono (fun _ h c => ⟨(h c).1.trans ?_, (h c).2⟩) (Cert.FfnOutRefIdeal.Value.run (F := Ideal) m' g')
  obtain ⟨a0, a1, a2, a3, a4, a5, a6⟩ := hagree c
  rw [a0, a1, a2, a3, a4, a5, a6]
  exact (Cert.FfnOutIdeal.Value.final m c).symm

/-- The reference of the channel mixer's input runs, ends at its terms, and leaves every semaphore at zero. -/
theorem frame_FfnIn : letI := Cert.FfnInRefIdeal.Gen.facts; Cert.quiescent_FfnInRefIdeal := fun m g _ =>
  (θ_run Cert.FfnInRefIdeal.defs _ _).mono (fun r h => ⟨fun c => (h c).2.2.2.2.2, Idealize.ShloMosaic.sem_eq_zero_of_no_sems (by decide) r.2⟩)
    (Cert.FfnInRefIdeal.Value.run (F := Ideal) m g)

/-- Kernel and reference of the channel mixer's input end with the same arrays. -/
theorem algebraic_FfnIn : letI := Cert.FfnInIdeal.Gen.facts; letI := Cert.FfnInRefIdeal.Gen.facts; Cert.algebraic_FfnInIdeal_FfnInRefIdeal := by
  intro m g m' g' _ hagree
  refine ⟨_, _, _, _, _, Cert.FfnInIdeal.Run.run_values m g m' fun c => ⟨(hagree c).1, (hagree c).2.1, (hagree c).2.2.1, (hagree c).2.2.2.1⟩, ?_⟩
  refine (θ_run Cert.FfnInRefIdeal.defs _ _).mono (fun _ h c => ⟨(h c).1, (h c).2.1.trans ?_, (h c).2.2.1.trans ?_, (h c).2.2.2.1.trans ?_, (h c).2.2.2.2.1.trans ?_, (h c).2.2.2.2.2⟩)
    (Cert.FfnInRefIdeal.Value.run (F := Ideal) m' g')
  all_goals obtain ⟨a0, a1, a2, a3, a4, a5⟩ := hagree c
  · rw [a0]; rfl
  · rw [a0]; rfl
  · rw [a4]; rfl
  · rw [a5]; rfl

/-- The reference of the gated embedding runs, ends at its terms, and leaves every semaphore at zero. -/
theorem frame_Ple : letI := Cert.PleRefIdeal.Gen.facts; Cert.quiescent_PleRefIdeal := fun m g _ =>
  (θ_run Cert.PleRefIdeal.defs _ _).mono (fun r h => ⟨fun c => (h c).2.2, Idealize.ShloMosaic.sem_eq_zero_of_no_sems (by decide) r.2⟩)
    (Cert.PleRefIdeal.Value.run (F := Ideal) m g)

/-- Kernel and reference of the gated embedding end with the same arrays. -/
theorem algebraic_Ple : letI := Cert.PleIdeal.Gen.facts; letI := Cert.PleRefIdeal.Gen.facts; Cert.algebraic_PleIdeal_PleRefIdeal := by
  intro m g m' g' _ hagree
  refine ⟨_, _, Cert.PleIdeal.Run.run_values m g m' fun c => ⟨(hagree c).1, (hagree c).2.1, (hagree c).2.2.1, (hagree c).2.2.2.1, (hagree c).2.2.2.2.1, (hagree c).2.2.2.2.2.1⟩, ?_⟩
  refine (θ_run Cert.PleRefIdeal.defs _ _).mono (fun _ h c => ⟨(h c).1, (h c).2.1.trans ?_, (h c).2.2⟩) (Cert.PleRefIdeal.Value.run (F := Ideal) m' g')
  obtain ⟨a0, a1, a2, a3, a4, a5, a6⟩ := hagree c
  rw [a6]; rfl

/-- The reference of S5's columns runs, ends at its terms, and leaves every semaphore at zero. -/
theorem frame_SsmIn : letI := Cert.SsmInRefIdeal.Gen.facts; Cert.quiescent_SsmInRefIdeal := fun m g _ =>
  (θ_run Cert.SsmInRefIdeal.defs _ _).mono (fun r h => ⟨fun c => (h c).2.2, Idealize.ShloMosaic.sem_eq_zero_of_no_sems (by decide) r.2⟩)
    (Cert.SsmInRefIdeal.Value.run (F := Ideal) m g)

/-- Kernel and reference of S5's columns end with the same arrays. -/
theorem algebraic_SsmIn : letI := Cert.SsmInIdeal.Gen.facts; letI := Cert.SsmInRefIdeal.Gen.facts; Cert.algebraic_SsmInIdeal_SsmInRefIdeal := by
  intro m g m' g' _ hagree
  refine ⟨_, _, Cert.SsmInIdeal.Value.run_blocks (F := Ideal) m g, ?_⟩
  refine (θ_run Cert.SsmInRefIdeal.defs _ _).mono (fun _ h c => ⟨(h c).1.trans ?_, (h c).2.1.trans ?_, (h c).2.2⟩) (Cert.SsmInRefIdeal.Value.run (F := Ideal) m' g')
  all_goals obtain ⟨a0, a1⟩ := hagree c
  · rw [a0, a1]; exact (Cert.SsmInIdeal.Value.final m c).symm
  · rw [a0]; exact (Cert.SsmInIdeal.Value.final_rows m c).symm

/-- The reference of S5's gated linear unit runs, ends at its term, and leaves every semaphore at zero. -/
theorem frame_Glu : letI := Cert.GluRefIdeal.Gen.facts; Cert.quiescent_GluRefIdeal := fun m g _ =>
  (θ_run Cert.GluRefIdeal.defs _ _).mono (fun r h => ⟨fun c => (h c).2, Idealize.ShloMosaic.sem_eq_zero_of_no_sems (by decide) r.2⟩)
    (Cert.GluRefIdeal.Value.run (F := Ideal) m g)

/-- Kernel and reference of S5's gated linear unit end with the same array. -/
theorem algebraic_Glu : letI := Cert.GluIdeal.Gen.facts; letI := Cert.GluRefIdeal.Gen.facts; Cert.algebraic_GluIdeal_GluRefIdeal := by
  intro m g m' g' _ hagree
  refine ⟨_, Cert.GluIdeal.Value.run_blocks (F := Ideal) m g, ?_⟩
  refine (θ_run Cert.GluRefIdeal.defs _ _).mono (fun _ h c => ⟨(h c).1.trans ?_, (h c).2⟩) (Cert.GluRefIdeal.Value.run (F := Ideal) m' g')
  obtain ⟨a0, a1, a2⟩ := hagree c
  rw [a0, a1, a2]; exact (Cert.GluIdeal.Value.final m c).symm

/-- The reference of the last LayerNorm runs, ends at its term, and leaves every semaphore at zero. -/
theorem frame_Final : letI := Cert.FinalRefIdeal.Gen.facts; Cert.quiescent_FinalRefIdeal := fun m g _ =>
  (θ_run Cert.FinalRefIdeal.defs _ _).mono (fun r h => ⟨fun c => (h c).2, Idealize.ShloMosaic.sem_eq_zero_of_no_sems (by decide) r.2⟩)
    (Cert.FinalRefIdeal.Value.run (F := Ideal) m g)

/-- Kernel and reference of the last LayerNorm end with the same array. -/
theorem algebraic_Final : letI := Cert.FinalIdeal.Gen.facts; letI := Cert.FinalRefIdeal.Gen.facts; Cert.algebraic_FinalIdeal_FinalRefIdeal := by
  intro m g m' g' _ hagree
  refine ⟨_, Cert.FinalIdeal.Value.run_blocks (F := Ideal) m g, ?_⟩
  refine (θ_run Cert.FinalRefIdeal.defs _ _).mono (fun _ h c => ⟨(h c).1.trans ?_, (h c).2⟩) (Cert.FinalRefIdeal.Value.run (F := Ideal) m' g')
  obtain ⟨a0, a1, a2⟩ := hagree c
  rw [a0, a1, a2]; exact (Cert.FinalIdeal.Value.final m c).symm

/-- The reference of the output projection onto the rebuilt residual runs, ends at its term, and leaves every semaphore at zero. -/
theorem frame_OutNext : letI := Cert.OutNextRefIdeal.Gen.facts; Cert.quiescent_OutNextRefIdeal := fun m g _ =>
  (θ_run Cert.OutNextRefIdeal.defs _ _).mono (fun r h => ⟨fun c => (h c).2, Idealize.ShloMosaic.sem_eq_zero_of_no_sems (by decide) r.2⟩)
    (Cert.OutNextRefIdeal.Value.run (F := Ideal) m g)

/-- Kernel and reference of the output projection onto the rebuilt residual end with the same array. -/
theorem algebraic_OutNext : letI := Cert.OutNextIdeal.Gen.facts; letI := Cert.OutNextRefIdeal.Gen.facts; Cert.algebraic_OutNextIdeal_OutNextRefIdeal := by
  intro m g m' g' _ hagree
  refine ⟨_, Cert.OutNextIdeal.Value.run_blocks (F := Ideal) m g, ?_⟩
  refine (θ_run Cert.OutNextRefIdeal.defs _ _).mono (fun _ h c => ⟨(h c).1.trans ?_, (h c).2⟩) (Cert.OutNextRefIdeal.Value.run (F := Ideal) m' g')
  obtain ⟨a0, a1, a2, a3, a4, a5, a6, a7, a8⟩ := hagree c
  rw [a0, a1, a2, a3, a4, a5, a6, a7, a8]; exact (Cert.OutNextIdeal.Value.final m c).symm

/-- The frame of the reference of layer 1's columns for S5. -/
theorem frame_SsmNext : letI := Cert.SsmNextRefIdeal.Gen.facts; Cert.quiescent_SsmNextRefIdeal := fun m g _ =>
  (θ_run Cert.SsmNextRefIdeal.defs _ _).mono (fun r h => ⟨fun c => (h c).2.2.2.2, Idealize.ShloMosaic.sem_eq_zero_of_no_sems (by decide) r.2⟩)
    (Cert.SsmNextRefIdeal.Value.run (F := Ideal) m g)

/-- Layer 1's columns for S5: the kernel's four arrays are the reference's. -/
theorem algebraic_SsmNext : letI := Cert.SsmNextIdeal.Gen.facts; letI := Cert.SsmNextRefIdeal.Gen.facts; Cert.algebraic_SsmNextIdeal_SsmNextRefIdeal := by
  intro m g m' g' _ hagree
  refine ⟨_, _, _, _, Cert.SsmNextIdeal.Run.run_values m g, ?_⟩
  refine (θ_run Cert.SsmNextRefIdeal.defs _ _).mono (fun _ h c => ⟨(h c).1.trans ?_, (h c).2.1.trans ?_, (h c).2.2.1.trans ?_, (h c).2.2.2.1.trans ?_, (h c).2.2.2.2⟩)
    (Cert.SsmNextRefIdeal.Value.run (F := Ideal) m' g')
  all_goals obtain ⟨a0, a1, a2, a3⟩ := hagree c
  · rw [a0, a1, a2, a3]; rfl
  · rw [a0]; rfl
  · rw [a0]; rfl
  · rw [a0, a1, a2]; rfl

/-- The cast of the input projection's weight: the frame of its reference, and the kernel's array is the reference's. -/
theorem frame_CastIn : letI := Cert.CastInRefIdeal.Gen.facts; Cert.quiescent_CastInRefIdeal := fun m g _ =>
  (θ_run Cert.CastInRefIdeal.defs _ _).mono (fun r h => ⟨fun c => (h c).2, Idealize.ShloMosaic.sem_eq_zero_of_no_sems (by decide) r.2⟩)
    (Cert.CastInRefIdeal.Value.run (F := Ideal) m g)
theorem algebraic_CastIn : letI := Cert.CastInIdeal.Gen.facts; letI := Cert.CastInRefIdeal.Gen.facts; Cert.algebraic_CastInIdeal_CastInRefIdeal := by
  intro m g m' g' _ hagree
  refine ⟨_, Cert.CastInIdeal.Value.run_blocks (F := Ideal) m g, ?_⟩
  refine (θ_run Cert.CastInRefIdeal.defs _ _).mono (fun _ h c => ⟨(h c).1.trans ?_, (h c).2⟩) (Cert.CastInRefIdeal.Value.run (F := Ideal) m' g')
  rw [hagree c]; exact (Cert.CastInIdeal.Value.final m c).symm

/-- The cast of the gated linear unit's weight: the frame of its reference, and the kernel's array is the reference's. -/
theorem frame_CastGlu : letI := Cert.CastGluRefIdeal.Gen.facts; Cert.quiescent_CastGluRefIdeal := fun m g _ =>
  (θ_run Cert.CastGluRefIdeal.defs _ _).mono (fun r h => ⟨fun c => (h c).2, Idealize.ShloMosaic.sem_eq_zero_of_no_sems (by decide) r.2⟩)
    (Cert.CastGluRefIdeal.Value.run (F := Ideal) m g)
theorem algebraic_CastGlu : letI := Cert.CastGluIdeal.Gen.facts; letI := Cert.CastGluRefIdeal.Gen.facts; Cert.algebraic_CastGluIdeal_CastGluRefIdeal := by
  intro m g m' g' _ hagree
  refine ⟨_, Cert.CastGluIdeal.Value.run_blocks (F := Ideal) m g, ?_⟩
  refine (θ_run Cert.CastGluRefIdeal.defs _ _).mono (fun _ h c => ⟨(h c).1.trans ?_, (h c).2⟩) (Cert.CastGluRefIdeal.Value.run (F := Ideal) m' g')
  rw [hagree c]; exact (Cert.CastGluIdeal.Value.final m c).symm

/-- The cast of the embedding rows: the frame of its reference, and the kernel's array is the reference's. -/
theorem frame_CastEmb : letI := Cert.CastEmbRefIdeal.Gen.facts; Cert.quiescent_CastEmbRefIdeal := fun m g _ =>
  (θ_run Cert.CastEmbRefIdeal.defs _ _).mono (fun r h => ⟨fun c => (h c).2, Idealize.ShloMosaic.sem_eq_zero_of_no_sems (by decide) r.2⟩)
    (Cert.CastEmbRefIdeal.Value.run (F := Ideal) m g)
theorem algebraic_CastEmb : letI := Cert.CastEmbIdeal.Gen.facts; letI := Cert.CastEmbRefIdeal.Gen.facts; Cert.algebraic_CastEmbIdeal_CastEmbRefIdeal := by
  intro m g m' g' _ hagree
  refine ⟨_, Cert.CastEmbIdeal.Value.run_blocks (F := Ideal) m g, ?_⟩
  refine (θ_run Cert.CastEmbRefIdeal.defs _ _).mono (fun _ h c => ⟨(h c).1.trans ?_, (h c).2⟩) (Cert.CastEmbRefIdeal.Value.run (F := Ideal) m' g')
  rw [hagree c]; exact (Cert.CastEmbIdeal.Value.final m c).symm

/-- The cast of the embedding's weight: the frame of its reference, and the kernel's array is the reference's. -/
theorem frame_CastPle : letI := Cert.CastPleRefIdeal.Gen.facts; Cert.quiescent_CastPleRefIdeal := fun m g _ =>
  (θ_run Cert.CastPleRefIdeal.defs _ _).mono (fun r h => ⟨fun c => (h c).2, Idealize.ShloMosaic.sem_eq_zero_of_no_sems (by decide) r.2⟩)
    (Cert.CastPleRefIdeal.Value.run (F := Ideal) m g)
theorem algebraic_CastPle : letI := Cert.CastPleIdeal.Gen.facts; letI := Cert.CastPleRefIdeal.Gen.facts; Cert.algebraic_CastPleIdeal_CastPleRefIdeal := by
  intro m g m' g' _ hagree
  refine ⟨_, Cert.CastPleIdeal.Value.run_blocks (F := Ideal) m g, ?_⟩
  refine (θ_run Cert.CastPleRefIdeal.defs _ _).mono (fun _ h c => ⟨(h c).1.trans ?_, (h c).2⟩) (Cert.CastPleRefIdeal.Value.run (F := Ideal) m' g')
  rw [hagree c]; exact (Cert.CastPleIdeal.Value.final m c).symm

theorem claim : Cert.Claim := ⟨Cert.Kernel.Gen.facts, Cert.KernelIdeal.Gen.facts, Cert.ReferenceIdeal.Gen.facts,
  Cert.InProj.Gen.facts, Cert.InProjIdeal.Gen.facts, Cert.InProjRefIdeal.Gen.facts,
  Cert.OutProj.Gen.facts, Cert.OutProjIdeal.Gen.facts, Cert.OutProjRefIdeal.Gen.facts,
  Cert.FfnOut.Gen.facts, Cert.FfnOutIdeal.Gen.facts, Cert.FfnOutRefIdeal.Gen.facts,
  Cert.FfnIn.Gen.facts, Cert.FfnInIdeal.Gen.facts, Cert.FfnInRefIdeal.Gen.facts,
  Cert.Ple.Gen.facts, Cert.PleIdeal.Gen.facts, Cert.PleRefIdeal.Gen.facts,
  Cert.SsmIn.Gen.facts, Cert.SsmInIdeal.Gen.facts, Cert.SsmInRefIdeal.Gen.facts,
  Cert.Glu.Gen.facts, Cert.GluIdeal.Gen.facts, Cert.GluRefIdeal.Gen.facts,
  Cert.Final.Gen.facts, Cert.FinalIdeal.Gen.facts, Cert.FinalRefIdeal.Gen.facts,
  Cert.OutNext.Gen.facts, Cert.OutNextIdeal.Gen.facts, Cert.OutNextRefIdeal.Gen.facts,
  Cert.SsmNext.Gen.facts, Cert.SsmNextIdeal.Gen.facts, Cert.SsmNextRefIdeal.Gen.facts,
  Cert.CastIn.Gen.facts, Cert.CastInIdeal.Gen.facts, Cert.CastInRefIdeal.Gen.facts,
  Cert.CastGlu.Gen.facts, Cert.CastGluIdeal.Gen.facts, Cert.CastGluRefIdeal.Gen.facts,
  Cert.CastEmb.Gen.facts, Cert.CastEmbIdeal.Gen.facts, Cert.CastEmbRefIdeal.Gen.facts,
  Cert.CastPle.Gen.facts, Cert.CastPleIdeal.Gen.facts, Cert.CastPleRefIdeal.Gen.facts,
  fun m g _ => Cert.Kernel.Gen.frame m g, fun m g _ => Cert.KernelIdeal.Gen.frame m g, frame_ref,
  fun m g _ => Cert.InProj.Gen.frame m g, fun m g _ => Cert.InProjIdeal.Gen.frame m g, frame_InProj,
  fun m g _ => Cert.OutProj.Gen.frame m g, fun m g _ => Cert.OutProjIdeal.Gen.frame m g, frame_OutProj,
  fun m g _ => Cert.FfnOut.Gen.frame m g, fun m g _ => Cert.FfnOutIdeal.Gen.frame m g, frame_FfnOut,
  Cert.FfnIn.Run.frame_holds, fun m g _ => Cert.FfnInIdeal.Run.frame_holds m g, frame_FfnIn,
  Cert.Ple.Run.frame_holds, fun m g _ => Cert.PleIdeal.Run.frame_holds m g, frame_Ple,
  fun m g _ => Cert.SsmIn.Gen.frame m g, fun m g _ => Cert.SsmInIdeal.Gen.frame m g, frame_SsmIn,
  fun m g _ => Cert.Glu.Gen.frame m g, fun m g _ => Cert.GluIdeal.Gen.frame m g, frame_Glu,
  fun m g _ => Cert.Final.Gen.frame m g, fun m g _ => Cert.FinalIdeal.Gen.frame m g, frame_Final,
  fun m g _ => Cert.OutNext.Gen.frame m g, fun m g _ => Cert.OutNextIdeal.Gen.frame m g, frame_OutNext,
  Cert.SsmNext.Run.frame_holds, fun m g _ => Cert.SsmNextIdeal.Run.frame_holds m g, frame_SsmNext,
  fun m g _ => Cert.CastIn.Gen.frame m g, fun m g _ => Cert.CastInIdeal.Gen.frame m g, frame_CastIn,
  fun m g _ => Cert.CastGlu.Gen.frame m g, fun m g _ => Cert.CastGluIdeal.Gen.frame m g, frame_CastGlu,
  fun m g _ => Cert.CastEmb.Gen.frame m g, fun m g _ => Cert.CastEmbIdeal.Gen.frame m g, frame_CastEmb,
  fun m g _ => Cert.CastPle.Gen.frame m g, fun m g _ => Cert.CastPleIdeal.Gen.frame m g, frame_CastPle,
  IdealRules.named_const.statement Cert.KernelIdeal.κ "ck" .f32 0x3D122279#32 ((80338380498831 / 2251799813685248 : ℝ) : EReal) rfl,
  algebraic, trivial, algebraic_InProj, trivial, algebraic_OutProj, trivial, algebraic_FfnOut, trivial, algebraic_FfnIn, trivial, algebraic_Ple, trivial, algebraic_SsmIn, trivial, algebraic_Glu, trivial, algebraic_Final, trivial, algebraic_OutNext, trivial, algebraic_SsmNext,
  trivial, algebraic_CastIn, trivial, algebraic_CastGlu, trivial, algebraic_CastEmb, trivial, algebraic_CastPle⟩

end Cert.Proof

end
